-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KFfn (m : (ℓ : Loc Cert.KFfn.nD Cert.KFfn.τ Cert.KFfn.sig) → Buf (Elt Bits) ℓ) : Prop :=
  True

def Pre_KFfnIdeal (m : (ℓ : Loc Cert.KFfnIdeal.nD Cert.KFfnIdeal.τ Cert.KFfnIdeal.sig) → Buf (Elt Ideal) ℓ) : Prop :=
  True

def Pre_RFfnIdeal (m : (ℓ : Loc Cert.RFfnIdeal.nD Cert.RFfnIdeal.τ Cert.RFfnIdeal.sig) → Buf (Elt Ideal) ℓ) : Prop :=
  True

def Pre_KIn (m : (ℓ : Loc Cert.KIn.nD Cert.KIn.τ Cert.KIn.sig) → Buf (Elt Bits) ℓ) : Prop :=
  True

def Pre_KInIdeal (m : (ℓ : Loc Cert.KInIdeal.nD Cert.KInIdeal.τ Cert.KInIdeal.sig) → Buf (Elt Ideal) ℓ) : Prop :=
  True

def Pre_RInIdeal (m : (ℓ : Loc Cert.RInIdeal.nD Cert.RInIdeal.τ Cert.RInIdeal.sig) → Buf (Elt Ideal) ℓ) : Prop :=
  True

def Pre_KOut (m : (ℓ : Loc Cert.KOut.nD Cert.KOut.τ Cert.KOut.sig) → Buf (Elt Bits) ℓ) : Prop :=
  True

def Pre_KOutIdeal (m : (ℓ : Loc Cert.KOutIdeal.nD Cert.KOutIdeal.τ Cert.KOutIdeal.sig) → Buf (Elt Ideal) ℓ) : Prop :=
  True

def Pre_ROutIdeal (m : (ℓ : Loc Cert.ROutIdeal.nD Cert.ROutIdeal.τ Cert.ROutIdeal.sig) → Buf (Elt Ideal) ℓ) : Prop :=
  True

def Pre_KFs (m : (ℓ : Loc Cert.KFs.nD Cert.KFs.τ Cert.KFs.sig) → Buf (Elt Bits) ℓ) : Prop :=
  True

def Pre_KFsIdeal (m : (ℓ : Loc Cert.KFsIdeal.nD Cert.KFsIdeal.τ Cert.KFsIdeal.sig) → Buf (Elt Ideal) ℓ) : Prop :=
  True

def Pre_RFsIdeal (m : (ℓ : Loc Cert.RFsIdeal.nD Cert.RFsIdeal.τ Cert.RFsIdeal.sig) → Buf (Elt Ideal) ℓ) : Prop :=
  True

def Pre_KEin (m : (ℓ : Loc Cert.KEin.nD Cert.KEin.τ Cert.KEin.sig) → Buf (Elt Bits) ℓ) : Prop :=
  True

def Pre_KEinIdeal (m : (ℓ : Loc Cert.KEinIdeal.nD Cert.KEinIdeal.τ Cert.KEinIdeal.sig) → Buf (Elt Ideal) ℓ) : Prop :=
  True

def Pre_REinIdeal (m : (ℓ : Loc Cert.REinIdeal.nD Cert.REinIdeal.τ Cert.REinIdeal.sig) → Buf (Elt Ideal) ℓ) : Prop :=
  True

def Pre_KEm (m : (ℓ : Loc Cert.KEm.nD Cert.KEm.τ Cert.KEm.sig) → Buf (Elt Bits) ℓ) : Prop :=
  True

def Pre_KEmIdeal (m : (ℓ : Loc Cert.KEmIdeal.nD Cert.KEmIdeal.τ Cert.KEmIdeal.sig) → Buf (Elt Ideal) ℓ) : Prop :=
  True

def Pre_REmIdeal (m : (ℓ : Loc Cert.REmIdeal.nD Cert.REmIdeal.τ Cert.REmIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KFfn [hKFfn : Cert.KFfn.Facts] : Prop :=
  ∀ (m : (ℓ : Loc Cert.KFfn.nD Cert.KFfn.τ Cert.KFfn.sig) → Buf (Elt Bits) ℓ) (g : Dev Cert.KFfn.nD → PrngReg), Pre_KFfn m →
    θ_run (Cert.KFfn.defs (F := Bits)) (onTc (τ := Cert.KFfn.τ) (Cert.KFfn.main (F := Bits))) ⟨m, fun _ => 0, g⟩ (fun r => (∀ c : Dev Cert.KFfn.nD,
      r.2.mem ((c.tc : Thread Cert.KFfn.nD Cert.KFfn.τ).loc Cert.KFfn.main_arg0) = m ((c.tc : Thread Cert.KFfn.nD Cert.KFfn.τ).loc Cert.KFfn.main_arg0)
      ∧ r.2.mem ((c.tc : Thread Cert.KFfn.nD Cert.KFfn.τ).loc Cert.KFfn.main_arg1) = m ((c.tc : Thread Cert.KFfn.nD Cert.KFfn.τ).loc Cert.KFfn.main_arg1)
      ∧ r.2.mem ((c.tc : Thread Cert.KFfn.nD Cert.KFfn.τ).loc Cert.KFfn.main_arg2) = m ((c.tc : Thread Cert.KFfn.nD Cert.KFfn.τ).loc Cert.KFfn.main_arg2)
      ∧ r.2.mem ((c.tc : Thread Cert.KFfn.nD Cert.KFfn.τ).loc Cert.KFfn.main_arg3) = m ((c.tc : Thread Cert.KFfn.nD Cert.KFfn.τ).loc Cert.KFfn.main_arg3)
      ∧ r.2.mem ((c.tc : Thread Cert.KFfn.nD Cert.KFfn.τ).loc Cert.KFfn.main_arg4) = m ((c.tc : Thread Cert.KFfn.nD Cert.KFfn.τ).loc Cert.KFfn.main_arg4)
      ∧ r.2.mem ((c.tc : Thread Cert.KFfn.nD Cert.KFfn.τ).loc Cert.KFfn.main_arg5) = m ((c.tc : Thread Cert.KFfn.nD Cert.KFfn.τ).loc Cert.KFfn.main_arg5)
      ∧ r.2.mem ((c.tc : Thread Cert.KFfn.nD Cert.KFfn.τ).loc Cert.KFfn.main_arg6) = m ((c.tc : Thread Cert.KFfn.nD Cert.KFfn.τ).loc Cert.KFfn.main_arg6))
      ∧ r.2.sem = fun _ => 0)

def quiescent_KFfnIdeal [hKFfnIdeal : Cert.KFfnIdeal.Facts] : Prop :=
  ∀ (m : (ℓ : Loc Cert.KFfnIdeal.nD Cert.KFfnIdeal.τ Cert.KFfnIdeal.sig) → Buf (Elt Ideal) ℓ) (g : Dev Cert.KFfnIdeal.nD → PrngReg), Pre_KFfnIdeal m →
    θ_run (Cert.KFfnIdeal.defs (F := Ideal)) (onTc (τ := Cert.KFfnIdeal.τ) (Cert.KFfnIdeal.main (F := Ideal))) ⟨m, fun _ => 0, g⟩ (fun r => (∀ c : Dev Cert.KFfnIdeal.nD,
      r.2.mem ((c.tc : Thread Cert.KFfnIdeal.nD Cert.KFfnIdeal.τ).loc Cert.KFfnIdeal.main_arg0) = m ((c.tc : Thread Cert.KFfnIdeal.nD Cert.KFfnIdeal.τ).loc Cert.KFfnIdeal.main_arg0)
      ∧ r.2.mem ((c.tc : Thread Cert.KFfnIdeal.nD Cert.KFfnIdeal.τ).loc Cert.KFfnIdeal.main_arg1) = m ((c.tc : Thread Cert.KFfnIdeal.nD Cert.KFfnIdeal.τ).loc Cert.KFfnIdeal.main_arg1)
      ∧ r.2.mem ((c.tc : Thread Cert.KFfnIdeal.nD Cert.KFfnIdeal.τ).loc Cert.KFfnIdeal.main_arg2) = m ((c.tc : Thread Cert.KFfnIdeal.nD Cert.KFfnIdeal.τ).loc Cert.KFfnIdeal.main_arg2)
      ∧ r.2.mem ((c.tc : Thread Cert.KFfnIdeal.nD Cert.KFfnIdeal.τ).loc Cert.KFfnIdeal.main_arg3) = m ((c.tc : Thread Cert.KFfnIdeal.nD Cert.KFfnIdeal.τ).loc Cert.KFfnIdeal.main_arg3)
      ∧ r.2.mem ((c.tc : Thread Cert.KFfnIdeal.nD Cert.KFfnIdeal.τ).loc Cert.KFfnIdeal.main_arg4) = m ((c.tc : Thread Cert.KFfnIdeal.nD Cert.KFfnIdeal.τ).loc Cert.KFfnIdeal.main_arg4)
      ∧ r.2.mem ((c.tc : Thread Cert.KFfnIdeal.nD Cert.KFfnIdeal.τ).loc Cert.KFfnIdeal.main_arg5) = m ((c.tc : Thread Cert.KFfnIdeal.nD Cert.KFfnIdeal.τ).loc Cert.KFfnIdeal.main_arg5)
      ∧ r.2.mem ((c.tc : Thread Cert.KFfnIdeal.nD Cert.KFfnIdeal.τ).loc Cert.KFfnIdeal.main_arg6) = m ((c.tc : Thread Cert.KFfnIdeal.nD Cert.KFfnIdeal.τ).loc Cert.KFfnIdeal.main_arg6))
      ∧ r.2.sem = fun _ => 0)

def quiescent_RFfnIdeal [hRFfnIdeal : Cert.RFfnIdeal.Facts] : Prop :=
  ∀ (m : (ℓ : Loc Cert.RFfnIdeal.nD Cert.RFfnIdeal.τ Cert.RFfnIdeal.sig) → Buf (Elt Ideal) ℓ) (g : Dev Cert.RFfnIdeal.nD → PrngReg), Pre_RFfnIdeal m →
    θ_run (Cert.RFfnIdeal.defs (F := Ideal)) (onTc (τ := Cert.RFfnIdeal.τ) (Cert.RFfnIdeal.main (F := Ideal))) ⟨m, fun _ => 0, g⟩ (fun r => (∀ c : Dev Cert.RFfnIdeal.nD,
      r.2.mem ((c.tc : Thread Cert.RFfnIdeal.nD Cert.RFfnIdeal.τ).loc Cert.RFfnIdeal.main_arg0) = m ((c.tc : Thread Cert.RFfnIdeal.nD Cert.RFfnIdeal.τ).loc Cert.RFfnIdeal.main_arg0)
      ∧ r.2.mem ((c.tc : Thread Cert.RFfnIdeal.nD Cert.RFfnIdeal.τ).loc Cert.RFfnIdeal.main_arg1) = m ((c.tc : Thread Cert.RFfnIdeal.nD Cert.RFfnIdeal.τ).loc Cert.RFfnIdeal.main_arg1)
      ∧ r.2.mem ((c.tc : Thread Cert.RFfnIdeal.nD Cert.RFfnIdeal.τ).loc Cert.RFfnIdeal.main_arg2) = m ((c.tc : Thread Cert.RFfnIdeal.nD Cert.RFfnIdeal.τ).loc Cert.RFfnIdeal.main_arg2)
      ∧ r.2.mem ((c.tc : Thread Cert.RFfnIdeal.nD Cert.RFfnIdeal.τ).loc Cert.RFfnIdeal.main_arg3) = m ((c.tc : Thread Cert.RFfnIdeal.nD Cert.RFfnIdeal.τ).loc Cert.RFfnIdeal.main_arg3)
      ∧ r.2.mem ((c.tc : Thread Cert.RFfnIdeal.nD Cert.RFfnIdeal.τ).loc Cert.RFfnIdeal.main_arg4) = m ((c.tc : Thread Cert.RFfnIdeal.nD Cert.RFfnIdeal.τ).loc Cert.RFfnIdeal.main_arg4)
      ∧ r.2.mem ((c.tc : Thread Cert.RFfnIdeal.nD Cert.RFfnIdeal.τ).loc Cert.RFfnIdeal.main_arg5) = m ((c.tc : Thread Cert.RFfnIdeal.nD Cert.RFfnIdeal.τ).loc Cert.RFfnIdeal.main_arg5)
      ∧ r.2.mem ((c.tc : Thread Cert.RFfnIdeal.nD Cert.RFfnIdeal.τ).loc Cert.RFfnIdeal.main_arg6) = m ((c.tc : Thread Cert.RFfnIdeal.nD Cert.RFfnIdeal.τ).loc Cert.RFfnIdeal.main_arg6))
      ∧ r.2.sem = fun _ => 0)

def quiescent_KIn [hKIn : Cert.KIn.Facts] : Prop :=
  ∀ (m : (ℓ : Loc Cert.KIn.nD Cert.KIn.τ Cert.KIn.sig) → Buf (Elt Bits) ℓ) (g : Dev Cert.KIn.nD → PrngReg), Pre_KIn m →
    θ_run (Cert.KIn.defs (F := Bits)) (onTc (τ := Cert.KIn.τ) (Cert.KIn.main (F := Bits))) ⟨m, fun _ => 0, g⟩ (fun r => (∀ c : Dev Cert.KIn.nD,
      r.2.mem ((c.tc : Thread Cert.KIn.nD Cert.KIn.τ).loc Cert.KIn.main_arg0) = m ((c.tc : Thread Cert.KIn.nD Cert.KIn.τ).loc Cert.KIn.main_arg0)
      ∧ r.2.mem ((c.tc : Thread Cert.KIn.nD Cert.KIn.τ).loc Cert.KIn.main_arg1) = m ((c.tc : Thread Cert.KIn.nD Cert.KIn.τ).loc Cert.KIn.main_arg1)
      ∧ r.2.mem ((c.tc : Thread Cert.KIn.nD Cert.KIn.τ).loc Cert.KIn.main_arg2) = m ((c.tc : Thread Cert.KIn.nD Cert.KIn.τ).loc Cert.KIn.main_arg2))
      ∧ r.2.sem = fun _ => 0)

def quiescent_KInIdeal [hKInIdeal : Cert.KInIdeal.Facts] : Prop :=
  ∀ (m : (ℓ : Loc Cert.KInIdeal.nD Cert.KInIdeal.τ Cert.KInIdeal.sig) → Buf (Elt Ideal) ℓ) (g : Dev Cert.KInIdeal.nD → PrngReg), Pre_KInIdeal m →
    θ_run (Cert.KInIdeal.defs (F := Ideal)) (onTc (τ := Cert.KInIdeal.τ) (Cert.KInIdeal.main (F := Ideal))) ⟨m, fun _ => 0, g⟩ (fun r => (∀ c : Dev Cert.KInIdeal.nD,
      r.2.mem ((c.tc : Thread Cert.KInIdeal.nD Cert.KInIdeal.τ).loc Cert.KInIdeal.main_arg0) = m ((c.tc : Thread Cert.KInIdeal.nD Cert.KInIdeal.τ).loc Cert.KInIdeal.main_arg0)
      ∧ r.2.mem ((c.tc : Thread Cert.KInIdeal.nD Cert.KInIdeal.τ).loc Cert.KInIdeal.main_arg1) = m ((c.tc : Thread Cert.KInIdeal.nD Cert.KInIdeal.τ).loc Cert.KInIdeal.main_arg1)
      ∧ r.2.mem ((c.tc : Thread Cert.KInIdeal.nD Cert.KInIdeal.τ).loc Cert.KInIdeal.main_arg2) = m ((c.tc : Thread Cert.KInIdeal.nD Cert.KInIdeal.τ).loc Cert.KInIdeal.main_arg2))
      ∧ r.2.sem = fun _ => 0)

def quiescent_RInIdeal [hRInIdeal : Cert.RInIdeal.Facts] : Prop :=
  ∀ (m : (ℓ : Loc Cert.RInIdeal.nD Cert.RInIdeal.τ Cert.RInIdeal.sig) → Buf (Elt Ideal) ℓ) (g : Dev Cert.RInIdeal.nD → PrngReg), Pre_RInIdeal m →
    θ_run (Cert.RInIdeal.defs (F := Ideal)) (onTc (τ := Cert.RInIdeal.τ) (Cert.RInIdeal.main (F := Ideal))) ⟨m, fun _ => 0, g⟩ (fun r => (∀ c : Dev Cert.RInIdeal.nD,
      r.2.mem ((c.tc : Thread Cert.RInIdeal.nD Cert.RInIdeal.τ).loc Cert.RInIdeal.main_arg0) = m ((c.tc : Thread Cert.RInIdeal.nD Cert.RInIdeal.τ).loc Cert.RInIdeal.main_arg0)
      ∧ r.2.mem ((c.tc : Thread Cert.RInIdeal.nD Cert.RInIdeal.τ).loc Cert.RInIdeal.main_arg1) = m ((c.tc : Thread Cert.RInIdeal.nD Cert.RInIdeal.τ).loc Cert.RInIdeal.main_arg1)
      ∧ r.2.mem ((c.tc : Thread Cert.RInIdeal.nD Cert.RInIdeal.τ).loc Cert.RInIdeal.main_arg2) = m ((c.tc : Thread Cert.RInIdeal.nD Cert.RInIdeal.τ).loc Cert.RInIdeal.main_arg2))
      ∧ r.2.sem = fun _ => 0)

def quiescent_KOut [hKOut : Cert.KOut.Facts] : Prop :=
  ∀ (m : (ℓ : Loc Cert.KOut.nD Cert.KOut.τ Cert.KOut.sig) → Buf (Elt Bits) ℓ) (g : Dev Cert.KOut.nD → PrngReg), Pre_KOut m →
    θ_run (Cert.KOut.defs (F := Bits)) (onTc (τ := Cert.KOut.τ) (Cert.KOut.main (F := Bits))) ⟨m, fun _ => 0, g⟩ (fun r => (∀ c : Dev Cert.KOut.nD,
      r.2.mem ((c.tc : Thread Cert.KOut.nD Cert.KOut.τ).loc Cert.KOut.main_arg0) = m ((c.tc : Thread Cert.KOut.nD Cert.KOut.τ).loc Cert.KOut.main_arg0)
      ∧ r.2.mem ((c.tc : Thread Cert.KOut.nD Cert.KOut.τ).loc Cert.KOut.main_arg1) = m ((c.tc : Thread Cert.KOut.nD Cert.KOut.τ).loc Cert.KOut.main_arg1)
      ∧ r.2.mem ((c.tc : Thread Cert.KOut.nD Cert.KOut.τ).loc Cert.KOut.main_arg2) = m ((c.tc : Thread Cert.KOut.nD Cert.KOut.τ).loc Cert.KOut.main_arg2))
      ∧ r.2.sem = fun _ => 0)

def quiescent_KOutIdeal [hKOutIdeal : Cert.KOutIdeal.Facts] : Prop :=
  ∀ (m : (ℓ : Loc Cert.KOutIdeal.nD Cert.KOutIdeal.τ Cert.KOutIdeal.sig) → Buf (Elt Ideal) ℓ) (g : Dev Cert.KOutIdeal.nD → PrngReg), Pre_KOutIdeal m →
    θ_run (Cert.KOutIdeal.defs (F := Ideal)) (onTc (τ := Cert.KOutIdeal.τ) (Cert.KOutIdeal.main (F := Ideal))) ⟨m, fun _ => 0, g⟩ (fun r => (∀ c : Dev Cert.KOutIdeal.nD,
      r.2.mem ((c.tc : Thread Cert.KOutIdeal.nD Cert.KOutIdeal.τ).loc Cert.KOutIdeal.main_arg0) = m ((c.tc : Thread Cert.KOutIdeal.nD Cert.KOutIdeal.τ).loc Cert.KOutIdeal.main_arg0)
      ∧ r.2.mem ((c.tc : Thread Cert.KOutIdeal.nD Cert.KOutIdeal.τ).loc Cert.KOutIdeal.main_arg1) = m ((c.tc : Thread Cert.KOutIdeal.nD Cert.KOutIdeal.τ).loc Cert.KOutIdeal.main_arg1)
      ∧ r.2.mem ((c.tc : Thread Cert.KOutIdeal.nD Cert.KOutIdeal.τ).loc Cert.KOutIdeal.main_arg2) = m ((c.tc : Thread Cert.KOutIdeal.nD Cert.KOutIdeal.τ).loc Cert.KOutIdeal.main_arg2))
      ∧ r.2.sem = fun _ => 0)

def quiescent_ROutIdeal [hROutIdeal : Cert.ROutIdeal.Facts] : Prop :=
  ∀ (m : (ℓ : Loc Cert.ROutIdeal.nD Cert.ROutIdeal.τ Cert.ROutIdeal.sig) → Buf (Elt Ideal) ℓ) (g : Dev Cert.ROutIdeal.nD → PrngReg), Pre_ROutIdeal m →
    θ_run (Cert.ROutIdeal.defs (F := Ideal)) (onTc (τ := Cert.ROutIdeal.τ) (Cert.ROutIdeal.main (F := Ideal))) ⟨m, fun _ => 0, g⟩ (fun r => (∀ c : Dev Cert.ROutIdeal.nD,
      r.2.mem ((c.tc : Thread Cert.ROutIdeal.nD Cert.ROutIdeal.τ).loc Cert.ROutIdeal.main_arg0) = m ((c.tc : Thread Cert.ROutIdeal.nD Cert.ROutIdeal.τ).loc Cert.ROutIdeal.main_arg0)
      ∧ r.2.mem ((c.tc : Thread Cert.ROutIdeal.nD Cert.ROutIdeal.τ).loc Cert.ROutIdeal.main_arg1) = m ((c.tc : Thread Cert.ROutIdeal.nD Cert.ROutIdeal.τ).loc Cert.ROutIdeal.main_arg1)
      ∧ r.2.mem ((c.tc : Thread Cert.ROutIdeal.nD Cert.ROutIdeal.τ).loc Cert.ROutIdeal.main_arg2) = m ((c.tc : Thread Cert.ROutIdeal.nD Cert.ROutIdeal.τ).loc Cert.ROutIdeal.main_arg2))
      ∧ r.2.sem = fun _ => 0)

def quiescent_KFs [hKFs : Cert.KFs.Facts] : Prop :=
  ∀ (m : (ℓ : Loc Cert.KFs.nD Cert.KFs.τ Cert.KFs.sig) → Buf (Elt Bits) ℓ) (g : Dev Cert.KFs.nD → PrngReg), Pre_KFs m →
    θ_run (Cert.KFs.defs (F := Bits)) (onTc (τ := Cert.KFs.τ) (Cert.KFs.main (F := Bits))) ⟨m, fun _ => 0, g⟩ (fun r => (∀ c : Dev Cert.KFs.nD,
      r.2.mem ((c.tc : Thread Cert.KFs.nD Cert.KFs.τ).loc Cert.KFs.main_arg0) = m ((c.tc : Thread Cert.KFs.nD Cert.KFs.τ).loc Cert.KFs.main_arg0)
      ∧ r.2.mem ((c.tc : Thread Cert.KFs.nD Cert.KFs.τ).loc Cert.KFs.main_arg1) = m ((c.tc : Thread Cert.KFs.nD Cert.KFs.τ).loc Cert.KFs.main_arg1)
      ∧ r.2.mem ((c.tc : Thread Cert.KFs.nD Cert.KFs.τ).loc Cert.KFs.main_arg2) = m ((c.tc : Thread Cert.KFs.nD Cert.KFs.τ).loc Cert.KFs.main_arg2)
      ∧ r.2.mem ((c.tc : Thread Cert.KFs.nD Cert.KFs.τ).loc Cert.KFs.main_arg3) = m ((c.tc : Thread Cert.KFs.nD Cert.KFs.τ).loc Cert.KFs.main_arg3)
      ∧ r.2.mem ((c.tc : Thread Cert.KFs.nD Cert.KFs.τ).loc Cert.KFs.main_arg4) = m ((c.tc : Thread Cert.KFs.nD Cert.KFs.τ).loc Cert.KFs.main_arg4)
      ∧ r.2.mem ((c.tc : Thread Cert.KFs.nD Cert.KFs.τ).loc Cert.KFs.main_arg5) = m ((c.tc : Thread Cert.KFs.nD Cert.KFs.τ).loc Cert.KFs.main_arg5)
      ∧ r.2.mem ((c.tc : Thread Cert.KFs.nD Cert.KFs.τ).loc Cert.KFs.main_arg6) = m ((c.tc : Thread Cert.KFs.nD Cert.KFs.τ).loc Cert.KFs.main_arg6)
      ∧ r.2.mem ((c.tc : Thread Cert.KFs.nD Cert.KFs.τ).loc Cert.KFs.main_arg7) = m ((c.tc : Thread Cert.KFs.nD Cert.KFs.τ).loc Cert.KFs.main_arg7))
      ∧ r.2.sem = fun _ => 0)

def quiescent_KFsIdeal [hKFsIdeal : Cert.KFsIdeal.Facts] : Prop :=
  ∀ (m : (ℓ : Loc Cert.KFsIdeal.nD Cert.KFsIdeal.τ Cert.KFsIdeal.sig) → Buf (Elt Ideal) ℓ) (g : Dev Cert.KFsIdeal.nD → PrngReg), Pre_KFsIdeal m →
    θ_run (Cert.KFsIdeal.defs (F := Ideal)) (onTc (τ := Cert.KFsIdeal.τ) (Cert.KFsIdeal.main (F := Ideal))) ⟨m, fun _ => 0, g⟩ (fun r => (∀ c : Dev Cert.KFsIdeal.nD,
      r.2.mem ((c.tc : Thread Cert.KFsIdeal.nD Cert.KFsIdeal.τ).loc Cert.KFsIdeal.main_arg0) = m ((c.tc : Thread Cert.KFsIdeal.nD Cert.KFsIdeal.τ).loc Cert.KFsIdeal.main_arg0)
      ∧ r.2.mem ((c.tc : Thread Cert.KFsIdeal.nD Cert.KFsIdeal.τ).loc Cert.KFsIdeal.main_arg1) = m ((c.tc : Thread Cert.KFsIdeal.nD Cert.KFsIdeal.τ).loc Cert.KFsIdeal.main_arg1)
      ∧ r.2.mem ((c.tc : Thread Cert.KFsIdeal.nD Cert.KFsIdeal.τ).loc Cert.KFsIdeal.main_arg2) = m ((c.tc : Thread Cert.KFsIdeal.nD Cert.KFsIdeal.τ).loc Cert.KFsIdeal.main_arg2)
      ∧ r.2.mem ((c.tc : Thread Cert.KFsIdeal.nD Cert.KFsIdeal.τ).loc Cert.KFsIdeal.main_arg3) = m ((c.tc : Thread Cert.KFsIdeal.nD Cert.KFsIdeal.τ).loc Cert.KFsIdeal.main_arg3)
      ∧ r.2.mem ((c.tc : Thread Cert.KFsIdeal.nD Cert.KFsIdeal.τ).loc Cert.KFsIdeal.main_arg4) = m ((c.tc : Thread Cert.KFsIdeal.nD Cert.KFsIdeal.τ).loc Cert.KFsIdeal.main_arg4)
      ∧ r.2.mem ((c.tc : Thread Cert.KFsIdeal.nD Cert.KFsIdeal.τ).loc Cert.KFsIdeal.main_arg5) = m ((c.tc : Thread Cert.KFsIdeal.nD Cert.KFsIdeal.τ).loc Cert.KFsIdeal.main_arg5)
      ∧ r.2.mem ((c.tc : Thread Cert.KFsIdeal.nD Cert.KFsIdeal.τ).loc Cert.KFsIdeal.main_arg6) = m ((c.tc : Thread Cert.KFsIdeal.nD Cert.KFsIdeal.τ).loc Cert.KFsIdeal.main_arg6)
      ∧ r.2.mem ((c.tc : Thread Cert.KFsIdeal.nD Cert.KFsIdeal.τ).loc Cert.KFsIdeal.main_arg7) = m ((c.tc : Thread Cert.KFsIdeal.nD Cert.KFsIdeal.τ).loc Cert.KFsIdeal.main_arg7))
      ∧ r.2.sem = fun _ => 0)

def quiescent_RFsIdeal [hRFsIdeal : Cert.RFsIdeal.Facts] : Prop :=
  ∀ (m : (ℓ : Loc Cert.RFsIdeal.nD Cert.RFsIdeal.τ Cert.RFsIdeal.sig) → Buf (Elt Ideal) ℓ) (g : Dev Cert.RFsIdeal.nD → PrngReg), Pre_RFsIdeal m →
    θ_run (Cert.RFsIdeal.defs (F := Ideal)) (onTc (τ := Cert.RFsIdeal.τ) (Cert.RFsIdeal.main (F := Ideal))) ⟨m, fun _ => 0, g⟩ (fun r => (∀ c : Dev Cert.RFsIdeal.nD,
      r.2.mem ((c.tc : Thread Cert.RFsIdeal.nD Cert.RFsIdeal.τ).loc Cert.RFsIdeal.main_arg0) = m ((c.tc : Thread Cert.RFsIdeal.nD Cert.RFsIdeal.τ).loc Cert.RFsIdeal.main_arg0)
      ∧ r.2.mem ((c.tc : Thread Cert.RFsIdeal.nD Cert.RFsIdeal.τ).loc Cert.RFsIdeal.main_arg1) = m ((c.tc : Thread Cert.RFsIdeal.nD Cert.RFsIdeal.τ).loc Cert.RFsIdeal.main_arg1)
      ∧ r.2.mem ((c.tc : Thread Cert.RFsIdeal.nD Cert.RFsIdeal.τ).loc Cert.RFsIdeal.main_arg2) = m ((c.tc : Thread Cert.RFsIdeal.nD Cert.RFsIdeal.τ).loc Cert.RFsIdeal.main_arg2)
      ∧ r.2.mem ((c.tc : Thread Cert.RFsIdeal.nD Cert.RFsIdeal.τ).loc Cert.RFsIdeal.main_arg3) = m ((c.tc : Thread Cert.RFsIdeal.nD Cert.RFsIdeal.τ).loc Cert.RFsIdeal.main_arg3)
      ∧ r.2.mem ((c.tc : Thread Cert.RFsIdeal.nD Cert.RFsIdeal.τ).loc Cert.RFsIdeal.main_arg4) = m ((c.tc : Thread Cert.RFsIdeal.nD Cert.RFsIdeal.τ).loc Cert.RFsIdeal.main_arg4)
      ∧ r.2.mem ((c.tc : Thread Cert.RFsIdeal.nD Cert.RFsIdeal.τ).loc Cert.RFsIdeal.main_arg5) = m ((c.tc : Thread Cert.RFsIdeal.nD Cert.RFsIdeal.τ).loc Cert.RFsIdeal.main_arg5)
      ∧ r.2.mem ((c.tc : Thread Cert.RFsIdeal.nD Cert.RFsIdeal.τ).loc Cert.RFsIdeal.main_arg6) = m ((c.tc : Thread Cert.RFsIdeal.nD Cert.RFsIdeal.τ).loc Cert.RFsIdeal.main_arg6)
      ∧ r.2.mem ((c.tc : Thread Cert.RFsIdeal.nD Cert.RFsIdeal.τ).loc Cert.RFsIdeal.main_arg7) = m ((c.tc : Thread Cert.RFsIdeal.nD Cert.RFsIdeal.τ).loc Cert.RFsIdeal.main_arg7))
      ∧ r.2.sem = fun _ => 0)

def quiescent_KEin [hKEin : Cert.KEin.Facts] : Prop :=
  ∀ (m : (ℓ : Loc Cert.KEin.nD Cert.KEin.τ Cert.KEin.sig) → Buf (Elt Bits) ℓ) (g : Dev Cert.KEin.nD → PrngReg), Pre_KEin m →
    θ_run (Cert.KEin.defs (F := Bits)) (onTc (τ := Cert.KEin.τ) (Cert.KEin.main (F := Bits))) ⟨m, fun _ => 0, g⟩ (fun r => (∀ c : Dev Cert.KEin.nD,
      r.2.mem ((c.tc : Thread Cert.KEin.nD Cert.KEin.τ).loc Cert.KEin.main_arg0) = m ((c.tc : Thread Cert.KEin.nD Cert.KEin.τ).loc Cert.KEin.main_arg0)
      ∧ r.2.mem ((c.tc : Thread Cert.KEin.nD Cert.KEin.τ).loc Cert.KEin.main_arg1) = m ((c.tc : Thread Cert.KEin.nD Cert.KEin.τ).loc Cert.KEin.main_arg1)
      ∧ r.2.mem ((c.tc : Thread Cert.KEin.nD Cert.KEin.τ).loc Cert.KEin.main_arg2) = m ((c.tc : Thread Cert.KEin.nD Cert.KEin.τ).loc Cert.KEin.main_arg2))
      ∧ r.2.sem = fun _ => 0)

def quiescent_KEinIdeal [hKEinIdeal : Cert.KEinIdeal.Facts] : Prop :=
  ∀ (m : (ℓ : Loc Cert.KEinIdeal.nD Cert.KEinIdeal.τ Cert.KEinIdeal.sig) → Buf (Elt Ideal) ℓ) (g : Dev Cert.KEinIdeal.nD → PrngReg), Pre_KEinIdeal m →
    θ_run (Cert.KEinIdeal.defs (F := Ideal)) (onTc (τ := Cert.KEinIdeal.τ) (Cert.KEinIdeal.main (F := Ideal))) ⟨m, fun _ => 0, g⟩ (fun r => (∀ c : Dev Cert.KEinIdeal.nD,
      r.2.mem ((c.tc : Thread Cert.KEinIdeal.nD Cert.KEinIdeal.τ).loc Cert.KEinIdeal.main_arg0) = m ((c.tc : Thread Cert.KEinIdeal.nD Cert.KEinIdeal.τ).loc Cert.KEinIdeal.main_arg0)
      ∧ r.2.mem ((c.tc : Thread Cert.KEinIdeal.nD Cert.KEinIdeal.τ).loc Cert.KEinIdeal.main_arg1) = m ((c.tc : Thread Cert.KEinIdeal.nD Cert.KEinIdeal.τ).loc Cert.KEinIdeal.main_arg1)
      ∧ r.2.mem ((c.tc : Thread Cert.KEinIdeal.nD Cert.KEinIdeal.τ).loc Cert.KEinIdeal.main_arg2) = m ((c.tc : Thread Cert.KEinIdeal.nD Cert.KEinIdeal.τ).loc Cert.KEinIdeal.main_arg2))
      ∧ r.2.sem = fun _ => 0)

def quiescent_REinIdeal [hREinIdeal : Cert.REinIdeal.Facts] : Prop :=
  ∀ (m : (ℓ : Loc Cert.REinIdeal.nD Cert.REinIdeal.τ Cert.REinIdeal.sig) → Buf (Elt Ideal) ℓ) (g : Dev Cert.REinIdeal.nD → PrngReg), Pre_REinIdeal m →
    θ_run (Cert.REinIdeal.defs (F := Ideal)) (onTc (τ := Cert.REinIdeal.τ) (Cert.REinIdeal.main (F := Ideal))) ⟨m, fun _ => 0, g⟩ (fun r => (∀ c : Dev Cert.REinIdeal.nD,
      r.2.mem ((c.tc : Thread Cert.REinIdeal.nD Cert.REinIdeal.τ).loc Cert.REinIdeal.main_arg0) = m ((c.tc : Thread Cert.REinIdeal.nD Cert.REinIdeal.τ).loc Cert.REinIdeal.main_arg0)
      ∧ r.2.mem ((c.tc : Thread Cert.REinIdeal.nD Cert.REinIdeal.τ).loc Cert.REinIdeal.main_arg1) = m ((c.tc : Thread Cert.REinIdeal.nD Cert.REinIdeal.τ).loc Cert.REinIdeal.main_arg1)
      ∧ r.2.mem ((c.tc : Thread Cert.REinIdeal.nD Cert.REinIdeal.τ).loc Cert.REinIdeal.main_arg2) = m ((c.tc : Thread Cert.REinIdeal.nD Cert.REinIdeal.τ).loc Cert.REinIdeal.main_arg2))
      ∧ r.2.sem = fun _ => 0)

def quiescent_KEm [hKEm : Cert.KEm.Facts] : Prop :=
  ∀ (m : (ℓ : Loc Cert.KEm.nD Cert.KEm.τ Cert.KEm.sig) → Buf (Elt Bits) ℓ) (g : Dev Cert.KEm.nD → PrngReg), Pre_KEm m →
    θ_run (Cert.KEm.defs (F := Bits)) (onTc (τ := Cert.KEm.τ) (Cert.KEm.main (F := Bits))) ⟨m, fun _ => 0, g⟩ (fun r => (∀ c : Dev Cert.KEm.nD,
      r.2.mem ((c.tc : Thread Cert.KEm.nD Cert.KEm.τ).loc Cert.KEm.main_arg0) = m ((c.tc : Thread Cert.KEm.nD Cert.KEm.τ).loc Cert.KEm.main_arg0)
      ∧ r.2.mem ((c.tc : Thread Cert.KEm.nD Cert.KEm.τ).loc Cert.KEm.main_arg1) = m ((c.tc : Thread Cert.KEm.nD Cert.KEm.τ).loc Cert.KEm.main_arg1)
      ∧ r.2.mem ((c.tc : Thread Cert.KEm.nD Cert.KEm.τ).loc Cert.KEm.main_arg2) = m ((c.tc : Thread Cert.KEm.nD Cert.KEm.τ).loc Cert.KEm.main_arg2)
      ∧ r.2.mem ((c.tc : Thread Cert.KEm.nD Cert.KEm.τ).loc Cert.KEm.main_arg3) = m ((c.tc : Thread Cert.KEm.nD Cert.KEm.τ).loc Cert.KEm.main_arg3)
      ∧ r.2.mem ((c.tc : Thread Cert.KEm.nD Cert.KEm.τ).loc Cert.KEm.main_arg4) = m ((c.tc : Thread Cert.KEm.nD Cert.KEm.τ).loc Cert.KEm.main_arg4)
      ∧ r.2.mem ((c.tc : Thread Cert.KEm.nD Cert.KEm.τ).loc Cert.KEm.main_arg5) = m ((c.tc : Thread Cert.KEm.nD Cert.KEm.τ).loc Cert.KEm.main_arg5)
      ∧ r.2.mem ((c.tc : Thread Cert.KEm.nD Cert.KEm.τ).loc Cert.KEm.main_arg6) = m ((c.tc : Thread Cert.KEm.nD Cert.KEm.τ).loc Cert.KEm.main_arg6)
      ∧ r.2.mem ((c.tc : Thread Cert.KEm.nD Cert.KEm.τ).loc Cert.KEm.main_arg7) = m ((c.tc : Thread Cert.KEm.nD Cert.KEm.τ).loc Cert.KEm.main_arg7)
      ∧ r.2.mem ((c.tc : Thread Cert.KEm.nD Cert.KEm.τ).loc Cert.KEm.main_arg8) = m ((c.tc : Thread Cert.KEm.nD Cert.KEm.τ).loc Cert.KEm.main_arg8)
      ∧ r.2.mem ((c.tc : Thread Cert.KEm.nD Cert.KEm.τ).loc Cert.KEm.main_arg9) = m ((c.tc : Thread Cert.KEm.nD Cert.KEm.τ).loc Cert.KEm.main_arg9)
      ∧ r.2.mem ((c.tc : Thread Cert.KEm.nD Cert.KEm.τ).loc Cert.KEm.main_arg10) = m ((c.tc : Thread Cert.KEm.nD Cert.KEm.τ).loc Cert.KEm.main_arg10)
      ∧ r.2.mem ((c.tc : Thread Cert.KEm.nD Cert.KEm.τ).loc Cert.KEm.main_arg11) = m ((c.tc : Thread Cert.KEm.nD Cert.KEm.τ).loc Cert.KEm.main_arg11)
      ∧ r.2.mem ((c.tc : Thread Cert.KEm.nD Cert.KEm.τ).loc Cert.KEm.main_arg12) = m ((c.tc : Thread Cert.KEm.nD Cert.KEm.τ).loc Cert.KEm.main_arg12)
      ∧ r.2.mem ((c.tc : Thread Cert.KEm.nD Cert.KEm.τ).loc Cert.KEm.main_arg13) = m ((c.tc : Thread Cert.KEm.nD Cert.KEm.τ).loc Cert.KEm.main_arg13)
      ∧ r.2.mem ((c.tc : Thread Cert.KEm.nD Cert.KEm.τ).loc Cert.KEm.main_arg14) = m ((c.tc : Thread Cert.KEm.nD Cert.KEm.τ).loc Cert.KEm.main_arg14)
      ∧ r.2.mem ((c.tc : Thread Cert.KEm.nD Cert.KEm.τ).loc Cert.KEm.main_arg15) = m ((c.tc : Thread Cert.KEm.nD Cert.KEm.τ).loc Cert.KEm.main_arg15))
      ∧ r.2.sem = fun _ => 0)

def quiescent_KEmIdeal [hKEmIdeal : Cert.KEmIdeal.Facts] : Prop :=
  ∀ (m : (ℓ : Loc Cert.KEmIdeal.nD Cert.KEmIdeal.τ Cert.KEmIdeal.sig) → Buf (Elt Ideal) ℓ) (g : Dev Cert.KEmIdeal.nD → PrngReg), Pre_KEmIdeal m →
    θ_run (Cert.KEmIdeal.defs (F := Ideal)) (onTc (τ := Cert.KEmIdeal.τ) (Cert.KEmIdeal.main (F := Ideal))) ⟨m, fun _ => 0, g⟩ (fun r => (∀ c : Dev Cert.KEmIdeal.nD,
      r.2.mem ((c.tc : Thread Cert.KEmIdeal.nD Cert.KEmIdeal.τ).loc Cert.KEmIdeal.main_arg0) = m ((c.tc : Thread Cert.KEmIdeal.nD Cert.KEmIdeal.τ).loc Cert.KEmIdeal.main_arg0)
      ∧ r.2.mem ((c.tc : Thread Cert.KEmIdeal.nD Cert.KEmIdeal.τ).loc Cert.KEmIdeal.main_arg1) = m ((c.tc : Thread Cert.KEmIdeal.nD Cert.KEmIdeal.τ).loc Cert.KEmIdeal.main_arg1)
      ∧ r.2.mem ((c.tc : Thread Cert.KEmIdeal.nD Cert.KEmIdeal.τ).loc Cert.KEmIdeal.main_arg2) = m ((c.tc : Thread Cert.KEmIdeal.nD Cert.KEmIdeal.τ).loc Cert.KEmIdeal.main_arg2)
      ∧ r.2.mem ((c.tc : Thread Cert.KEmIdeal.nD Cert.KEmIdeal.τ).loc Cert.KEmIdeal.main_arg3) = m ((c.tc : Thread Cert.KEmIdeal.nD Cert.KEmIdeal.τ).loc Cert.KEmIdeal.main_arg3)
      ∧ r.2.mem ((c.tc : Thread Cert.KEmIdeal.nD Cert.KEmIdeal.τ).loc Cert.KEmIdeal.main_arg4) = m ((c.tc : Thread Cert.KEmIdeal.nD Cert.KEmIdeal.τ).loc Cert.KEmIdeal.main_arg4)
      ∧ r.2.mem ((c.tc : Thread Cert.KEmIdeal.nD Cert.KEmIdeal.τ).loc Cert.KEmIdeal.main_arg5) = m ((c.tc : Thread Cert.KEmIdeal.nD Cert.KEmIdeal.τ).loc Cert.KEmIdeal.main_arg5)
      ∧ r.2.mem ((c.tc : Thread Cert.KEmIdeal.nD Cert.KEmIdeal.τ).loc Cert.KEmIdeal.main_arg6) = m ((c.tc : Thread Cert.KEmIdeal.nD Cert.KEmIdeal.τ).loc Cert.KEmIdeal.main_arg6)
      ∧ r.2.mem ((c.tc : Thread Cert.KEmIdeal.nD Cert.KEmIdeal.τ).loc Cert.KEmIdeal.main_arg7) = m ((c.tc : Thread Cert.KEmIdeal.nD Cert.KEmIdeal.τ).loc Cert.KEmIdeal.main_arg7)
      ∧ r.2.mem ((c.tc : Thread Cert.KEmIdeal.nD Cert.KEmIdeal.τ).loc Cert.KEmIdeal.main_arg8) = m ((c.tc : Thread Cert.KEmIdeal.nD Cert.KEmIdeal.τ).loc Cert.KEmIdeal.main_arg8)
      ∧ r.2.mem ((c.tc : Thread Cert.KEmIdeal.nD Cert.KEmIdeal.τ).loc Cert.KEmIdeal.main_arg9) = m ((c.tc : Thread Cert.KEmIdeal.nD Cert.KEmIdeal.τ).loc Cert.KEmIdeal.main_arg9)
      ∧ r.2.mem ((c.tc : Thread Cert.KEmIdeal.nD Cert.KEmIdeal.τ).loc Cert.KEmIdeal.main_arg10) = m ((c.tc : Thread Cert.KEmIdeal.nD Cert.KEmIdeal.τ).loc Cert.KEmIdeal.main_arg10)
      ∧ r.2.mem ((c.tc : Thread Cert.KEmIdeal.nD Cert.KEmIdeal.τ).loc Cert.KEmIdeal.main_arg11) = m ((c.tc : Thread Cert.KEmIdeal.nD Cert.KEmIdeal.τ).loc Cert.KEmIdeal.main_arg11)
      ∧ r.2.mem ((c.tc : Thread Cert.KEmIdeal.nD Cert.KEmIdeal.τ).loc Cert.KEmIdeal.main_arg12) = m ((c.tc : Thread Cert.KEmIdeal.nD Cert.KEmIdeal.τ).loc Cert.KEmIdeal.main_arg12)
      ∧ r.2.mem ((c.tc : Thread Cert.KEmIdeal.nD Cert.KEmIdeal.τ).loc Cert.KEmIdeal.main_arg13) = m ((c.tc : Thread Cert.KEmIdeal.nD Cert.KEmIdeal.τ).loc Cert.KEmIdeal.main_arg13)
      ∧ r.2.mem ((c.tc : Thread Cert.KEmIdeal.nD Cert.KEmIdeal.τ).loc Cert.KEmIdeal.main_arg14) = m ((c.tc : Thread Cert.KEmIdeal.nD Cert.KEmIdeal.τ).loc Cert.KEmIdeal.main_arg14)
      ∧ r.2.mem ((c.tc : Thread Cert.KEmIdeal.nD Cert.KEmIdeal.τ).loc Cert.KEmIdeal.main_arg15) = m ((c.tc : Thread Cert.KEmIdeal.nD Cert.KEmIdeal.τ).loc Cert.KEmIdeal.main_arg15))
      ∧ r.2.sem = fun _ => 0)

def quiescent_REmIdeal [hREmIdeal : Cert.REmIdeal.Facts] : Prop :=
  ∀ (m : (ℓ : Loc Cert.REmIdeal.nD Cert.REmIdeal.τ Cert.REmIdeal.sig) → Buf (Elt Ideal) ℓ) (g : Dev Cert.REmIdeal.nD → PrngReg), Pre_REmIdeal m →
    θ_run (Cert.REmIdeal.defs (F := Ideal)) (onTc (τ := Cert.REmIdeal.τ) (Cert.REmIdeal.main (F := Ideal))) ⟨m, fun _ => 0, g⟩ (fun r => (∀ c : Dev Cert.REmIdeal.nD,
      r.2.mem ((c.tc : Thread Cert.REmIdeal.nD Cert.REmIdeal.τ).loc Cert.REmIdeal.main_arg0) = m ((c.tc : Thread Cert.REmIdeal.nD Cert.REmIdeal.τ).loc Cert.REmIdeal.main_arg0)
      ∧ r.2.mem ((c.tc : Thread Cert.REmIdeal.nD Cert.REmIdeal.τ).loc Cert.REmIdeal.main_arg1) = m ((c.tc : Thread Cert.REmIdeal.nD Cert.REmIdeal.τ).loc Cert.REmIdeal.main_arg1)
      ∧ r.2.mem ((c.tc : Thread Cert.REmIdeal.nD Cert.REmIdeal.τ).loc Cert.REmIdeal.main_arg2) = m ((c.tc : Thread Cert.REmIdeal.nD Cert.REmIdeal.τ).loc Cert.REmIdeal.main_arg2)
      ∧ r.2.mem ((c.tc : Thread Cert.REmIdeal.nD Cert.REmIdeal.τ).loc Cert.REmIdeal.main_arg3) = m ((c.tc : Thread Cert.REmIdeal.nD Cert.REmIdeal.τ).loc Cert.REmIdeal.main_arg3)
      ∧ r.2.mem ((c.tc : Thread Cert.REmIdeal.nD Cert.REmIdeal.τ).loc Cert.REmIdeal.main_arg4) = m ((c.tc : Thread Cert.REmIdeal.nD Cert.REmIdeal.τ).loc Cert.REmIdeal.main_arg4)
      ∧ r.2.mem ((c.tc : Thread Cert.REmIdeal.nD Cert.REmIdeal.τ).loc Cert.REmIdeal.main_arg5) = m ((c.tc : Thread Cert.REmIdeal.nD Cert.REmIdeal.τ).loc Cert.REmIdeal.main_arg5)
      ∧ r.2.mem ((c.tc : Thread Cert.REmIdeal.nD Cert.REmIdeal.τ).loc Cert.REmIdeal.main_arg6) = m ((c.tc : Thread Cert.REmIdeal.nD Cert.REmIdeal.τ).loc Cert.REmIdeal.main_arg6)
      ∧ r.2.mem ((c.tc : Thread Cert.REmIdeal.nD Cert.REmIdeal.τ).loc Cert.REmIdeal.main_arg7) = m ((c.tc : Thread Cert.REmIdeal.nD Cert.REmIdeal.τ).loc Cert.REmIdeal.main_arg7)
      ∧ r.2.mem ((c.tc : Thread Cert.REmIdeal.nD Cert.REmIdeal.τ).loc Cert.REmIdeal.main_arg8) = m ((c.tc : Thread Cert.REmIdeal.nD Cert.REmIdeal.τ).loc Cert.REmIdeal.main_arg8)
      ∧ r.2.mem ((c.tc : Thread Cert.REmIdeal.nD Cert.REmIdeal.τ).loc Cert.REmIdeal.main_arg9) = m ((c.tc : Thread Cert.REmIdeal.nD Cert.REmIdeal.τ).loc Cert.REmIdeal.main_arg9)
      ∧ r.2.mem ((c.tc : Thread Cert.REmIdeal.nD Cert.REmIdeal.τ).loc Cert.REmIdeal.main_arg10) = m ((c.tc : Thread Cert.REmIdeal.nD Cert.REmIdeal.τ).loc Cert.REmIdeal.main_arg10)
      ∧ r.2.mem ((c.tc : Thread Cert.REmIdeal.nD Cert.REmIdeal.τ).loc Cert.REmIdeal.main_arg11) = m ((c.tc : Thread Cert.REmIdeal.nD Cert.REmIdeal.τ).loc Cert.REmIdeal.main_arg11)
      ∧ r.2.mem ((c.tc : Thread Cert.REmIdeal.nD Cert.REmIdeal.τ).loc Cert.REmIdeal.main_arg12) = m ((c.tc : Thread Cert.REmIdeal.nD Cert.REmIdeal.τ).loc Cert.REmIdeal.main_arg12)
      ∧ r.2.mem ((c.tc : Thread Cert.REmIdeal.nD Cert.REmIdeal.τ).loc Cert.REmIdeal.main_arg13) = m ((c.tc : Thread Cert.REmIdeal.nD Cert.REmIdeal.τ).loc Cert.REmIdeal.main_arg13)
      ∧ r.2.mem ((c.tc : Thread Cert.REmIdeal.nD Cert.REmIdeal.τ).loc Cert.REmIdeal.main_arg14) = m ((c.tc : Thread Cert.REmIdeal.nD Cert.REmIdeal.τ).loc Cert.REmIdeal.main_arg14)
      ∧ r.2.mem ((c.tc : Thread Cert.REmIdeal.nD Cert.REmIdeal.τ).loc Cert.REmIdeal.main_arg15) = m ((c.tc : Thread Cert.REmIdeal.nD Cert.REmIdeal.τ).loc Cert.REmIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v79_0)) (v1 : (c : Dev Cert.KernelIdeal.nD) → Buf (Elt Ideal) ((c.tc : Thread Cert.KernelIdeal.nD Cert.KernelIdeal.τ).loc Cert.KernelIdeal.main_v79_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79_0) = v0 c
          ∧ r.2.mem ((c.tc : Thread Cert.KernelIdeal.nD Cert.KernelIdeal.τ).loc Cert.KernelIdeal.main_v79_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v120_8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KFfn_KFfnIdeal : Prop :=
  True

def algebraic_KFfnIdeal_RFfnIdeal [hKFfnIdeal : Cert.KFfnIdeal.Facts] [hRFfnIdeal : Cert.RFfnIdeal.Facts] : Prop :=
  ∀ (m : (ℓ : Loc Cert.KFfnIdeal.nD Cert.KFfnIdeal.τ Cert.KFfnIdeal.sig) → Buf (Elt Ideal) ℓ) (g : Dev Cert.KFfnIdeal.nD → PrngReg)
    (m' : (ℓ : Loc Cert.RFfnIdeal.nD Cert.RFfnIdeal.τ Cert.RFfnIdeal.sig) → Buf (Elt Ideal) ℓ) (g' : Dev Cert.RFfnIdeal.nD → PrngReg), Pre_KFfnIdeal m →
    (∀ c : Dev Cert.KFfnIdeal.nD,
      m' ((c.tc : Thread Cert.RFfnIdeal.nD Cert.RFfnIdeal.τ).loc Cert.RFfnIdeal.main_arg0) = m ((c.tc : Thread Cert.KFfnIdeal.nD Cert.KFfnIdeal.τ).loc Cert.KFfnIdeal.main_arg0)
      ∧ m' ((c.tc : Thread Cert.RFfnIdeal.nD Cert.RFfnIdeal.τ).loc Cert.RFfnIdeal.main_arg1) = m ((c.tc : Thread Cert.KFfnIdeal.nD Cert.KFfnIdeal.τ).loc Cert.KFfnIdeal.main_arg1)
      ∧ m' ((c.tc : Thread Cert.RFfnIdeal.nD Cert.RFfnIdeal.τ).loc Cert.RFfnIdeal.main_arg2) = m ((c.tc : Thread Cert.KFfnIdeal.nD Cert.KFfnIdeal.τ).loc Cert.KFfnIdeal.main_arg2)
      ∧ m' ((c.tc : Thread Cert.RFfnIdeal.nD Cert.RFfnIdeal.τ).loc Cert.RFfnIdeal.main_arg3) = m ((c.tc : Thread Cert.KFfnIdeal.nD Cert.KFfnIdeal.τ).loc Cert.KFfnIdeal.main_arg3)
      ∧ m' ((c.tc : Thread Cert.RFfnIdeal.nD Cert.RFfnIdeal.τ).loc Cert.RFfnIdeal.main_arg4) = m ((c.tc : Thread Cert.KFfnIdeal.nD Cert.KFfnIdeal.τ).loc Cert.KFfnIdeal.main_arg4)
      ∧ m' ((c.tc : Thread Cert.RFfnIdeal.nD Cert.RFfnIdeal.τ).loc Cert.RFfnIdeal.main_arg5) = m ((c.tc : Thread Cert.KFfnIdeal.nD Cert.KFfnIdeal.τ).loc Cert.KFfnIdeal.main_arg5)
      ∧ m' ((c.tc : Thread Cert.RFfnIdeal.nD Cert.RFfnIdeal.τ).loc Cert.RFfnIdeal.main_arg6) = m ((c.tc : Thread Cert.KFfnIdeal.nD Cert.KFfnIdeal.τ).loc Cert.KFfnIdeal.main_arg6)) →
    ∃ (v0 : (c : Dev Cert.KFfnIdeal.nD) → Buf (Elt Ideal) ((c.tc : Thread Cert.KFfnIdeal.nD Cert.KFfnIdeal.τ).loc Cert.KFfnIdeal.main_v5_0)) (v1 : (c : Dev Cert.KFfnIdeal.nD) → Buf (Elt Ideal) ((c.tc : Thread Cert.KFfnIdeal.nD Cert.KFfnIdeal.τ).loc Cert.KFfnIdeal.main_v5_1)) (v2 : (c : Dev Cert.KFfnIdeal.nD) → Buf (Elt Ideal) ((c.tc : Thread Cert.KFfnIdeal.nD Cert.KFfnIdeal.τ).loc Cert.KFfnIdeal.main_v5_2)),
      θ_run (Cert.KFfnIdeal.defs (F := Ideal)) (onTc (τ := Cert.KFfnIdeal.τ) (Cert.KFfnIdeal.main (F := Ideal))) ⟨m, fun _ => 0, g⟩ (fun r => ∀ c : Dev Cert.KFfnIdeal.nD,
          r.2.mem ((c.tc : Thread Cert.KFfnIdeal.nD Cert.KFfnIdeal.τ).loc Cert.KFfnIdeal.main_v5_0) = v0 c
          ∧ r.2.mem ((c.tc : Thread Cert.KFfnIdeal.nD Cert.KFfnIdeal.τ).loc Cert.KFfnIdeal.main_v5_1) = v1 c
          ∧ r.2.mem ((c.tc : Thread Cert.KFfnIdeal.nD Cert.KFfnIdeal.τ).loc Cert.KFfnIdeal.main_v5_2) = v2 c
          ∧ r.2.mem ((c.tc : Thread Cert.KFfnIdeal.nD Cert.KFfnIdeal.τ).loc Cert.KFfnIdeal.main_arg0) = m ((c.tc : Thread Cert.KFfnIdeal.nD Cert.KFfnIdeal.τ).loc Cert.KFfnIdeal.main_arg0)
          ∧ r.2.mem ((c.tc : Thread Cert.KFfnIdeal.nD Cert.KFfnIdeal.τ).loc Cert.KFfnIdeal.main_arg1) = m ((c.tc : Thread Cert.KFfnIdeal.nD Cert.KFfnIdeal.τ).loc Cert.KFfnIdeal.main_arg1)
          ∧ r.2.mem ((c.tc : Thread Cert.KFfnIdeal.nD Cert.KFfnIdeal.τ).loc Cert.KFfnIdeal.main_arg2) = m ((c.tc : Thread Cert.KFfnIdeal.nD Cert.KFfnIdeal.τ).loc Cert.KFfnIdeal.main_arg2)
          ∧ r.2.mem ((c.tc : Thread Cert.KFfnIdeal.nD Cert.KFfnIdeal.τ).loc Cert.KFfnIdeal.main_arg3) = m ((c.tc : Thread Cert.KFfnIdeal.nD Cert.KFfnIdeal.τ).loc Cert.KFfnIdeal.main_arg3)
          ∧ r.2.mem ((c.tc : Thread Cert.KFfnIdeal.nD Cert.KFfnIdeal.τ).loc Cert.KFfnIdeal.main_arg4) = m ((c.tc : Thread Cert.KFfnIdeal.nD Cert.KFfnIdeal.τ).loc Cert.KFfnIdeal.main_arg4)
          ∧ r.2.mem ((c.tc : Thread Cert.KFfnIdeal.nD Cert.KFfnIdeal.τ).loc Cert.KFfnIdeal.main_arg5) = m ((c.tc : Thread Cert.KFfnIdeal.nD Cert.KFfnIdeal.τ).loc Cert.KFfnIdeal.main_arg5)
          ∧ r.2.mem ((c.tc : Thread Cert.KFfnIdeal.nD Cert.KFfnIdeal.τ).loc Cert.KFfnIdeal.main_arg6) = m ((c.tc : Thread Cert.KFfnIdeal.nD Cert.KFfnIdeal.τ).loc Cert.KFfnIdeal.main_arg6))
      ∧ θ_run (Cert.RFfnIdeal.defs (F := Ideal)) (onTc (τ := Cert.RFfnIdeal.τ) (Cert.RFfnIdeal.main (F := Ideal))) ⟨m', fun _ => 0, g'⟩ (fun r => ∀ c : Dev Cert.RFfnIdeal.nD,
          r.2.mem ((c.tc : Thread Cert.RFfnIdeal.nD Cert.RFfnIdeal.τ).loc Cert.RFfnIdeal.main_v60) = v0 c
          ∧ r.2.mem ((c.tc : Thread Cert.RFfnIdeal.nD Cert.RFfnIdeal.τ).loc Cert.RFfnIdeal.main_v61) = v1 c
          ∧ r.2.mem ((c.tc : Thread Cert.RFfnIdeal.nD Cert.RFfnIdeal.τ).loc Cert.RFfnIdeal.main_v62) = v2 c
          ∧ r.2.mem ((c.tc : Thread Cert.RFfnIdeal.nD Cert.RFfnIdeal.τ).loc Cert.RFfnIdeal.main_arg0) = m' ((c.tc : Thread Cert.RFfnIdeal.nD Cert.RFfnIdeal.τ).loc Cert.RFfnIdeal.main_arg0)
          ∧ r.2.mem ((c.tc : Thread Cert.RFfnIdeal.nD Cert.RFfnIdeal.τ).loc Cert.RFfnIdeal.main_arg1) = m' ((c.tc : Thread Cert.RFfnIdeal.nD Cert.RFfnIdeal.τ).loc Cert.RFfnIdeal.main_arg1)
          ∧ r.2.mem ((c.tc : Thread Cert.RFfnIdeal.nD Cert.RFfnIdeal.τ).loc Cert.RFfnIdeal.main_arg2) = m' ((c.tc : Thread Cert.RFfnIdeal.nD Cert.RFfnIdeal.τ).loc Cert.RFfnIdeal.main_arg2)
          ∧ r.2.mem ((c.tc : Thread Cert.RFfnIdeal.nD Cert.RFfnIdeal.τ).loc Cert.RFfnIdeal.main_arg3) = m' ((c.tc : Thread Cert.RFfnIdeal.nD Cert.RFfnIdeal.τ).loc Cert.RFfnIdeal.main_arg3)
          ∧ r.2.mem ((c.tc : Thread Cert.RFfnIdeal.nD Cert.RFfnIdeal.τ).loc Cert.RFfnIdeal.main_arg4) = m' ((c.tc : Thread Cert.RFfnIdeal.nD Cert.RFfnIdeal.τ).loc Cert.RFfnIdeal.main_arg4)
          ∧ r.2.mem ((c.tc : Thread Cert.RFfnIdeal.nD Cert.RFfnIdeal.τ).loc Cert.RFfnIdeal.main_arg5) = m' ((c.tc : Thread Cert.RFfnIdeal.nD Cert.RFfnIdeal.τ).loc Cert.RFfnIdeal.main_arg5)
          ∧ r.2.mem ((c.tc : Thread Cert.RFfnIdeal.nD Cert.RFfnIdeal.τ).loc Cert.RFfnIdeal.main_arg6) = m' ((c.tc : Thread Cert.RFfnIdeal.nD Cert.RFfnIdeal.τ).loc Cert.RFfnIdeal.main_arg6))

def preserves_KIn_KInIdeal : Prop :=
  True

def algebraic_KInIdeal_RInIdeal [hKInIdeal : Cert.KInIdeal.Facts] [hRInIdeal : Cert.RInIdeal.Facts] : Prop :=
  ∀ (m : (ℓ : Loc Cert.KInIdeal.nD Cert.KInIdeal.τ Cert.KInIdeal.sig) → Buf (Elt Ideal) ℓ) (g : Dev Cert.KInIdeal.nD → PrngReg)
    (m' : (ℓ : Loc Cert.RInIdeal.nD Cert.RInIdeal.τ Cert.RInIdeal.sig) → Buf (Elt Ideal) ℓ) (g' : Dev Cert.RInIdeal.nD → PrngReg), Pre_KInIdeal m →
    (∀ c : Dev Cert.KInIdeal.nD,
      m' ((c.tc : Thread Cert.RInIdeal.nD Cert.RInIdeal.τ).loc Cert.RInIdeal.main_arg0) = m ((c.tc : Thread Cert.KInIdeal.nD Cert.KInIdeal.τ).loc Cert.KInIdeal.main_arg0)
      ∧ m' ((c.tc : Thread Cert.RInIdeal.nD Cert.RInIdeal.τ).loc Cert.RInIdeal.main_arg1) = m ((c.tc : Thread Cert.KInIdeal.nD Cert.KInIdeal.τ).loc Cert.KInIdeal.main_arg1)
      ∧ m' ((c.tc : Thread Cert.RInIdeal.nD Cert.RInIdeal.τ).loc Cert.RInIdeal.main_arg2) = m ((c.tc : Thread Cert.KInIdeal.nD Cert.KInIdeal.τ).loc Cert.KInIdeal.main_arg2)) →
    ∃ (v0 : (c : Dev Cert.KInIdeal.nD) → Buf (Elt Ideal) ((c.tc : Thread Cert.KInIdeal.nD Cert.KInIdeal.τ).loc Cert.KInIdeal.main_v2_0)) (v1 : (c : Dev Cert.KInIdeal.nD) → Buf (Elt Ideal) ((c.tc : Thread Cert.KInIdeal.nD Cert.KInIdeal.τ).loc Cert.KInIdeal.main_v2_1)) (v2 : (c : Dev Cert.KInIdeal.nD) → Buf (Elt Ideal) ((c.tc : Thread Cert.KInIdeal.nD Cert.KInIdeal.τ).loc Cert.KInIdeal.main_v2_2)) (v3 : (c : Dev Cert.KInIdeal.nD) → Buf (Elt Ideal) ((c.tc : Thread Cert.KInIdeal.nD Cert.KInIdeal.τ).loc Cert.KInIdeal.main_v2_3)),
      θ_run (Cert.KInIdeal.defs (F := Ideal)) (onTc (τ := Cert.KInIdeal.τ) (Cert.KInIdeal.main (F := Ideal))) ⟨m, fun _ => 0, g⟩ (fun r => ∀ c : Dev Cert.KInIdeal.nD,
          r.2.mem ((c.tc : Thread Cert.KInIdeal.nD Cert.KInIdeal.τ).loc Cert.KInIdeal.main_v2_0) = v0 c
          ∧ r.2.mem ((c.tc : Thread Cert.KInIdeal.nD Cert.KInIdeal.τ).loc Cert.KInIdeal.main_v2_1) = v1 c
          ∧ r.2.mem ((c.tc : Thread Cert.KInIdeal.nD Cert.KInIdeal.τ).loc Cert.KInIdeal.main_v2_2) = v2 c
          ∧ r.2.mem ((c.tc : Thread Cert.KInIdeal.nD Cert.KInIdeal.τ).loc Cert.KInIdeal.main_v2_3) = v3 c
          ∧ r.2.mem ((c.tc : Thread Cert.KInIdeal.nD Cert.KInIdeal.τ).loc Cert.KInIdeal.main_arg0) = m ((c.tc : Thread Cert.KInIdeal.nD Cert.KInIdeal.τ).loc Cert.KInIdeal.main_arg0)
          ∧ r.2.mem ((c.tc : Thread Cert.KInIdeal.nD Cert.KInIdeal.τ).loc Cert.KInIdeal.main_arg1) = m ((c.tc : Thread Cert.KInIdeal.nD Cert.KInIdeal.τ).loc Cert.KInIdeal.main_arg1)
          ∧ r.2.mem ((c.tc : Thread Cert.KInIdeal.nD Cert.KInIdeal.τ).loc Cert.KInIdeal.main_arg2) = m ((c.tc : Thread Cert.KInIdeal.nD Cert.KInIdeal.τ).loc Cert.KInIdeal.main_arg2))
      ∧ θ_run (Cert.RInIdeal.defs (F := Ideal)) (onTc (τ := Cert.RInIdeal.τ) (Cert.RInIdeal.main (F := Ideal))) ⟨m', fun _ => 0, g'⟩ (fun r => ∀ c : Dev Cert.RInIdeal.nD,
          r.2.mem ((c.tc : Thread Cert.RInIdeal.nD Cert.RInIdeal.τ).loc Cert.RInIdeal.main_v14) = v0 c
          ∧ r.2.mem ((c.tc : Thread Cert.RInIdeal.nD Cert.RInIdeal.τ).loc Cert.RInIdeal.main_v15) = v1 c
          ∧ r.2.mem ((c.tc : Thread Cert.RInIdeal.nD Cert.RInIdeal.τ).loc Cert.RInIdeal.main_v16) = v2 c
          ∧ r.2.mem ((c.tc : Thread Cert.RInIdeal.nD Cert.RInIdeal.τ).loc Cert.RInIdeal.main_v17) = v3 c
          ∧ r.2.mem ((c.tc : Thread Cert.RInIdeal.nD Cert.RInIdeal.τ).loc Cert.RInIdeal.main_arg0) = m' ((c.tc : Thread Cert.RInIdeal.nD Cert.RInIdeal.τ).loc Cert.RInIdeal.main_arg0)
          ∧ r.2.mem ((c.tc : Thread Cert.RInIdeal.nD Cert.RInIdeal.τ).loc Cert.RInIdeal.main_arg1) = m' ((c.tc : Thread Cert.RInIdeal.nD Cert.RInIdeal.τ).loc Cert.RInIdeal.main_arg1)
          ∧ r.2.mem ((c.tc : Thread Cert.RInIdeal.nD Cert.RInIdeal.τ).loc Cert.RInIdeal.main_arg2) = m' ((c.tc : Thread Cert.RInIdeal.nD Cert.RInIdeal.τ).loc Cert.RInIdeal.main_arg2))

def preserves_KOut_KOutIdeal : Prop :=
  True

def algebraic_KOutIdeal_ROutIdeal [hKOutIdeal : Cert.KOutIdeal.Facts] [hROutIdeal : Cert.ROutIdeal.Facts] : Prop :=
  ∀ (m : (ℓ : Loc Cert.KOutIdeal.nD Cert.KOutIdeal.τ Cert.KOutIdeal.sig) → Buf (Elt Ideal) ℓ) (g : Dev Cert.KOutIdeal.nD → PrngReg)
    (m' : (ℓ : Loc Cert.ROutIdeal.nD Cert.ROutIdeal.τ Cert.ROutIdeal.sig) → Buf (Elt Ideal) ℓ) (g' : Dev Cert.ROutIdeal.nD → PrngReg), Pre_KOutIdeal m →
    (∀ c : Dev Cert.KOutIdeal.nD,
      m' ((c.tc : Thread Cert.ROutIdeal.nD Cert.ROutIdeal.τ).loc Cert.ROutIdeal.main_arg0) = m ((c.tc : Thread Cert.KOutIdeal.nD Cert.KOutIdeal.τ).loc Cert.KOutIdeal.main_arg0)
      ∧ m' ((c.tc : Thread Cert.ROutIdeal.nD Cert.ROutIdeal.τ).loc Cert.ROutIdeal.main_arg1) = m ((c.tc : Thread Cert.KOutIdeal.nD Cert.KOutIdeal.τ).loc Cert.KOutIdeal.main_arg1)
      ∧ m' ((c.tc : Thread Cert.ROutIdeal.nD Cert.ROutIdeal.τ).loc Cert.ROutIdeal.main_arg2) = m ((c.tc : Thread Cert.KOutIdeal.nD Cert.KOutIdeal.τ).loc Cert.KOutIdeal.main_arg2)) →
    ∃ (v0 : (c : Dev Cert.KOutIdeal.nD) → Buf (Elt Ideal) ((c.tc : Thread Cert.KOutIdeal.nD Cert.KOutIdeal.τ).loc Cert.KOutIdeal.main_v1)),
      θ_run (Cert.KOutIdeal.defs (F := Ideal)) (onTc (τ := Cert.KOutIdeal.τ) (Cert.KOutIdeal.main (F := Ideal))) ⟨m, fun _ => 0, g⟩ (fun r => ∀ c : Dev Cert.KOutIdeal.nD,
          r.2.mem ((c.tc : Thread Cert.KOutIdeal.nD Cert.KOutIdeal.τ).loc Cert.KOutIdeal.main_v1) = v0 c
          ∧ r.2.mem ((c.tc : Thread Cert.KOutIdeal.nD Cert.KOutIdeal.τ).loc Cert.KOutIdeal.main_arg0) = m ((c.tc : Thread Cert.KOutIdeal.nD Cert.KOutIdeal.τ).loc Cert.KOutIdeal.main_arg0)
          ∧ r.2.mem ((c.tc : Thread Cert.KOutIdeal.nD Cert.KOutIdeal.τ).loc Cert.KOutIdeal.main_arg1) = m ((c.tc : Thread Cert.KOutIdeal.nD Cert.KOutIdeal.τ).loc Cert.KOutIdeal.main_arg1)
          ∧ r.2.mem ((c.tc : Thread Cert.KOutIdeal.nD Cert.KOutIdeal.τ).loc Cert.KOutIdeal.main_arg2) = m ((c.tc : Thread Cert.KOutIdeal.nD Cert.KOutIdeal.τ).loc Cert.KOutIdeal.main_arg2))
      ∧ θ_run (Cert.ROutIdeal.defs (F := Ideal)) (onTc (τ := Cert.ROutIdeal.τ) (Cert.ROutIdeal.main (F := Ideal))) ⟨m', fun _ => 0, g'⟩ (fun r => ∀ c : Dev Cert.ROutIdeal.nD,
          r.2.mem ((c.tc : Thread Cert.ROutIdeal.nD Cert.ROutIdeal.τ).loc Cert.ROutIdeal.main_v1) = v0 c
          ∧ r.2.mem ((c.tc : Thread Cert.ROutIdeal.nD Cert.ROutIdeal.τ).loc Cert.ROutIdeal.main_arg0) = m' ((c.tc : Thread Cert.ROutIdeal.nD Cert.ROutIdeal.τ).loc Cert.ROutIdeal.main_arg0)
          ∧ r.2.mem ((c.tc : Thread Cert.ROutIdeal.nD Cert.ROutIdeal.τ).loc Cert.ROutIdeal.main_arg1) = m' ((c.tc : Thread Cert.ROutIdeal.nD Cert.ROutIdeal.τ).loc Cert.ROutIdeal.main_arg1)
          ∧ r.2.mem ((c.tc : Thread Cert.ROutIdeal.nD Cert.ROutIdeal.τ).loc Cert.ROutIdeal.main_arg2) = m' ((c.tc : Thread Cert.ROutIdeal.nD Cert.ROutIdeal.τ).loc Cert.ROutIdeal.main_arg2))

def preserves_KFs_KFsIdeal : Prop :=
  True

def algebraic_KFsIdeal_RFsIdeal [hKFsIdeal : Cert.KFsIdeal.Facts] [hRFsIdeal : Cert.RFsIdeal.Facts] : Prop :=
  ∀ (m : (ℓ : Loc Cert.KFsIdeal.nD Cert.KFsIdeal.τ Cert.KFsIdeal.sig) → Buf (Elt Ideal) ℓ) (g : Dev Cert.KFsIdeal.nD → PrngReg)
    (m' : (ℓ : Loc Cert.RFsIdeal.nD Cert.RFsIdeal.τ Cert.RFsIdeal.sig) → Buf (Elt Ideal) ℓ) (g' : Dev Cert.RFsIdeal.nD → PrngReg), Pre_KFsIdeal m →
    (∀ c : Dev Cert.KFsIdeal.nD,
      m' ((c.tc : Thread Cert.RFsIdeal.nD Cert.RFsIdeal.τ).loc Cert.RFsIdeal.main_arg0) = m ((c.tc : Thread Cert.KFsIdeal.nD Cert.KFsIdeal.τ).loc Cert.KFsIdeal.main_arg0)
      ∧ m' ((c.tc : Thread Cert.RFsIdeal.nD Cert.RFsIdeal.τ).loc Cert.RFsIdeal.main_arg1) = m ((c.tc : Thread Cert.KFsIdeal.nD Cert.KFsIdeal.τ).loc Cert.KFsIdeal.main_arg1)
      ∧ m' ((c.tc : Thread Cert.RFsIdeal.nD Cert.RFsIdeal.τ).loc Cert.RFsIdeal.main_arg2) = m ((c.tc : Thread Cert.KFsIdeal.nD Cert.KFsIdeal.τ).loc Cert.KFsIdeal.main_arg2)
      ∧ m' ((c.tc : Thread Cert.RFsIdeal.nD Cert.RFsIdeal.τ).loc Cert.RFsIdeal.main_arg3) = m ((c.tc : Thread Cert.KFsIdeal.nD Cert.KFsIdeal.τ).loc Cert.KFsIdeal.main_arg3)
      ∧ m' ((c.tc : Thread Cert.RFsIdeal.nD Cert.RFsIdeal.τ).loc Cert.RFsIdeal.main_arg4) = m ((c.tc : Thread Cert.KFsIdeal.nD Cert.KFsIdeal.τ).loc Cert.KFsIdeal.main_arg4)
      ∧ m' ((c.tc : Thread Cert.RFsIdeal.nD Cert.RFsIdeal.τ).loc Cert.RFsIdeal.main_arg5) = m ((c.tc : Thread Cert.KFsIdeal.nD Cert.KFsIdeal.τ).loc Cert.KFsIdeal.main_arg5)
      ∧ m' ((c.tc : Thread Cert.RFsIdeal.nD Cert.RFsIdeal.τ).loc Cert.RFsIdeal.main_arg6) = m ((c.tc : Thread Cert.KFsIdeal.nD Cert.KFsIdeal.τ).loc Cert.KFsIdeal.main_arg6)
      ∧ m' ((c.tc : Thread Cert.RFsIdeal.nD Cert.RFsIdeal.τ).loc Cert.RFsIdeal.main_arg7) = m ((c.tc : Thread Cert.KFsIdeal.nD Cert.KFsIdeal.τ).loc Cert.KFsIdeal.main_arg7)) →
    ∃ (v0 : (c : Dev Cert.KFsIdeal.nD) → Buf (Elt Ideal) ((c.tc : Thread Cert.KFsIdeal.nD Cert.KFsIdeal.τ).loc Cert.KFsIdeal.main_v9)) (v1 : (c : Dev Cert.KFsIdeal.nD) → Buf (Elt Ideal) ((c.tc : Thread Cert.KFsIdeal.nD Cert.KFsIdeal.τ).loc Cert.KFsIdeal.main_v11)) (v2 : (c : Dev Cert.KFsIdeal.nD) → Buf (Elt Ideal) ((c.tc : Thread Cert.KFsIdeal.nD Cert.KFsIdeal.τ).loc Cert.KFsIdeal.main_v13)),
      θ_run (Cert.KFsIdeal.defs (F := Ideal)) (onTc (τ := Cert.KFsIdeal.τ) (Cert.KFsIdeal.main (F := Ideal))) ⟨m, fun _ => 0, g⟩ (fun r => ∀ c : Dev Cert.KFsIdeal.nD,
          r.2.mem ((c.tc : Thread Cert.KFsIdeal.nD Cert.KFsIdeal.τ).loc Cert.KFsIdeal.main_v9) = v0 c
          ∧ r.2.mem ((c.tc : Thread Cert.KFsIdeal.nD Cert.KFsIdeal.τ).loc Cert.KFsIdeal.main_v11) = v1 c
          ∧ r.2.mem ((c.tc : Thread Cert.KFsIdeal.nD Cert.KFsIdeal.τ).loc Cert.KFsIdeal.main_v13) = v2 c
          ∧ r.2.mem ((c.tc : Thread Cert.KFsIdeal.nD Cert.KFsIdeal.τ).loc Cert.KFsIdeal.main_arg0) = m ((c.tc : Thread Cert.KFsIdeal.nD Cert.KFsIdeal.τ).loc Cert.KFsIdeal.main_arg0)
          ∧ r.2.mem ((c.tc : Thread Cert.KFsIdeal.nD Cert.KFsIdeal.τ).loc Cert.KFsIdeal.main_arg1) = m ((c.tc : Thread Cert.KFsIdeal.nD Cert.KFsIdeal.τ).loc Cert.KFsIdeal.main_arg1)
          ∧ r.2.mem ((c.tc : Thread Cert.KFsIdeal.nD Cert.KFsIdeal.τ).loc Cert.KFsIdeal.main_arg2) = m ((c.tc : Thread Cert.KFsIdeal.nD Cert.KFsIdeal.τ).loc Cert.KFsIdeal.main_arg2)
          ∧ r.2.mem ((c.tc : Thread Cert.KFsIdeal.nD Cert.KFsIdeal.τ).loc Cert.KFsIdeal.main_arg3) = m ((c.tc : Thread Cert.KFsIdeal.nD Cert.KFsIdeal.τ).loc Cert.KFsIdeal.main_arg3)
          ∧ r.2.mem ((c.tc : Thread Cert.KFsIdeal.nD Cert.KFsIdeal.τ).loc Cert.KFsIdeal.main_arg4) = m ((c.tc : Thread Cert.KFsIdeal.nD Cert.KFsIdeal.τ).loc Cert.KFsIdeal.main_arg4)
          ∧ r.2.mem ((c.tc : Thread Cert.KFsIdeal.nD Cert.KFsIdeal.τ).loc Cert.KFsIdeal.main_arg5) = m ((c.tc : Thread Cert.KFsIdeal.nD Cert.KFsIdeal.τ).loc Cert.KFsIdeal.main_arg5)
          ∧ r.2.mem ((c.tc : Thread Cert.KFsIdeal.nD Cert.KFsIdeal.τ).loc Cert.KFsIdeal.main_arg6) = m ((c.tc : Thread Cert.KFsIdeal.nD Cert.KFsIdeal.τ).loc Cert.KFsIdeal.main_arg6)
          ∧ r.2.mem ((c.tc : Thread Cert.KFsIdeal.nD Cert.KFsIdeal.τ).loc Cert.KFsIdeal.main_arg7) = m ((c.tc : Thread Cert.KFsIdeal.nD Cert.KFsIdeal.τ).loc Cert.KFsIdeal.main_arg7))
      ∧ θ_run (Cert.RFsIdeal.defs (F := Ideal)) (onTc (τ := Cert.RFsIdeal.τ) (Cert.RFsIdeal.main (F := Ideal))) ⟨m', fun _ => 0, g'⟩ (fun r => ∀ c : Dev Cert.RFsIdeal.nD,
          r.2.mem ((c.tc : Thread Cert.RFsIdeal.nD Cert.RFsIdeal.τ).loc Cert.RFsIdeal.main_v46) = v0 c
          ∧ r.2.mem ((c.tc : Thread Cert.RFsIdeal.nD Cert.RFsIdeal.τ).loc Cert.RFsIdeal.main_v40) = v1 c
          ∧ r.2.mem ((c.tc : Thread Cert.RFsIdeal.nD Cert.RFsIdeal.τ).loc Cert.RFsIdeal.main_v59) = v2 c
          ∧ r.2.mem ((c.tc : Thread Cert.RFsIdeal.nD Cert.RFsIdeal.τ).loc Cert.RFsIdeal.main_arg0) = m' ((c.tc : Thread Cert.RFsIdeal.nD Cert.RFsIdeal.τ).loc Cert.RFsIdeal.main_arg0)
          ∧ r.2.mem ((c.tc : Thread Cert.RFsIdeal.nD Cert.RFsIdeal.τ).loc Cert.RFsIdeal.main_arg1) = m' ((c.tc : Thread Cert.RFsIdeal.nD Cert.RFsIdeal.τ).loc Cert.RFsIdeal.main_arg1)
          ∧ r.2.mem ((c.tc : Thread Cert.RFsIdeal.nD Cert.RFsIdeal.τ).loc Cert.RFsIdeal.main_arg2) = m' ((c.tc : Thread Cert.RFsIdeal.nD Cert.RFsIdeal.τ).loc Cert.RFsIdeal.main_arg2)
          ∧ r.2.mem ((c.tc : Thread Cert.RFsIdeal.nD Cert.RFsIdeal.τ).loc Cert.RFsIdeal.main_arg3) = m' ((c.tc : Thread Cert.RFsIdeal.nD Cert.RFsIdeal.τ).loc Cert.RFsIdeal.main_arg3)
          ∧ r.2.mem ((c.tc : Thread Cert.RFsIdeal.nD Cert.RFsIdeal.τ).loc Cert.RFsIdeal.main_arg4) = m' ((c.tc : Thread Cert.RFsIdeal.nD Cert.RFsIdeal.τ).loc Cert.RFsIdeal.main_arg4)
          ∧ r.2.mem ((c.tc : Thread Cert.RFsIdeal.nD Cert.RFsIdeal.τ).loc Cert.RFsIdeal.main_arg5) = m' ((c.tc : Thread Cert.RFsIdeal.nD Cert.RFsIdeal.τ).loc Cert.RFsIdeal.main_arg5)
          ∧ r.2.mem ((c.tc : Thread Cert.RFsIdeal.nD Cert.RFsIdeal.τ).loc Cert.RFsIdeal.main_arg6) = m' ((c.tc : Thread Cert.RFsIdeal.nD Cert.RFsIdeal.τ).loc Cert.RFsIdeal.main_arg6)
          ∧ r.2.mem ((c.tc : Thread Cert.RFsIdeal.nD Cert.RFsIdeal.τ).loc Cert.RFsIdeal.main_arg7) = m' ((c.tc : Thread Cert.RFsIdeal.nD Cert.RFsIdeal.τ).loc Cert.RFsIdeal.main_arg7))

def preserves_KEin_KEinIdeal : Prop :=
  True

def algebraic_KEinIdeal_REinIdeal [hKEinIdeal : Cert.KEinIdeal.Facts] [hREinIdeal : Cert.REinIdeal.Facts] : Prop :=
  ∀ (m : (ℓ : Loc Cert.KEinIdeal.nD Cert.KEinIdeal.τ Cert.KEinIdeal.sig) → Buf (Elt Ideal) ℓ) (g : Dev Cert.KEinIdeal.nD → PrngReg)
    (m' : (ℓ : Loc Cert.REinIdeal.nD Cert.REinIdeal.τ Cert.REinIdeal.sig) → Buf (Elt Ideal) ℓ) (g' : Dev Cert.REinIdeal.nD → PrngReg), Pre_KEinIdeal m →
    (∀ c : Dev Cert.KEinIdeal.nD,
      m' ((c.tc : Thread Cert.REinIdeal.nD Cert.REinIdeal.τ).loc Cert.REinIdeal.main_arg0) = m ((c.tc : Thread Cert.KEinIdeal.nD Cert.KEinIdeal.τ).loc Cert.KEinIdeal.main_arg0)
      ∧ m' ((c.tc : Thread Cert.REinIdeal.nD Cert.REinIdeal.τ).loc Cert.REinIdeal.main_arg1) = m ((c.tc : Thread Cert.KEinIdeal.nD Cert.KEinIdeal.τ).loc Cert.KEinIdeal.main_arg1)
      ∧ m' ((c.tc : Thread Cert.REinIdeal.nD Cert.REinIdeal.τ).loc Cert.REinIdeal.main_arg2) = m ((c.tc : Thread Cert.KEinIdeal.nD Cert.KEinIdeal.τ).loc Cert.KEinIdeal.main_arg2)) →
    ∃ (v0 : (c : Dev Cert.KEinIdeal.nD) → Buf (Elt Ideal) ((c.tc : Thread Cert.KEinIdeal.nD Cert.KEinIdeal.τ).loc Cert.KEinIdeal.main_v15_0)) (v1 : (c : Dev Cert.KEinIdeal.nD) → Buf (Elt Ideal) ((c.tc : Thread Cert.KEinIdeal.nD Cert.KEinIdeal.τ).loc Cert.KEinIdeal.main_v15_1)) (v2 : (c : Dev Cert.KEinIdeal.nD) → Buf (Elt Ideal) ((c.tc : Thread Cert.KEinIdeal.nD Cert.KEinIdeal.τ).loc Cert.KEinIdeal.main_v15_2)) (v3 : (c : Dev Cert.KEinIdeal.nD) → Buf (Elt Ideal) ((c.tc : Thread Cert.KEinIdeal.nD Cert.KEinIdeal.τ).loc Cert.KEinIdeal.main_v15_3)) (v4 : (c : Dev Cert.KEinIdeal.nD) → Buf (Elt Ideal) ((c.tc : Thread Cert.KEinIdeal.nD Cert.KEinIdeal.τ).loc Cert.KEinIdeal.main_v15_4)) (v5 : (c : Dev Cert.KEinIdeal.nD) → Buf (Elt Ideal) ((c.tc : Thread Cert.KEinIdeal.nD Cert.KEinIdeal.τ).loc Cert.KEinIdeal.main_v15_5)) (v6 : (c : Dev Cert.KEinIdeal.nD) → Buf (Elt Ideal) ((c.tc : Thread Cert.KEinIdeal.nD Cert.KEinIdeal.τ).loc Cert.KEinIdeal.main_v15_6)),
      θ_run (Cert.KEinIdeal.defs (F := Ideal)) (onTc (τ := Cert.KEinIdeal.τ) (Cert.KEinIdeal.main (F := Ideal))) ⟨m, fun _ => 0, g⟩ (fun r => ∀ c : Dev Cert.KEinIdeal.nD,
          r.2.mem ((c.tc : Thread Cert.KEinIdeal.nD Cert.KEinIdeal.τ).loc Cert.KEinIdeal.main_v15_0) = v0 c
          ∧ r.2.mem ((c.tc : Thread Cert.KEinIdeal.nD Cert.KEinIdeal.τ).loc Cert.KEinIdeal.main_v15_1) = v1 c
          ∧ r.2.mem ((c.tc : Thread Cert.KEinIdeal.nD Cert.KEinIdeal.τ).loc Cert.KEinIdeal.main_v15_2) = v2 c
          ∧ r.2.mem ((c.tc : Thread Cert.KEinIdeal.nD Cert.KEinIdeal.τ).loc Cert.KEinIdeal.main_v15_3) = v3 c
          ∧ r.2.mem ((c.tc : Thread Cert.KEinIdeal.nD Cert.KEinIdeal.τ).loc Cert.KEinIdeal.main_v15_4) = v4 c
          ∧ r.2.mem ((c.tc : Thread Cert.KEinIdeal.nD Cert.KEinIdeal.τ).loc Cert.KEinIdeal.main_v15_5) = v5 c
          ∧ r.2.mem ((c.tc : Thread Cert.KEinIdeal.nD Cert.KEinIdeal.τ).loc Cert.KEinIdeal.main_v15_6) = v6 c
          ∧ r.2.mem ((c.tc : Thread Cert.KEinIdeal.nD Cert.KEinIdeal.τ).loc Cert.KEinIdeal.main_arg0) = m ((c.tc : Thread Cert.KEinIdeal.nD Cert.KEinIdeal.τ).loc Cert.KEinIdeal.main_arg0)
          ∧ r.2.mem ((c.tc : Thread Cert.KEinIdeal.nD Cert.KEinIdeal.τ).loc Cert.KEinIdeal.main_arg1) = m ((c.tc : Thread Cert.KEinIdeal.nD Cert.KEinIdeal.τ).loc Cert.KEinIdeal.main_arg1)
          ∧ r.2.mem ((c.tc : Thread Cert.KEinIdeal.nD Cert.KEinIdeal.τ).loc Cert.KEinIdeal.main_arg2) = m ((c.tc : Thread Cert.KEinIdeal.nD Cert.KEinIdeal.τ).loc Cert.KEinIdeal.main_arg2))
      ∧ θ_run (Cert.REinIdeal.defs (F := Ideal)) (onTc (τ := Cert.REinIdeal.τ) (Cert.REinIdeal.main (F := Ideal))) ⟨m', fun _ => 0, g'⟩ (fun r => ∀ c : Dev Cert.REinIdeal.nD,
          r.2.mem ((c.tc : Thread Cert.REinIdeal.nD Cert.REinIdeal.τ).loc Cert.REinIdeal.main_v14) = v0 c
          ∧ r.2.mem ((c.tc : Thread Cert.REinIdeal.nD Cert.REinIdeal.τ).loc Cert.REinIdeal.main_v15) = v1 c
          ∧ r.2.mem ((c.tc : Thread Cert.REinIdeal.nD Cert.REinIdeal.τ).loc Cert.REinIdeal.main_v16) = v2 c
          ∧ r.2.mem ((c.tc : Thread Cert.REinIdeal.nD Cert.REinIdeal.τ).loc Cert.REinIdeal.main_v19) = v3 c
          ∧ r.2.mem ((c.tc : Thread Cert.REinIdeal.nD Cert.REinIdeal.τ).loc Cert.REinIdeal.main_v20) = v4 c
          ∧ r.2.mem ((c.tc : Thread Cert.REinIdeal.nD Cert.REinIdeal.τ).loc Cert.REinIdeal.main_v21) = v5 c
          ∧ r.2.mem ((c.tc : Thread Cert.REinIdeal.nD Cert.REinIdeal.τ).loc Cert.REinIdeal.main_v26) = v6 c
          ∧ r.2.mem ((c.tc : Thread Cert.REinIdeal.nD Cert.REinIdeal.τ).loc Cert.REinIdeal.main_arg0) = m' ((c.tc : Thread Cert.REinIdeal.nD Cert.REinIdeal.τ).loc Cert.REinIdeal.main_arg0)
          ∧ r.2.mem ((c.tc : Thread Cert.REinIdeal.nD Cert.REinIdeal.τ).loc Cert.REinIdeal.main_arg1) = m' ((c.tc : Thread Cert.REinIdeal.nD Cert.REinIdeal.τ).loc Cert.REinIdeal.main_arg1)
          ∧ r.2.mem ((c.tc : Thread Cert.REinIdeal.nD Cert.REinIdeal.τ).loc Cert.REinIdeal.main_arg2) = m' ((c.tc : Thread Cert.REinIdeal.nD Cert.REinIdeal.τ).loc Cert.REinIdeal.main_arg2))

def preserves_KEm_KEmIdeal : Prop :=
  True

def algebraic_KEmIdeal_REmIdeal [hKEmIdeal : Cert.KEmIdeal.Facts] [hREmIdeal : Cert.REmIdeal.Facts] : Prop :=
  ∀ (m : (ℓ : Loc Cert.KEmIdeal.nD Cert.KEmIdeal.τ Cert.KEmIdeal.sig) → Buf (Elt Ideal) ℓ) (g : Dev Cert.KEmIdeal.nD → PrngReg)
    (m' : (ℓ : Loc Cert.REmIdeal.nD Cert.REmIdeal.τ Cert.REmIdeal.sig) → Buf (Elt Ideal) ℓ) (g' : Dev Cert.REmIdeal.nD → PrngReg), Pre_KEmIdeal m →
    (∀ c : Dev Cert.KEmIdeal.nD,
      m' ((c.tc : Thread Cert.REmIdeal.nD Cert.REmIdeal.τ).loc Cert.REmIdeal.main_arg0) = m ((c.tc : Thread Cert.KEmIdeal.nD Cert.KEmIdeal.τ).loc Cert.KEmIdeal.main_arg0)
      ∧ m' ((c.tc : Thread Cert.REmIdeal.nD Cert.REmIdeal.τ).loc Cert.REmIdeal.main_arg1) = m ((c.tc : Thread Cert.KEmIdeal.nD Cert.KEmIdeal.τ).loc Cert.KEmIdeal.main_arg1)
      ∧ m' ((c.tc : Thread Cert.REmIdeal.nD Cert.REmIdeal.τ).loc Cert.REmIdeal.main_arg2) = m ((c.tc : Thread Cert.KEmIdeal.nD Cert.KEmIdeal.τ).loc Cert.KEmIdeal.main_arg2)
      ∧ m' ((c.tc : Thread Cert.REmIdeal.nD Cert.REmIdeal.τ).loc Cert.REmIdeal.main_arg3) = m ((c.tc : Thread Cert.KEmIdeal.nD Cert.KEmIdeal.τ).loc Cert.KEmIdeal.main_arg3)
      ∧ m' ((c.tc : Thread Cert.REmIdeal.nD Cert.REmIdeal.τ).loc Cert.REmIdeal.main_arg4) = m ((c.tc : Thread Cert.KEmIdeal.nD Cert.KEmIdeal.τ).loc Cert.KEmIdeal.main_arg4)
      ∧ m' ((c.tc : Thread Cert.REmIdeal.nD Cert.REmIdeal.τ).loc Cert.REmIdeal.main_arg5) = m ((c.tc : Thread Cert.KEmIdeal.nD Cert.KEmIdeal.τ).loc Cert.KEmIdeal.main_arg5)
      ∧ m' ((c.tc : Thread Cert.REmIdeal.nD Cert.REmIdeal.τ).loc Cert.REmIdeal.main_arg6) = m ((c.tc : Thread Cert.KEmIdeal.nD Cert.KEmIdeal.τ).loc Cert.KEmIdeal.main_arg6)
      ∧ m' ((c.tc : Thread Cert.REmIdeal.nD Cert.REmIdeal.τ).loc Cert.REmIdeal.main_arg7) = m ((c.tc : Thread Cert.KEmIdeal.nD Cert.KEmIdeal.τ).loc Cert.KEmIdeal.main_arg7)
      ∧ m' ((c.tc : Thread Cert.REmIdeal.nD Cert.REmIdeal.τ).loc Cert.REmIdeal.main_arg8) = m ((c.tc : Thread Cert.KEmIdeal.nD Cert.KEmIdeal.τ).loc Cert.KEmIdeal.main_arg8)
      ∧ m' ((c.tc : Thread Cert.REmIdeal.nD Cert.REmIdeal.τ).loc Cert.REmIdeal.main_arg9) = m ((c.tc : Thread Cert.KEmIdeal.nD Cert.KEmIdeal.τ).loc Cert.KEmIdeal.main_arg9)
      ∧ m' ((c.tc : Thread Cert.REmIdeal.nD Cert.REmIdeal.τ).loc Cert.REmIdeal.main_arg10) = m ((c.tc : Thread Cert.KEmIdeal.nD Cert.KEmIdeal.τ).loc Cert.KEmIdeal.main_arg10)
      ∧ m' ((c.tc : Thread Cert.REmIdeal.nD Cert.REmIdeal.τ).loc Cert.REmIdeal.main_arg11) = m ((c.tc : Thread Cert.KEmIdeal.nD Cert.KEmIdeal.τ).loc Cert.KEmIdeal.main_arg11)
      ∧ m' ((c.tc : Thread Cert.REmIdeal.nD Cert.REmIdeal.τ).loc Cert.REmIdeal.main_arg12) = m ((c.tc : Thread Cert.KEmIdeal.nD Cert.KEmIdeal.τ).loc Cert.KEmIdeal.main_arg12)
      ∧ m' ((c.tc : Thread Cert.REmIdeal.nD Cert.REmIdeal.τ).loc Cert.REmIdeal.main_arg13) = m ((c.tc : Thread Cert.KEmIdeal.nD Cert.KEmIdeal.τ).loc Cert.KEmIdeal.main_arg13)
      ∧ m' ((c.tc : Thread Cert.REmIdeal.nD Cert.REmIdeal.τ).loc Cert.REmIdeal.main_arg14) = m ((c.tc : Thread Cert.KEmIdeal.nD Cert.KEmIdeal.τ).loc Cert.KEmIdeal.main_arg14)
      ∧ m' ((c.tc : Thread Cert.REmIdeal.nD Cert.REmIdeal.τ).loc Cert.REmIdeal.main_arg15) = m ((c.tc : Thread Cert.KEmIdeal.nD Cert.KEmIdeal.τ).loc Cert.KEmIdeal.main_arg15)) →
    ∃ (v0 : (c : Dev Cert.KEmIdeal.nD) → Buf (Elt Ideal) ((c.tc : Thread Cert.KEmIdeal.nD Cert.KEmIdeal.τ).loc Cert.KEmIdeal.main_v16)),
      θ_run (Cert.KEmIdeal.defs (F := Ideal)) (onTc (τ := Cert.KEmIdeal.τ) (Cert.KEmIdeal.main (F := Ideal))) ⟨m, fun _ => 0, g⟩ (fun r => ∀ c : Dev Cert.KEmIdeal.nD,
          r.2.mem ((c.tc : Thread Cert.KEmIdeal.nD Cert.KEmIdeal.τ).loc Cert.KEmIdeal.main_v16) = v0 c
          ∧ r.2.mem ((c.tc : Thread Cert.KEmIdeal.nD Cert.KEmIdeal.τ).loc Cert.KEmIdeal.main_arg0) = m ((c.tc : Thread Cert.KEmIdeal.nD Cert.KEmIdeal.τ).loc Cert.KEmIdeal.main_arg0)
          ∧ r.2.mem ((c.tc : Thread Cert.KEmIdeal.nD Cert.KEmIdeal.τ).loc Cert.KEmIdeal.main_arg1) = m ((c.tc : Thread Cert.KEmIdeal.nD Cert.KEmIdeal.τ).loc Cert.KEmIdeal.main_arg1)
          ∧ r.2.mem ((c.tc : Thread Cert.KEmIdeal.nD Cert.KEmIdeal.τ).loc Cert.KEmIdeal.main_arg2) = m ((c.tc : Thread Cert.KEmIdeal.nD Cert.KEmIdeal.τ).loc Cert.KEmIdeal.main_arg2)
          ∧ r.2.mem ((c.tc : Thread Cert.KEmIdeal.nD Cert.KEmIdeal.τ).loc Cert.KEmIdeal.main_arg3) = m ((c.tc : Thread Cert.KEmIdeal.nD Cert.KEmIdeal.τ).loc Cert.KEmIdeal.main_arg3)
          ∧ r.2.mem ((c.tc : Thread Cert.KEmIdeal.nD Cert.KEmIdeal.τ).loc Cert.KEmIdeal.main_arg4) = m ((c.tc : Thread Cert.KEmIdeal.nD Cert.KEmIdeal.τ).loc Cert.KEmIdeal.main_arg4)
          ∧ r.2.mem ((c.tc : Thread Cert.KEmIdeal.nD Cert.KEmIdeal.τ).loc Cert.KEmIdeal.main_arg5) = m ((c.tc : Thread Cert.KEmIdeal.nD Cert.KEmIdeal.τ).loc Cert.KEmIdeal.main_arg5)
          ∧ r.2.mem ((c.tc : Thread Cert.KEmIdeal.nD Cert.KEmIdeal.τ).loc Cert.KEmIdeal.main_arg6) = m ((c.tc : Thread Cert.KEmIdeal.nD Cert.KEmIdeal.τ).loc Cert.KEmIdeal.main_arg6)
          ∧ r.2.mem ((c.tc : Thread Cert.KEmIdeal.nD Cert.KEmIdeal.τ).loc Cert.KEmIdeal.main_arg7) = m ((c.tc : Thread Cert.KEmIdeal.nD Cert.KEmIdeal.τ).loc Cert.KEmIdeal.main_arg7)
          ∧ r.2.mem ((c.tc : Thread Cert.KEmIdeal.nD Cert.KEmIdeal.τ).loc Cert.KEmIdeal.main_arg8) = m ((c.tc : Thread Cert.KEmIdeal.nD Cert.KEmIdeal.τ).loc Cert.KEmIdeal.main_arg8)
          ∧ r.2.mem ((c.tc : Thread Cert.KEmIdeal.nD Cert.KEmIdeal.τ).loc Cert.KEmIdeal.main_arg9) = m ((c.tc : Thread Cert.KEmIdeal.nD Cert.KEmIdeal.τ).loc Cert.KEmIdeal.main_arg9)
          ∧ r.2.mem ((c.tc : Thread Cert.KEmIdeal.nD Cert.KEmIdeal.τ).loc Cert.KEmIdeal.main_arg10) = m ((c.tc : Thread Cert.KEmIdeal.nD Cert.KEmIdeal.τ).loc Cert.KEmIdeal.main_arg10)
          ∧ r.2.mem ((c.tc : Thread Cert.KEmIdeal.nD Cert.KEmIdeal.τ).loc Cert.KEmIdeal.main_arg11) = m ((c.tc : Thread Cert.KEmIdeal.nD Cert.KEmIdeal.τ).loc Cert.KEmIdeal.main_arg11)
          ∧ r.2.mem ((c.tc : Thread Cert.KEmIdeal.nD Cert.KEmIdeal.τ).loc Cert.KEmIdeal.main_arg12) = m ((c.tc : Thread Cert.KEmIdeal.nD Cert.KEmIdeal.τ).loc Cert.KEmIdeal.main_arg12)
          ∧ r.2.mem ((c.tc : Thread Cert.KEmIdeal.nD Cert.KEmIdeal.τ).loc Cert.KEmIdeal.main_arg13) = m ((c.tc : Thread Cert.KEmIdeal.nD Cert.KEmIdeal.τ).loc Cert.KEmIdeal.main_arg13)
          ∧ r.2.mem ((c.tc : Thread Cert.KEmIdeal.nD Cert.KEmIdeal.τ).loc Cert.KEmIdeal.main_arg14) = m ((c.tc : Thread Cert.KEmIdeal.nD Cert.KEmIdeal.τ).loc Cert.KEmIdeal.main_arg14)
          ∧ r.2.mem ((c.tc : Thread Cert.KEmIdeal.nD Cert.KEmIdeal.τ).loc Cert.KEmIdeal.main_arg15) = m ((c.tc : Thread Cert.KEmIdeal.nD Cert.KEmIdeal.τ).loc Cert.KEmIdeal.main_arg15))
      ∧ θ_run (Cert.REmIdeal.defs (F := Ideal)) (onTc (τ := Cert.REmIdeal.τ) (Cert.REmIdeal.main (F := Ideal))) ⟨m', fun _ => 0, g'⟩ (fun r => ∀ c : Dev Cert.REmIdeal.nD,
          r.2.mem ((c.tc : Thread Cert.REmIdeal.nD Cert.REmIdeal.τ).loc Cert.REmIdeal.main_v1) = v0 c
          ∧ r.2.mem ((c.tc : Thread Cert.REmIdeal.nD Cert.REmIdeal.τ).loc Cert.REmIdeal.main_arg0) = m' ((c.tc : Thread Cert.REmIdeal.nD Cert.REmIdeal.τ).loc Cert.REmIdeal.main_arg0)
          ∧ r.2.mem ((c.tc : Thread Cert.REmIdeal.nD Cert.REmIdeal.τ).loc Cert.REmIdeal.main_arg1) = m' ((c.tc : Thread Cert.REmIdeal.nD Cert.REmIdeal.τ).loc Cert.REmIdeal.main_arg1)
          ∧ r.2.mem ((c.tc : Thread Cert.REmIdeal.nD Cert.REmIdeal.τ).loc Cert.REmIdeal.main_arg2) = m' ((c.tc : Thread Cert.REmIdeal.nD Cert.REmIdeal.τ).loc Cert.REmIdeal.main_arg2)
          ∧ r.2.mem ((c.tc : Thread Cert.REmIdeal.nD Cert.REmIdeal.τ).loc Cert.REmIdeal.main_arg3) = m' ((c.tc : Thread Cert.REmIdeal.nD Cert.REmIdeal.τ).loc Cert.REmIdeal.main_arg3)
          ∧ r.2.mem ((c.tc : Thread Cert.REmIdeal.nD Cert.REmIdeal.τ).loc Cert.REmIdeal.main_arg4) = m' ((c.tc : Thread Cert.REmIdeal.nD Cert.REmIdeal.τ).loc Cert.REmIdeal.main_arg4)
          ∧ r.2.mem ((c.tc : Thread Cert.REmIdeal.nD Cert.REmIdeal.τ).loc Cert.REmIdeal.main_arg5) = m' ((c.tc : Thread Cert.REmIdeal.nD Cert.REmIdeal.τ).loc Cert.REmIdeal.main_arg5)
          ∧ r.2.mem ((c.tc : Thread Cert.REmIdeal.nD Cert.REmIdeal.τ).loc Cert.REmIdeal.main_arg6) = m' ((c.tc : Thread Cert.REmIdeal.nD Cert.REmIdeal.τ).loc Cert.REmIdeal.main_arg6)
          ∧ r.2.mem ((c.tc : Thread Cert.REmIdeal.nD Cert.REmIdeal.τ).loc Cert.REmIdeal.main_arg7) = m' ((c.tc : Thread Cert.REmIdeal.nD Cert.REmIdeal.τ).loc Cert.REmIdeal.main_arg7)
          ∧ r.2.mem ((c.tc : Thread Cert.REmIdeal.nD Cert.REmIdeal.τ).loc Cert.REmIdeal.main_arg8) = m' ((c.tc : Thread Cert.REmIdeal.nD Cert.REmIdeal.τ).loc Cert.REmIdeal.main_arg8)
          ∧ r.2.mem ((c.tc : Thread Cert.REmIdeal.nD Cert.REmIdeal.τ).loc Cert.REmIdeal.main_arg9) = m' ((c.tc : Thread Cert.REmIdeal.nD Cert.REmIdeal.τ).loc Cert.REmIdeal.main_arg9)
          ∧ r.2.mem ((c.tc : Thread Cert.REmIdeal.nD Cert.REmIdeal.τ).loc Cert.REmIdeal.main_arg10) = m' ((c.tc : Thread Cert.REmIdeal.nD Cert.REmIdeal.τ).loc Cert.REmIdeal.main_arg10)
          ∧ r.2.mem ((c.tc : Thread Cert.REmIdeal.nD Cert.REmIdeal.τ).loc Cert.REmIdeal.main_arg11) = m' ((c.tc : Thread Cert.REmIdeal.nD Cert.REmIdeal.τ).loc Cert.REmIdeal.main_arg11)
          ∧ r.2.mem ((c.tc : Thread Cert.REmIdeal.nD Cert.REmIdeal.τ).loc Cert.REmIdeal.main_arg12) = m' ((c.tc : Thread Cert.REmIdeal.nD Cert.REmIdeal.τ).loc Cert.REmIdeal.main_arg12)
          ∧ r.2.mem ((c.tc : Thread Cert.REmIdeal.nD Cert.REmIdeal.τ).loc Cert.REmIdeal.main_arg13) = m' ((c.tc : Thread Cert.REmIdeal.nD Cert.REmIdeal.τ).loc Cert.REmIdeal.main_arg13)
          ∧ r.2.mem ((c.tc : Thread Cert.REmIdeal.nD Cert.REmIdeal.τ).loc Cert.REmIdeal.main_arg14) = m' ((c.tc : Thread Cert.REmIdeal.nD Cert.REmIdeal.τ).loc Cert.REmIdeal.main_arg14)
          ∧ r.2.mem ((c.tc : Thread Cert.REmIdeal.nD Cert.REmIdeal.τ).loc Cert.REmIdeal.main_arg15) = m' ((c.tc : Thread Cert.REmIdeal.nD Cert.REmIdeal.τ).loc Cert.REmIdeal.main_arg15))

def Claim : Prop :=
  ∃ (hKernel : Cert.Kernel.Facts) (hKernelIdeal : Cert.KernelIdeal.Facts) (hReferenceIdeal : Cert.ReferenceIdeal.Facts) (hKFfn : Cert.KFfn.Facts) (hKFfnIdeal : Cert.KFfnIdeal.Facts) (hRFfnIdeal : Cert.RFfnIdeal.Facts) (hKIn : Cert.KIn.Facts) (hKInIdeal : Cert.KInIdeal.Facts) (hRInIdeal : Cert.RInIdeal.Facts) (hKOut : Cert.KOut.Facts) (hKOutIdeal : Cert.KOutIdeal.Facts) (hROutIdeal : Cert.ROutIdeal.Facts) (hKFs : Cert.KFs.Facts) (hKFsIdeal : Cert.KFsIdeal.Facts) (hRFsIdeal : Cert.RFsIdeal.Facts) (hKEin : Cert.KEin.Facts) (hKEinIdeal : Cert.KEinIdeal.Facts) (hREinIdeal : Cert.REinIdeal.Facts) (hKEm : Cert.KEm.Facts) (hKEmIdeal : Cert.KEmIdeal.Facts) (hREmIdeal : Cert.REmIdeal.Facts),
    quiescent_Kernel (hKernel := hKernel)
    ∧ quiescent_KernelIdeal (hKernelIdeal := hKernelIdeal)
    ∧ quiescent_ReferenceIdeal (hReferenceIdeal := hReferenceIdeal)
    ∧ quiescent_KFfn (hKFfn := hKFfn)
    ∧ quiescent_KFfnIdeal (hKFfnIdeal := hKFfnIdeal)
    ∧ quiescent_RFfnIdeal (hRFfnIdeal := hRFfnIdeal)
    ∧ quiescent_KIn (hKIn := hKIn)
    ∧ quiescent_KInIdeal (hKInIdeal := hKInIdeal)
    ∧ quiescent_RInIdeal (hRInIdeal := hRInIdeal)
    ∧ quiescent_KOut (hKOut := hKOut)
    ∧ quiescent_KOutIdeal (hKOutIdeal := hKOutIdeal)
    ∧ quiescent_ROutIdeal (hROutIdeal := hROutIdeal)
    ∧ quiescent_KFs (hKFs := hKFs)
    ∧ quiescent_KFsIdeal (hKFsIdeal := hKFsIdeal)
    ∧ quiescent_RFsIdeal (hRFsIdeal := hRFsIdeal)
    ∧ quiescent_KEin (hKEin := hKEin)
    ∧ quiescent_KEinIdeal (hKEinIdeal := hKEinIdeal)
    ∧ quiescent_REinIdeal (hREinIdeal := hREinIdeal)
    ∧ quiescent_KEm (hKEm := hKEm)
    ∧ quiescent_KEmIdeal (hKEmIdeal := hKEmIdeal)
    ∧ quiescent_REmIdeal (hREmIdeal := hREmIdeal)
    ∧ preserves_Kernel_KernelIdeal
    ∧ algebraic_KernelIdeal_ReferenceIdeal (hKernelIdeal := hKernelIdeal) (hReferenceIdeal := hReferenceIdeal)
    ∧ preserves_KFfn_KFfnIdeal
    ∧ algebraic_KFfnIdeal_RFfnIdeal (hKFfnIdeal := hKFfnIdeal) (hRFfnIdeal := hRFfnIdeal)
    ∧ preserves_KIn_KInIdeal
    ∧ algebraic_KInIdeal_RInIdeal (hKInIdeal := hKInIdeal) (hRInIdeal := hRInIdeal)
    ∧ preserves_KOut_KOutIdeal
    ∧ algebraic_KOutIdeal_ROutIdeal (hKOutIdeal := hKOutIdeal) (hROutIdeal := hROutIdeal)
    ∧ preserves_KFs_KFsIdeal
    ∧ algebraic_KFsIdeal_RFsIdeal (hKFsIdeal := hKFsIdeal) (hRFsIdeal := hRFsIdeal)
    ∧ preserves_KEin_KEinIdeal
    ∧ algebraic_KEinIdeal_REinIdeal (hKEinIdeal := hKEinIdeal) (hREinIdeal := hREinIdeal)
    ∧ preserves_KEm_KEmIdeal
    ∧ algebraic_KEmIdeal_REmIdeal (hKEmIdeal := hKEmIdeal) (hREmIdeal := hREmIdeal)
-- ==== Kernel.lean ====
abbrev S16384x1024 : Shape := ⟨2, ![16384, 1024]⟩
abbrev S16384x2048 : Shape := ⟨2, ![16384, 2048]⟩
abbrev S1x2048 : Shape := ⟨2, ![1, 2048]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S1x8 : Shape := ⟨2, ![1, 8]⟩
abbrev S128x8 : Shape := ⟨2, ![128, 8]⟩
abbrev S8x8x128x256 : Shape := ⟨4, ![8, 8, 128, 256]⟩
abbrev S128x1024 : Shape := ⟨2, ![128, 1024]⟩
abbrev S128x2048 : Shape := ⟨2, ![128, 2048]⟩
abbrev S1x8x128x256 : Shape := ⟨4, ![1, 8, 128, 256]⟩
abbrev S128x256 : Shape := ⟨2, ![128, 256]⟩
abbrev S1x1x128x256 : Shape := ⟨4, ![1, 1, 128, 256]⟩
abbrev S1x1 : Shape := ⟨2, ![1, 1]⟩
abbrev S1x256 : Shape := ⟨2, ![1, 256]⟩

abbrev nBuf : Space → Nat
  | .hbm => 115
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x2048, .f32⟩
  | .hbm, ⟨3, _⟩ => ⟨S16384x2048, .f32⟩
  | .hbm, ⟨4, _⟩ => ⟨S1x2048, .f32⟩
  | .hbm, ⟨5, _⟩ => ⟨S2048, .i32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S2048, .f32⟩
  | .hbm, ⟨15, _⟩ => ⟨S2048x1, .f32⟩
  | .hbm, ⟨16, _⟩ => ⟨S1x64, .f32⟩
  | .hbm, ⟨17, _⟩ => ⟨S2048x64, .f32⟩
  | .hbm, ⟨18, _⟩ => ⟨S2048x64, .f32⟩
  | .hbm, ⟨19, _⟩ => ⟨S2048x64, .f32⟩
  | .hbm, ⟨20, _⟩ => ⟨S2048x64, .f32⟩
  | .hbm, ⟨21, _⟩ => ⟨S2048x64, .f32⟩
  | .hbm, ⟨22, _⟩ => ⟨S2048x128, .f32⟩
  | .hbm, ⟨23, _⟩ => ⟨S2048x64, .f32⟩
  | .hbm, ⟨24, _⟩ => ⟨S2048x128, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S8, .f32⟩
  | .hbm, ⟨33, _⟩ => ⟨S8, .f32⟩
  | .hbm, ⟨34, _⟩ => ⟨S8, .f32⟩
  | .hbm, ⟨35, _⟩ => ⟨S128, .f32⟩
  | .hbm, ⟨36, _⟩ => ⟨S_, .f32⟩
  | .hbm, ⟨37, _⟩ => ⟨S128, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .i1⟩
  | .hbm, ⟨42, _⟩ => ⟨S128x1, .f32⟩
  | .hbm, ⟨43, _⟩ => ⟨S1x128, .f32⟩
  | .hbm, ⟨44, _⟩ => ⟨S128x128, .f32⟩
  | .hbm, ⟨45, _⟩ => ⟨S128x128, .f32⟩
  | .hbm, ⟨46, _⟩ => ⟨S128x128, .f32⟩
  | .hbm, ⟨47, _⟩ => ⟨S_, .f32⟩
  | .hbm, ⟨48, _⟩ => ⟨S128x128, .f32⟩
  | .hbm, ⟨49, _⟩ => ⟨S128x128, .i1⟩
  | .hbm, ⟨50, _⟩ => ⟨S1x128, .i1⟩
  | .hbm, ⟨51, _⟩ => ⟨S128x128, .i1⟩
  | .hbm, ⟨52, _⟩ => ⟨S128x128, .i1⟩
  | .hbm, ⟨53, _⟩ => ⟨S8x1x1, .f32⟩
  | .hbm, ⟨54, _⟩ => ⟨S_, .f32⟩
  | .hbm, ⟨55, _⟩ => ⟨S128x128, .f32⟩
  | .hbm, ⟨56, _⟩ => ⟨S128x128, .f32⟩
  | .hbm, ⟨57, _⟩ => ⟨S1x128x128, .f32⟩
  | .hbm, ⟨58, _⟩ => ⟨S8x128x128, .f32⟩
  | .hbm, ⟨59, _⟩ => ⟨S8x128x128, .f32⟩
  | .hbm, ⟨60, _⟩ => ⟨S8x128x128, .f32⟩
  | .hbm, ⟨61, _⟩ => ⟨S8x128x128, .f32⟩
  | .hbm, ⟨62, _⟩ => ⟨S_, .f32⟩
  | .hbm, ⟨63, _⟩ => ⟨S_, .f32⟩
  | .hbm, ⟨64, _⟩ => ⟨S8x128x128, .i1⟩
  | .hbm, ⟨65, _⟩ => ⟨S8x128x128, .f32⟩
  | .hbm, ⟨66, _⟩ => ⟨S8x128x128, .f32⟩
  | .hbm, ⟨67, _⟩ => ⟨S128x1, .i1⟩
  | .hbm, ⟨68, _⟩ => ⟨S1x8, .f32⟩
  | .hbm, ⟨69, _⟩ => ⟨S128x1, .f32⟩
  | .hbm, ⟨70, _⟩ => ⟨S_, .f32⟩
  | .hbm, ⟨71, _⟩ => ⟨S128x1, .f32⟩
  | .hbm, ⟨72, _⟩ => ⟨S128x1, .f32⟩
  | .hbm, ⟨73, _⟩ => ⟨S128x8, .f32⟩
  | .hbm, ⟨74, _⟩ => ⟨S128x8, .f32⟩
  | .hbm, ⟨75, _⟩ => ⟨S128x8, .f32⟩
  | .hbm, ⟨76, _⟩ => ⟨S128x8, .f32⟩
  | .hbm, ⟨77, _⟩ => ⟨S_, .f32⟩
  | .hbm, ⟨78, _⟩ => ⟨S_, .f32⟩
  | .hbm, ⟨79, _⟩ => ⟨S128x8, .i1⟩
  | .hbm, ⟨80, _⟩ => ⟨S128x8, .f32⟩
  | .hbm, ⟨81, _⟩ => ⟨S128x8, .f32⟩
  | .hbm, ⟨82, _⟩ => ⟨S128x1, .i1⟩
  | .hbm, ⟨83, _⟩ => ⟨S1x8, .f32⟩
  | .hbm, ⟨84, _⟩ => ⟨S128x1, .f32⟩
  | .hbm, ⟨85, _⟩ => ⟨S_, .f32⟩
  | .hbm, ⟨86, _⟩ => ⟨S128x1, .f32⟩
  | .hbm, ⟨87, _⟩ => ⟨S128x1, .f32⟩
  | .hbm, ⟨88, _⟩ => ⟨S128x8, .f32⟩
  | .hbm, ⟨89, _⟩ => ⟨S128x8, .f32⟩
  | .hbm, ⟨90, _⟩ => ⟨S128x8, .f32⟩
  | .hbm, ⟨91, _⟩ => ⟨S128x8, .f32⟩
  | .hbm, ⟨92, _⟩ => ⟨S_, .f32⟩
  | .hbm, ⟨93, _⟩ => ⟨S_, .f32⟩
  | .hbm, ⟨94, _⟩ => ⟨S128x8, .i1⟩
  | .hbm, ⟨95, _⟩ => ⟨S128x8, .f32⟩
  | .hbm, ⟨96, _⟩ => ⟨S128x8, .f32⟩
  | .hbm, ⟨97, _⟩ => ⟨S_, .f32⟩
  | .hbm, ⟨98, _⟩ => ⟨S8, .f32⟩
  | .hbm, ⟨99, _⟩ => ⟨S8, .f32⟩
  | .hbm, ⟨100, _⟩ => ⟨S8, .f32⟩
  | .hbm, ⟨101, _⟩ => ⟨S1x8, .f32⟩
  | .hbm, ⟨102, _⟩ => ⟨S_, .i32⟩
  | .hbm, ⟨103, _⟩ => ⟨S_, .f32⟩
  | .hbm, ⟨104, _⟩ => ⟨S128x128, .f32⟩
  | .hbm, ⟨105, _⟩ => ⟨S_, .i32⟩
  | .hbm, ⟨106, _⟩ => ⟨S_, .f32⟩
  | .hbm, ⟨107, _⟩ => ⟨S128x128, .f32⟩
  | .hbm, ⟨108, _⟩ => ⟨S_, .i32⟩
  | .hbm, ⟨109, _⟩ => ⟨S_, .f32⟩
  | .hbm, ⟨110, _⟩ => ⟨S1x128, .f32⟩
  | .hbm, ⟨111, _⟩ => ⟨S2048, .f32⟩
  | .hbm, ⟨112, _⟩ => ⟨S1x2048, .f32⟩
  | .hbm, ⟨113, _⟩ => ⟨S16384x2048, .f32⟩
  | .hbm, ⟨114, _⟩ => ⟨S8x8x128x256, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S8x128x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S1x2048, .f32⟩
  | .local _ .vmem, ⟨17, _⟩ => ⟨S128x2048, .f32⟩
  | .local _ .vmem, ⟨18, _⟩ => ⟨S128x2048, .f32⟩
  | .local _ .vmem, ⟨19, _⟩ => ⟨S1x8x128x256, .f32⟩
  | .local _ .vmem, ⟨20, _⟩ => ⟨S1x8x128x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_7 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_8 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_9 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_10 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_11 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_v69 : Ref sig .tc := ⟨.hbm, 96, rfl⟩
abbrev main_cst_12 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_c : Ref sig .tc := ⟨.hbm, 102, rfl⟩
abbrev main_call3_v0 : Ref sig .tc := ⟨.hbm, 103, rfl⟩
abbrev main_v74 : Ref sig .tc := ⟨.hbm, 104, rfl⟩
abbrev main_c_13 : Ref sig .tc := ⟨.hbm, 105, rfl⟩
abbrev main_call4_v0 : Ref sig .tc := ⟨.hbm, 106, rfl⟩
abbrev main_v75 : Ref sig .tc := ⟨.hbm, 107, rfl⟩
abbrev main_c_14 : Ref sig .tc := ⟨.hbm, 108, rfl⟩
abbrev main_call5_v0 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79_0 : Ref sig .tc := ⟨.hbm, 113, rfl⟩
abbrev main_v79_1 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![8, 16], ![false, false]⟩

def k0_mult1 : BitVec 32 :=
  let c0_i32_1 : BitVec 32 := 0#32
  c0_i32_1
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S16384x1024 : Shape := ⟨2, ![16384, 1024]⟩
abbrev S16384x2048 : Shape := ⟨2, ![16384, 2048]⟩
abbrev S1x2048 : Shape := ⟨2, ![1, 2048]⟩
abbrev S2048 : Shape := ⟨1, ![2048]⟩
abbrev S8x2048x8x128 : Shape := ⟨4, ![8, 2048, 8, 128]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S8x2048x8x64 : Shape := ⟨4, ![8, 2048, 8, 64]⟩
abbrev S8x8x128x256 : Shape := ⟨4, ![8, 8, 128, 256]⟩
abbrev S8x2048x8x256 : Shape := ⟨4, ![8, 2048, 8, 256]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S8x1 : Shape := ⟨2, ![8, 1]⟩
abbrev S8x128 : Shape := ⟨2, ![8, 128]⟩
abbrev S128x8 : Shape := ⟨2, ![128, 8]⟩
abbrev S128x8x1 : Shape := ⟨3, ![128, 8, 1]⟩
abbrev S8x16x128x8x128 : Shape := ⟨5, ![8, 16, 128, 8, 128]⟩
abbrev S16x8x128x8x128 : Shape := ⟨5, ![16, 8, 128, 8, 128]⟩
abbrev S8x16x128x8x256 : Shape := ⟨5, ![8, 16, 128, 8, 256]⟩
abbrev S16x8x128x8x256 : Shape := ⟨5, ![16, 8, 128, 8, 256]⟩
abbrev S1x8x128x8x128 : Shape := ⟨5, ![1, 8, 128, 8, 128]⟩
abbrev S8x128x8x128 : Shape := ⟨4, ![8, 128, 8, 128]⟩
abbrev S1x8x128x8x256 : Shape := ⟨5, ![1, 8, 128, 8, 256]⟩
abbrev S8x128x8x256 : Shape := ⟨4, ![8, 128, 8, 256]⟩
abbrev S8x8x128x128 : Shape := ⟨4, ![8, 8, 128, 128]⟩
abbrev S1x8x128x128 : Shape := ⟨4, ![1, 8, 128, 128]⟩
abbrev S8x8x256x128 : Shape := ⟨4, ![8, 8, 256, 128]⟩
abbrev S1x128x8x1 : Shape := ⟨4, ![1, 128, 8, 1]⟩
abbrev S1x8x1x1 : Shape := ⟨4, ![1, 8, 1, 1]⟩
abbrev S8x2048x8 : Shape := ⟨3, ![8, 2048, 8]⟩
abbrev S8x2048x8x1 : Shape := ⟨4, ![8, 2048, 8, 1]⟩
abbrev S8x2048x2048 : Shape := ⟨3, ![8, 2048, 2048]⟩
abbrev S1x1x2048 : Shape := ⟨3, ![1, 1, 2048]⟩

abbrev nBuf : Space → Nat
  | .hbm => 243
  | .vmem => 0
  | .smem => 0
  | _ => 0

abbrev hbmTy0_0 (i : Nat) : BufTy := match i % 128 with
  | 0 => ⟨S16384x1024, .f32⟩
  | 1 => ⟨S16384x1024, .f32⟩
  | 2 => ⟨S16384x2048, .f32⟩
  | 3 => ⟨S16384x2048, .f32⟩
  | 4 => ⟨S1x2048, .f32⟩
  | 5 => ⟨S2048, .i32⟩
  | 6 => ⟨S8x2048x8x128, .f32⟩
  | 7 => ⟨S64, .f32⟩
  | 8 => ⟨S64, .f32⟩
  | 9 => ⟨S_, .f32⟩
  | 10 => ⟨S64, .f32⟩
  | 11 => ⟨S64, .f32⟩
  | 12 => ⟨S_, .f32⟩
  | 13 => ⟨S64, .f32⟩
  | 14 => ⟨S64, .f32⟩
  | 15 => ⟨S2048, .f32⟩
  | 16 => ⟨S2048x1, .f32⟩
  | 17 => ⟨S1x64, .f32⟩
  | 18 => ⟨S2048x64, .f32⟩
  | 19 => ⟨S2048x64, .f32⟩
  | 20 => ⟨S2048x64, .f32⟩
  | 21 => ⟨S2048x64, .f32⟩
  | 22 => ⟨S1x2048x1x64, .f32⟩
  | 23 => ⟨S2048x64, .f32⟩
  | 24 => ⟨S1x2048x1x64, .f32⟩
  | 25 => ⟨S8x2048x8x64, .f32⟩
  | 26 => ⟨S8x2048x8x64, .f32⟩
  | 27 => ⟨S8x2048x8x64, .f32⟩
  | 28 => ⟨S8x2048x8x64, .f32⟩
  | 29 => ⟨S8x2048x8x64, .f32⟩
  | 30 => ⟨S8x2048x8x64, .f32⟩
  | 31 => ⟨S8x2048x8x64, .f32⟩
  | 32 => ⟨S8x2048x8x64, .f32⟩
  | 33 => ⟨S8x2048x8x64, .f32⟩
  | 34 => ⟨S8x2048x8x64, .f32⟩
  | 35 => ⟨S8x2048x8x64, .f32⟩
  | 36 => ⟨S8x2048x8x64, .f32⟩
  | 37 => ⟨S8x2048x8x128, .f32⟩
  | 38 => ⟨S8x2048x8x128, .f32⟩
  | 39 => ⟨S64, .f32⟩
  | 40 => ⟨S64, .f32⟩
  | 41 => ⟨S_, .f32⟩
  | 42 => ⟨S64, .f32⟩
  | 43 => ⟨S64, .f32⟩
  | 44 => ⟨S_, .f32⟩
  | 45 => ⟨S64, .f32⟩
  | 46 => ⟨S64, .f32⟩
  | 47 => ⟨S2048, .f32⟩
  | 48 => ⟨S2048x1, .f32⟩
  | 49 => ⟨S1x64, .f32⟩
  | 50 => ⟨S2048x64, .f32⟩
  | 51 => ⟨S2048x64, .f32⟩
  | 52 => ⟨S2048x64, .f32⟩
  | 53 => ⟨S2048x64, .f32⟩
  | 54 => ⟨S1x2048x1x64, .f32⟩
  | 55 => ⟨S2048x64, .f32⟩
  | 56 => ⟨S1x2048x1x64, .f32⟩
  | 57 => ⟨S8x2048x8x64, .f32⟩
  | 58 => ⟨S8x2048x8x64, .f32⟩
  | 59 => ⟨S8x2048x8x64, .f32⟩
  | 60 => ⟨S8x2048x8x64, .f32⟩
  | 61 => ⟨S8x2048x8x64, .f32⟩
  | 62 => ⟨S8x2048x8x64, .f32⟩
  | 63 => ⟨S8x2048x8x64, .f32⟩
  | 64 => ⟨S8x2048x8x64, .f32⟩
  | 65 => ⟨S8x2048x8x64, .f32⟩
  | 66 => ⟨S8x2048x8x64, .f32⟩
  | 67 => ⟨S8x2048x8x64, .f32⟩
  | 68 => ⟨S8x2048x8x64, .f32⟩
  | 69 => ⟨S8x2048x8x128, .f32⟩
  | 70 => ⟨S_, .f32⟩
  | 71 => ⟨S8x8x128x256, .f32⟩
  | 72 => ⟨S8x2048x8x256, .f32⟩
  | 73 => ⟨S_, .f32⟩
  | 74 => ⟨S8x2048x8x128, .f32⟩
  | 75 => ⟨S8x2048x8x128, .f32⟩
  | 76 => ⟨S8, .f32⟩
  | 77 => ⟨S_, .f32⟩
  | 78 => ⟨S8, .f32⟩
  | 79 => ⟨S8, .f32⟩
  | 80 => ⟨S_, .f32⟩
  | 81 => ⟨S8, .f32⟩
  | 82 => ⟨S8, .f32⟩
  | 83 => ⟨S8, .f32⟩
  | 84 => ⟨S8, .f32⟩
  | 85 => ⟨S8, .f32⟩
  | 86 => ⟨S128, .f32⟩
  | 87 => ⟨S128x1, .f32⟩
  | 88 => ⟨S1x128, .f32⟩
  | 89 => ⟨S128x128, .f32⟩
  | 90 => ⟨S128x128, .f32⟩
  | 91 => ⟨S128x128, .f32⟩
  | 92 => ⟨S_, .f32⟩
  | 93 => ⟨S128x128, .f32⟩
  | 94 => ⟨S128x128, .i1⟩
  | 95 => ⟨S8x1x1, .f32⟩
  | 96 => ⟨S_, .f32⟩
  | 97 => ⟨S128x128, .f32⟩
  | 98 => ⟨S128x128, .f32⟩
  | 99 => ⟨S1x128x128, .f32⟩
  | 100 => ⟨S8x128x128, .f32⟩
  | 101 => ⟨S8x128x128, .f32⟩
  | 102 => ⟨S8x128x128, .f32⟩
  | 103 => ⟨S8x128x128, .f32⟩
  | 104 => ⟨S_, .f32⟩
  | 105 => ⟨S_, .f32⟩
  | 106 => ⟨S8x128x128, .i1⟩
  | 107 => ⟨S8x128x128, .f32⟩
  | 108 => ⟨S8x128x128, .f32⟩
  | 109 => ⟨S8x1, .f32⟩
  | 110 => ⟨S_, .f32⟩
  | 111 => ⟨S128, .f32⟩
  | 112 => ⟨S128, .f32⟩
  | 113 => ⟨S1x128, .f32⟩
  | 114 => ⟨S8x128, .f32⟩
  | 115 => ⟨S8x128, .f32⟩
  | 116 => ⟨S8x128, .f32⟩
  | 117 => ⟨S8x128, .f32⟩
  | 118 => ⟨S128x8, .f32⟩
  | 119 => ⟨S128x8x1, .f32⟩
  | 120 => ⟨S8x1, .f32⟩
  | 121 => ⟨S_, .f32⟩
  | 122 => ⟨S128, .f32⟩
  | 123 => ⟨S128, .f32⟩
  | 124 => ⟨S1x128, .f32⟩
  | 125 => ⟨S8x128, .f32⟩
  | 126 => ⟨S8x128, .f32⟩
  | 127 => ⟨S8x128, .f32⟩
  | _ => ⟨S16384x1024, .f32⟩

abbrev hbmTy0_1 (i : Nat) : BufTy := match i % 128 with
  | 0 => ⟨S8x128, .f32⟩
  | 1 => ⟨S128x8, .f32⟩
  | 2 => ⟨S128x8x1, .f32⟩
  | 3 => ⟨S_, .f32⟩
  | 4 => ⟨S8, .f32⟩
  | 5 => ⟨S8, .f32⟩
  | 6 => ⟨S8, .f32⟩
  | 7 => ⟨S8x16x128x8x128, .f32⟩
  | 8 => ⟨S16x8x128x8x128, .f32⟩
  | 9 => ⟨S8x16x128x8x128, .f32⟩
  | 10 => ⟨S16x8x128x8x128, .f32⟩
  | 11 => ⟨S8x16x128x8x256, .f32⟩
  | 12 => ⟨S16x8x128x8x256, .f32⟩
  | 13 => ⟨S_, .f32⟩
  | 14 => ⟨S16x8x128x8x256, .f32⟩
  | 15 => ⟨S_, .i32⟩
  | 16 => ⟨S16x8x128x8x128, .f32⟩
  | 17 => ⟨S16x8x128x8x128, .f32⟩
  | 18 => ⟨S16x8x128x8x256, .f32⟩
  | 19 => ⟨S8x128x128, .f32⟩
  | 20 => ⟨S128x8x1, .f32⟩
  | 21 => ⟨S8, .f32⟩
  | 22 => ⟨S128x8x1, .f32⟩
  | 23 => ⟨S_, .i32⟩
  | 24 => ⟨S8x8x128x256, .f32⟩
  | 25 => ⟨S16x8x128x8x256, .f32⟩
  | 26 => ⟨S_, .i32⟩
  | 27 => ⟨S_, .i1⟩
  | 28 => ⟨S_, .i32⟩
  | 29 => ⟨S_, .i32⟩
  | 30 => ⟨S_, .i32⟩
  | 31 => ⟨S_, .i32⟩
  | 32 => ⟨S1x8x128x8x128, .f32⟩
  | 33 => ⟨S8x128x8x128, .f32⟩
  | 34 => ⟨S_, .i32⟩
  | 35 => ⟨S_, .i32⟩
  | 36 => ⟨S_, .i32⟩
  | 37 => ⟨S_, .i32⟩
  | 38 => ⟨S1x8x128x8x128, .f32⟩
  | 39 => ⟨S8x128x8x128, .f32⟩
  | 40 => ⟨S_, .i32⟩
  | 41 => ⟨S_, .i32⟩
  | 42 => ⟨S_, .i32⟩
  | 43 => ⟨S_, .i32⟩
  | 44 => ⟨S1x8x128x8x256, .f32⟩
  | 45 => ⟨S8x128x8x256, .f32⟩
  | 46 => ⟨S8x8x128x128, .f32⟩
  | 47 => ⟨S1x8x128x128, .f32⟩
  | 48 => ⟨S8x8x128x128, .f32⟩
  | 49 => ⟨S8x8x128x128, .f32⟩
  | 50 => ⟨S8x8x256x128, .f32⟩
  | 51 => ⟨S8x128x8x256, .f32⟩
  | 52 => ⟨S8x8x256x128, .f32⟩
  | 53 => ⟨S8x128x8x256, .f32⟩
  | 54 => ⟨S1x128x8x1, .f32⟩
  | 55 => ⟨S8x128x8x256, .f32⟩
  | 56 => ⟨S8x128x8x256, .f32⟩
  | 57 => ⟨S8x128x8x256, .f32⟩
  | 58 => ⟨S8x1x1, .f32⟩
  | 59 => ⟨S1x8x1x1, .f32⟩
  | 60 => ⟨S8x8x128x256, .f32⟩
  | 61 => ⟨S8x8x128x256, .f32⟩
  | 62 => ⟨S1x128x8x1, .f32⟩
  | 63 => ⟨S8x128x8x128, .f32⟩
  | 64 => ⟨S8x128x8x128, .f32⟩
  | 65 => ⟨S8x8x128x256, .f32⟩
  | 66 => ⟨S8x8x128x256, .f32⟩
  | 67 => ⟨S1x8x128x8x256, .f32⟩
  | 68 => ⟨S_, .i32⟩
  | 69 => ⟨S_, .i32⟩
  | 70 => ⟨S_, .i32⟩
  | 71 => ⟨S_, .i32⟩
  | 72 => ⟨S16x8x128x8x256, .f32⟩
  | 73 => ⟨S_, .i32⟩
  | 74 => ⟨S_, .i32⟩
  | 75 => ⟨S8x16x128x8x256, .f32⟩
  | 76 => ⟨S8x2048x8x256, .f32⟩
  | 77 => ⟨S2048, .f32⟩
  | 78 => ⟨S_, .f32⟩
  | 79 => ⟨S8x2048x8, .f32⟩
  | 80 => ⟨S8x2048x8x1, .f32⟩
  | 81 => ⟨S_, .f32⟩
  | 82 => ⟨S8x2048x8x1, .f32⟩
  | 83 => ⟨S8x2048x8x1, .f32⟩
  | 84 => ⟨S8x2048x8x256, .f32⟩
  | 85 => ⟨S8x2048x8x256, .f32⟩
  | 86 => ⟨S8x2048x8x256, .f32⟩
  | 87 => ⟨S_, .f32⟩
  | 88 => ⟨S8x2048x8, .f32⟩
  | 89 => ⟨S8x2048x8x1, .f32⟩
  | 90 => ⟨S_, .f32⟩
  | 91 => ⟨S8x2048x8x1, .f32⟩
  | 92 => ⟨S8x2048x8x1, .f32⟩
  | 93 => ⟨S_, .f32⟩
  | 94 => ⟨S8x2048x8x1, .f32⟩
  | 95 => ⟨S8x2048x8x1, .f32⟩
  | 96 => ⟨S8x2048x8x1, .f32⟩
  | 97 => ⟨S8x2048x8x256, .f32⟩
  | 98 => ⟨S8x2048x8x256, .f32⟩
  | 99 => ⟨S8x2048x2048, .f32⟩
  | 100 => ⟨S1x1x2048, .f32⟩
  | 101 => ⟨S8x2048x2048, .f32⟩
  | 102 => ⟨S8x2048x2048, .f32⟩
  | 103 => ⟨S8x2048x2048, .f32⟩
  | 104 => ⟨S8x2048x2048, .f32⟩
  | 105 => ⟨S8x2048x2048, .f32⟩
  | 106 => ⟨S_, .f32⟩
  | 107 => ⟨S8x2048x2048, .f32⟩
  | 108 => ⟨S8x2048x2048, .f32⟩
  | 109 => ⟨S_, .f32⟩
  | 110 => ⟨S8x2048x2048, .f32⟩
  | 111 => ⟨S8x2048x2048, .f32⟩
  | 112 => ⟨S8x2048x2048, .f32⟩
  | 113 => ⟨S8x2048x2048, .f32⟩
  | 114 => ⟨S16384x2048, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_1 : Ref sig .tc := ⟨.hbm, 41, rfl⟩
abbrev main_v34 : Ref sig .tc := ⟨.hbm, 42, rfl⟩
abbrev main_v35 : Ref sig .tc := ⟨.hbm, 43, rfl⟩
abbrev main_cst_2 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_cst_3 : Ref sig .tc := ⟨.hbm, 70, rfl⟩
abbrev main_v61 : Ref sig .tc := ⟨.hbm, 71, rfl⟩
abbrev main_v62 : Ref sig .tc := ⟨.hbm, 72, rfl⟩
abbrev main_cst_4 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_cst_5 : Ref sig .tc := ⟨.hbm, 77, rfl⟩
abbrev main_v66 : Ref sig .tc := ⟨.hbm, 78, rfl⟩
abbrev main_v67 : Ref sig .tc := ⟨.hbm, 79, rfl⟩
abbrev main_cst_6 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_cst_7 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_cst_8 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_cst_9 : Ref sig .tc := ⟨.hbm, 104, rfl⟩
abbrev main_call0_v0 : Ref sig .tc := ⟨.hbm, 105, rfl⟩
abbrev main_call0_v1 : Ref sig .tc := ⟨.hbm, 106, rfl⟩
abbrev main_call0_v2 : Ref sig .tc := ⟨.hbm, 107, rfl⟩
abbrev main_v89 : Ref sig .tc := ⟨.hbm, 108, rfl⟩
abbrev main_v90 : Ref sig .tc := ⟨.hbm, 109, rfl⟩
abbrev main_cst_10 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_cst_11 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_cst_12 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_cst_13 : Ref sig .tc := ⟨.hbm, 141, rfl⟩
abbrev main_v119 : Ref sig .tc := ⟨.hbm, 142, rfl⟩
abbrev main_c : Ref sig .tc := ⟨.hbm, 143, rfl⟩
abbrev main_v120_0 : Ref sig .tc := ⟨.hbm, 144, rfl⟩
abbrev main_v120_1 : Ref sig .tc := ⟨.hbm, 145, rfl⟩
abbrev main_v120_2 : Ref sig .tc := ⟨.hbm, 146, rfl⟩
abbrev main_v120_3 : Ref sig .tc := ⟨.hbm, 147, rfl⟩
abbrev main_v120_4 : Ref sig .tc := ⟨.hbm, 148, rfl⟩
abbrev main_v120_5 : Ref sig .tc := ⟨.hbm, 149, rfl⟩
abbrev main_v120_6 : Ref sig .tc := ⟨.hbm, 150, rfl⟩
abbrev main_v120_7 : Ref sig .tc := ⟨.hbm, 151, rfl⟩
abbrev main_v120_8 : Ref sig .tc := ⟨.hbm, 152, rfl⟩
abbrev main_v120_9 : Ref sig .tc := ⟨.hbm, 153, rfl⟩
abbrev main_while0c_c_28 : Ref sig .tc := ⟨.hbm, 154, rfl⟩
abbrev main_while0c_v148 : Ref sig .tc := ⟨.hbm, 155, rfl⟩
abbrev main_while0b_call1_c : Ref sig .tc := ⟨.hbm, 156, rfl⟩
abbrev main_while0b_call1_c_0 : Ref sig .tc := ⟨.hbm, 157, rfl⟩
abbrev main_while0b_call1_c_1 : Ref sig .tc := ⟨.hbm, 158, rfl⟩
abbrev main_while0b_call1_c_2 : Ref sig .tc := ⟨.hbm, 159, rfl⟩
abbrev main_while0b_call1_v0 : Ref sig .tc := ⟨.hbm, 160, rfl⟩
abbrev main_while0b_v148 : Ref sig .tc := ⟨.hbm, 161, rfl⟩
abbrev main_while0b_call2_c : Ref sig .tc := ⟨.hbm, 162, rfl⟩
abbrev main_while0b_call2_c_0 : Ref sig .tc := ⟨.hbm, 163, rfl⟩
abbrev main_while0b_call2_c_1 : Ref sig .tc := ⟨.hbm, 164, rfl⟩
abbrev main_while0b_call2_c_2 : Ref sig .tc := ⟨.hbm, 165, rfl⟩
abbrev main_while0b_call2_v0 : Ref sig .tc := ⟨.hbm, 166, rfl⟩
abbrev main_while0b_v149 : Ref sig .tc := ⟨.hbm, 167, rfl⟩
abbrev main_while0b_call3_c : Ref sig .tc := ⟨.hbm, 168, rfl⟩
abbrev main_while0b_call3_c_0 : Ref sig .tc := ⟨.hbm, 169, rfl⟩
abbrev main_while0b_call3_c_1 : Ref sig .tc := ⟨.hbm, 170, rfl⟩
abbrev main_while0b_call3_c_2 : Ref sig .tc := ⟨.hbm, 171, rfl⟩
abbrev main_while0b_call3_v0 : Ref sig .tc := ⟨.hbm, 172, rfl⟩
abbrev main_while0b_v150 : Ref sig .tc := ⟨.hbm, 173, rfl⟩
abbrev main_while0b_v151 : Ref sig .tc := ⟨.hbm, 174, rfl⟩
abbrev main_while0b_v152 : Ref sig .tc := ⟨.hbm, 175, rfl⟩
abbrev main_while0b_v153 : Ref sig .tc := ⟨.hbm, 176, rfl⟩
abbrev main_while0b_v154 : Ref sig .tc := ⟨.hbm, 177, rfl⟩
abbrev main_while0b_v155 : Ref sig .tc := ⟨.hbm, 178, rfl⟩
abbrev main_while0b_v156 : Ref sig .tc := ⟨.hbm, 179, rfl⟩
abbrev main_while0b_v157 : Ref sig .tc := ⟨.hbm, 180, rfl⟩
abbrev main_while0b_v158 : Ref sig .tc := ⟨.hbm, 181, rfl⟩
abbrev main_while0b_v159 : Ref sig .tc := ⟨.hbm, 182, rfl⟩
abbrev main_while0b_v160 : Ref sig .tc := ⟨.hbm, 183, rfl⟩
abbrev main_while0b_v161 : Ref sig .tc := ⟨.hbm, 184, rfl⟩
abbrev main_while0b_v162 : Ref sig .tc := ⟨.hbm, 185, rfl⟩
abbrev main_while0b_v163 : Ref sig .tc := ⟨.hbm, 186, rfl⟩
abbrev main_while0b_v164 : Ref sig .tc := ⟨.hbm, 187, rfl⟩
abbrev main_while0b_v165 : Ref sig .tc := ⟨.hbm, 188, rfl⟩
abbrev main_while0b_v166 : Ref sig .tc := ⟨.hbm, 189, rfl⟩
abbrev main_while0b_v167 : Ref sig .tc := ⟨.hbm, 190, rfl⟩
abbrev main_while0b_v168 : Ref sig .tc := ⟨.hbm, 191, rfl⟩
abbrev main_while0b_v169 : Ref sig .tc := ⟨.hbm, 192, rfl⟩
abbrev main_while0b_v170 : Ref sig .tc := ⟨.hbm, 193, rfl⟩
abbrev main_while0b_v171 : Ref sig .tc := ⟨.hbm, 194, rfl⟩
abbrev main_while0b_call4_v0 : Ref sig .tc := ⟨.hbm, 195, rfl⟩
abbrev main_while0b_call4_c : Ref sig .tc := ⟨.hbm, 196, rfl⟩
abbrev main_while0b_call4_c_0 : Ref sig .tc := ⟨.hbm, 197, rfl⟩
abbrev main_while0b_call4_c_1 : Ref sig .tc := ⟨.hbm, 198, rfl⟩
abbrev main_while0b_call4_c_2 : Ref sig .tc := ⟨.hbm, 199, rfl⟩
abbrev main_while0b_v172 : Ref sig .tc := ⟨.hbm, 200, rfl⟩
abbrev main_while0b_c_28 : Ref sig .tc := ⟨.hbm, 201, rfl⟩
abbrev main_while0b_v173 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_cst_14 : Ref sig .tc := ⟨.hbm, 206, rfl⟩
abbrev main_v124 : Ref sig .tc := ⟨.hbm, 207, rfl⟩
abbrev main_v125 : Ref sig .tc := ⟨.hbm, 208, rfl⟩
abbrev main_cst_15 : Ref sig .tc := ⟨.hbm, 209, rfl⟩
abbrev main_v126 : Ref sig .tc := ⟨.hbm, 210, rfl⟩
abbrev main_v127 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_cst_16 : Ref sig .tc := ⟨.hbm, 215, rfl⟩
abbrev main_v131 : Ref sig .tc := ⟨.hbm, 216, rfl⟩
abbrev main_v132 : Ref sig .tc := ⟨.hbm, 217, rfl⟩
abbrev main_cst_17 : Ref sig .tc := ⟨.hbm, 218, rfl⟩
abbrev main_v133 : Ref sig .tc := ⟨.hbm, 219, rfl⟩
abbrev main_v134 : Ref sig .tc := ⟨.hbm, 220, rfl⟩
abbrev main_cst_18 : Ref sig .tc := ⟨.hbm, 221, rfl⟩
abbrev main_v135 : Ref sig .tc := ⟨.hbm, 222, rfl⟩
abbrev main_v136 : Ref sig .tc := ⟨.hbm, 223, rfl⟩
abbrev main_v137 : Ref sig .tc := ⟨.hbm, 224, rfl⟩
abbrev main_v138 : Ref sig .tc := ⟨.hbm, 225, rfl⟩
abbrev main_v139 : Ref sig .tc := ⟨.hbm, 226, rfl⟩
abbrev main_v140 : Ref sig .tc := ⟨.hbm, 227, rfl⟩
abbrev main_v141 : Ref sig .tc := ⟨.hbm, 228, rfl⟩
abbrev main_v142 : Ref sig .tc := ⟨.hbm, 229, rfl⟩
abbrev main_v143 : Ref sig .tc := ⟨.hbm, 230, rfl⟩
abbrev main_v144 : Ref sig .tc := ⟨.hbm, 231, rfl⟩
abbrev main_call5_v0 : Ref sig .tc := ⟨.hbm, 232, rfl⟩
abbrev main_call5_v1 : Ref sig .tc := ⟨.hbm, 233, rfl⟩
abbrev main_call5_cst : Ref sig .tc := ⟨.hbm, 234, rfl⟩
abbrev main_call5_v2 : Ref sig .tc := ⟨.hbm, 235, rfl⟩
abbrev main_call5_v3 : Ref sig .tc := ⟨.hbm, 236, rfl⟩
abbrev main_call5_cst_0 : Ref sig .tc := ⟨.hbm, 237, rfl⟩
abbrev main_call5_v4 : Ref sig .tc := ⟨.hbm, 238, rfl⟩
abbrev main_call5_v5 : Ref sig .tc := ⟨.hbm, 239, rfl⟩
abbrev main_v145 : Ref sig .tc := ⟨.hbm, 240, rfl⟩
abbrev main_v146 : Ref sig .tc := ⟨.hbm, 241, rfl⟩
abbrev main_v147 : Ref sig .tc := ⟨.hbm, 242, rfl⟩

abbrev nD : Nat := 1
abbrev τ : Topo := Topo.v7x

variable {F : FTy → Type} [FloatOps F]

abbrev main_while0_count : Scf.Loop 32 := ⟨0#32, 16#32, 1#32⟩
-- ==== KFfn.lean ====
abbrev S16384x1024 : Shape := ⟨2, ![16384, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S64x5632 : Shape := ⟨2, ![64, 5632]⟩
abbrev S256x1024 : Shape := ⟨2, ![256, 1024]⟩
abbrev S8x5632 : Shape := ⟨2, ![8, 5632]⟩
abbrev S264x1408 : Shape := ⟨2, ![264, 1408]⟩
abbrev S256 : Shape := ⟨1, ![256]⟩
abbrev S256x1 : Shape := ⟨2, ![256, 1]⟩
abbrev S1024x1408 : Shape := ⟨2, ![1024, 1408]⟩
abbrev S256x1408 : Shape := ⟨2, ![256, 1408]⟩
abbrev S8x1408 : Shape := ⟨2, ![8, 1408]⟩
abbrev S1x1408 : Shape := ⟨2, ![1, 1408]⟩
abbrev S1408x1024 : Shape := ⟨2, ![1408, 1024]⟩

abbrev nBuf : Space → Nat
  | .hbm => 15
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1x1024, .f32⟩
  | .hbm, ⟨8, _⟩ => ⟨S1024x5632, .bf16⟩
  | .hbm, ⟨9, _⟩ => ⟨S1x5632, .f32⟩
  | .hbm, ⟨10, _⟩ => ⟨S2816x1024, .bf16⟩
  | .hbm, ⟨11, _⟩ => ⟨S1x1024, .f32⟩
  | .hbm, ⟨12, _⟩ => ⟨S16384x1024, .f32⟩
  | .hbm, ⟨13, _⟩ => ⟨S64x5632, .f32⟩
  | .hbm, ⟨14, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5632, .bf16⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S8x5632, .f32⟩
  | .local _ .vmem, ⟨11, _⟩ => ⟨S8x5632, .f32⟩
  | .local _ .vmem, ⟨12, _⟩ => ⟨S256x1024, .f32⟩
  | .local _ .vmem, ⟨13, _⟩ => ⟨S256x1024, .f32⟩
  | .local _ .vmem, ⟨14, _⟩ => ⟨S264x1408, .f32⟩
  | .local _ .vmem, ⟨15, _⟩ => ⟨S8x5632, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== RFfnIdeal.lean ====
abbrev S16384x1024 : Shape := ⟨2, ![16384, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8x2048x1024 : Shape := ⟨3, ![8, 2048, 1024]⟩
abbrev S_ : Shape := ⟨0, ![]⟩
abbrev S8x2x5632 : Shape := ⟨3, ![8, 2, 5632]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2050x5632 : Shape := ⟨3, ![8, 2050, 5632]⟩
abbrev S1x5632 : Shape := ⟨2, ![1, 5632]⟩
abbrev S1x1x5632 : Shape := ⟨3, ![1, 1, 5632]⟩
abbrev S8x8x5632 : Shape := ⟨3, ![8, 8, 5632]⟩
abbrev S8x2048x2816 : Shape := ⟨3, ![8, 2048, 2816]⟩
abbrev S64x5632 : Shape := ⟨2, ![64, 5632]⟩

abbrev nBuf : Space → Nat
  | .hbm => 85
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S8x2048x1024, .f32⟩
  | .hbm, ⟨8, _⟩ => ⟨S_, .f32⟩
  | .hbm, ⟨9, _⟩ => ⟨S8x2x5632, .f32⟩
  | .hbm, ⟨10, _⟩ => ⟨S8x2048x1024, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1, .f32⟩
  | .hbm, ⟨21, _⟩ => ⟨S8x2048x1024, .f32⟩
  | .hbm, ⟨22, _⟩ => ⟨S8x2048x1024, .f32⟩
  | .hbm, ⟨23, _⟩ => ⟨S1x1x1024, .f32⟩
  | .hbm, ⟨24, _⟩ => ⟨S8x2048x1024, .f32⟩
  | .hbm, ⟨25, _⟩ => ⟨S8x2048x1024, .f32⟩
  | .hbm, ⟨26, _⟩ => ⟨S8x2048x5632, .f32⟩
  | .hbm, ⟨27, _⟩ => ⟨S8x2050x5632, .f32⟩
  | .hbm, ⟨28, _⟩ => ⟨S8x2048x5632, .f32⟩
  | .hbm, ⟨29, _⟩ => ⟨S1x5632, .f32⟩
  | .hbm, ⟨30, _⟩ => ⟨S5632, .f32⟩
  | .hbm, ⟨31, _⟩ => ⟨S1x1x5632, .f32⟩
  | .hbm, ⟨32, _⟩ => ⟨S8x2048x5632, .f32⟩
  | .hbm, ⟨33, _⟩ => ⟨S8x2048x5632, .f32⟩
  | .hbm, ⟨34, _⟩ => ⟨S1x1x5632, .f32⟩
  | .hbm, ⟨35, _⟩ => ⟨S8x2048x5632, .f32⟩
  | .hbm, ⟨36, _⟩ => ⟨S8x2048x5632, .f32⟩
  | .hbm, ⟨37, _⟩ => ⟨S8x2048x5632, .f32⟩
  | .hbm, ⟨38, _⟩ => ⟨S1x5632, .f32⟩
  | .hbm, ⟨39, _⟩ => ⟨S5632, .f32⟩
  | .hbm, ⟨40, _⟩ => ⟨S1x1x5632, .f32⟩
  | .hbm, ⟨41, _⟩ => ⟨S8x2048x5632, .f32⟩
  | .hbm, ⟨42, _⟩ => ⟨S8x2048x5632, .f32⟩
  | .hbm, ⟨43, _⟩ => ⟨S8x2048x5632, .f32⟩
  | .hbm, ⟨44, _⟩ => ⟨S8x2048x5632, .f32⟩
  | .hbm, ⟨45, _⟩ => ⟨S1x5632, .f32⟩
  | .hbm, ⟨46, _⟩ => ⟨S5632, .f32⟩
  | .hbm, ⟨47, _⟩ => ⟨S1x1x5632, .f32⟩
  | .hbm, ⟨48, _⟩ => ⟨S8x2048x5632, .f32⟩
  | .hbm, ⟨49, _⟩ => ⟨S8x2048x5632, .f32⟩
  | .hbm, ⟨50, _⟩ => ⟨S8x2048x5632, .f32⟩
  | .hbm, ⟨51, _⟩ => ⟨S8x8x5632, .f32⟩
  | .hbm, ⟨52, _⟩ => ⟨S8x2048x2816, .f32⟩
  | .hbm, ⟨53, _⟩ => ⟨S8x2048x2816, .f32⟩
  | .hbm, ⟨54, _⟩ => ⟨S8x2048x2816, .f32⟩
  | .hbm, ⟨55, _⟩ => ⟨S8x2048x2816, .f32⟩
  | .hbm, ⟨56, _⟩ => ⟨S_, .f32⟩
  | .hbm, ⟨57, _⟩ => ⟨S8x2048x2816, .f32⟩
  | .hbm, ⟨58, _⟩ => ⟨S8x2048x2816, .f32⟩
  | .hbm, ⟨59, _⟩ => ⟨S_, .f32⟩
  | .hbm, ⟨60, _⟩ => ⟨S8x2048x2816, .f32⟩
  | .hbm, ⟨61, _⟩ => ⟨S8x2048x2816, .f32⟩
  | .hbm, ⟨62, _⟩ => ⟨S8x2048x2816, .f32⟩
  | .hbm, ⟨63, _⟩ => ⟨S8x2048x2816, .f32⟩
  | .hbm, ⟨64, _⟩ => ⟨S8x2048x1024, .f32⟩
  | .hbm, ⟨65, _⟩ => ⟨S8x2048x1024, .f32⟩
  | .hbm, ⟨66, _⟩ => ⟨S8x2048x1024, .f32⟩
  | .hbm, ⟨67, _⟩ => ⟨S_, .f32⟩
  | .hbm, ⟨68, _⟩ => ⟨S8x2048, .f32⟩
  | .hbm, ⟨69, _⟩ => ⟨S8x2048x1, .f32⟩
  | .hbm, ⟨70, _⟩ => ⟨S_, .f32⟩
  | .hbm, ⟨71, _⟩ => ⟨S8x2048x1, .f32⟩
  | .hbm, ⟨72, _⟩ => ⟨S8x2048x1, .f32⟩
  | .hbm, ⟨73, _⟩ => ⟨S_, .f32⟩
  | .hbm, ⟨74, _⟩ => ⟨S8x2048x1, .f32⟩
  | .hbm, ⟨75, _⟩ => ⟨S8x2048x1, .f32⟩
  | .hbm, ⟨76, _⟩ => ⟨S8x2048x1, .f32⟩
  | .hbm, ⟨77, _⟩ => ⟨S8x2048x1024, .f32⟩
  | .hbm, ⟨78, _⟩ => ⟨S8x2048x1024, .f32⟩
  | .hbm, ⟨79, _⟩ => ⟨S1x1x1024, .f32⟩
  | .hbm, ⟨80, _⟩ => ⟨S8x2048x1024, .f32⟩
  | .hbm, ⟨81, _⟩ => ⟨S8x2048x1024, .f32⟩
  | .hbm, ⟨82, _⟩ => ⟨S16384x1024, .f32⟩
  | .hbm, ⟨83, _⟩ => ⟨S64x5632, .f32⟩
  | .hbm, ⟨84, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_3 : Ref sig .tc := ⟨.hbm, 67, rfl⟩
abbrev main_v48 : Ref sig .tc := ⟨.hbm, 68, rfl⟩
abbrev main_v49 : Ref sig .tc := ⟨.hbm, 69, rfl⟩
abbrev main_cst_4 : Ref sig .tc := ⟨.hbm, 70, rfl⟩
abbrev main_v50 : Ref sig .tc := ⟨.hbm, 71, rfl⟩
abbrev main_v51 : Ref sig .tc := ⟨.hbm, 72, rfl⟩
abbrev main_cst_5 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]
-- ==== KIn.lean ====
abbrev S16384x1024 : Shape := ⟨2, ![16384, 1024]⟩
abbrev S1024 : Shape := ⟨1, ![1024]⟩
abbrev S1024x6144 : Shape := ⟨2, ![1024, 6144]⟩
abbrev S1x1024 : Shape := ⟨2, ![1, 1024]⟩
abbrev S16384x2048 : Shape := ⟨2, ![16384, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1024x1024 : Shape := ⟨2, ![1024, 1024]⟩
abbrev S1024x2048 : Shape := ⟨2, ![1024, 2048]⟩

abbrev nBuf : Space → Nat
  | .hbm => 9
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x6144, .f32⟩
  | .hbm, ⟨3, _⟩ => ⟨S1x1024, .f32⟩
  | .hbm, ⟨4, _⟩ => ⟨S1024x6144, .bf16⟩
  | .hbm, ⟨5, _⟩ => ⟨S16384x1024, .f32⟩
  | .hbm, ⟨6, _⟩ => ⟨S16384x1024, .f32⟩
  | .hbm, ⟨7, _⟩ => ⟨S16384x2048, .f32⟩
  | .hbm, ⟨8, _⟩ => ⟨S16384x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x6144, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RInIdeal.lean ====
abbrev S16384x1024 : Shape := ⟨2, ![16384, 1024]⟩
abbrev S1024 : Shape := ⟨1, ![1024]⟩
abbrev S1024x6144 : Shape := ⟨2, ![1024, 6144]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x6144 : Shape := ⟨2, ![16384, 6144]⟩
abbrev S16384x2048 : Shape := ⟨2, ![16384, 2048]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x6144, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x6144, .f32⟩
  | .hbm, ⟨20, _⟩ => ⟨S16384x1024, .f32⟩
  | .hbm, ⟨21, _⟩ => ⟨S16384x1024, .f32⟩
  | .hbm, ⟨22, _⟩ => ⟨S16384x2048, .f32⟩
  | .hbm, ⟨23, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== KOut.lean ====
abbrev S16384x1024 : Shape := ⟨2, ![16384, 1024]⟩
abbrev S16384x2048 : Shape := ⟨2, ![16384, 2048]⟩
abbrev S2048x1024 : Shape := ⟨2, ![2048, 1024]⟩
abbrev S256x1024 : Shape := ⟨2, ![256, 1024]⟩
abbrev S256x2048 : Shape := ⟨2, ![256, 2048]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S2048x1024, .f32⟩
  | .hbm, ⟨3, _⟩ => ⟨S2048x1024, .bf16⟩
  | .hbm, ⟨4, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x2048, .f32⟩
  | .local _ .vmem, ⟨3, _⟩ => ⟨S256x2048, .f32⟩
  | .local _ .vmem, ⟨4, _⟩ => ⟨S2048x1024, .bf16⟩
  | .local _ .vmem, ⟨5, _⟩ => ⟨S256x1024, .f32⟩
  | .local _ .vmem, ⟨6, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ROutIdeal.lean ====
abbrev S16384x1024 : Shape := ⟨2, ![16384, 1024]⟩
abbrev S16384x2048 : Shape := ⟨2, ![16384, 2048]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S2048x1024, .f32⟩
  | .hbm, ⟨3, _⟩ => ⟨S16384x1024, .f32⟩
  | .hbm, ⟨4, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== KFs.lean ====
abbrev S1024x1024 : Shape := ⟨2, ![1024, 1024]⟩
abbrev S128x2x5632 : Shape := ⟨3, ![128, 2, 5632]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S128x8x5632 : Shape := ⟨3, ![128, 8, 5632]⟩
abbrev S1x1024 : Shape := ⟨2, ![1, 1024]⟩
abbrev S1x5632 : Shape := ⟨2, ![1, 5632]⟩
abbrev S128x1024 : Shape := ⟨2, ![128, 1024]⟩
abbrev S128x5632 : Shape := ⟨2, ![128, 5632]⟩
abbrev S136x1408 : Shape := ⟨2, ![136, 1408]⟩
abbrev S128x1 : Shape := ⟨2, ![128, 1]⟩
abbrev S128 : Shape := ⟨1, ![128]⟩
abbrev S1024x1408 : Shape := ⟨2, ![1024, 1408]⟩
abbrev S128x1408 : Shape := ⟨2, ![128, 1408]⟩
abbrev S8x1408 : Shape := ⟨2, ![8, 1408]⟩
abbrev S1x1408 : Shape := ⟨2, ![1, 1408]⟩
abbrev S1408x1024 : Shape := ⟨2, ![1408, 1024]⟩
abbrev S128x8x1024 : Shape := ⟨3, ![128, 8, 1024]⟩
abbrev S128x4x1024 : Shape := ⟨3, ![128, 4, 1024]⟩

abbrev nBuf : Space → Nat
  | .hbm => 26
  | .vmem => 17
  | .smem => 0
  | _ => 0

abbrev bufTy : (tb : Table) → Fin (tcTables nBuf tb) → BufTy
  | .hbm, ⟨0, _⟩ => ⟨S1024x1024, .f32⟩
  | .hbm, ⟨1, _⟩ => ⟨S128x2x5632, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S1024, .f32⟩
  | .hbm, ⟨8, _⟩ => ⟨S_, .i32⟩
  | .hbm, ⟨9, _⟩ => ⟨S_, .f32⟩
  | .hbm, ⟨10, _⟩ => ⟨S128x8x5632, .f32⟩
  | .hbm, ⟨11, _⟩ => ⟨S1024x5632, .f32⟩
  | .hbm, ⟨12, _⟩ => ⟨S1x1024, .f32⟩
  | .hbm, ⟨13, _⟩ => ⟨S1024x5632, .bf16⟩
  | .hbm, ⟨14, _⟩ => ⟨S1x5632, .f32⟩
  | .hbm, ⟨15, _⟩ => ⟨S2816x1024, .bf16⟩
  | .hbm, ⟨16, _⟩ => ⟨S1x1024, .f32⟩
  | .hbm, ⟨17, _⟩ => ⟨S1024x1024, .f32⟩
  | .hbm, ⟨18, _⟩ => ⟨S1024x5632, .f32⟩
  | .hbm, ⟨19, _⟩ => ⟨S1024x1024, .f32⟩
  | .hbm, ⟨20, _⟩ => ⟨S128x8x1024, .f32⟩
  | .hbm, ⟨21, _⟩ => ⟨S128x4x1024, .f32⟩
  | .hbm, ⟨22, _⟩ => ⟨S128x8x5632, .f32⟩
  | .hbm, ⟨23, _⟩ => ⟨S128x2x5632, .f32⟩
  | .hbm, ⟨24, _⟩ => ⟨S128x8x1024, .f32⟩
  | .hbm, ⟨25, _⟩ => ⟨S128x4x1024, .f32⟩
  | .local _ .vmem, ⟨0, _⟩ => ⟨S128x1024, .f32⟩
  | .local _ .vmem, ⟨1, _⟩ => ⟨S128x1024, .f32⟩
  | .local _ .vmem, ⟨2, _⟩ => ⟨S128x5632, .f32⟩
  | .local _ .vmem, ⟨3, _⟩ => ⟨S128x5632, .f32⟩
  | .local _ .vmem, ⟨4, _⟩ => ⟨S1x1024, .f32⟩
  | .local _ .vmem, ⟨5, _⟩ => ⟨S1024x5632, .bf16⟩
  | .local _ .vmem, ⟨6, _⟩ => ⟨S3x5632, .f32⟩
  | .local _ .vmem, ⟨7, _⟩ => ⟨S1x5632, .f32⟩
  | .local _ .vmem, ⟨8, _⟩ => ⟨S2816x1024, .bf16⟩
  | .local _ .vmem, ⟨9, _⟩ => ⟨S1x1024, .f32⟩
  | .local _ .vmem, ⟨10, _⟩ => ⟨S128x1024, .f32⟩
  | .local _ .vmem, ⟨11, _⟩ => ⟨S128x1024, .f32⟩
  | .local _ .vmem, ⟨12, _⟩ => ⟨S128x5632, .f32⟩
  | .local _ .vmem, ⟨13, _⟩ => ⟨S128x5632, .f32⟩
  | .local _ .vmem, ⟨14, _⟩ => ⟨S128x1024, .f32⟩
  | .local _ .vmem, ⟨15, _⟩ => ⟨S128x1024, .f32⟩
  | .local _ .vmem, ⟨16, _⟩ => ⟨S136x1408, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x5632 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== RFsIdeal.lean ====
abbrev S1024x1024 : Shape := ⟨2, ![1024, 1024]⟩
abbrev S128x2x5632 : Shape := ⟨3, ![128, 2, 5632]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S128x8x1024 : Shape := ⟨3, ![128, 8, 1024]⟩
abbrev S128x4x1024 : Shape := ⟨3, ![128, 4, 1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S128x4x5632 : Shape := ⟨3, ![128, 4, 5632]⟩
abbrev S128x6x5632 : Shape := ⟨3, ![128, 6, 5632]⟩
abbrev S1x5632 : Shape := ⟨2, ![1, 5632]⟩
abbrev S1x1x5632 : Shape := ⟨3, ![1, 1, 5632]⟩
abbrev S128x4x2816 : Shape := ⟨3, ![128, 4, 2816]⟩

abbrev nBuf : Space → Nat
  | .hbm => 82
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S128x2x5632, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S1024, .f32⟩
  | .hbm, ⟨8, _⟩ => ⟨S128x8x1024, .f32⟩
  | .hbm, ⟨9, _⟩ => ⟨S128x4x1024, .f32⟩
  | .hbm, ⟨10, _⟩ => ⟨S128x4x1024, .f32⟩
  | .hbm, ⟨11, _⟩ => ⟨S_, .f32⟩
  | .hbm, ⟨12, _⟩ => ⟨S128x4, .f32⟩
  | .hbm, ⟨13, _⟩ => ⟨S128x4x1, .f32⟩
  | .hbm, ⟨14, _⟩ => ⟨S_, .f32⟩
  | .hbm, ⟨15, _⟩ => ⟨S128x4x1, .f32⟩
  | .hbm, ⟨16, _⟩ => ⟨S128x4x1, .f32⟩
  | .hbm, ⟨17, _⟩ => ⟨S_, .f32⟩
  | .hbm, ⟨18, _⟩ => ⟨S128x4x1, .f32⟩
  | .hbm, ⟨19, _⟩ => ⟨S128x4x1, .f32⟩
  | .hbm, ⟨20, _⟩ => ⟨S128x4x1, .f32⟩
  | .hbm, ⟨21, _⟩ => ⟨S128x4x1024, .f32⟩
  | .hbm, ⟨22, _⟩ => ⟨S128x4x1024, .f32⟩
  | .hbm, ⟨23, _⟩ => ⟨S1x1x1024, .f32⟩
  | .hbm, ⟨24, _⟩ => ⟨S128x4x1024, .f32⟩
  | .hbm, ⟨25, _⟩ => ⟨S128x4x1024, .f32⟩
  | .hbm, ⟨26, _⟩ => ⟨S128x4x5632, .f32⟩
  | .hbm, ⟨27, _⟩ => ⟨S128x6x5632, .f32⟩
  | .hbm, ⟨28, _⟩ => ⟨S128x4x5632, .f32⟩
  | .hbm, ⟨29, _⟩ => ⟨S1x5632, .f32⟩
  | .hbm, ⟨30, _⟩ => ⟨S5632, .f32⟩
  | .hbm, ⟨31, _⟩ => ⟨S1x1x5632, .f32⟩
  | .hbm, ⟨32, _⟩ => ⟨S128x4x5632, .f32⟩
  | .hbm, ⟨33, _⟩ => ⟨S128x4x5632, .f32⟩
  | .hbm, ⟨34, _⟩ => ⟨S1x1x5632, .f32⟩
  | .hbm, ⟨35, _⟩ => ⟨S128x4x5632, .f32⟩
  | .hbm, ⟨36, _⟩ => ⟨S128x4x5632, .f32⟩
  | .hbm, ⟨37, _⟩ => ⟨S128x4x5632, .f32⟩
  | .hbm, ⟨38, _⟩ => ⟨S1x5632, .f32⟩
  | .hbm, ⟨39, _⟩ => ⟨S5632, .f32⟩
  | .hbm, ⟨40, _⟩ => ⟨S1x1x5632, .f32⟩
  | .hbm, ⟨41, _⟩ => ⟨S128x4x5632, .f32⟩
  | .hbm, ⟨42, _⟩ => ⟨S128x4x5632, .f32⟩
  | .hbm, ⟨43, _⟩ => ⟨S128x4x5632, .f32⟩
  | .hbm, ⟨44, _⟩ => ⟨S128x4x5632, .f32⟩
  | .hbm, ⟨45, _⟩ => ⟨S1x5632, .f32⟩
  | .hbm, ⟨46, _⟩ => ⟨S5632, .f32⟩
  | .hbm, ⟨47, _⟩ => ⟨S1x1x5632, .f32⟩
  | .hbm, ⟨48, _⟩ => ⟨S128x4x5632, .f32⟩
  | .hbm, ⟨49, _⟩ => ⟨S128x4x5632, .f32⟩
  | .hbm, ⟨50, _⟩ => ⟨S128x4x5632, .f32⟩
  | .hbm, ⟨51, _⟩ => ⟨S128x2x5632, .f32⟩
  | .hbm, ⟨52, _⟩ => ⟨S128x4x2816, .f32⟩
  | .hbm, ⟨53, _⟩ => ⟨S128x4x2816, .f32⟩
  | .hbm, ⟨54, _⟩ => ⟨S128x4x2816, .f32⟩
  | .hbm, ⟨55, _⟩ => ⟨S128x4x2816, .f32⟩
  | .hbm, ⟨56, _⟩ => ⟨S_, .f32⟩
  | .hbm, ⟨57, _⟩ => ⟨S128x4x2816, .f32⟩
  | .hbm, ⟨58, _⟩ => ⟨S128x4x2816, .f32⟩
  | .hbm, ⟨59, _⟩ => ⟨S_, .f32⟩
  | .hbm, ⟨60, _⟩ => ⟨S128x4x2816, .f32⟩
  | .hbm, ⟨61, _⟩ => ⟨S128x4x2816, .f32⟩
  | .hbm, ⟨62, _⟩ => ⟨S128x4x2816, .f32⟩
  | .hbm, ⟨63, _⟩ => ⟨S128x4x2816, .f32⟩
  | .hbm, ⟨64, _⟩ => ⟨S128x4x1024, .f32⟩
  | .hbm, ⟨65, _⟩ => ⟨S128x4x1024, .f32⟩
  | .hbm, ⟨66, _⟩ => ⟨S128x4x1024, .f32⟩
  | .hbm, ⟨67, _⟩ => ⟨S_, .f32⟩
  | .hbm, ⟨68, _⟩ => ⟨S128x4, .f32⟩
  | .hbm, ⟨69, _⟩ => ⟨S128x4x1, .f32⟩
  | .hbm, ⟨70, _⟩ => ⟨S_, .f32⟩
  | .hbm, ⟨71, _⟩ => ⟨S128x4x1, .f32⟩
  | .hbm, ⟨72, _⟩ => ⟨S128x4x1, .f32⟩
  | .hbm, ⟨73, _⟩ => ⟨S_, .f32⟩
  | .hbm, ⟨74, _⟩ => ⟨S128x4x1, .f32⟩
  | .hbm, ⟨75, _⟩ => ⟨S128x4x1, .f32⟩
  | .hbm, ⟨76, _⟩ => ⟨S128x4x1, .f32⟩
  | .hbm, ⟨77, _⟩ => ⟨S128x4x1024, .f32⟩
  | .hbm, ⟨78, _⟩ => ⟨S128x4x1024, .f32⟩
  | .hbm, ⟨79, _⟩ => ⟨S1x1x1024, .f32⟩
  | .hbm, ⟨80, _⟩ => ⟨S128x4x1024, .f32⟩
  | .hbm, ⟨81, _⟩ => ⟨S128x4x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_2 : Ref sig .tc := ⟨.hbm, 67, rfl⟩
abbrev main_v48 : Ref sig .tc := ⟨.hbm, 68, rfl⟩
abbrev main_v49 : Ref sig .tc := ⟨.hbm, 69, rfl⟩
abbrev main_cst_3 : Ref sig .tc := ⟨.hbm, 70, rfl⟩
abbrev main_v50 : Ref sig .tc := ⟨.hbm, 71, rfl⟩
abbrev main_v51 : Ref sig .tc := ⟨.hbm, 72, rfl⟩
abbrev main_cst_4 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]
-- ==== KEin.lean ====
abbrev S16384x1024 : Shape := ⟨2, ![16384, 1024]⟩
abbrev S1024 : Shape := ⟨1, ![1024]⟩
abbrev S1024x5656 : Shape := ⟨2, ![1024, 5656]⟩
abbrev S1x1024 : Shape := ⟨2, ![1, 1024]⟩
abbrev S1024x512 : Shape := ⟨2, ![1024, 512]⟩
abbrev S1024x1024 : Shape := ⟨2, ![1024, 1024]⟩
abbrev S1024x4 : Shape := ⟨2, ![1024, 4]⟩
abbrev S1024x1536 : Shape := ⟨2, ![1024, 1536]⟩
abbrev S1024x16 : Shape := ⟨2, ![1024, 16]⟩
abbrev S_ : Shape := ⟨0, ![]⟩
abbrev S1024x128 : Shape := ⟨2, ![1024, 128]⟩
abbrev S1024x6016 : Shape := ⟨2, ![1024, 6016]⟩
abbrev S16384x512 : Shape := ⟨2, ![16384, 512]⟩
abbrev S16384x1536 : Shape := ⟨2, ![16384, 1536]⟩
abbrev S16384x384 : Shape := ⟨2, ![16384, 384]⟩
abbrev S256x1024 : Shape := ⟨2, ![256, 1024]⟩
abbrev S256x512 : Shape := ⟨2, ![256, 512]⟩
abbrev S256x1536 : Shape := ⟨2, ![256, 1536]⟩
abbrev S256x384 : Shape := ⟨2, ![256, 384]⟩
abbrev S256 : Shape := ⟨1, ![256]⟩
abbrev S256x1 : Shape := ⟨2, ![256, 1]⟩
abbrev S1024x384 : Shape := ⟨2, ![1024, 384]⟩

abbrev nBuf : Space → Nat
  | .hbm => 31
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5656, .f32⟩
  | .hbm, ⟨3, _⟩ => ⟨S1x1024, .f32⟩
  | .hbm, ⟨4, _⟩ => ⟨S1024x512, .f32⟩
  | .hbm, ⟨5, _⟩ => ⟨S1024x512, .f32⟩
  | .hbm, ⟨6, _⟩ => ⟨S1024x1024, .f32⟩
  | .hbm, ⟨7, _⟩ => ⟨S1024x4, .f32⟩
  | .hbm, ⟨8, _⟩ => ⟨S1024x4, .f32⟩
  | .hbm, ⟨9, _⟩ => ⟨S1024x1024, .f32⟩
  | .hbm, ⟨10, _⟩ => ⟨S1024x1024, .f32⟩
  | .hbm, ⟨11, _⟩ => ⟨S1024x1536, .f32⟩
  | .hbm, ⟨12, _⟩ => ⟨S1024x16, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S_, .i32⟩
  | .hbm, ⟨20, _⟩ => ⟨S_, .f32⟩
  | .hbm, ⟨21, _⟩ => ⟨S1024x128, .f32⟩
  | .hbm, ⟨22, _⟩ => ⟨S1024x6016, .f32⟩
  | .hbm, ⟨23, _⟩ => ⟨S1024x6016, .bf16⟩
  | .hbm, ⟨24, _⟩ => ⟨S16384x512, .f32⟩
  | .hbm, ⟨25, _⟩ => ⟨S16384x512, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1536, .f32⟩
  | .hbm, ⟨30, _⟩ => ⟨S16384x384, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x6016, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1536, .f32⟩
  | .local _ .vmem, ⟨15, _⟩ => ⟨S256x1536, .f32⟩
  | .local _ .vmem, ⟨16, _⟩ => ⟨S256x384, .f32⟩
  | .local _ .vmem, ⟨17, _⟩ => ⟨S256x384, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_c_0 : Ref sig .tc := ⟨.hbm, 16, rfl⟩
abbrev main_call1_v0 : Ref sig .tc := ⟨.hbm, 17, rfl⟩
abbrev main_v11 : Ref sig .tc := ⟨.hbm, 18, rfl⟩
abbrev main_c_1 : Ref sig .tc := ⟨.hbm, 19, rfl⟩
abbrev main_call2_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev main_v15_4 : Ref sig .tc := ⟨.hbm, 28, rfl⟩
abbrev main_v15_5 : Ref sig .tc := ⟨.hbm, 29, rfl⟩
abbrev main_v15_6 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6016 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== REinIdeal.lean ====
abbrev S16384x1024 : Shape := ⟨2, ![16384, 1024]⟩
abbrev S1024 : Shape := ⟨1, ![1024]⟩
abbrev S1024x5656 : Shape := ⟨2, ![1024, 5656]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5656 : Shape := ⟨2, ![16384, 5656]⟩
abbrev S16384x512 : Shape := ⟨2, ![16384, 512]⟩
abbrev S16384x4 : Shape := ⟨2, ![16384, 4]⟩
abbrev S16384x1536 : Shape := ⟨2, ![16384, 1536]⟩
abbrev S16384x16 : Shape := ⟨2, ![16384, 16]⟩
abbrev S16384x128 : Shape := ⟨2, ![16384, 128]⟩
abbrev S16384x384 : Shape := ⟨2, ![16384, 384]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5656, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x5656, .f32⟩
  | .hbm, ⟨20, _⟩ => ⟨S16384x512, .f32⟩
  | .hbm, ⟨21, _⟩ => ⟨S16384x512, .f32⟩
  | .hbm, ⟨22, _⟩ => ⟨S16384x1024, .f32⟩
  | .hbm, ⟨23, _⟩ => ⟨S16384x4, .f32⟩
  | .hbm, ⟨24, _⟩ => ⟨S16384x4, .f32⟩
  | .hbm, ⟨25, _⟩ => ⟨S16384x1024, .f32⟩
  | .hbm, ⟨26, _⟩ => ⟨S16384x1024, .f32⟩
  | .hbm, ⟨27, _⟩ => ⟨S16384x1536, .f32⟩
  | .hbm, ⟨28, _⟩ => ⟨S16384x16, .f32⟩
  | .hbm, ⟨29, _⟩ => ⟨S_, .i32⟩
  | .hbm, ⟨30, _⟩ => ⟨S_, .f32⟩
  | .hbm, ⟨31, _⟩ => ⟨S16384x128, .f32⟩
  | .hbm, ⟨32, _⟩ => ⟨S_, .i32⟩
  | .hbm, ⟨33, _⟩ => ⟨S_, .f32⟩
  | .hbm, ⟨34, _⟩ => ⟨S16384x128, .f32⟩
  | .hbm, ⟨35, _⟩ => ⟨S_, .i32⟩
  | .hbm, ⟨36, _⟩ => ⟨S_, .f32⟩
  | .hbm, ⟨37, _⟩ => ⟨S16384x128, .f32⟩
  | .hbm, ⟨38, _⟩ => ⟨S16384x384, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_call0_v0 : Ref sig .tc := ⟨.hbm, 30, rfl⟩
abbrev main_v23 : Ref sig .tc := ⟨.hbm, 31, rfl⟩
abbrev main_c_2 : Ref sig .tc := ⟨.hbm, 32, rfl⟩
abbrev main_call1_v0 : Ref sig .tc := ⟨.hbm, 33, rfl⟩
abbrev main_v24 : Ref sig .tc := ⟨.hbm, 34, rfl⟩
abbrev main_c_3 : Ref sig .tc := ⟨.hbm, 35, rfl⟩
abbrev main_call2_v0 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== KEm.lean ====
abbrev S16384x512 : Shape := ⟨2, ![16384, 512]⟩
abbrev S16384x1024 : Shape := ⟨2, ![16384, 1024]⟩
abbrev S16384x1536 : Shape := ⟨2, ![16384, 1536]⟩
abbrev S16384x384 : Shape := ⟨2, ![16384, 384]⟩
abbrev S4 : Shape := ⟨1, ![4]⟩
abbrev S1024 : Shape := ⟨1, ![1024]⟩
abbrev S4x1536 : Shape := ⟨2, ![4, 1536]⟩
abbrev S1536 : Shape := ⟨1, ![1536]⟩
abbrev S16 : Shape := ⟨1, ![16]⟩
abbrev S1x4 : Shape := ⟨2, ![1, 4]⟩
abbrev S_ : Shape := ⟨0, ![]⟩
abbrev S1x128 : Shape := ⟨2, ![1, 128]⟩
abbrev S1x16 : Shape := ⟨2, ![1, 16]⟩
abbrev S3x128 : Shape := ⟨2, ![3, 128]⟩
abbrev S1x1024 : Shape := ⟨2, ![1, 1024]⟩
abbrev S1x1536 : Shape := ⟨2, ![1, 1536]⟩
abbrev S16384x2048 : Shape := ⟨2, ![16384, 2048]⟩
abbrev S8x4x128x256 : Shape := ⟨4, ![8, 4, 128, 256]⟩
abbrev S8x8x128 : Shape := ⟨3, ![8, 8, 128]⟩
abbrev S8x1x128 : Shape := ⟨3, ![8, 1, 128]⟩
abbrev S8x16x64x128 : Shape := ⟨4, ![8, 16, 64, 128]⟩
abbrev S64x1536 : Shape := ⟨2, ![64, 1536]⟩
abbrev S128x512 : Shape := ⟨2, ![128, 512]⟩
abbrev S128x1024 : Shape := ⟨2, ![128, 1024]⟩
abbrev S128x1536 : Shape := ⟨2, ![128, 1536]⟩
abbrev S128x384 : Shape := ⟨2, ![128, 384]⟩
abbrev S128x2048 : Shape := ⟨2, ![128, 2048]⟩
abbrev S1x4x128x256 : Shape := ⟨4, ![1, 4, 128, 256]⟩
abbrev S1x8x128 : Shape := ⟨3, ![1, 8, 128]⟩
abbrev S1x1x128 : Shape := ⟨3, ![1, 1, 128]⟩
abbrev S1x16x64x128 : Shape := ⟨4, ![1, 16, 64, 128]⟩
abbrev S8x1536 : Shape := ⟨2, ![8, 1536]⟩
abbrev S136x1536 : Shape := ⟨2, ![136, 1536]⟩
abbrev S128x128 : Shape := ⟨2, ![128, 128]⟩
abbrev S128 : Shape := ⟨1, ![128]⟩
abbrev S128x1 : Shape := ⟨2, ![128, 1]⟩
abbrev S1x1 : Shape := ⟨2, ![1, 1]⟩
abbrev S128x256 : Shape := ⟨2, ![128, 256]⟩
abbrev S1x1x128x256 : Shape := ⟨4, ![1, 1, 128, 256]⟩
abbrev S1x256 : Shape := ⟨2, ![1, 256]⟩
abbrev S128x64 : Shape := ⟨2, ![128, 64]⟩
abbrev S1x1x64x128 : Shape := ⟨4, ![1, 1, 64, 128]⟩
abbrev S64x128 : Shape := ⟨2, ![64, 128]⟩
abbrev S1x512 : Shape := ⟨2, ![1, 512]⟩
abbrev S8x8x1536 : Shape := ⟨3, ![8, 8, 1536]⟩
abbrev S8x3x1536 : Shape := ⟨3, ![8, 3, 1536]⟩

abbrev nBuf : Space → Nat
  | .hbm => 48
  | .vmem => 35
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1536, .f32⟩
  | .hbm, ⟨6, _⟩ => ⟨S16384x384, .f32⟩
  | .hbm, ⟨7, _⟩ => ⟨S4, .f32⟩
  | .hbm, ⟨8, _⟩ => ⟨S4, .f32⟩
  | .hbm, ⟨9, _⟩ => ⟨S1024, .f32⟩
  | .hbm, ⟨10, _⟩ => ⟨S4x1536, .f32⟩
  | .hbm, ⟨11, _⟩ => ⟨S1536, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S1024, .f32⟩
  | .hbm, ⟨16, _⟩ => ⟨S1x4, .f32⟩
  | .hbm, ⟨17, _⟩ => ⟨S_, .i32⟩
  | .hbm, ⟨18, _⟩ => ⟨S_, .f32⟩
  | .hbm, ⟨19, _⟩ => ⟨S1x128, .f32⟩
  | .hbm, ⟨20, _⟩ => ⟨S1x4, .f32⟩
  | .hbm, ⟨21, _⟩ => ⟨S_, .i32⟩
  | .hbm, ⟨22, _⟩ => ⟨S_, .f32⟩
  | .hbm, ⟨23, _⟩ => ⟨S1x128, .f32⟩
  | .hbm, ⟨24, _⟩ => ⟨S1x16, .f32⟩
  | .hbm, ⟨25, _⟩ => ⟨S_, .i32⟩
  | .hbm, ⟨26, _⟩ => ⟨S_, .f32⟩
  | .hbm, ⟨27, _⟩ => ⟨S1x128, .f32⟩
  | .hbm, ⟨28, _⟩ => ⟨S3x128, .f32⟩
  | .hbm, ⟨29, _⟩ => ⟨S1x1024, .f32⟩
  | .hbm, ⟨30, _⟩ => ⟨S1x1536, .f32⟩
  | .hbm, ⟨31, _⟩ => ⟨S1x16, .f32⟩
  | .hbm, ⟨32, _⟩ => ⟨S_, .i32⟩
  | .hbm, ⟨33, _⟩ => ⟨S_, .f32⟩
  | .hbm, ⟨34, _⟩ => ⟨S1x128, .f32⟩
  | .hbm, ⟨35, _⟩ => ⟨S1x16, .f32⟩
  | .hbm, ⟨36, _⟩ => ⟨S_, .i32⟩
  | .hbm, ⟨37, _⟩ => ⟨S_, .f32⟩
  | .hbm, ⟨38, _⟩ => ⟨S1x128, .f32⟩
  | .hbm, ⟨39, _⟩ => ⟨S1x1024, .f32⟩
  | .hbm, ⟨40, _⟩ => ⟨S16384x2048, .f32⟩
  | .hbm, ⟨41, _⟩ => ⟨S8x4x128x256, .f32⟩
  | .hbm, ⟨42, _⟩ => ⟨S8x8x128, .f32⟩
  | .hbm, ⟨43, _⟩ => ⟨S8x1x128, .f32⟩
  | .hbm, ⟨44, _⟩ => ⟨S8x16x64x128, .f32⟩
  | .hbm, ⟨45, _⟩ => ⟨S64x1536, .f32⟩
  | .hbm, ⟨46, _⟩ => ⟨S8x8x1536, .f32⟩
  | .hbm, ⟨47, _⟩ => ⟨S8x3x1536, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1536, .f32⟩
  | .local _ .vmem, ⟨11, _⟩ => ⟨S128x1536, .f32⟩
  | .local _ .vmem, ⟨12, _⟩ => ⟨S128x384, .f32⟩
  | .local _ .vmem, ⟨13, _⟩ => ⟨S128x384, .f32⟩
  | .local _ .vmem, ⟨14, _⟩ => ⟨S3x128, .f32⟩
  | .local _ .vmem, ⟨15, _⟩ => ⟨S1x1024, .f32⟩
  | .local _ .vmem, ⟨16, _⟩ => ⟨S4x1536, .f32⟩
  | .local _ .vmem, ⟨17, _⟩ => ⟨S1x1536, .f32⟩
  | .local _ .vmem, ⟨18, _⟩ => ⟨S1x128, .f32⟩
  | .local _ .vmem, ⟨19, _⟩ => ⟨S1x128, .f32⟩
  | .local _ .vmem, ⟨20, _⟩ => ⟨S1x1024, .f32⟩
  | .local _ .vmem, ⟨21, _⟩ => ⟨S128x2048, .f32⟩
  | .local _ .vmem, ⟨22, _⟩ => ⟨S128x2048, .f32⟩
  | .local _ .vmem, ⟨23, _⟩ => ⟨S1x4x128x256, .f32⟩
  | .local _ .vmem, ⟨24, _⟩ => ⟨S1x4x128x256, .f32⟩
  | .local _ .vmem, ⟨25, _⟩ => ⟨S1x8x128, .f32⟩
  | .local _ .vmem, ⟨26, _⟩ => ⟨S1x8x128, .f32⟩
  | .local _ .vmem, ⟨27, _⟩ => ⟨S1x1x128, .f32⟩
  | .local _ .vmem, ⟨28, _⟩ => ⟨S1x1x128, .f32⟩
  | .local _ .vmem, ⟨29, _⟩ => ⟨S1x16x64x128, .f32⟩
  | .local _ .vmem, ⟨30, _⟩ => ⟨S1x16x64x128, .f32⟩
  | .local _ .vmem, ⟨31, _⟩ => ⟨S8x1536, .f32⟩
  | .local _ .vmem, ⟨32, _⟩ => ⟨S8x1536, .f32⟩
  | .local _ .vmem, ⟨33, _⟩ => ⟨S136x1536, .f32⟩
  | .local _ .vmem, ⟨34, _⟩ => ⟨S128x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_call0_v0 : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_call1_v0 : Ref sig .tc := ⟨.hbm, 22, rfl⟩
abbrev main_v3 : Ref sig .tc := ⟨.hbm, 23, rfl⟩
abbrev main_v4 : Ref sig .tc := ⟨.hbm, 24, rfl⟩
abbrev main_c_1 : Ref sig .tc := ⟨.hbm, 25, rfl⟩
abbrev main_call2_v0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_c_2 : Ref sig .tc := ⟨.hbm, 32, rfl⟩
abbrev main_call3_v0 : Ref sig .tc := ⟨.hbm, 33, rfl⟩
abbrev main_v10 : Ref sig .tc := ⟨.hbm, 34, rfl⟩
abbrev main_v11 : Ref sig .tc := ⟨.hbm, 35, rfl⟩
abbrev main_c_3 : Ref sig .tc := ⟨.hbm, 36, rfl⟩
abbrev main_call4_v0 : Ref sig .tc := ⟨.hbm, 37, rfl⟩
abbrev main_v12 : Ref sig .tc := ⟨.hbm, 38, rfl⟩
abbrev main_v13 : Ref sig .tc := ⟨.hbm, 39, rfl⟩
abbrev main_v14_0 : Ref sig .tc := ⟨.hbm, 40, rfl⟩
abbrev main_v14_1 : Ref sig .tc := ⟨.hbm, 41, rfl⟩
abbrev main_v14_2 : Ref sig .tc := ⟨.hbm, 42, rfl⟩
abbrev main_v14_3 : Ref sig .tc := ⟨.hbm, 43, rfl⟩
abbrev main_v14_4 : Ref sig .tc := ⟨.hbm, 44, rfl⟩
abbrev main_v14_5 : Ref sig .tc := ⟨.hbm, 45, rfl⟩
abbrev main_v15 : Ref sig .tc := ⟨.hbm, 46, rfl⟩
abbrev main_v16 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_scratch0 : Ref sig .tc := ⟨.vmem, 33, rfl⟩
abbrev cc0_scratch1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨2, ![8, 16], ![false, false]⟩

def k0_mult1 : BitVec 32 :=
  let c0_i32_1 : BitVec 32 := 0#32
  c0_i32_1
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S3x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S128x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x4x128x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x8x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x1x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x16x64x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S8x1536 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]
-- ==== REmIdeal.lean ====
abbrev S16384x512 : Shape := ⟨2, ![16384, 512]⟩
abbrev S16384x1024 : Shape := ⟨2, ![16384, 1024]⟩
abbrev S16384x1536 : Shape := ⟨2, ![16384, 1536]⟩
abbrev S16384x384 : Shape := ⟨2, ![16384, 384]⟩
abbrev S4 : Shape := ⟨1, ![4]⟩
abbrev S1024 : Shape := ⟨1, ![1024]⟩
abbrev S4x1536 : Shape := ⟨2, ![4, 1536]⟩
abbrev S1536 : Shape := ⟨1, ![1536]⟩
abbrev S16 : Shape := ⟨1, ![16]⟩
abbrev S8x2048x1536 : Shape := ⟨3, ![8, 2048, 1536]⟩
abbrev S8x3x1536 : Shape := ⟨3, ![8, 3, 1536]⟩

abbrev nBuf : Space → Nat
  | .hbm => 18
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1536, .f32⟩
  | .hbm, ⟨6, _⟩ => ⟨S16384x384, .f32⟩
  | .hbm, ⟨7, _⟩ => ⟨S4, .f32⟩
  | .hbm, ⟨8, _⟩ => ⟨S4, .f32⟩
  | .hbm, ⟨9, _⟩ => ⟨S1024, .f32⟩
  | .hbm, ⟨10, _⟩ => ⟨S4x1536, .f32⟩
  | .hbm, ⟨11, _⟩ => ⟨S1536, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S1024, .f32⟩
  | .hbm, ⟨16, _⟩ => ⟨S8x2048x1536, .f32⟩
  | .hbm, ⟨17, _⟩ => ⟨S8x3x1536, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩

abbrev nD : Nat := 1
abbrev τ : Topo := Topo.v7x

variable {F : FTy → Type} [FloatOps F]
-- ==== Proof.Ret.Scalar.lean ====
/-
  The retention of the prompt, entry by entry, over the extended reals: one head's decay tables, the rotated queries and
  keys, the state of a head after a number of chunks, the output of a chunk, and the normalised and gated output.  Both
  programs are read in these terms.
-/
module

public import Idealize.ShloMosaic.Lib.Pointwise

@[expose] public section

noncomputable section
open Idealize.ShloMosaic
namespace Cert.Ret

/-- A counting number as the programs write it. -/
def fl (n : ℕ) : EReal := (FloatOps.sitofp FTy.f32 (BitVec.ofNat 32 n) : Ideal .f32)

theorem fl_nonneg (n : ℕ) (h : n < 2 ^ 31) : 0 ≤ fl n := by
  show (0 : EReal) ≤ (((BitVec.ofNat 32 n).toInt : ℝ) : EReal)
  have e : (BitVec.ofNat 32 n).toInt = (n : ℤ) := by
    have h1 : (BitVec.ofNat 32 n).toNat = n := by rw [BitVec.toNat_ofNat]; exact Nat.mod_eq_of_lt (by omega)
    rw [BitVec.toInt_eq_toNat_of_lt (by rw [h1]; omega), h1]
  rw [e]
  exact_mod_cast (Int.natCast_nonneg n)

/-- The logarithm of head `h`'s decay. -/
def lg (h : ℕ) : EReal :=
  Ideal.log1p (-Ideal.exp (Ideal.ofBits FTy.f32 1060205080#32 * (Ideal.ofBits FTy.f32 3231711232#32 - fl h)))

/-- The decay from position `k` of a chunk to position `t` of the same chunk. -/
def intra (h t k : ℕ) : EReal := if 0 ≤ fl t - fl k then Ideal.exp (lg h * max (fl t - fl k) 0) else 0

/-- The decay of the state a chunk begins with, at position `t` of the chunk. -/
def cross (h t : ℕ) : EReal := Ideal.exp (lg h * (fl t + 1))

/-- The decay of position `t` of a chunk up to the chunk's end. -/
def into (h t : ℕ) : EReal := Ideal.exp (lg h * (Ideal.ofBits FTy.f32 1123942400#32 - fl t))

/-- The decay of a whole chunk. -/
def whole (h : ℕ) : EReal := Ideal.exp (lg h * Ideal.ofBits FTy.f32 1124073472#32)

/-- The angle the pair `k` is turned by at position `t`. -/
def angle (t k : ℕ) : EReal :=
  fl t * Ideal.pow (Ideal.ofBits FTy.f32 1176256512#32) (Ideal.div (-fl k) (Ideal.ofBits FTy.f32 1115684864#32))

/-- A head's row turned at position `t`. -/
def rope (x : Fin 128 → EReal) (t : ℕ) (k : Fin 128) : EReal :=
  if h : k.val < 64 then
    x k * Ideal.cos (angle t k.val) - x ⟨64 + k.val, by omega⟩ * Ideal.sin (angle t k.val)
  else
    x ⟨k.val - 64, by omega⟩ * Ideal.sin (angle t (k.val - 64)) + x k * Ideal.cos (angle t (k.val - 64))

/-- The cosines of a whole row, both halves. -/
def cosRow (t k : ℕ) : EReal := if k < 64 then Ideal.cos (angle t k) else Ideal.cos (angle t (k - 64))

/-- The sines of a whole row, those of the first half negated. -/
def sinRow (t k : ℕ) : EReal := if k < 64 then -Ideal.sin (angle t k) else Ideal.sin (angle t (k - 64))

/-- The turned row as a product with the cosines plus the row with its halves exchanged times the signed sines. -/
theorem rope_eq_exchange (x : Fin 128 → EReal) (t : ℕ) (k : Fin 128) (k' : Fin 128) (hk' : k'.val = (k.val + 128 - 64) % 128) :
    x k * cosRow t k.val + x k' * sinRow t k.val = rope x t k := by
  unfold rope cosRow sinRow
  have hk := k.isLt
  split
  · rename_i h
    have e : k' = ⟨64 + k.val, by omega⟩ := Fin.ext (by rw [hk']; show _ = 64 + k.val; omega)
    rw [e, sub_eq_add_neg, mul_neg]
  · rename_i h
    have e : k' = ⟨k.val - 64, by omega⟩ := Fin.ext (by rw [hk']; show _ = k.val - 64; omega)
    rw [e, add_comm]

/-- Position `t` of chunk `n` of sequence `b`, as a row. -/
def row (b n t : ℕ) : Fin 16384 := ⟨(b * 2048 + (n * 128 + t)) % 16384, Nat.mod_lt _ (by decide)⟩

theorem row_eq {b n t r : ℕ} (hr : r < 16384) (e : b * 2048 + (n * 128 + t) = r) : row b n t = ⟨r, hr⟩ :=
  Fin.ext (by show (b * 2048 + (n * 128 + t)) % 16384 = r; omega)

/-- Column `k` of head `h` of the queries and keys. -/
def colK (h : Fin 8) (k : Fin 128) : Fin 1024 := ⟨h.val * 128 + k.val, by omega⟩
/-- Column `d` of head `h` of the values. -/
def colV (h : Fin 8) (d : Fin 256) : Fin 2048 := ⟨h.val * 256 + d.val, by omega⟩

section
variable (q k : Fin 16384 → Fin 1024 → EReal) (v : Fin 16384 → Fin 2048 → EReal)

/-- The turned queries of chunk `n`. -/
def qq (b : ℕ) (h : Fin 8) (n : ℕ) (t : Fin 128) (j : Fin 128) : EReal :=
  rope (fun i => q (row b n t.val) (colK h i)) (n * 128 + t.val) j

/-- The turned and scaled keys of chunk `n`. -/
def kk (b : ℕ) (h : Fin 8) (n : ℕ) (t : Fin 128) (j : Fin 128) : EReal :=
  rope (fun i => k (row b n t.val) (colK h i)) (n * 128 + t.val) j * Ideal.ofBits FTy.f32 1035273459#32

/-- The values of chunk `n`. -/
def vv (b : ℕ) (h : Fin 8) (n : ℕ) (t : Fin 128) (d : Fin 256) : EReal := v (row b n t.val) (colV h d)

/-- Head `h`'s state of sequence `b` after `n` chunks. -/
def state (b : ℕ) (h : Fin 8) : ℕ → Fin 128 → Fin 256 → EReal
  | 0 => fun _ _ => 0
  | n + 1 => fun j d => state b h n j d * whole h.val
      + ∑ x : Fin 128, kk k b h n x j * into h.val x.val * vv v b h n x d

/-- Head `h`'s output at position `t` of chunk `n`. -/
def out (b : ℕ) (h : Fin 8) (n : ℕ) (t : Fin 128) (d : Fin 256) : EReal :=
  (∑ x : Fin 128, (∑ j : Fin 128, qq q b h n t j * kk k b h n x j) * intra h.val t.val x.val * vv v b h n x d)
    + (∑ j : Fin 128, qq q b h n t j * state k v b h n j d) * cross h.val t.val
end

/-- The mean of a head's row of outputs. -/
def mean (o : Fin 256 → EReal) : EReal := Ideal.div (∑ j, o j) (Ideal.ofBits FTy.f32 1132462080#32)

/-- A head's row of outputs normalised, scaled by `w` and gated by `g`, at one column. -/
def normed (o : Fin 256 → EReal) (d : Fin 256) (w g : EReal) : EReal :=
  (o d - mean o)
    * Ideal.rsqrt (Ideal.div (∑ j, (o j - mean o) * (o j - mean o)) (Ideal.ofBits FTy.f32 1132462080#32)
        + Ideal.ofBits FTy.f32 897988541#32)
    * w * (g * Ideal.logistic g)

end Cert.Ret
end
-- ==== Proof.Ret.KerRead.lean ====
/-
  What the kernel's body reads at a grid point: the blocks of the queries, keys, values and gates, and the tables the
  host prepares, each at an index.
-/
module

public import proofs.«01_k».proof.Proof.Gen.KernelIdeal.Frame
public import proofs.«01_k».proof.Proof.Ret.Scalar
public import Idealize.ShloMosaic.Lib.StableHlo.RunRead

@[expose] public section

noncomputable section
open Idealize.ShloMosaic Idealize.ShloMosaic.TcCoe Idealize.SL.Sem Idealize.ShloMosaic.StableHlo
namespace Cert.KernelIdeal.Ret
open Cert.KernelIdeal Cert.KernelIdeal.Gen Cert.Ret
variable (m : (ℓ : Loc nD τ sig) → Buf (Elt Ideal) ℓ) (c : Dev nD)

/-- The queries, keys and values the program is launched with. -/
def argQ (r : Fin 16384) (j : Fin 1024) : EReal := (m ((c : Thread nD τ).loc main_arg0) : Vec Ideal S16384x1024 .f32) (ix2 r j)
def argK (r : Fin 16384) (j : Fin 1024) : EReal := (m ((c : Thread nD τ).loc main_arg1) : Vec Ideal S16384x1024 .f32) (ix2 r j)
def argV (r : Fin 16384) (j : Fin 2048) : EReal := (m ((c : Thread nD τ).loc main_arg2) : Vec Ideal S16384x2048 .f32) (ix2 r j)
def argG (r : Fin 16384) (j : Fin 2048) : EReal := (m ((c : Thread nD τ).loc main_arg3) : Vec Ideal S16384x2048 .f32) (ix2 r j)
def argN (j : Fin 2048) : EReal := (m ((c : Thread nD τ).loc main_arg4) : Vec Ideal S1x2048 .f32) (ix2 0 j)

/-! ## The tables the host prepares -/

set_option maxRecDepth 8192 in
set_option maxHeartbeats 1600000 in
theorem tab_cos (t : Fin 2048) (k : Fin 128) : ((V m c main_v15 : Vec Ideal S2048x128 .f32) (ix2 t k) : EReal) = cosRow t.val k.val := by
  simp only [V, List.flatten_cons, List.flatten_nil, List.append_nil, StableHlo.after_append]
  after_reads_simp
  try simp only [TRef.ofBuf, TRef.toBuf, TRef.of, cast_eq]
  pointwise [id_eq]
  rfl
set_option maxRecDepth 8192 in
set_option maxHeartbeats 1600000 in
theorem tab_sin (t : Fin 2048) (k : Fin 128) : ((V m c main_v17 : Vec Ideal S2048x128 .f32) (ix2 t k) : EReal) = sinRow t.val k.val := by
  simp only [V, List.flatten_cons, List.flatten_nil, List.append_nil, StableHlo.after_append]
  after_reads_simp
  try simp only [TRef.ofBuf, TRef.toBuf, TRef.of, cast_eq]
  pointwise [id_eq]
  rfl
set_option maxRecDepth 8192 in
set_option maxHeartbeats 1600000 in
theorem tab_intra (h : Fin 8) (t k : Fin 128) : ((V m c main_v49 : Vec Ideal S8x128x128 .f32) (ix3 h t k) : EReal) = intra h.val t.val k.val := by
  simp only [V, List.flatten_cons, List.flatten_nil, List.append_nil, StableHlo.after_append]
  after_reads_simp
  try simp only [TRef.ofBuf, TRef.toBuf, TRef.of, cast_eq]
  pointwise [id_eq]
  have hk : (0 : EReal) ≤ FloatOps.sitofp (F := Ideal) FTy.f32 (BitVec.ofNat 32 k.val) := fl_nonneg k.val (by omega)
  simp only [hk]
  unfold intra
  by_cases hp : (0 : EReal) ≤ fl t.val - fl k.val
  · rw [if_pos hp]
    unfold fl at hp
    simp only [hp]
    rfl
  · rw [if_neg hp]
    unfold fl at hp
    simp only [hp]
    rfl
set_option maxRecDepth 8192 in
set_option maxHeartbeats 1600000 in
theorem tab_cross (t : Fin 128) (h : Fin 8) : ((V m c main_v74 : Vec Ideal S128x128 .f32) (ix2 t ⟨h.val, by omega⟩) : EReal) = cross h.val t.val := by
  simp only [V, List.flatten_cons, List.flatten_nil, List.append_nil, StableHlo.after_append]
  after_reads_simp
  try simp only [TRef.ofBuf, TRef.toBuf, TRef.of, cast_eq]
  pointwise [id_eq]
  exact if_pos (fl_nonneg t.val (by omega))
set_option maxRecDepth 8192 in
set_option maxHeartbeats 1600000 in
theorem tab_into (t : Fin 128) (h : Fin 8) : ((V m c main_v75 : Vec Ideal S128x128 .f32) (ix2 t ⟨h.val, by omega⟩) : EReal) = into h.val t.val := by
  simp only [V, List.flatten_cons, List.flatten_nil, List.append_nil, StableHlo.after_append]
  after_reads_simp
  try simp only [TRef.ofBuf, TRef.toBuf, TRef.of, cast_eq]
  pointwise [id_eq]
  exact if_pos (fl_nonneg t.val (by omega))
set_option maxRecDepth 8192 in
set_option maxHeartbeats 1600000 in
theorem tab_whole (h : Fin 8) : ((V m c main_v76 : Vec Ideal S1x128 .f32) (ix2 0 ⟨h.val, by omega⟩) : EReal) = whole h.val := by
  simp only [V, List.flatten_cons, List.flatten_nil, List.append_nil, StableHlo.after_append]
  after_reads_simp
  try simp only [TRef.ofBuf, TRef.toBuf, TRef.of, cast_eq]
  pointwise [id_eq]
  rfl
set_option maxRecDepth 8192 in
set_option maxHeartbeats 1600000 in
theorem tab_norm (j : Fin 2048) : ((V m c main_v78 : Vec Ideal S1x2048 .f32) (ix2 0 j) : EReal) = argN m c j := by
  simp only [V, List.flatten_cons, List.flatten_nil, List.append_nil, StableHlo.after_append]
  after_reads_simp
  try simp only [TRef.ofBuf, TRef.toBuf, TRef.of, cast_eq]
  pointwise [id_eq]
  rfl

/-! ## The blocks of a grid point -/

theorem N128 : cfg0.N = 128 := N_0
theorem index0_0 : ∀ t : Fin grid0.N, win0_0.index t 0 = t.val ∧ win0_0.index t 1 = 0 := by decide +kernel
theorem block0 (t : Fin cfg0.N) (r : Fin 128) (j : Fin 1024) :
    ((iblk m c 0 t : Vec Ideal S128x1024 .f32) (ix2 r j) : EReal) = argQ m c ⟨t.val * 128 + r.val, by have h1 := t.isLt; have h2 : cfg0.N = 128 := N128; omega⟩ j := by
  have hi := index0_0 t
  unfold iblk
  rw [View.read_apply]
  show (V m c main_arg0 : Vec Ideal S16384x1024 .f32) _ = _
  rw [V_main_arg0]
  unfold argQ
  congr 1
  funext a
  apply Fin.ext
  match a with
  | ⟨0, _⟩ => show win0_0.index t 0 * 128 + 1 * r.val = t.val * 128 + r.val; rw [hi.1]; omega
  | ⟨1, _⟩ => show win0_0.index t 1 * 1024 + 1 * j.val = j.val; rw [hi.2]; omega
theorem index0_1 : ∀ t : Fin grid0.N, win0_1.index t 0 = t.val ∧ win0_1.index t 1 = 0 := by decide +kernel
theorem block1 (t : Fin cfg0.N) (r : Fin 128) (j : Fin 1024) :
    ((iblk m c 1 t : Vec Ideal S128x1024 .f32) (ix2 r j) : EReal) = argK m c ⟨t.val * 128 + r.val, by have h1 := t.isLt; have h2 : cfg0.N = 128 := N128; omega⟩ j := by
  have hi := index0_1 t
  unfold iblk
  rw [View.read_apply]
  show (V m c main_arg1 : Vec Ideal S16384x1024 .f32) _ = _
  rw [V_main_arg1]
  unfold argK
  congr 1
  funext a
  apply Fin.ext
  match a with
  | ⟨0, _⟩ => show win0_1.index t 0 * 128 + 1 * r.val = t.val * 128 + r.val; rw [hi.1]; omega
  | ⟨1, _⟩ => show win0_1.index t 1 * 1024 + 1 * j.val = j.val; rw [hi.2]; omega
theorem index0_2 : ∀ t : Fin grid0.N, win0_2.index t 0 = t.val ∧ win0_2.index t 1 = 0 := by decide +kernel
theorem block2 (t : Fin cfg0.N) (r : Fin 128) (j : Fin 2048) :
    ((iblk m c 2 t : Vec Ideal S128x2048 .f32) (ix2 r j) : EReal) = argV m c ⟨t.val * 128 + r.val, by have h1 := t.isLt; have h2 : cfg0.N = 128 := N128; omega⟩ j := by
  have hi := index0_2 t
  unfold iblk
  rw [View.read_apply]
  show (V m c main_arg2 : Vec Ideal S16384x2048 .f32) _ = _
  rw [V_main_arg2]
  unfold argV
  congr 1
  funext a
  apply Fin.ext
  match a with
  | ⟨0, _⟩ => show win0_2.index t 0 * 128 + 1 * r.val = t.val * 128 + r.val; rw [hi.1]; omega
  | ⟨1, _⟩ => show win0_2.index t 1 * 2048 + 1 * j.val = j.val; rw [hi.2]; omega
theorem index0_3 : ∀ t : Fin grid0.N, win0_3.index t 0 = t.val ∧ win0_3.index t 1 = 0 := by decide +kernel
theorem block3 (t : Fin cfg0.N) (r : Fin 128) (j : Fin 2048) :
    ((iblk m c 3 t : Vec Ideal S128x2048 .f32) (ix2 r j) : EReal) = argG m c ⟨t.val * 128 + r.val, by have h1 := t.isLt; have h2 : cfg0.N = 128 := N128; omega⟩ j := by
  have hi := index0_3 t
  unfold iblk
  rw [View.read_apply]
  show (V m c main_arg3 : Vec Ideal S16384x2048 .f32) _ = _
  rw [V_main_arg3]
  unfold argG
  congr 1
  funext a
  apply Fin.ext
  match a with
  | ⟨0, _⟩ => show win0_3.index t 0 * 128 + 1 * r.val = t.val * 128 + r.val; rw [hi.1]; omega
  | ⟨1, _⟩ => show win0_3.index t 1 * 2048 + 1 * j.val = j.val; rw [hi.2]; omega
theorem index0_4 : ∀ t : Fin grid0.N, win0_4.index t 0 = t.val % 16 ∧ win0_4.index t 1 = 0 := by decide +kernel
theorem block4 (t : Fin cfg0.N) (r : Fin 128) (j : Fin 128) :
    ((iblk m c 4 t : Vec Ideal S128x128 .f32) (ix2 r j) : EReal) = cosRow (t.val % 16 * 128 + r.val) j.val := by
  have hi := index0_4 t
  unfold iblk
  rw [View.read_apply]
  show (V m c main_v15 : Vec Ideal S2048x128 .f32) _ = _
  refine Eq.trans ?_ (tab_cos m c ⟨t.val % 16 * 128 + r.val, by omega⟩ j)
  congr 1
  funext a
  apply Fin.ext
  match a with
  | ⟨0, _⟩ => show win0_4.index t 0 * 128 + 1 * r.val = t.val % 16 * 128 + r.val; rw [hi.1]; omega
  | ⟨1, _⟩ => show win0_4.index t 1 * 128 + 1 * j.val = j.val; rw [hi.2]; omega
theorem index0_5 : ∀ t : Fin grid0.N, win0_5.index t 0 = t.val % 16 ∧ win0_5.index t 1 = 0 := by decide +kernel
theorem block5 (t : Fin cfg0.N) (r : Fin 128) (j : Fin 128) :
    ((iblk m c 5 t : Vec Ideal S128x128 .f32) (ix2 r j) : EReal) = sinRow (t.val % 16 * 128 + r.val) j.val := by
  have hi := index0_5 t
  unfold iblk
  rw [View.read_apply]
  show (V m c main_v17 : Vec Ideal S2048x128 .f32) _ = _
  refine Eq.trans ?_ (tab_sin m c ⟨t.val % 16 * 128 + r.val, by omega⟩ j)
  congr 1
  funext a
  apply Fin.ext
  match a with
  | ⟨0, _⟩ => show win0_5.index t 0 * 128 + 1 * r.val = t.val % 16 * 128 + r.val; rw [hi.1]; omega
  | ⟨1, _⟩ => show win0_5.index t 1 * 128 + 1 * j.val = j.val; rw [hi.2]; omega
theorem index0_6 : ∀ t : Fin grid0.N, win0_6.index t 0 = 0 ∧ win0_6.index t 1 = 0 ∧ win0_6.index t 2 = 0 := by decide +kernel
theorem block6 (t : Fin cfg0.N) (a : Fin 8) (b : Fin 128) (d : Fin 128) :
    (iblk m c 6 t : Vec Ideal S8x128x128 .f32) (ix3 a b d) = (V m c main_v49 : Vec Ideal S8x128x128 .f32) (ix3 a b d) := by
  have hi := index0_6 t
  unfold iblk
  rw [View.read_apply]
  show (V m c main_v49 : Vec Ideal S8x128x128 .f32) _ = _
  congr 1
  funext x
  apply Fin.ext
  match x with
  | ⟨0, _⟩ => show win0_6.index t 0 * 8 + 1 * a.val = a.val; rw [hi.1]; omega
  | ⟨1, _⟩ => show win0_6.index t 1 * 128 + 1 * b.val = b.val; rw [hi.2.1]; omega
  | ⟨2, _⟩ => show win0_6.index t 2 * 128 + 1 * d.val = d.val; rw [hi.2.2]; omega
theorem index0_7 : ∀ t : Fin grid0.N, win0_7.index t 0 = 0 ∧ win0_7.index t 1 = 0 := by decide +kernel
theorem block7 (t : Fin cfg0.N) (a : Fin 128) (b : Fin 128) :
    (iblk m c 7 t : Vec Ideal S128x128 .f32) (ix2 a b) = (V m c main_v74 : Vec Ideal S128x128 .f32) (ix2 a b) := by
  have hi := index0_7 t
  unfold iblk
  rw [View.read_apply]
  show (V m c main_v74 : Vec Ideal S128x128 .f32) _ = _
  congr 1
  funext x
  apply Fin.ext
  match x with
  | ⟨0, _⟩ => show win0_7.index t 0 * 128 + 1 * a.val = a.val; rw [hi.1]; omega
  | ⟨1, _⟩ => show win0_7.index t 1 * 128 + 1 * b.val = b.val; rw [hi.2]; omega
theorem index0_8 : ∀ t : Fin grid0.N, win0_8.index t 0 = 0 ∧ win0_8.index t 1 = 0 := by decide +kernel
theorem block8 (t : Fin cfg0.N) (a : Fin 128) (b : Fin 128) :
    (iblk m c 8 t : Vec Ideal S128x128 .f32) (ix2 a b) = (V m c main_v75 : Vec Ideal S128x128 .f32) (ix2 a b) := by
  have hi := index0_8 t
  unfold iblk
  rw [View.read_apply]
  show (V m c main_v75 : Vec Ideal S128x128 .f32) _ = _
  congr 1
  funext x
  apply Fin.ext
  match x with
  | ⟨0, _⟩ => show win0_8.index t 0 * 128 + 1 * a.val = a.val; rw [hi.1]; omega
  | ⟨1, _⟩ => show win0_8.index t 1 * 128 + 1 * b.val = b.val; rw [hi.2]; omega
theorem index0_9 : ∀ t : Fin grid0.N, win0_9.index t 0 = 0 ∧ win0_9.index t 1 = 0 := by decide +kernel
theorem block9 (t : Fin cfg0.N) (a : Fin 1) (b : Fin 128) :
    (iblk m c 9 t : Vec Ideal S1x128 .f32) (ix2 a b) = (V m c main_v76 : Vec Ideal S1x128 .f32) (ix2 a b) := by
  have hi := index0_9 t
  unfold iblk
  rw [View.read_apply]
  show (V m c main_v76 : Vec Ideal S1x128 .f32) _ = _
  congr 1
  funext x
  apply Fin.ext
  match x with
  | ⟨0, _⟩ => show win0_9.index t 0 * 1 + 1 * a.val = a.val; rw [hi.1]; omega
  | ⟨1, _⟩ => show win0_9.index t 1 * 128 + 1 * b.val = b.val; rw [hi.2]; omega
theorem index0_10 : ∀ t : Fin grid0.N, win0_10.index t 0 = 0 ∧ win0_10.index t 1 = 0 := by decide +kernel
theorem block10 (t : Fin cfg0.N) (a : Fin 1) (b : Fin 2048) :
    (iblk m c 10 t : Vec Ideal S1x2048 .f32) (ix2 a b) = (V m c main_v78 : Vec Ideal S1x2048 .f32) (ix2 a b) := by
  have hi := index0_10 t
  unfold iblk
  rw [View.read_apply]
  show (V m c main_v78 : Vec Ideal S1x2048 .f32) _ = _
  congr 1
  funext x
  apply Fin.ext
  match x with
  | ⟨0, _⟩ => show win0_10.index t 0 * 1 + 1 * a.val = a.val; rw [hi.1]; omega
  | ⟨1, _⟩ => show win0_10.index t 1 * 2048 + 1 * b.val = b.val; rw [hi.2]; omega

end Cert.KernelIdeal.Ret
end
-- ==== Proof.Ret.Head.lean ====
/- One grid point of the retention kernel, head by head: the kernel's body treats its eight heads alike, so what it
   writes for head `h` is one function of the blocks it reads, taken at the head's columns. -/
module

public import proofs.«01_k».proof.Proof.Gen.KernelIdeal.Frame
public import Idealize.ShloMosaic.Lib.Pipeline.Value
public import Idealize.ShloMosaic.Lib.Pipeline.ReadBack

@[expose] public section

noncomputable section

open Idealize.ShloMosaic Idealize.ShloMosaic.TcCoe Idealize.SL.Sem

namespace Cert.KernelIdeal.Ret

open Cert.KernelIdeal Cert.KernelIdeal.Gen

variable {F : FTy → Type} [FloatOps F]

/-- Queries or keys of one head, rotated by the position tables. -/
def rot (x : Vec F S128x128 .f32) (c s : FVec F S128x128 .f32) : FVec F S128x128 .f32 :=
  addf (mulf x c) (mulf (dynamicRotate 1 64#32 none x rotates_S128x128_d1) s)

/-- The rotated keys, scaled. -/
def rotK (x : Vec F S128x128 .f32) (c s : FVec F S128x128 .f32) : FVec F S128x128 .f32 :=
  mulf (rot x c s) (broadcast S128x128 (Scalar.ofBits .f32 0x3DB504F3#32))

/-- One head's retention over a chunk: the decayed scores within it, and the state of the chunks before it. -/
def headO (c s : FVec F S128x128 .f32) (q k : Vec F S128x128 .f32) (v : Vec F S128x256 .f32) (intra : Vec F S1x128x128 .f32)
    (cross : FVec F S128x1 .f32) (S : Vec F S1x1x128x256 .f32) : FVec F S128x256 .f32 :=
  addf
    (matmul dot_S128x128_S128x256_S128x256_1_0_0_1_n_n none
      (truncf .bf16 (mulf (matmul dot_S128x128_S128x128_S128x128_1_1_0_0_n_n none (truncf .bf16 (rot q c s) bitsLt_bf16_f32)
          (truncf .bf16 (rotK k c s) bitsLt_bf16_f32) (constant S128x128 .f32 0x00000000#32))
        (shapeCast S128x128 intra shapeCasts_S1x128x128_S128x128)) bitsLt_bf16_f32)
      (truncf .bf16 v bitsLt_bf16_f32) (constant S128x256 .f32 0x00000000#32))
    (mulf
      (matmul dot_S128x128_S128x256_S128x256_1_0_0_1_n_n none (truncf .bf16 (rot q c s) bitsLt_bf16_f32)
        (truncf .bf16 (shapeCast S128x256 S shapeCasts_S1x1x128x256_S128x256) bitsLt_bf16_f32) (constant S128x256 .f32 0x00000000#32))
      (broadcastTo S128x256 cross broadcasts_S128x1_S128x256))

/-- The mean of each row. -/
def rowMean (o : FVec F S128x256 .f32) : FVec F S128x1 .f32 :=
  divf (shapeCast S128x1 (multiReduction .add [1] S128 o 0x00000000#32 reduces_S128x256_S128 (.inl rfl) rfl) shapeCasts_S128_S128x1)
    (broadcast S128x1 (Scalar.ofBits .f32 0x43800000#32))

/-- Each row less its mean. -/
def centred (o : FVec F S128x256 .f32) : FVec F S128x256 .f32 :=
  subf o (broadcastTo S128x256 (rowMean o) broadcasts_S128x1_S128x256)

/-- A head's output: its retention normalised by row, scaled, and gated. -/
def headY (o : FVec F S128x256 .f32) (norm : Vec F S1x256 .f32) (g : Vec F S128x256 .f32) : FVec F S128x256 .f32 :=
  mulf
    (mulf
      (mulf (centred o) (broadcastTo S128x256 (rsqrt (addf (rowMean (mulf (centred o) (centred o)))
        (broadcast S128x1 (Scalar.ofBits .f32 0x358637BD#32)))) broadcasts_S128x1_S128x256))
      (broadcastTo S128x256 (shapeCast S1x256 norm shapeCasts_S1x256_S1x256) broadcasts_S1x256_S128x256))
    (mulf g (logistic g))

/-- A head's state after the chunk. -/
def headS (c s : FVec F S128x128 .f32) (k : Vec F S128x128 .f32) (v : Vec F S128x256 .f32) (into : FVec F S128x1 .f32)
    (dec : FVec F S1x1 .f32) (S : Vec F S1x1x128x256 .f32) : FVec F S1x1x128x256 .f32 :=
  shapeCast S1x1x128x256
    (addf (mulf (shapeCast S128x256 S shapeCasts_S1x1x128x256_S128x256) (broadcastTo S128x256 dec broadcasts_S1x1_S128x256))
      (matmul dot_S128x128_S128x256_S128x256_0_0_1_1_n_n none
        (truncf .bf16 (mulf (rotK k c s) (broadcastTo S128x128 into broadcasts_S128x1_S128x128)) bitsLt_bf16_f32)
        (truncf .bf16 v bitsLt_bf16_f32) (constant S128x256 .f32 0x00000000#32)))
    shapeCasts_S128x256_S1x1x128x256

/-! ## The blocks at a head's columns -/

theorem slQ {h : ℕ} (hh : h < 8) (a) : (![0, 128 * h] : Fin 2 → ℕ) a + S128x128.size a ≤ S128x1024.size a := by
  match a with
  | ⟨0, _⟩ => show 0 + 128 ≤ 128; omega
  | ⟨1, _⟩ => show 128 * h + 128 ≤ 1024; omega

theorem slV {h : ℕ} (hh : h < 8) (a) : (![0, 256 * h] : Fin 2 → ℕ) a + S128x256.size a ≤ S128x2048.size a := by
  match a with
  | ⟨0, _⟩ => show 0 + 128 ≤ 128; omega
  | ⟨1, _⟩ => show 256 * h + 256 ≤ 2048; omega

theorem slN {h : ℕ} (hh : h < 8) (a) : (![0, 256 * h] : Fin 2 → ℕ) a + S1x256.size a ≤ S1x2048.size a := by
  match a with
  | ⟨0, _⟩ => show 0 + 1 ≤ 1; omega
  | ⟨1, _⟩ => show 256 * h + 256 ≤ 2048; omega

theorem slI {h : ℕ} (hh : h < 8) (a) : (![h, 0, 0] : Fin 3 → ℕ) a + S1x128x128.size a ≤ S8x128x128.size a := by
  match a with
  | ⟨0, _⟩ => show h + 1 ≤ 8; omega
  | ⟨1, _⟩ => show 0 + 128 ≤ 128; omega
  | ⟨2, _⟩ => show 0 + 128 ≤ 128; omega

theorem slS {h : ℕ} (hh : h < 8) (a) : (![0, h, 0, 0] : Fin 4 → ℕ) a + S1x1x128x256.size a ≤ S1x8x128x256.size a := by
  match a with
  | ⟨0, _⟩ => show 0 + 1 ≤ 1; omega
  | ⟨1, _⟩ => show h + 1 ≤ 8; omega
  | ⟨2, _⟩ => show 0 + 128 ≤ 128; omega
  | ⟨3, _⟩ => show 0 + 256 ≤ 256; omega

theorem slC {h : ℕ} (hh : h < 8) : S128x128.Slices ![0, h] S128x1 :=
  ⟨rfl, fun a => by
    match a with
    | ⟨0, _⟩ => show 0 + 128 ≤ 128; omega
    | ⟨1, _⟩ => show h + 1 ≤ 128; omega⟩

theorem slD {h : ℕ} (hh : h < 8) : S1x128.Slices ![0, h] S1x1 :=
  ⟨rfl, fun a => by
    match a with
    | ⟨0, _⟩ => show 0 + 1 ≤ 1; omega
    | ⟨1, _⟩ => show h + 1 ≤ 128; omega⟩

section
variable (x0 x1 : Vec F S128x1024 .f32) (x2 x3 : Vec F S128x2048 .f32) (x4 x5 : Vec F S128x128 .f32) (x6 : Vec F S8x128x128 .f32)
  (x7 x8 : Vec F S128x128 .f32) (x9 : Vec F S1x128 .f32) (x10 : Vec F S1x2048 .f32) (xs : Vec F S1x8x128x256 .f32)

/-- A table block as the body reads it: the load of the whole block. -/
def whole128 (x : Vec F S128x128 .f32) : FVec F S128x128 .f32 :=
  shapeCast S128x128 (View.ld x (Rect.unit ![0, 0] S128x128.size inb_S128x128_S128x128_0_0)) shapeCasts_S128x128_S128x128

/-- The chunk decays as the body reads them. -/
def wholeD (x : Vec F S1x128 .f32) : FVec F S1x128 .f32 :=
  shapeCast S1x128 (View.ld x (Rect.unit ![0, 0] S1x128.size inb_S1x128_S1x128_0_0)) shapeCasts_S1x128_S1x128

/-- Head `h`'s retention over the blocks. -/
def oAt (h : ℕ) (hh : h < 8) : FVec F S128x256 .f32 :=
  headO (whole128 x4) (whole128 x5) (View.ld x0 (Rect.unit ![0, 128 * h] S128x128.size (slQ hh)))
    (View.ld x1 (Rect.unit ![0, 128 * h] S128x128.size (slQ hh))) (View.ld x2 (Rect.unit ![0, 256 * h] S128x256.size (slV hh)))
    (View.ld x6 (Rect.unit ![h, 0, 0] S1x128x128.size (slI hh)))
    (extractStridedSlice S128x1 ![0, h] (whole128 x7) (slC hh)) (View.ld xs (Rect.unit ![0, h, 0, 0] S1x1x128x256.size (slS hh)))

/-- Head `h`'s output over the blocks. -/
def yAt (h : ℕ) (hh : h < 8) : FVec F S128x256 .f32 :=
  headY (oAt x0 x1 x2 x4 x5 x6 x7 xs h hh) (View.ld x10 (Rect.unit ![0, 256 * h] S1x256.size (slN hh)))
    (View.ld x3 (Rect.unit ![0, 256 * h] S128x256.size (slV hh)))

/-- Head `h`'s state after the chunk, over the blocks. -/
def sAt (h : ℕ) (hh : h < 8) : FVec F S1x1x128x256 .f32 :=
  headS (whole128 x4) (whole128 x5) (View.ld x1 (Rect.unit ![0, 128 * h] S128x128.size (slQ hh)))
    (View.ld x2 (Rect.unit ![0, 256 * h] S128x256.size (slV hh))) (extractStridedSlice S128x1 ![0, h] (whole128 x8) (slC hh))
    (extractStridedSlice S1x1 ![0, h] (wholeD x9) (slD hh)) (View.ld xs (Rect.unit ![0, h, 0, 0] S1x1x128x256.size (slS hh)))

/-- The block of outputs: at column `256 h + d`, head `h`'s. -/
def Y : Vec F S128x2048 .f32 := fun i =>
  yAt x0 x1 x2 x3 x4 x5 x6 x7 x10 xs ((i 1).val / 256)
    (by have h : (i 1).val < 2048 := (i 1).isLt; omega)
    (fun a => match a with
      | ⟨0, _⟩ => (⟨(i 0).val, (i 0).isLt⟩ : Fin 128)
      | ⟨1, _⟩ => (⟨(i 1).val % 256, Nat.mod_lt _ (by decide)⟩ : Fin 256))

/-- The block of states. -/
def ST : Vec F S1x8x128x256 .f32 := fun i =>
  sAt x1 x2 x4 x5 x8 x9 xs (i 1).val (i 1).isLt
    (fun a => match a with
      | ⟨0, _⟩ => (⟨0, by decide⟩ : Fin 1)
      | ⟨1, _⟩ => (⟨0, by decide⟩ : Fin 1)
      | ⟨2, _⟩ => (⟨(i 2).val, (i 2).isLt⟩ : Fin 128)
      | ⟨3, _⟩ => (⟨(i 3).val, (i 3).isLt⟩ : Fin 256))

theorem pieceY (h : ℕ) (hh : h < 8) (x : S128x256.Idx) : yAt x0 x1 x2 x3 x4 x5 x6 x7 x10 xs h hh x
    = Y x0 x1 x2 x3 x4 x5 x6 x7 x10 xs ((Rect.unit (s := S128x2048) ![0, 256 * h] S128x256.size (slV hh)).emb x) := by
  have e1 : (((Rect.unit (s := S128x2048) ![0, 256 * h] S128x256.size (slV hh)).emb x) 1).val = 256 * h + 1 * (x 1).val := rfl
  have e0 : (((Rect.unit (s := S128x2048) ![0, 256 * h] S128x256.size (slV hh)).emb x) 0).val = 0 + 1 * (x 0).val := rfl
  have hx : (x 1).val < 256 := (x 1).isLt
  unfold Y
  generalize ((Rect.unit (s := S128x2048) ![0, 256 * h] S128x256.size (slV hh)).emb x) = i at e1 e0 ⊢
  obtain rfl : h = (i 1).val / 256 := by omega
  congr 1
  funext a
  apply Fin.ext
  match a with
  | ⟨0, _⟩ => show (x 0).val = (i 0).val; omega
  | ⟨1, _⟩ => show (x 1).val = (i 1).val % 256; omega

theorem pieceS (h : ℕ) (hh : h < 8) (x : S1x1x128x256.Idx) : sAt x1 x2 x4 x5 x8 x9 xs h hh x
    = ST x1 x2 x4 x5 x8 x9 xs ((Rect.unit (s := S1x8x128x256) ![0, h, 0, 0] S1x1x128x256.size (slS hh)).emb x) := by
  have e1 : (((Rect.unit (s := S1x8x128x256) ![0, h, 0, 0] S1x1x128x256.size (slS hh)).emb x) 1).val = h + 1 * (x 1).val := rfl
  have e2 : (((Rect.unit (s := S1x8x128x256) ![0, h, 0, 0] S1x1x128x256.size (slS hh)).emb x) 2).val = 0 + 1 * (x 2).val := rfl
  have e3 : (((Rect.unit (s := S1x8x128x256) ![0, h, 0, 0] S1x1x128x256.size (slS hh)).emb x) 3).val = 0 + 1 * (x 3).val := rfl
  have hx : (x 1).val < 1 := (x 1).isLt
  have hx0 : (x 0).val < 1 := (x 0).isLt
  unfold ST
  generalize ((Rect.unit (s := S1x8x128x256) ![0, h, 0, 0] S1x1x128x256.size (slS hh)).emb x) = i at e1 e2 e3 ⊢
  obtain rfl : h = (i 1).val := by omega
  congr 1
  funext a
  apply Fin.ext
  match a with
  | ⟨0, _⟩ => show (x 0).val = 0; omega
  | ⟨1, _⟩ => show (x 1).val = 0; omega
  | ⟨2, _⟩ => show (x 2).val = (i 2).val; omega
  | ⟨3, _⟩ => show (x 3).val = (i 3).val; omega

end

/-! ## What the body leaves -/

/-- At a row's first point the state is zeroed first, and head `h` reads its own rows of it before any head has written them. -/
theorem readA (c : Dev nD) (arg3 : Memref sig .tc .vmem S128x1024 .f32) (harg3 : arg3.IsWhole) (arg4 : Memref sig .tc .vmem S128x2048 .f32) (harg4 : arg4.IsWhole) (arg6 : Memref sig .tc .vmem S128x128 .f32) (harg6 : arg6.IsWhole) (arg7 : Memref sig .tc .vmem S128x128 .f32) (harg7 : arg7.IsWhole) (arg10 : Memref sig .tc .vmem S128x128 .f32) (harg10 : arg10.IsWhole) (arg11 : Memref sig .tc .vmem S1x128 .f32) (harg11 : arg11.IsWhole) (arg14 : Memref sig .tc .vmem S1x8x128x256 .f32)
    (x1 : Vec F S128x1024 .f32) (x2 : Vec F S128x2048 .f32) (x4 x5 x8 : Vec F S128x128 .f32) (x9 : Vec F S1x128 .f32) :
    kernelRun0_A.sl.v37 (F := F) c arg14 = View.ld (k0_pay2 (F := F)) (Rect.unit (s := S1x8x128x256) ![0, 0, 0, 0] S1x1x128x256.size (slS (by decide))) ∧
    kernelRun0_A.sl.v109 (F := F) c arg3 harg3 arg4 harg4 arg6 harg6 arg7 harg7 arg10 harg10 arg11 harg11 arg14 x1 x2 x4 x5 x8 x9 = View.ld (k0_pay2 (F := F)) (Rect.unit (s := S1x8x128x256) ![0, 1, 0, 0] S1x1x128x256.size (slS (by decide))) ∧
    kernelRun0_A.sl.v181 (F := F) c arg3 harg3 arg4 harg4 arg6 harg6 arg7 harg7 arg10 harg10 arg11 harg11 arg14 x1 x2 x4 x5 x8 x9 = View.ld (k0_pay2 (F := F)) (Rect.unit (s := S1x8x128x256) ![0, 2, 0, 0] S1x1x128x256.size (slS (by decide))) ∧
    kernelRun0_A.sl.v253 (F := F) c arg3 harg3 arg4 harg4 arg6 harg6 arg7 harg7 arg10 harg10 arg11 harg11 arg14 x1 x2 x4 x5 x8 x9 = View.ld (k0_pay2 (F := F)) (Rect.unit (s := S1x8x128x256) ![0, 3, 0, 0] S1x1x128x256.size (slS (by decide))) ∧
    kernelRun0_A.sl.v325 (F := F) c arg3 harg3 arg4 harg4 arg6 harg6 arg7 harg7 arg10 harg10 arg11 harg11 arg14 x1 x2 x4 x5 x8 x9 = View.ld (k0_pay2 (F := F)) (Rect.unit (s := S1x8x128x256) ![0, 4, 0, 0] S1x1x128x256.size (slS (by decide))) ∧
    kernelRun0_A.sl.v397 (F := F) c arg3 harg3 arg4 harg4 arg6 harg6 arg7 harg7 arg10 harg10 arg11 harg11 arg14 x1 x2 x4 x5 x8 x9 = View.ld (k0_pay2 (F := F)) (Rect.unit (s := S1x8x128x256) ![0, 5, 0, 0] S1x1x128x256.size (slS (by decide))) ∧
    kernelRun0_A.sl.v469 (F := F) c arg3 harg3 arg4 harg4 arg6 harg6 arg7 harg7 arg10 harg10 arg11 harg11 arg14 x1 x2 x4 x5 x8 x9 = View.ld (k0_pay2 (F := F)) (Rect.unit (s := S1x8x128x256) ![0, 6, 0, 0] S1x1x128x256.size (slS (by decide))) ∧
    kernelRun0_A.sl.v541 (F := F) c arg3 harg3 arg4 harg4 arg6 harg6 arg7 harg7 arg10 harg10 arg11 harg11 arg14 x1 x2 x4 x5 x8 x9 = View.ld (k0_pay2 (F := F)) (Rect.unit (s := S1x8x128x256) ![0, 7, 0, 0] S1x1x128x256.size (slS (by decide))) := by
  unfold kernelRun0_A.sl.v37 kernelRun0_A.sl.v109 kernelRun0_A.sl.v181 kernelRun0_A.sl.v253 kernelRun0_A.sl.v325 kernelRun0_A.sl.v397 kernelRun0_A.sl.v469 kernelRun0_A.sl.v541
  simp (disch := decide) only [↓View.readCov_skip, ↓View.readCov_fill, kernelRun0_A.sl.H12_1, kernelRun0_A.sl.H12_2, kernelRun0_A.sl.H12_3, kernelRun0_A.sl.H12_4, kernelRun0_A.sl.H12_5, kernelRun0_A.sl.H12_6, kernelRun0_A.sl.H12_7, kernelRun0_A.sl.H12_8, and_self]

theorem out0_A_11_eq (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S8x128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x2048 .f32) (harg12 : arg12.IsWhole) (arg13 : Memref sig .tc .vmem S128x2048 .f32) (harg13 : arg13.IsWhole) (arg14 : Memref sig .tc .vmem S1x8x128x256 .f32) (harg14 : arg14.IsWhole) (hc0 : cond0_0 i)
    (x0 : Vec F S128x1024 .f32) (x1 : Vec F S128x1024 .f32) (x2 : Vec F S128x2048 .f32) (x3 : Vec F S128x2048 .f32) (x4 : Vec F S128x128 .f32) (x5 : Vec F S128x128 .f32) (x6 : Vec F S8x128x128 .f32) (x7 : Vec F S128x128 .f32) (x8 : Vec F S128x128 .f32) (x9 : Vec F S1x128 .f32) (x10 : Vec F S1x2048 .f32) :
    out0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 = Y x0 x1 x2 x3 x4 x5 x6 x7 x10 k0_pay2 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10)]
  funext y
  refine View.canon_apply_of_pieces _ _ (View.PiecesOf.mem ?_) y (cover0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 y)
  unfold kernelRun0_A
  dsimp only
  obtain ⟨hv0, hv1, hv2, hv3, hv4, hv5, hv6, hv7⟩ := readA c arg3 harg3 arg4 harg4 arg6 harg6 arg7 harg7 arg10 harg10 arg11 harg11 arg14 x1 x2 x4 x5 x8 x9
  simp only [kernelRun0_A.sl.H12_1, kernelRun0_A.sl.H12_2, kernelRun0_A.sl.H12_3, kernelRun0_A.sl.H12_4, kernelRun0_A.sl.H12_5, kernelRun0_A.sl.H12_6, kernelRun0_A.sl.H12_7, kernelRun0_A.sl.H12_8, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_4, kernelRun0_A.sl.r_40, kernelRun0_A.sl.r_5, kernelRun0_A.sl.r_6, kernelRun0_A.sl.r_7, kernelRun0_A.sl.r_8, kernelRun0_A.sl.r_9, kernelRun0_A.sl.v0, kernelRun0_A.sl.v1, kernelRun0_A.sl.v2, hv0, hv1, hv2, hv3, hv4, hv5, hv6, hv7, View.readAt_eq_ld, harg2.read_unread, harg3.read_unread, harg4.read_unread, harg5.read_unread, harg6.read_unread, harg7.read_unread, harg8.read_unread, harg9.read_unread, harg10.read_unread, harg11.read_unread, harg12.read_unread,]
  exact ⟨pieceY x0 x1 x2 x3 x4 x5 x6 x7 x10 k0_pay2 7 (by decide), pieceY x0 x1 x2 x3 x4 x5 x6 x7 x10 k0_pay2 6 (by decide), pieceY x0 x1 x2 x3 x4 x5 x6 x7 x10 k0_pay2 5 (by decide), pieceY x0 x1 x2 x3 x4 x5 x6 x7 x10 k0_pay2 4 (by decide), pieceY x0 x1 x2 x3 x4 x5 x6 x7 x10 k0_pay2 3 (by decide), pieceY x0 x1 x2 x3 x4 x5 x6 x7 x10 k0_pay2 2 (by decide), pieceY x0 x1 x2 x3 x4 x5 x6 x7 x10 k0_pay2 1 (by decide), pieceY x0 x1 x2 x3 x4 x5 x6 x7 x10 k0_pay2 0 (by decide), trivial⟩

theorem out0_A_12_eq (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S8x128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x2048 .f32) (harg12 : arg12.IsWhole) (arg13 : Memref sig .tc .vmem S128x2048 .f32) (harg13 : arg13.IsWhole) (arg14 : Memref sig .tc .vmem S1x8x128x256 .f32) (harg14 : arg14.IsWhole) (hc0 : cond0_0 i)
    (x0 : Vec F S128x1024 .f32) (x1 : Vec F S128x1024 .f32) (x2 : Vec F S128x2048 .f32) (x3 : Vec F S128x2048 .f32) (x4 : Vec F S128x128 .f32) (x5 : Vec F S128x128 .f32) (x6 : Vec F S8x128x128 .f32) (x7 : Vec F S128x128 .f32) (x8 : Vec F S128x128 .f32) (x9 : Vec F S1x128 .f32) (x10 : Vec F S1x2048 .f32) :
    out0_A_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 = ST x1 x2 x4 x5 x8 x9 k0_pay2 := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10)]
  funext y
  unfold kernelRun0_A
  dsimp only
  obtain ⟨hv0, hv1, hv2, hv3, hv4, hv5, hv6, hv7⟩ := readA c arg3 harg3 arg4 harg4 arg6 harg6 arg7 harg7 arg10 harg10 arg11 harg11 arg14 x1 x2 x4 x5 x8 x9
  simp only [kernelRun0_A.sl.H12_1, kernelRun0_A.sl.H12_2, kernelRun0_A.sl.H12_3, kernelRun0_A.sl.H12_4, kernelRun0_A.sl.H12_5, kernelRun0_A.sl.H12_6, kernelRun0_A.sl.H12_7, kernelRun0_A.sl.H12_8, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_4, kernelRun0_A.sl.r_40, kernelRun0_A.sl.r_5, kernelRun0_A.sl.r_6, kernelRun0_A.sl.r_7, kernelRun0_A.sl.r_8, kernelRun0_A.sl.r_9, kernelRun0_A.sl.v0, kernelRun0_A.sl.v1, kernelRun0_A.sl.v2, hv0, hv1, hv2, hv3, hv4, hv5, hv6, hv7, View.readAt_eq_ld, harg2.read_unread, harg3.read_unread, harg4.read_unread, harg5.read_unread, harg6.read_unread, harg7.read_unread, harg8.read_unread, harg9.read_unread, harg10.read_unread, harg11.read_unread, harg12.read_unread,]
  refine View.canon_append_of_piecesOf _ [_] [_, _, _, _, _, _, _, _] ?_ y ?_
  · exact ⟨pieceS x1 x2 x4 x5 x8 x9 k0_pay2 7 (by decide), pieceS x1 x2 x4 x5 x8 x9 k0_pay2 6 (by decide), pieceS x1 x2 x4 x5 x8 x9 k0_pay2 5 (by decide), pieceS x1 x2 x4 x5 x8 x9 k0_pay2 4 (by decide), pieceS x1 x2 x4 x5 x8 x9 k0_pay2 3 (by decide), pieceS x1 x2 x4 x5 x8 x9 k0_pay2 2 (by decide), pieceS x1 x2 x4 x5 x8 x9 k0_pay2 1 (by decide), pieceS x1 x2 x4 x5 x8 x9 k0_pay2 0 (by decide), trivial⟩
  · exact View.cover_of_tiledL (_ : List (View.Piece (Elt F) S1x8x128x256 .f32)) S1x1x128x256.size (by sl_kernel_rfl) y

theorem out0_B_11_eq (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S8x128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x2048 .f32) (harg12 : arg12.IsWhole) (arg13 : Memref sig .tc .vmem S128x2048 .f32) (harg13 : arg13.IsWhole) (arg14 : Memref sig .tc .vmem S1x8x128x256 .f32) (harg14 : arg14.IsWhole) (hc0 : ¬cond0_0 i)
    (x0 : Vec F S128x1024 .f32) (x1 : Vec F S128x1024 .f32) (x2 : Vec F S128x2048 .f32) (x3 : Vec F S128x2048 .f32) (x4 : Vec F S128x128 .f32) (x5 : Vec F S128x128 .f32) (x6 : Vec F S8x128x128 .f32) (x7 : Vec F S128x128 .f32) (x8 : Vec F S128x128 .f32) (x9 : Vec F S1x128 .f32) (x10 : Vec F S1x2048 .f32) (xo12 : Vec F S1x8x128x256 .f32) :
    out0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xo12 = Y x0 x1 x2 x3 x4 x5 x6 x7 x10 xo12 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xo12)]
  funext y
  refine View.canon_apply_of_pieces _ _ (View.PiecesOf.mem ?_) y (cover0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xo12 y)
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg14.read_unread]
  exact ⟨pieceY x0 x1 x2 x3 x4 x5 x6 x7 x10 xo12 7 (by decide), pieceY x0 x1 x2 x3 x4 x5 x6 x7 x10 xo12 6 (by decide), pieceY x0 x1 x2 x3 x4 x5 x6 x7 x10 xo12 5 (by decide), pieceY x0 x1 x2 x3 x4 x5 x6 x7 x10 xo12 4 (by decide), pieceY x0 x1 x2 x3 x4 x5 x6 x7 x10 xo12 3 (by decide), pieceY x0 x1 x2 x3 x4 x5 x6 x7 x10 xo12 2 (by decide), pieceY x0 x1 x2 x3 x4 x5 x6 x7 x10 xo12 1 (by decide), pieceY x0 x1 x2 x3 x4 x5 x6 x7 x10 xo12 0 (by decide), trivial⟩

theorem out0_B_12_eq (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S8x128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x2048 .f32) (harg12 : arg12.IsWhole) (arg13 : Memref sig .tc .vmem S128x2048 .f32) (harg13 : arg13.IsWhole) (arg14 : Memref sig .tc .vmem S1x8x128x256 .f32) (harg14 : arg14.IsWhole) (hc0 : ¬cond0_0 i)
    (x0 : Vec F S128x1024 .f32) (x1 : Vec F S128x1024 .f32) (x2 : Vec F S128x2048 .f32) (x3 : Vec F S128x2048 .f32) (x4 : Vec F S128x128 .f32) (x5 : Vec F S128x128 .f32) (x6 : Vec F S8x128x128 .f32) (x7 : Vec F S128x128 .f32) (x8 : Vec F S128x128 .f32) (x9 : Vec F S1x128 .f32) (x10 : Vec F S1x2048 .f32) (xo12 : Vec F S1x8x128x256 .f32) :
    out0_B_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xo12 = ST x1 x2 x4 x5 x8 x9 xo12 := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xo12)]
  funext y
  refine View.canon_apply_of_pieces _ _ (View.PiecesOf.mem ?_) y (cover0_B_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xo12 y)
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg14.read_unread]
  exact ⟨pieceS x1 x2 x4 x5 x8 x9 xo12 7 (by decide), pieceS x1 x2 x4 x5 x8 x9 xo12 6 (by decide), pieceS x1 x2 x4 x5 x8 x9 xo12 5 (by decide), pieceS x1 x2 x4 x5 x8 x9 xo12 4 (by decide), pieceS x1 x2 x4 x5 x8 x9 xo12 3 (by decide), pieceS x1 x2 x4 x5 x8 x9 xo12 2 (by decide), pieceS x1 x2 x4 x5 x8 x9 xo12 1 (by decide), pieceS x1 x2 x4 x5 x8 x9 xo12 0 (by decide), trivial⟩

end Cert.KernelIdeal.Ret
end
-- ==== Proof.Ret.KerPoint.lean ====
/-
  One grid point of the kernel over the extended reals: the state and the output block it leaves, entry by entry, are
  `Cert.Ret.state` and the normalised `Cert.Ret.out` once its blocks and tables hold what they should.
-/
module

public import proofs.«01_k».proof.Proof.Ret.Head
public import proofs.«01_k».proof.Proof.Ret.Scalar

@[expose] public section

noncomputable section
open Idealize.ShloMosaic Idealize.ShloMosaic.TcCoe Idealize.SL.Sem
namespace Cert.KernelIdeal.Ret
open Cert.KernelIdeal Cert.KernelIdeal.Gen Cert.Ret

section
variable (q k : Fin 16384 → Fin 1024 → EReal) (v : Fin 16384 → Fin 2048 → EReal) (b n : ℕ)
variable (x0 x1 : Vec Ideal S128x1024 .f32) (x2 x3 : Vec Ideal S128x2048 .f32) (x4 x5 : Vec Ideal S128x128 .f32)
  (x6 : Vec Ideal S8x128x128 .f32) (x7 x8 : Vec Ideal S128x128 .f32) (x9 : Vec Ideal S1x128 .f32) (x10 : Vec Ideal S1x2048 .f32)
  (xs : Vec Ideal S1x8x128x256 .f32)

/-- A head's turned row, as the body computes it. -/
theorem turned (A : Fin 16384 → Fin 1024 → EReal) (x : Vec Ideal S128x1024 .f32)
    (hx : ∀ (r : Fin 128) (j : Fin 1024), x (ix2 r j) = A (row b n r.val) j)
    (h4 : ∀ r j : Fin 128, x4 (ix2 r j) = cosRow (n * 128 + r.val) j.val)
    (h5 : ∀ r j : Fin 128, x5 (ix2 r j) = sinRow (n * 128 + r.val) j.val)
    (h : Fin 8) (r j : Fin 128) (p : 128 * h.val + j.val < 1024) (p' : 128 * h.val + (j.val + 128 - 64) % 128 < 1024) :
    (x (ix2 r ⟨128 * h.val + j.val, p⟩) : EReal) * x4 (ix2 r j) + (x (ix2 r ⟨128 * h.val + (j.val + 128 - 64) % 128, p'⟩) : EReal) * x5 (ix2 r j)
      = rope (fun i => A (row b n r.val) (colK h i)) (n * 128 + r.val) j := by
  rw [hx, hx, h4, h5, ← rope_eq_exchange _ _ _ ⟨(j.val + 128 - 64) % 128, Nat.mod_lt _ (by decide)⟩ rfl]
  have e1 : (⟨128 * h.val + j.val, p⟩ : Fin 1024) = colK h j := Fin.ext (by show 128 * h.val + j.val = h.val * 128 + j.val; omega)
  have e2 : (⟨128 * h.val + (j.val + 128 - 64) % 128, p'⟩ : Fin 1024) = colK h ⟨(j.val + 128 - 64) % 128, Nat.mod_lt _ (by decide)⟩ :=
    Fin.ext (by show 128 * h.val + (j.val + 128 - 64) % 128 = h.val * 128 + (j.val + 128 - 64) % 128; omega)
  rw [e1, e2]

theorem col_eq (h : Fin 8) (d : Fin 256) (p : 256 * h.val + d.val < 2048) : (⟨256 * h.val + d.val, p⟩ : Fin 2048) = colV h d :=
  Fin.ext (by show 256 * h.val + d.val = h.val * 256 + d.val; omega)

theorem ST_apply
    (h1 : ∀ (r : Fin 128) (j : Fin 1024), x1 (ix2 r j) = k (row b n r.val) j)
    (h2 : ∀ (r : Fin 128) (j : Fin 2048), x2 (ix2 r j) = v (row b n r.val) j)
    (h4 : ∀ r j : Fin 128, x4 (ix2 r j) = cosRow (n * 128 + r.val) j.val)
    (h5 : ∀ r j : Fin 128, x5 (ix2 r j) = sinRow (n * 128 + r.val) j.val)
    (h8 : ∀ (r : Fin 128) (h : Fin 8) (p : h.val < 128), x8 (ix2 r ⟨h.val, p⟩) = into h.val r.val)
    (h9 : ∀ (h : Fin 8) (p : h.val < 128), x9 (ix2 0 ⟨h.val, p⟩) = whole h.val)
    (hs : ∀ (h : Fin 8) (j : Fin 128) (d : Fin 256), xs (ix4 0 h j d) = state k v b h n j d)
    (h : Fin 8) (j : Fin 128) (d : Fin 256) :
    ST x1 x2 x4 x5 x8 x9 xs (ix4 0 h j d) = state k v b h (n + 1) j d := by
  show sAt x1 x2 x4 x5 x8 x9 xs h.val h.isLt _ = _
  refine Eq.trans (b := sAt x1 x2 x4 x5 x8 x9 xs h.val h.isLt (ix4 0 0 j d)) (congrArg _ (funext fun a => ?_)) ?_
  · match a with
    | ⟨0, _⟩ => rfl
    | ⟨1, _⟩ => rfl
    | ⟨2, _⟩ => rfl
    | ⟨3, _⟩ => rfl
  pointwise [sAt, headS, rotK, rot, whole128, wholeD]
  unfold state
  refine congrArg₂ (· + ·) (congrArg₂ (· * ·) (hs h j d) (h9 h (by omega))) (Finset.sum_congr rfl fun x _ => ?_)
  refine congrArg₂ (· * ·) (congrArg₂ (· * ·) (congrArg₂ (· * ·) (turned b n x4 x5 k x1 h1 h4 h5 h x j _ _) rfl) (h8 x h (by omega))) ?_
  rw [h2, col_eq]
  rfl

theorem oAt_apply
    (h0 : ∀ (r : Fin 128) (j : Fin 1024), x0 (ix2 r j) = q (row b n r.val) j)
    (h1 : ∀ (r : Fin 128) (j : Fin 1024), x1 (ix2 r j) = k (row b n r.val) j)
    (h2 : ∀ (r : Fin 128) (j : Fin 2048), x2 (ix2 r j) = v (row b n r.val) j)
    (h4 : ∀ r j : Fin 128, x4 (ix2 r j) = cosRow (n * 128 + r.val) j.val)
    (h5 : ∀ r j : Fin 128, x5 (ix2 r j) = sinRow (n * 128 + r.val) j.val)
    (h6 : ∀ (h : Fin 8) (r j : Fin 128), x6 (ix3 h r j) = intra h.val r.val j.val)
    (h7 : ∀ (r : Fin 128) (h : Fin 8) (p : h.val < 128), x7 (ix2 r ⟨h.val, p⟩) = cross h.val r.val)
    (hs : ∀ (h : Fin 8) (j : Fin 128) (d : Fin 256), xs (ix4 0 h j d) = state k v b h n j d)
    (h : Fin 8) (r : Fin 128) (d : Fin 256) :
    oAt x0 x1 x2 x4 x5 x6 x7 xs h.val h.isLt (ix2 r d) = out q k v b h n r d := by
  pointwise [oAt, headO, rotK, rot, whole128, wholeD]
  unfold out
  refine congrArg₂ (· + ·) (Finset.sum_congr rfl fun x _ => ?_) (congrArg₂ (· * ·) (Finset.sum_congr rfl fun j _ => ?_) (h7 r h (by omega)))
  · refine congrArg₂ (· * ·) (congrArg₂ (· * ·) (Finset.sum_congr rfl fun j _ => ?_) (h6 h r x)) ?_
    · exact congrArg₂ (· * ·) (turned b n x4 x5 q x0 h0 h4 h5 h r j _ _) (congrArg₂ (· * ·) (turned b n x4 x5 k x1 h1 h4 h5 h x j _ _) rfl)
    · rw [h2, col_eq]; rfl
  · exact congrArg₂ (· * ·) (turned b n x4 x5 q x0 h0 h4 h5 h r j _ _) (hs h j d)

theorem headY_apply (o : Vec Ideal S128x256 .f32) (w : Vec Ideal S1x256 .f32) (g : Vec Ideal S128x256 .f32) (r : Fin 128) (d : Fin 256) :
    headY o w g (ix2 r d) = normed (fun j => o (ix2 r j)) d (w (ix2 0 d)) (g (ix2 r d)) := by
  pointwise [headY, centred, rowMean]
  rfl

theorem Y_apply
    (h0 : ∀ (r : Fin 128) (j : Fin 1024), x0 (ix2 r j) = q (row b n r.val) j)
    (h1 : ∀ (r : Fin 128) (j : Fin 1024), x1 (ix2 r j) = k (row b n r.val) j)
    (h2 : ∀ (r : Fin 128) (j : Fin 2048), x2 (ix2 r j) = v (row b n r.val) j)
    (h4 : ∀ r j : Fin 128, x4 (ix2 r j) = cosRow (n * 128 + r.val) j.val)
    (h5 : ∀ r j : Fin 128, x5 (ix2 r j) = sinRow (n * 128 + r.val) j.val)
    (h6 : ∀ (h : Fin 8) (r j : Fin 128), x6 (ix3 h r j) = intra h.val r.val j.val)
    (h7 : ∀ (r : Fin 128) (h : Fin 8) (p : h.val < 128), x7 (ix2 r ⟨h.val, p⟩) = cross h.val r.val)
    (hs : ∀ (h : Fin 8) (j : Fin 128) (d : Fin 256), xs (ix4 0 h j d) = state k v b h n j d)
    (r : Fin 128) (d : Fin 2048) :
    Y x0 x1 x2 x3 x4 x5 x6 x7 x10 xs (ix2 r d)
      = normed (out q k v b ⟨d.val / 256, by omega⟩ n r) ⟨d.val % 256, by omega⟩ (x10 (ix2 0 d)) (x3 (ix2 r d)) := by
  show yAt x0 x1 x2 x3 x4 x5 x6 x7 x10 xs (d.val / 256) _ _ = _
  refine Eq.trans (b := yAt x0 x1 x2 x3 x4 x5 x6 x7 x10 xs (d.val / 256) (by omega) (ix2 r ⟨d.val % 256, by omega⟩)) (congrArg _ (funext fun a => ?_)) ?_
  · match a with
    | ⟨0, _⟩ => rfl
    | ⟨1, _⟩ => rfl
  unfold yAt
  rw [headY_apply]
  have e : ∀ p : 256 * (d.val / 256) + d.val % 256 < 2048, (⟨256 * (d.val / 256) + d.val % 256, p⟩ : Fin 2048) = d :=
    fun p => Fin.ext (by show 256 * (d.val / 256) + d.val % 256 = d.val; omega)
  refine congr (congr (congrArg (fun o => normed o _) (funext fun j => ?_)) ?_) ?_
  · exact oAt_apply q k v b n x0 x1 x2 x4 x5 x6 x7 xs h0 h1 h2 h4 h5 h6 h7 hs ⟨d.val / 256, by omega⟩ r j
  · pointwise []
    rw [e]
  · pointwise []
    rw [e]
end

end Cert.KernelIdeal.Ret
end
-- ==== Proof.Ret.Join.lean ====
/-
  The kernel's two result arrays, entry by entry: what the staging buffers hold after each grid point, by induction on
  the point; what is written back; and the arrays after the run.
-/
module

public import proofs.«01_k».proof.Proof.Gen.KernelIdeal.Value
public import proofs.«01_k».proof.Proof.Ret.KerRead
public import proofs.«01_k».proof.Proof.Ret.KerPoint

@[expose] public section

noncomputable section
open Idealize.ShloMosaic Idealize.ShloMosaic.TcCoe Idealize.SL.Sem
open Idealize.ShloMosaic.Pipeline (Dat)
namespace Cert.KernelIdeal.Ret
open Cert.KernelIdeal Cert.KernelIdeal.Gen Cert.KernelIdeal.Value Cert.Ret
variable (m : (ℓ : Loc nD τ sig) → Buf (Elt Ideal) ℓ) (ρ : Dev nD → PrngReg) (c : Dev nD)

theorem row_block (t : Fin cfg0.N) (r : Fin 128) (p : t.val * 128 + r.val < 16384) :
    row (t.val / 16) (t.val % 16) r.val = ⟨t.val * 128 + r.val, p⟩ := row_eq p (by omega)

theorem ST_point (t : Fin cfg0.N) (xs : Vec Ideal S1x8x128x256 .f32)
    (hs : ∀ (h : Fin 8) (j : Fin 128) (d : Fin 256), xs (ix4 0 h j d) = state (argK m c) (argV m c) (t.val / 16) h (t.val % 16) j d)
    (h : Fin 8) (j : Fin 128) (d : Fin 256) :
    ST (iblk m c 1 t) (iblk m c 2 t) (iblk m c 4 t) (iblk m c 5 t) (iblk m c 8 t) (iblk m c 9 t) xs (ix4 0 h j d)
      = state (argK m c) (argV m c) (t.val / 16) h (t.val % 16 + 1) j d :=
  ST_apply (argK m c) (argV m c) (t.val / 16) (t.val % 16) _ _ _ _ _ _ _
    (fun r j => (block1 m c t r j).trans (by rw [row_block]))
    (fun r j => (block2 m c t r j).trans (by rw [row_block]))
    (fun r j => block4 m c t r j) (fun r j => block5 m c t r j)
    (fun r h p => (block8 m c t r ⟨h.val, p⟩).trans (tab_into m c r h))
    (fun h p => (block9 m c t 0 ⟨h.val, p⟩).trans (tab_whole m c h)) hs h j d

theorem Y_point (t : Fin cfg0.N) (xs : Vec Ideal S1x8x128x256 .f32)
    (hs : ∀ (h : Fin 8) (j : Fin 128) (d : Fin 256), xs (ix4 0 h j d) = state (argK m c) (argV m c) (t.val / 16) h (t.val % 16) j d)
    (r : Fin 128) (d : Fin 2048) :
    Y (iblk m c 0 t) (iblk m c 1 t) (iblk m c 2 t) (iblk m c 3 t) (iblk m c 4 t) (iblk m c 5 t) (iblk m c 6 t) (iblk m c 7 t)
        (iblk m c 10 t) xs (ix2 r d)
      = normed (out (argQ m c) (argK m c) (argV m c) (t.val / 16) ⟨d.val / 256, by omega⟩ (t.val % 16) r) ⟨d.val % 256, by omega⟩
          (argN m c d) (argG m c (row (t.val / 16) (t.val % 16) r.val) d) := by
  refine (Y_apply (argQ m c) (argK m c) (argV m c) (t.val / 16) (t.val % 16) _ _ _ _ _ _ _ _ _ _
    (fun r j => (block0 m c t r j).trans (by rw [row_block]))
    (fun r j => (block1 m c t r j).trans (by rw [row_block]))
    (fun r j => (block2 m c t r j).trans (by rw [row_block]))
    (fun r j => block4 m c t r j) (fun r j => block5 m c t r j)
    (fun h r j => (block6 m c t h r j).trans (tab_intra m c h r j))
    (fun r h p => (block7 m c t r ⟨h.val, p⟩).trans (tab_cross m c r h)) hs r d).trans ?_
  refine congrArg₂ (normed _ _) ?_ ?_
  · exact (block10 m c t 0 d).trans (tab_norm m c d)
  · exact (block3 m c t r d).trans (by rw [row_block])

/-- The state a sequence begins with. -/
theorem zeroState (h : Fin 8) (j : Fin 128) (d : Fin 256) : (k0_pay2 (F := Ideal) : Vec Ideal S1x8x128x256 .f32) (ix4 0 h j d) = (0 : EReal) := by
  pointwise [k0_pay2]

/-- The staging buffers after a grid point that begins a sequence, and after one that does not. -/
theorem outs_A (t : Fin cfg0.N) (h0 : t.val % 16 = 0) :
    outsAt0 m c t.val t.isLt
      = (Y (iblk m c 0 t) (iblk m c 1 t) (iblk m c 2 t) (iblk m c 3 t) (iblk m c 4 t) (iblk m c 5 t) (iblk m c 6 t) (iblk m c 7 t) (iblk m c 10 t) (k0_pay2 (F := Ideal)),
         ST (iblk m c 1 t) (iblk m c 2 t) (iblk m c 4 t) (iblk m c 5 t) (iblk m c 8 t) (iblk m c 9 t) (k0_pay2 (F := Ideal))) := by
  rw [outsAt0_A m c t h0, out0_A_11_eq, out0_A_12_eq]

theorem outs_B (t : Fin cfg0.N) (h0 : ¬t.val % 16 = 0) (p : t.val - 1 < cfg0.N) :
    outsAt0 m c t.val t.isLt
      = (Y (iblk m c 0 t) (iblk m c 1 t) (iblk m c 2 t) (iblk m c 3 t) (iblk m c 4 t) (iblk m c 5 t) (iblk m c 6 t) (iblk m c 7 t) (iblk m c 10 t) (outsAt0 m c (t.val - 1) p).2,
         ST (iblk m c 1 t) (iblk m c 2 t) (iblk m c 4 t) (iblk m c 5 t) (iblk m c 8 t) (iblk m c 9 t) (outsAt0 m c (t.val - 1) p).2) := by
  rw [outsAt0_B m c t h0, out0_B_11_eq, out0_B_12_eq]

/-- The states after point `n`: those of its sequence after its chunk. -/
theorem states_at : ∀ (n : ℕ) (hn : n < cfg0.N) (h : Fin 8) (j : Fin 128) (d : Fin 256),
    (outsAt0 m c n hn).2 (ix4 0 h j d) = state (argK m c) (argV m c) (n / 16) h (n % 16 + 1) j d := by
  intro n
  induction n with
  | zero =>
    intro hn h j d
    rw [outs_A m c ⟨0, hn⟩ rfl]
    exact ST_point m c ⟨0, hn⟩ _ (fun h j d => zeroState h j d) h j d
  | succ n ih =>
    intro hn h j d
    by_cases h0 : (n + 1) % 16 = 0
    · rw [outs_A m c ⟨n + 1, hn⟩ h0]
      refine ST_point m c ⟨n + 1, hn⟩ _ (fun h j d => ?_) h j d
      show _ = state _ _ ((n + 1) / 16) h ((n + 1) % 16) j d
      rw [h0]
      exact zeroState h j d
    · rw [outs_B m c ⟨n + 1, hn⟩ h0 (by show n + 1 - 1 < cfg0.N; omega)]
      refine ST_point m c ⟨n + 1, hn⟩ _ (fun h j d => ?_) h j d
      refine (ih (by omega) h j d).trans ?_
      show _ = state _ _ ((n + 1) / 16) h ((n + 1) % 16) j d
      rw [show (n + 1) / 16 = n / 16 by omega, show (n + 1) % 16 = n % 16 + 1 by omega]

/-- The output block after point `t`. -/
theorem block_at (t : Fin cfg0.N) (r : Fin 128) (d : Fin 2048) :
    (outsAt0 m c t.val t.isLt).1 (ix2 r d)
      = normed (out (argQ m c) (argK m c) (argV m c) (t.val / 16) ⟨d.val / 256, by omega⟩ (t.val % 16) r) ⟨d.val % 256, by omega⟩
          (argN m c d) (argG m c (row (t.val / 16) (t.val % 16) r.val) d) := by
  by_cases h0 : t.val % 16 = 0
  · rw [outs_A m c t h0]
    refine Y_point m c t _ (fun h j d => ?_) r d
    rw [h0]
    exact zeroState h j d
  · have p : t.val - 1 < cfg0.N := by have := t.isLt; omega
    rw [outs_B m c t h0 p]
    refine Y_point m c t _ (fun h j d => ?_) r d
    refine (states_at m c (t.val - 1) p h j d).trans ?_
    rw [show (t.val - 1) / 16 = t.val / 16 by omega, show (t.val - 1) % 16 + 1 = t.val % 16 by omega]

/-- The normalised and gated output of row `r` at column `d`. -/
def resAt (r : Fin 16384) (d : Fin 2048) : EReal :=
  normed (out (argQ m c) (argK m c) (argV m c) (r.val / 2048) ⟨d.val / 256, by omega⟩ (r.val % 2048 / 128) ⟨r.val % 2048 % 128, by omega⟩)
    ⟨d.val % 256, by omega⟩ (argN m c d) (argG m c r d)

/-- Those outputs, as contents of the first result array. -/
def resY : Vec Ideal S16384x2048 .f32 := fun i => resAt m c (i 0) (i 1)

theorem resAt_eq (b n : ℕ) (r : Fin 128) (d : Fin 2048) (p : b * 2048 + (n * 128 + r.val) < 16384) (hn : n < 16) :
    normed (out (argQ m c) (argK m c) (argV m c) b ⟨d.val / 256, by omega⟩ n r) ⟨d.val % 256, by omega⟩
        (argN m c d) (argG m c ⟨b * 2048 + (n * 128 + r.val), p⟩ d) = resAt m c ⟨b * 2048 + (n * 128 + r.val), p⟩ d := by
  have key : ∀ (b' n' : ℕ) (r' : Fin 128), b' = b → n' = n → r' = r →
      out (argQ m c) (argK m c) (argV m c) b ⟨d.val / 256, by omega⟩ n r = out (argQ m c) (argK m c) (argV m c) b' ⟨d.val / 256, by omega⟩ n' r' := by
    rintro b' n' r' rfl rfl rfl
    rfl
  exact congrArg (fun o => normed o _ _ _) (key _ _ _ (by show (b * 2048 + (n * 128 + r.val)) / 2048 = b; omega)
    (by show (b * 2048 + (n * 128 + r.val)) % 2048 / 128 = n; omega)
    (Fin.ext (by show (b * 2048 + (n * 128 + r.val)) % 2048 % 128 = r.val; omega)))

/-- The states after the last chunk, as contents of the second. -/
def resS : Vec Ideal S8x8x128x256 .f32 := fun i => state (argK m c) (argV m c) (i 0).val (i 1) 16 (i 2) (i 3)

theorem index0_11 : ∀ t : Fin grid0.N, win0_11.index t 0 = t.val ∧ win0_11.index t 1 = 0 := by decide +kernel
theorem index0_12 : ∀ t : Fin grid0.N, win0_12.index t 0 = t.val / 16 ∧ win0_12.index t 1 = 0 ∧ win0_12.index t 2 = 0 ∧ win0_12.index t 3 = 0 := by
  decide +kernel

theorem written11 (t : Fin cfg0.N) :
    (dats m 0 c).flushed 11 t = ((cfg0.win 11).blk t).view.read (Elt Ideal) (resY m c) := by
  have hi := index0_11 t
  have hN := t.isLt
  have hN' : cfg0.N = 128 := N128
  rw [flushed11]
  funext j
  rw [View.read_apply]
  have h0 : (j 0).val < 128 := (j 0).isLt
  have h1 : (j 1).val < 2048 := (j 1).isLt
  have ej : j = ix2 (⟨(j 0).val, h0⟩ : Fin 128) (⟨(j 1).val, h1⟩ : Fin 2048) := funext fun a => by
    match a with
    | ⟨0, _⟩ => rfl
    | ⟨1, _⟩ => rfl
  refine Eq.trans (b := resY m c (ix2 ⟨t.val * 128 + (j 0).val, by omega⟩ ⟨(j 1).val, h1⟩)) ?_ (congrArg (resY m c) (funext fun a => Fin.ext ?_))
  · show (outsAt0 m c t.val t.isLt).1 j = _
    refine (congrArg _ ej).trans ((block_at m c t _ _).trans ?_)
    have p : t.val / 16 * 2048 + (t.val % 16 * 128 + (j 0).val) < 16384 := by omega
    have er : (⟨t.val / 16 * 2048 + (t.val % 16 * 128 + (j 0).val), p⟩ : Fin 16384) = ⟨t.val * 128 + (j 0).val, by omega⟩ :=
      Fin.ext (by show t.val / 16 * 2048 + (t.val % 16 * 128 + (j 0).val) = t.val * 128 + (j 0).val; omega)
    rw [row_eq (b := t.val / 16) (n := t.val % 16) (t := (j 0).val) p rfl]
    refine (resAt_eq m c (t.val / 16) (t.val % 16) ⟨(j 0).val, h0⟩ ⟨(j 1).val, h1⟩ p (by omega)).trans ?_
    exact congrArg (fun r => resAt m c r ⟨(j 1).val, h1⟩) er
  · match a with
    | ⟨0, _⟩ => show t.val * 128 + (j 0).val = win0_11.index t 0 * 128 + 1 * (j 0).val; rw [hi.1]; omega
    | ⟨1, _⟩ => show (j 1).val = win0_11.index t 1 * 2048 + 1 * (j 1).val; rw [hi.2]; omega

theorem written12 (t : Fin cfg0.N) (hf : (cfg0.win 12).flush t = true) :
    (dats m 0 c).flushed 12 t = ((cfg0.win 12).blk t).view.read (Elt Ideal) (resS m c) := by
  have hi := index0_12 t
  have hN := t.isLt
  have hN' : cfg0.N = 128 := N128
  have h15 : t.val % 16 = 15 := (flush0_12 t).mp hf
  rw [flushed12]
  funext j
  rw [View.read_apply]
  have h0 : (j 0).val < 1 := (j 0).isLt
  have h1 : (j 1).val < 8 := (j 1).isLt
  have h2 : (j 2).val < 128 := (j 2).isLt
  have h3 : (j 3).val < 256 := (j 3).isLt
  have ej : j = ix4 (0 : Fin 1) (⟨(j 1).val, h1⟩ : Fin 8) (⟨(j 2).val, h2⟩ : Fin 128) (⟨(j 3).val, h3⟩ : Fin 256) := funext fun a => by
    match a with
    | ⟨0, _⟩ => exact Fin.ext (by show (j 0).val = 0; omega)
    | ⟨1, _⟩ => rfl
    | ⟨2, _⟩ => rfl
    | ⟨3, _⟩ => rfl
  refine Eq.trans (b := resS m c (ix4 ⟨t.val / 16, by omega⟩ ⟨(j 1).val, h1⟩ ⟨(j 2).val, h2⟩ ⟨(j 3).val, h3⟩)) ?_ (congrArg (resS m c) (funext fun a => Fin.ext ?_))
  · show (outsAt0 m c t.val t.isLt).2 j = _
    refine (congrArg _ ej).trans ((states_at m c t.val t.isLt _ _ _).trans ?_)
    rw [h15]
    rfl
  · match a with
    | ⟨0, _⟩ => show t.val / 16 = win0_12.index t 0 * 1 + 1 * (j 0).val; rw [hi.1]; omega
    | ⟨1, _⟩ => show (j 1).val = win0_12.index t 1 * 8 + 1 * (j 1).val; rw [hi.2.1]; omega
    | ⟨2, _⟩ => show (j 2).val = win0_12.index t 2 * 128 + 1 * (j 2).val; rw [hi.2.2.1]; omega
    | ⟨3, _⟩ => show (j 3).val = win0_12.index t 3 * 256 + 1 * (j 3).val; rw [hi.2.2.2]; omega

theorem final11 : (dats m 0 c).arrAt 11 cfg0.N = resY m c :=
  (dats m 0 c).arrAt_eq_of_cover 11 (resY m c) (fun t _ => written11 m c t) fun i => by
    have h0 : (i 0 : Nat) < 16384 := (i 0).isLt
    have h1 : (i 1 : Nat) < 2048 := (i 1).isLt
    have hN' : cfg0.N = 128 := N128
    let t : Fin cfg0.N := ⟨(i 0 : Nat) / 128, by omega⟩
    have hi := index0_11 t
    refine ⟨t, flush0_11 t, ?_⟩
    show i ∈ ((View.whole main_v79_0).slice (win0_11.rect t)).set
    rw [View.set_slice_whole, Rect.mem_set_unit]
    intro a
    match a with
    | ⟨0, _⟩ =>
      show win0_11.index t 0 * 128 ≤ (i 0 : Nat) ∧ (i 0 : Nat) < win0_11.index t 0 * 128 + 128
      rw [hi.1]
      show (i 0 : Nat) / 128 * 128 ≤ (i 0 : Nat) ∧ (i 0 : Nat) < (i 0 : Nat) / 128 * 128 + 128
      omega
    | ⟨1, _⟩ =>
      show win0_11.index t 1 * 2048 ≤ (i 1 : Nat) ∧ (i 1 : Nat) < win0_11.index t 1 * 2048 + 2048
      rw [hi.2]; omega

theorem final12 : (dats m 0 c).arrAt 12 cfg0.N = resS m c :=
  (dats m 0 c).arrAt_eq_of_cover 12 (resS m c) (fun t hf => written12 m c t hf) fun i => by
    have h0 : (i 0 : Nat) < 8 := (i 0).isLt
    have h1 : (i 1 : Nat) < 8 := (i 1).isLt
    have h2 : (i 2 : Nat) < 128 := (i 2).isLt
    have h3 : (i 3 : Nat) < 256 := (i 3).isLt
    have hN' : cfg0.N = 128 := N128
    let t : Fin cfg0.N := ⟨(i 0 : Nat) * 16 + 15, by omega⟩
    have hi := index0_12 t
    refine ⟨t, (flush0_12 t).mpr (by show ((i 0 : Nat) * 16 + 15) % 16 = 15; omega), ?_⟩
    show i ∈ ((View.whole main_v79_1).slice (win0_12.rect t)).set
    rw [View.set_slice_whole, Rect.mem_set_unit]
    intro a
    match a with
    | ⟨0, _⟩ =>
      show win0_12.index t 0 * 1 ≤ (i 0 : Nat) ∧ (i 0 : Nat) < win0_12.index t 0 * 1 + 1
      rw [hi.1]
      show ((i 0 : Nat) * 16 + 15) / 16 * 1 ≤ (i 0 : Nat) ∧ (i 0 : Nat) < ((i 0 : Nat) * 16 + 15) / 16 * 1 + 1
      omega
    | ⟨1, _⟩ =>
      show win0_12.index t 1 * 8 ≤ (i 1 : Nat) ∧ (i 1 : Nat) < win0_12.index t 1 * 8 + 8
      rw [hi.2.1]; omega
    | ⟨2, _⟩ =>
      show win0_12.index t 2 * 128 ≤ (i 2 : Nat) ∧ (i 2 : Nat) < win0_12.index t 2 * 128 + 128
      rw [hi.2.2.1]; omega
    | ⟨3, _⟩ =>
      show win0_12.index t 3 * 256 ≤ (i 3 : Nat) ∧ (i 3 : Nat) < win0_12.index t 3 * 256 + 256
      rw [hi.2.2.2]; omega

end Cert.KernelIdeal.Ret
end
-- ==== Proof.Ret.RefEntry.lean ====
/-
  What the reference's loop is entered with: the turned queries, the turned and scaled keys, the values and the decay
  tables, each read at an index.
-/
module

public import proofs.«01_k».proof.Proof.Gen.ReferenceIdeal.Run
public import proofs.«01_k».proof.Proof.Ret.Scalar

@[expose] public section

noncomputable section
open Idealize.ShloMosaic Idealize.ShloMosaic.TcCoe Idealize.SL.Sem Idealize.ShloMosaic.StableHlo
namespace Cert.ReferenceIdeal.Ret
open Cert.ReferenceIdeal Cert.ReferenceIdeal.Gen Cert.ReferenceIdeal.Value Cert.Ret
variable (m : (ℓ : Loc nD τ sig) → Buf (Elt Ideal) ℓ) (c : Dev nD)

theorem id_app {α : Type} {β : α → Type} (x : (a : α) → β a) (i : α) : id x i = x i := rfl

/-- The queries, keys and values the program is launched with. -/
def argQ (r : Fin 16384) (j : Fin 1024) : EReal := (m ((c.tc : Thread nD τ).loc main_arg0) : Vec Ideal S16384x1024 .f32) (ix2 r j)
def argK (r : Fin 16384) (j : Fin 1024) : EReal := (m ((c.tc : Thread nD τ).loc main_arg1) : Vec Ideal S16384x1024 .f32) (ix2 r j)
def argV (r : Fin 16384) (j : Fin 2048) : EReal := (m ((c.tc : Thread nD τ).loc main_arg2) : Vec Ideal S16384x2048 .f32) (ix2 r j)

/-- The reference's turned row, with its index arithmetic as the program writes it. -/
theorem rope_form (A : Fin 16384 → Fin 1024 → EReal) (n : Fin 16) (b h : Fin 8) (t k : Fin 128) :
    (if h_1 : k.val < 64 then
        A ⟨b.val * 2048 + (n.val * 128 + t.val), by omega⟩ ⟨h.val * 128 + k.val, by omega⟩ * Ideal.cos (angle (n.val * 128 + t.val) k.val)
        - A ⟨b.val * 2048 + (n.val * 128 + t.val), by omega⟩ ⟨h.val * 128 + (64 + k.val), by omega⟩ * Ideal.sin (angle (n.val * 128 + t.val) k.val)
      else
        A ⟨b.val * 2048 + (n.val * 128 + t.val), by omega⟩ ⟨h.val * 128 + (k.val - 64), by omega⟩ * Ideal.sin (angle (n.val * 128 + t.val) (k.val - 64))
        + A ⟨b.val * 2048 + (n.val * 128 + t.val), by omega⟩ ⟨h.val * 128 + (64 + (k.val - 64)), by omega⟩ * Ideal.cos (angle (n.val * 128 + t.val) (k.val - 64)))
      = rope (fun i => A (row b.val n.val t.val) (colK h i)) (n.val * 128 + t.val) k := by
  rw [row_eq (r := b.val * 2048 + (n.val * 128 + t.val)) (by omega) rfl]
  unfold rope
  split
  · rfl
  · rename_i hk
    have e : (⟨h.val * 128 + (64 + (k.val - 64)), by omega⟩ : Fin 1024) = colK h k := Fin.ext (by show h.val * 128 + (64 + (k.val - 64)) = h.val * 128 + k.val; omega)
    rw [e]; rfl

set_option maxRecDepth 8192 in
set_option maxHeartbeats 1600000 in
theorem entry_q (n : Fin 16) (b h : Fin 8) (t k : Fin 128) :
    (entryContents preI m c (Proc.devRef .tc main_v120_0) : Vec Ideal S16x8x128x8x128 .f32) (ix5 n b t h k)
      = qq (argQ m c) b.val h n.val t k := by
  simp only [entryContents, afterL_cons, afterL_nil]
  after_reads_simp
  refine (id_app _ _).trans ?_
  pointwise []
  after_reads_simp
  pointwise []
  exact rope_form (argQ m c) n b h t k

set_option maxRecDepth 8192 in
set_option maxHeartbeats 1600000 in
theorem entry_k (n : Fin 16) (b h : Fin 8) (t k : Fin 128) :
    (entryContents preI m c (Proc.devRef .tc main_v120_1) : Vec Ideal S16x8x128x8x128 .f32) (ix5 n b t h k)
      = kk (argK m c) b.val h n.val t k := by
  simp only [entryContents, afterL_cons, afterL_nil]
  after_reads_simp
  refine (id_app _ _).trans ?_
  pointwise []
  after_reads_simp
  pointwise []
  exact congrArg (· * Ideal.ofBits FTy.f32 1035273459#32) (rope_form (argK m c) n b h t k)

theorem entry_v (n : Fin 16) (b h : Fin 8) (t : Fin 128) (d : Fin 256) :
    (entryContents preI m c (Proc.devRef .tc main_v120_2) : Vec Ideal S16x8x128x8x256 .f32) (ix5 n b t h d)
      = vv (argV m c) b.val h n.val t d := by
  simp only [entryContents, afterL_cons, afterL_nil]
  after_reads_simp
  refine (id_app _ _).trans ?_
  pointwise []
  unfold vv
  rw [row_eq (r := b.val * 2048 + n.val * 128 + t.val) (by omega) (by omega)]
  rfl

theorem entry_intra (h : Fin 8) (t k : Fin 128) :
    (entryContents preI m c (Proc.devRef .tc main_v120_3) : Vec Ideal S8x128x128 .f32) (ix3 h t k)
      = intra h.val t.val k.val := by
  simp only [entryContents, afterL_cons, afterL_nil]
  after_reads_simp
  refine (id_app _ _).trans ?_
  simp only [TRef.ofBuf, TRef.toBuf, TRef.of, cast_eq]
  pointwise [id_eq]
  rfl

theorem entry_cross (h : Fin 8) (t : Fin 128) :
    (entryContents preI m c (Proc.devRef .tc main_v120_4) : Vec Ideal S128x8x1 .f32) (ix3 t h 0) = cross h.val t.val := by
  simp only [entryContents, afterL_cons, afterL_nil]
  after_reads_simp
  refine (id_app _ _).trans ?_
  pointwise []
  rfl

theorem entry_whole (h : Fin 8) :
    (entryContents preI m c (Proc.devRef .tc main_v120_5) : Vec Ideal S8 .f32) (ix1 h) = whole h.val := by
  simp only [entryContents, afterL_cons, afterL_nil]
  after_reads_simp
  refine (id_app _ _).trans ?_
  pointwise []
  rfl

theorem entry_into (h : Fin 8) (t : Fin 128) :
    (entryContents preI m c (Proc.devRef .tc main_v120_6) : Vec Ideal S128x8x1 .f32) (ix3 t h 0) = into h.val t.val := by
  simp only [entryContents, afterL_cons, afterL_nil]
  after_reads_simp
  refine (id_app _ _).trans ?_
  pointwise []
  rfl

theorem entry_state (b h : Fin 8) (k : Fin 128) (d : Fin 256) :
    (entryContents preI m c (Proc.devRef .tc main_v120_8) : Vec Ideal S8x8x128x256 .f32) (ix4 b h k d) = (0 : EReal) := by
  simp only [entryContents, afterL_cons, afterL_nil]
  after_reads_simp
  refine (id_app _ _).trans ?_
  pointwise []

end Cert.ReferenceIdeal.Ret
end
-- ==== Proof.Ret.RefStep.lean ====
/-
  The reference's loop over the chunks: after `n` passes the counter is `n`, the state is `Cert.Ret.state` after `n`
  chunks, and the outputs of the first `n` chunks are `Cert.Ret.out`; so the program's two results, entry by entry.
-/
module

public import proofs.«01_k».proof.Proof.Ret.RefEntry

@[expose] public section

noncomputable section
open Idealize.ShloMosaic Idealize.ShloMosaic.TcCoe Idealize.SL.Sem Idealize.ShloMosaic.StableHlo
namespace Cert.ReferenceIdeal.Ret
open Cert.ReferenceIdeal Cert.ReferenceIdeal.Gen Cert.ReferenceIdeal.Value Cert.Ret
variable (m : (ℓ : Loc nD τ sig) → Buf (Elt Ideal) ℓ) (c : Dev nD)

/-- The buffers before pass `n`. -/
abbrev at_ (n : ℕ) : Valuation τ sig (Elt Ideal) := STEP^[n] (entryContents preI m c)

theorem at_succ (n : ℕ) : at_ m c (n + 1) = STEP (at_ m c n) := Function.iterate_succ_apply' _ _ _

theorem counter (n : ℕ) : at_ m c n (Proc.devRef .tc main_v120_7) = fun _ => (BitVec.ofNat 32 n : BitVec 32) := by
  induction n with
  | zero => exact ctr_entry m c
  | succ n ih =>
    rw [at_succ, STEP_main_v120_7]
    unfold step_main_v120_7
    rw [ih]
    funext i
    refine (id_app _ _).trans ?_
    show BitVec.ofNat 32 n + 1#32 = BitVec.ofNat 32 (n + 1)
    rw [BitVec.ofNat_add]

/-- What the loop only carries keeps its entry value. -/
theorem kept0 (n : ℕ) : at_ m c n (Proc.devRef .tc main_v120_0) = entryContents preI m c (Proc.devRef .tc main_v120_0) := by
  induction n with
  | zero => rfl
  | succ n ih => rw [at_succ, STEP_main_v120_0, ih]
theorem kept1 (n : ℕ) : at_ m c n (Proc.devRef .tc main_v120_1) = entryContents preI m c (Proc.devRef .tc main_v120_1) := by
  induction n with
  | zero => rfl
  | succ n ih => rw [at_succ, STEP_main_v120_1, ih]
theorem kept2 (n : ℕ) : at_ m c n (Proc.devRef .tc main_v120_2) = entryContents preI m c (Proc.devRef .tc main_v120_2) := by
  induction n with
  | zero => rfl
  | succ n ih => rw [at_succ, STEP_main_v120_2, ih]
theorem kept3 (n : ℕ) : at_ m c n (Proc.devRef .tc main_v120_3) = entryContents preI m c (Proc.devRef .tc main_v120_3) := by
  induction n with
  | zero => rfl
  | succ n ih => rw [at_succ, STEP_main_v120_3, ih]
theorem kept4 (n : ℕ) : at_ m c n (Proc.devRef .tc main_v120_4) = entryContents preI m c (Proc.devRef .tc main_v120_4) := by
  induction n with
  | zero => rfl
  | succ n ih => rw [at_succ, STEP_main_v120_4, ih]
theorem kept5 (n : ℕ) : at_ m c n (Proc.devRef .tc main_v120_5) = entryContents preI m c (Proc.devRef .tc main_v120_5) := by
  induction n with
  | zero => rfl
  | succ n ih => rw [at_succ, STEP_main_v120_5, ih]
theorem kept6 (n : ℕ) : at_ m c n (Proc.devRef .tc main_v120_6) = entryContents preI m c (Proc.devRef .tc main_v120_6) := by
  induction n with
  | zero => rfl
  | succ n ih => rw [at_succ, STEP_main_v120_6, ih]

/-- The counter, read as a slice's start. -/
theorem start_toInt (n : ℕ) (hn : n < 16) : (BitVec.ofNat 32 n).toInt = (n : ℤ) := by
  have h1 : (BitVec.ofNat 32 n).toNat = n := by rw [BitVec.toNat_ofNat]; exact Nat.mod_eq_of_lt (by omega)
  rw [BitVec.toInt_eq_toNat_of_lt (by rw [h1]; omega), h1]

/-- A slice of one chunk, at an index: the chunk the counter names. -/
theorem chunkK (V : Vec Ideal S16x8x128x8x128 .f32) (st : Fin 5 → Int) (n : Fin 16) (h0 : st 0 = n.val)
    (h1 : st 1 = 0) (h2 : st 2 = 0) (h3 : st 3 = 0) (h4 : st 4 = 0) (b h : Fin 8) (t k : Fin 128) :
    (shapeCast S8x128x8x128 (Host.dynamicSlice S1x8x128x8x128 V st sliceFits_S16x8x128x8x128_S1x8x128x8x128)
      shapeCasts_S1x8x128x8x128_S8x128x8x128 : Vec Ideal S8x128x8x128 .f32) (ix4 b t h k) = V (ix5 n b t h k) := by
  have c0 := Host.clampedStart_of_le sliceFits_S16x8x128x8x128_S1x8x128x8x128.1 st 0 n.val h0 (by show n.val + 1 ≤ 16; omega)
  have c1 := Host.clampedStart_of_le sliceFits_S16x8x128x8x128_S1x8x128x8x128.1 st 1 0 (by exact_mod_cast h1) (by decide)
  have c2 := Host.clampedStart_of_le sliceFits_S16x8x128x8x128_S1x8x128x8x128.1 st 2 0 (by exact_mod_cast h2) (by decide)
  have c3 := Host.clampedStart_of_le sliceFits_S16x8x128x8x128_S1x8x128x8x128.1 st 3 0 (by exact_mod_cast h3) (by decide)
  have c4 := Host.clampedStart_of_le sliceFits_S16x8x128x8x128_S1x8x128x8x128.1 st 4 0 (by exact_mod_cast h4) (by decide)
  pointwise []
  congr 1
  funext a
  match a with
  | ⟨0, _⟩ => exact Fin.ext (by
      show Host.clampedStart S16x8x128x8x128 S1x8x128x8x128 sliceFits_S16x8x128x8x128_S1x8x128x8x128.1 st 0 + 0 = n.val
      rw [c0, Nat.add_zero])
  | ⟨1, _⟩ => exact Fin.ext (by
      show Host.clampedStart S16x8x128x8x128 S1x8x128x8x128 sliceFits_S16x8x128x8x128_S1x8x128x8x128.1 st 1 + b.val = b.val
      rw [c1, Nat.zero_add])
  | ⟨2, _⟩ => exact Fin.ext (by
      show Host.clampedStart S16x8x128x8x128 S1x8x128x8x128 sliceFits_S16x8x128x8x128_S1x8x128x8x128.1 st 2 + t.val = t.val
      rw [c2, Nat.zero_add])
  | ⟨3, _⟩ => exact Fin.ext (by
      show Host.clampedStart S16x8x128x8x128 S1x8x128x8x128 sliceFits_S16x8x128x8x128_S1x8x128x8x128.1 st 3 + h.val = h.val
      rw [c3, Nat.zero_add])
  | ⟨4, _⟩ => exact Fin.ext (by
      show Host.clampedStart S16x8x128x8x128 S1x8x128x8x128 sliceFits_S16x8x128x8x128_S1x8x128x8x128.1 st 4 + k.val = k.val
      rw [c4, Nat.zero_add])

/-- The same of the values, whose rows are twice as wide. -/
theorem chunkV (V : Vec Ideal S16x8x128x8x256 .f32) (st : Fin 5 → Int) (n : Fin 16) (h0 : st 0 = n.val)
    (h1 : st 1 = 0) (h2 : st 2 = 0) (h3 : st 3 = 0) (h4 : st 4 = 0) (b h : Fin 8) (t : Fin 128) (k : Fin 256) :
    (shapeCast S8x128x8x256 (Host.dynamicSlice S1x8x128x8x256 V st sliceFits_S16x8x128x8x256_S1x8x128x8x256)
      shapeCasts_S1x8x128x8x256_S8x128x8x256 : Vec Ideal S8x128x8x256 .f32) (ix4 b t h k) = V (ix5 n b t h k) := by
  have c0 := Host.clampedStart_of_le sliceFits_S16x8x128x8x256_S1x8x128x8x256.1 st 0 n.val h0 (by show n.val + 1 ≤ 16; omega)
  have c1 := Host.clampedStart_of_le sliceFits_S16x8x128x8x256_S1x8x128x8x256.1 st 1 0 (by exact_mod_cast h1) (by decide)
  have c2 := Host.clampedStart_of_le sliceFits_S16x8x128x8x256_S1x8x128x8x256.1 st 2 0 (by exact_mod_cast h2) (by decide)
  have c3 := Host.clampedStart_of_le sliceFits_S16x8x128x8x256_S1x8x128x8x256.1 st 3 0 (by exact_mod_cast h3) (by decide)
  have c4 := Host.clampedStart_of_le sliceFits_S16x8x128x8x256_S1x8x128x8x256.1 st 4 0 (by exact_mod_cast h4) (by decide)
  pointwise []
  congr 1
  funext a
  match a with
  | ⟨0, _⟩ => exact Fin.ext (by
      show Host.clampedStart S16x8x128x8x256 S1x8x128x8x256 sliceFits_S16x8x128x8x256_S1x8x128x8x256.1 st 0 + 0 = n.val
      rw [c0, Nat.add_zero])
  | ⟨1, _⟩ => exact Fin.ext (by
      show Host.clampedStart S16x8x128x8x256 S1x8x128x8x256 sliceFits_S16x8x128x8x256_S1x8x128x8x256.1 st 1 + b.val = b.val
      rw [c1, Nat.zero_add])
  | ⟨2, _⟩ => exact Fin.ext (by
      show Host.clampedStart S16x8x128x8x256 S1x8x128x8x256 sliceFits_S16x8x128x8x256_S1x8x128x8x256.1 st 2 + t.val = t.val
      rw [c2, Nat.zero_add])
  | ⟨3, _⟩ => exact Fin.ext (by
      show Host.clampedStart S16x8x128x8x256 S1x8x128x8x256 sliceFits_S16x8x128x8x256_S1x8x128x8x256.1 st 3 + h.val = h.val
      rw [c3, Nat.zero_add])
  | ⟨4, _⟩ => exact Fin.ext (by
      show Host.clampedStart S16x8x128x8x256 S1x8x128x8x256 sliceFits_S16x8x128x8x256_S1x8x128x8x256.1 st 4 + k.val = k.val
      rw [c4, Nat.zero_add])

theorem slice148 (V : Valuation τ sig (Elt Ideal)) (n : Fin 16) (hV : V (Proc.devRef .tc main_v120_7) = fun _ => (BitVec.ofNat 32 n.val : BitVec 32))
    (b h : Fin 8) (t k : Fin 128) : (res_main_while0b_v148 V : Vec Ideal S8x128x8x128 .f32) (ix4 b t h k)
      = (V (Proc.devRef .tc main_v120_0) : Vec Ideal S16x8x128x8x128 .f32) (ix5 n b t h k) := by
  unfold res_main_while0b_v148
  refine chunkK _ _ n ?_ rfl rfl rfl rfl b h t k
  show ((V (Proc.devRef .tc main_v120_7) : IVec S_ 32) _).toInt = _
  rw [hV]
  exact start_toInt _ n.isLt

theorem slice149 (V : Valuation τ sig (Elt Ideal)) (n : Fin 16) (hV : V (Proc.devRef .tc main_v120_7) = fun _ => (BitVec.ofNat 32 n.val : BitVec 32))
    (b h : Fin 8) (t k : Fin 128) : (res_main_while0b_v149 V : Vec Ideal S8x128x8x128 .f32) (ix4 b t h k)
      = (V (Proc.devRef .tc main_v120_1) : Vec Ideal S16x8x128x8x128 .f32) (ix5 n b t h k) := by
  unfold res_main_while0b_v149
  refine chunkK _ _ n ?_ rfl rfl rfl rfl b h t k
  show ((V (Proc.devRef .tc main_v120_7) : IVec S_ 32) _).toInt = _
  rw [hV]
  exact start_toInt _ n.isLt

theorem slice150 (V : Valuation τ sig (Elt Ideal)) (n : Fin 16) (hV : V (Proc.devRef .tc main_v120_7) = fun _ => (BitVec.ofNat 32 n.val : BitVec 32))
    (b h : Fin 8) (t : Fin 128) (d : Fin 256) : (res_main_while0b_v150 V : Vec Ideal S8x128x8x256 .f32) (ix4 b t h d)
      = (V (Proc.devRef .tc main_v120_2) : Vec Ideal S16x8x128x8x256 .f32) (ix5 n b t h d) := by
  unfold res_main_while0b_v150
  refine chunkV _ _ n ?_ rfl rfl rfl rfl b h t d
  show ((V (Proc.devRef .tc main_v120_7) : IVec S_ 32) _).toInt = _
  rw [hV]
  exact start_toInt _ n.isLt

/-- One pass's new state, at an index. -/
def newState (V : Valuation τ sig (Elt Ideal)) (b h : Fin 8) (k : Fin 128) (d : Fin 256) : EReal :=
  let s : EReal := (V (Proc.devRef .tc main_v120_8) : Vec Ideal S8x8x128x256 .f32) (ix4 b h k d)
  let a : EReal := (V (Proc.devRef .tc main_v120_5) : Vec Ideal S8 .f32) (ix1 h)
  let kx : Fin 128 → EReal := fun x => (res_main_while0b_v149 V : Vec Ideal S8x128x8x128 .f32) (ix4 b x h k)
  let w : Fin 128 → EReal := fun x => (V (Proc.devRef .tc main_v120_6) : Vec Ideal S128x8x1 .f32) (ix3 x h 0)
  let v : Fin 128 → EReal := fun x => (res_main_while0b_v150 V : Vec Ideal S8x128x8x256 .f32) (ix4 b x h d)
  s * a + ∑ x, kx x * w x * v x

theorem step8 (V : Valuation τ sig (Elt Ideal)) (b h : Fin 8) (k : Fin 128) (d : Fin 256) :
    (step_main_v120_8 V : Vec Ideal S8x8x128x256 .f32) (ix4 b h k d) = newState V b h k d := by
  unfold step_main_v120_8
  refine (id_app _ _).trans ?_
  pointwise []
  rfl

/-- One pass's output, at an index. -/
def newOut (V : Valuation τ sig (Elt Ideal)) (b h : Fin 8) (t : Fin 128) (d : Fin 256) : EReal :=
  let q : Fin 128 → EReal := fun j => (res_main_while0b_v148 V : Vec Ideal S8x128x8x128 .f32) (ix4 b t h j)
  let k : Fin 128 → Fin 128 → EReal := fun x j => (res_main_while0b_v149 V : Vec Ideal S8x128x8x128 .f32) (ix4 b x h j)
  let v : Fin 128 → EReal := fun x => (res_main_while0b_v150 V : Vec Ideal S8x128x8x256 .f32) (ix4 b x h d)
  let w : Fin 128 → EReal := fun x => (V (Proc.devRef .tc main_v120_3) : Vec Ideal S8x128x128 .f32) (ix3 h t x)
  let s : Fin 128 → EReal := fun j => (V (Proc.devRef .tc main_v120_8) : Vec Ideal S8x8x128x256 .f32) (ix4 b h j d)
  let a : EReal := (V (Proc.devRef .tc main_v120_4) : Vec Ideal S128x8x1 .f32) (ix3 t h 0)
  (∑ x, v x * ((∑ j, q j * k x j) * w x)) + (∑ j, s j * q j) * a

/-- An update of one chunk, at an index. -/
theorem update_at (W : Vec Ideal S16x8x128x8x256 .f32) (U : Vec Ideal S1x8x128x8x256 .f32) (st : Fin 5 → Int) (n : Fin 16) (h0 : st 0 = n.val)
    (h1 : st 1 = 0) (h2 : st 2 = 0) (h3 : st 3 = 0) (h4 : st 4 = 0) (n' : Fin 16) (b h : Fin 8) (t : Fin 128) (d : Fin 256) :
    (Host.dynamicUpdateSlice W U st sliceFits_S16x8x128x8x256_S1x8x128x8x256 : Vec Ideal S16x8x128x8x256 .f32) (ix5 n' b t h d)
      = if n' = n then U (ix5 0 b t h d) else W (ix5 n' b t h d) := by
  have c0 := Host.clampedStart_of_le sliceFits_S16x8x128x8x256_S1x8x128x8x256.1 st 0 n.val h0 (by show n.val + 1 ≤ 16; omega)
  have c1 := Host.clampedStart_of_le sliceFits_S16x8x128x8x256_S1x8x128x8x256.1 st 1 0 (by exact_mod_cast h1) (by decide)
  have c2 := Host.clampedStart_of_le sliceFits_S16x8x128x8x256_S1x8x128x8x256.1 st 2 0 (by exact_mod_cast h2) (by decide)
  have c3 := Host.clampedStart_of_le sliceFits_S16x8x128x8x256_S1x8x128x8x256.1 st 3 0 (by exact_mod_cast h3) (by decide)
  have c4 := Host.clampedStart_of_le sliceFits_S16x8x128x8x256_S1x8x128x8x256.1 st 4 0 (by exact_mod_cast h4) (by decide)
  rw [Host.dynamicUpdateSlice_apply]
  split
  · rename_i hin
    have e : n' = n := Fin.ext (by
      have := hin 0
      rw [c0] at this
      have h2 : n.val ≤ n'.val ∧ n'.val < n.val + 1 := this
      omega)
    subst e
    rw [if_pos rfl]
    congr 1
    funext a
    match a with
    | ⟨0, _⟩ => exact Fin.ext (by show n'.val - Host.clampedStart S16x8x128x8x256 S1x8x128x8x256 sliceFits_S16x8x128x8x256_S1x8x128x8x256.1 st 0 = 0; rw [c0]; omega)
    | ⟨1, _⟩ => exact Fin.ext (by show b.val - Host.clampedStart S16x8x128x8x256 S1x8x128x8x256 sliceFits_S16x8x128x8x256_S1x8x128x8x256.1 st 1 = b.val; rw [c1]; omega)
    | ⟨2, _⟩ => exact Fin.ext (by show t.val - Host.clampedStart S16x8x128x8x256 S1x8x128x8x256 sliceFits_S16x8x128x8x256_S1x8x128x8x256.1 st 2 = t.val; rw [c2]; omega)
    | ⟨3, _⟩ => exact Fin.ext (by show h.val - Host.clampedStart S16x8x128x8x256 S1x8x128x8x256 sliceFits_S16x8x128x8x256_S1x8x128x8x256.1 st 3 = h.val; rw [c3]; omega)
    | ⟨4, _⟩ => exact Fin.ext (by show d.val - Host.clampedStart S16x8x128x8x256 S1x8x128x8x256 sliceFits_S16x8x128x8x256_S1x8x128x8x256.1 st 4 = d.val; rw [c4]; omega)
  · rename_i hin
    rw [if_neg]
    intro e
    subst e
    refine hin fun a => ?_
    match a with
    | ⟨0, _⟩ => show Host.clampedStart S16x8x128x8x256 S1x8x128x8x256 sliceFits_S16x8x128x8x256_S1x8x128x8x256.1 st 0 ≤ n'.val ∧ n'.val < Host.clampedStart S16x8x128x8x256 S1x8x128x8x256 sliceFits_S16x8x128x8x256_S1x8x128x8x256.1 st 0 + 1; rw [c0]; omega
    | ⟨1, _⟩ => show Host.clampedStart S16x8x128x8x256 S1x8x128x8x256 sliceFits_S16x8x128x8x256_S1x8x128x8x256.1 st 1 ≤ b.val ∧ b.val < Host.clampedStart S16x8x128x8x256 S1x8x128x8x256 sliceFits_S16x8x128x8x256_S1x8x128x8x256.1 st 1 + 8; rw [c1]; omega
    | ⟨2, _⟩ => show Host.clampedStart S16x8x128x8x256 S1x8x128x8x256 sliceFits_S16x8x128x8x256_S1x8x128x8x256.1 st 2 ≤ t.val ∧ t.val < Host.clampedStart S16x8x128x8x256 S1x8x128x8x256 sliceFits_S16x8x128x8x256_S1x8x128x8x256.1 st 2 + 128; rw [c2]; omega
    | ⟨3, _⟩ => show Host.clampedStart S16x8x128x8x256 S1x8x128x8x256 sliceFits_S16x8x128x8x256_S1x8x128x8x256.1 st 3 ≤ h.val ∧ h.val < Host.clampedStart S16x8x128x8x256 S1x8x128x8x256 sliceFits_S16x8x128x8x256_S1x8x128x8x256.1 st 3 + 8; rw [c3]; omega
    | ⟨4, _⟩ => show Host.clampedStart S16x8x128x8x256 S1x8x128x8x256 sliceFits_S16x8x128x8x256_S1x8x128x8x256.1 st 4 ≤ d.val ∧ d.val < Host.clampedStart S16x8x128x8x256 S1x8x128x8x256 sliceFits_S16x8x128x8x256_S1x8x128x8x256.1 st 4 + 256; rw [c4]; omega

theorem step9 (V : Valuation τ sig (Elt Ideal)) (n : Fin 16) (hV : V (Proc.devRef .tc main_v120_7) = fun _ => (BitVec.ofNat 32 n.val : BitVec 32))
    (n' : Fin 16) (b h : Fin 8) (t : Fin 128) (d : Fin 256) :
    ((step_main_v120_9 V : Vec Ideal S16x8x128x8x256 .f32) (ix5 n' b t h d) : EReal)
      = if n' = n then newOut V b h t d else (V (Proc.devRef .tc main_v120_9) : Vec Ideal S16x8x128x8x256 .f32) (ix5 n' b t h d) := by
  unfold step_main_v120_9
  refine (id_app _ _).trans ?_
  refine (update_at _ _ _ n ?_ rfl rfl rfl rfl n' b h t d).trans ?_
  · show ((V (Proc.devRef .tc main_v120_7) : IVec S_ 32) _).toInt = _
    rw [hV]
    exact start_toInt _ n.isLt
  · split
    · pointwise []
      rfl
    · rfl

/-- The state before pass `n`. -/
theorem state_at (n : ℕ) (hn : n ≤ 16) (b h : Fin 8) (k : Fin 128) (d : Fin 256) :
    ((at_ m c n (Proc.devRef .tc main_v120_8) : Vec Ideal S8x8x128x256 .f32) (ix4 b h k d) : EReal)
      = state (argK m c) (argV m c) b.val h n k d := by
  induction n generalizing k d with
  | zero => exact entry_state m c b h k d
  | succ n ih =>
    have hc := counter m c n
    rw [at_succ, STEP_main_v120_8, step8]
    unfold newState state
    refine congrArg₂ (· + ·) (congrArg₂ (· * ·) (ih (by omega) k d) ?_) (Finset.sum_congr rfl fun x _ => ?_)
    · rw [kept5, entry_whole]
    beta_reduce
    rw [slice149 _ ⟨n, hn⟩ hc, slice150 _ ⟨n, hn⟩ hc, kept1, kept2, kept6, entry_k, entry_v, entry_into]

theorem newOut_at (n : Fin 16) (b h : Fin 8) (t : Fin 128) (d : Fin 256) :
    newOut (at_ m c n.val) b h t d = out (argQ m c) (argK m c) (argV m c) b.val h n.val t d := by
  have hc := counter m c n.val
  unfold newOut out
  refine congrArg₂ (· + ·) (Finset.sum_congr rfl fun x _ => ?_) (congrArg₂ (· * ·) (Finset.sum_congr rfl fun j _ => ?_) ?_)
  · beta_reduce
    rw [slice150 _ n hc, kept2, kept3, entry_v, entry_intra, mul_comm]
    refine congrArg (· * _ * _) (Finset.sum_congr rfl fun j _ => ?_)
    rw [slice148 _ n hc, slice149 _ n hc, kept0, kept1, entry_q, entry_k]
  · beta_reduce
    rw [state_at m c n.val (by omega), slice148 _ n hc, kept0, entry_q, mul_comm]
  · rw [kept4, entry_cross]

/-- The outputs stored before pass `n`. -/
theorem outs_at (n : ℕ) (hn : n ≤ 16) (n' : Fin 16) (hn' : n'.val < n) (b h : Fin 8) (t : Fin 128) (d : Fin 256) :
    ((at_ m c n (Proc.devRef .tc main_v120_9) : Vec Ideal S16x8x128x8x256 .f32) (ix5 n' b t h d) : EReal)
      = out (argQ m c) (argK m c) (argV m c) b.val h n'.val t d := by
  induction n with
  | zero => omega
  | succ n ih =>
    rw [at_succ, STEP_main_v120_9, step9 _ ⟨n, hn⟩ (counter m c n)]
    split
    · rename_i e
      subst e
      exact newOut_at m c ⟨n, hn⟩ b h t d
    · rename_i e
      exact ih (by omega) (by have : n'.val ≠ n := fun h => e (Fin.ext h); omega)

/-- The reference's last lines, at an index. -/
theorem out147_form (V : Valuation τ sig (Elt Ideal)) (r : Fin 16384) (d : Fin 2048) :
    (out_main_v147 V : Vec Ideal S16384x2048 .f32) (ix2 r d)
      = normed (fun x => (V (Proc.devRef .tc main_v120_9) : Vec Ideal S16x8x128x8x256 .f32)
            (ix5 ⟨r.val % 2048 / 128, by omega⟩ ⟨r.val / 2048, by omega⟩ ⟨r.val % 2048 % 128, by omega⟩ ⟨d.val / 256, by omega⟩ x))
          ⟨d.val % 256, by omega⟩
          ((V (Proc.devRef .tc main_arg4) : Vec Ideal S1x2048 .f32) (ix2 0 d))
          ((V (Proc.devRef .tc main_arg3) : Vec Ideal S16384x2048 .f32) (ix2 r d)) := by
  unfold out_main_v147
  pointwise []
  rfl

/-- The program's first result, at an index: the normalised and gated output. -/
theorem out147 (r : Fin 16384) (d : Fin 2048) :
    (out_main_v147 (at_ m c 16) : Vec Ideal S16384x2048 .f32) (ix2 r d)
      = normed (out (argQ m c) (argK m c) (argV m c) (r.val / 2048) ⟨d.val / 256, by omega⟩ (r.val % 2048 / 128) ⟨r.val % 2048 % 128, by omega⟩)
          ⟨d.val % 256, by omega⟩
          ((m ((c.tc : Thread nD τ).loc main_arg4) : Vec Ideal S1x2048 .f32) (ix2 0 d))
          ((m ((c.tc : Thread nD τ).loc main_arg3) : Vec Ideal S16384x2048 .f32) (ix2 r d)) := by
  have e3 : at_ m c 16 (Proc.devRef .tc main_arg3) = m ((c.tc : Thread nD τ).loc main_arg3) := iter_main_arg3 m c 16
  have e4 : at_ m c 16 (Proc.devRef .tc main_arg4) = m ((c.tc : Thread nD τ).loc main_arg4) := iter_main_arg4 m c 16
  rw [out147_form, e3, e4]
  refine congrArg (fun o => normed o _ _ _) (funext fun x => ?_)
  exact outs_at m c 16 le_rfl _ (by show r.val % 2048 / 128 < 16; omega) _ _ _ _

end Cert.ReferenceIdeal.Ret
end
-- ==== Proof.Ret.Claim.lean ====
/-
  The retention of the prompt: the kernel and the reference end with the same two results over the extended reals.
-/
module

public import proofs.«01_k».proof.Defs
public import proofs.«01_k».proof.Proof.Ret.Join
public import proofs.«01_k».proof.Proof.Ret.RefStep

@[expose] public section

noncomputable section
open Idealize.ShloMosaic Idealize.ShloMosaic.TcCoe Idealize.SL.Sem
namespace Cert.Ret
open Cert.ReferenceIdeal.Value (STEP)

theorem algebraic : Cert.algebraic_KernelIdeal_ReferenceIdeal (hKernelIdeal := Cert.KernelIdeal.Gen.facts) (hReferenceIdeal := Cert.ReferenceIdeal.Gen.facts) := by
  intro m g m' g' _ hm
  refine ⟨fun c => Cert.KernelIdeal.Ret.resY m c, fun c => Cert.KernelIdeal.Ret.resS m c, ?_, ?_⟩
  · refine (θ_run _ _ _).mono (fun r h c => ?_) (Cert.KernelIdeal.Value.run_blocks m g)
    obtain ⟨h0, h1, h2⟩ := h c
    exact ⟨h0.trans (Cert.KernelIdeal.Ret.final11 m c), h1.trans (Cert.KernelIdeal.Ret.final12 m c), h2⟩
  · refine (θ_run _ _ _).mono (fun r h c => ?_) (Cert.ReferenceIdeal.Value.run m' g')
    obtain ⟨h0, h1, h2⟩ := h c
    obtain ⟨a0, a1, a2, a3, a4⟩ := hm c
    have eQ : Cert.ReferenceIdeal.Ret.argQ m' c = Cert.KernelIdeal.Ret.argQ m c := funext fun r => funext fun j => congrFun a0 (ix2 r j)
    have eK : Cert.ReferenceIdeal.Ret.argK m' c = Cert.KernelIdeal.Ret.argK m c := funext fun r => funext fun j => congrFun a1 (ix2 r j)
    have eV : Cert.ReferenceIdeal.Ret.argV m' c = Cert.KernelIdeal.Ret.argV m c := funext fun r => funext fun j => congrFun a2 (ix2 r j)
    refine ⟨h0.trans (funext fun i => ?_), h1.trans (funext fun i => ?_), h2⟩
    · have ei : i = ix2 (i 0) (i 1) := funext fun a => by
        match a with
        | ⟨0, _⟩ => rfl
        | ⟨1, _⟩ => rfl
      refine (congrArg _ ei).trans ((Cert.ReferenceIdeal.Ret.out147 m' c (i 0) (i 1)).trans ?_)
      rw [eQ, eK, eV]
      exact congrArg₂ (normed _ _) (congrFun a4 (ix2 0 (i 1))) (congrFun a3 (ix2 (i 0) (i 1)))
    · have ei : i = ix4 (i 0) (i 1) (i 2) (i 3) := funext fun a => by
        match a with
        | ⟨0, _⟩ => rfl
        | ⟨1, _⟩ => rfl
        | ⟨2, _⟩ => rfl
        | ⟨3, _⟩ => rfl
      refine (congrArg _ ei).trans ((Cert.ReferenceIdeal.Ret.state_at m' c 16 le_rfl (i 0) (i 1) (i 2) (i 3)).trans ?_)
      rw [eK, eV]
      rfl

end Cert.Ret
end
-- ==== Proof.In.Norm.lean ====
/-
  A row normalised by its root mean square and scaled, entry by entry, over the extended reals.
-/
module

public import Idealize.ShloMosaic.Lib.Pointwise

@[expose] public section

noncomputable section
open Idealize.ShloMosaic
namespace Cert.Nrm

/-- The entry `k` of the row `x` normalised by its root mean square and scaled by `g`. -/
def rms (x g : Fin 1024 → EReal) (k : Fin 1024) : EReal :=
  x k * Ideal.rsqrt (Ideal.div (∑ i : Fin 1024, x i * x i) (Ideal.ofBits FTy.f32 1149239296#32) + Ideal.ofBits FTy.f32 897988541#32) * g k

end Cert.Nrm
end
-- ==== Proof.Ffn.Spec.lean ====
/-
  The feed-forward network, entry by entry, over the extended reals: rows normalised and widened, a causal convolution of
  three taps along each sequence, one half gating the other, the product narrowed and added to the rows.
-/
module

public import proofs.«01_k».proof.Proof.In.Norm

@[expose] public section

noncomputable section
open Idealize.ShloMosaic
namespace Cert.Ffn
open Cert.Nrm

/-- Row `t` of sequence `b` among all rows. -/
def row (b t : ℕ) : Fin 16384 := ⟨(b * 2048 + t) % 16384, Nat.mod_lt _ (by decide)⟩

section
variable (X : Fin 16384 → Fin 1024 → EReal) (G : Fin 1024 → EReal) (W : Fin 1024 → Fin 5632 → EReal)
  (CW : Fin 3 → Fin 5632 → EReal) (CB : Fin 5632 → EReal) (WD : Fin 2816 → Fin 1024 → EReal) (GF : Fin 1024 → EReal) (b : ℕ)

/-- The widened row `t`. -/
def wide (t : ℕ) (j : Fin 5632) : EReal := ∑ k : Fin 1024, rms (X (row b t)) G k * W k j

/-- The widened rows after eight rows of zeros. -/
def pad (t : ℕ) (j : Fin 5632) : EReal := if t < 8 then 0 else wide X G W b (t - 8) j

/-- The convolution of the widened rows. -/
def conv (t : ℕ) (j : Fin 5632) : EReal :=
  CB j + pad X G W b (t + 6) j * CW 0 j + pad X G W b (t + 7) j * CW 1 j + wide X G W b t j * CW 2 j

/-- The gated row `t`. -/
def act (t : ℕ) (j : Fin 2816) : EReal :=
  conv X G W CW CB b t ⟨j.val, by omega⟩ * Ideal.logistic (conv X G W CW CB b t ⟨j.val, by omega⟩) * conv X G W CW CB b t ⟨2816 + j.val, by omega⟩

/-- The row `t` with the network's output added. -/
def total (t : ℕ) (k : Fin 1024) : EReal := X (row b t) k + ∑ j : Fin 2816, act X G W CW CB b t j * WD j k

/-- The same, normalised. -/
def normed (t : ℕ) (k : Fin 1024) : EReal := rms (total X G W CW CB WD b t) GF k

theorem pad_add (t : ℕ) (j : Fin 5632) : pad X G W b (t + 8) j = wide X G W b t j := by
  unfold pad
  rw [if_neg (by omega), Nat.add_sub_cancel]

end

end Cert.Ffn
end
-- ==== Proof.Ffn.Ref.lean ====
/-
  The feed-forward network's reference, entry by entry.
-/
module

public import proofs.«01_k».proof.Proof.Gen.RFfnIdeal.Run
public import proofs.«01_k».proof.Proof.Ffn.Spec

@[expose] public section

noncomputable section
open Idealize.ShloMosaic Idealize.ShloMosaic.TcCoe Idealize.SL.Sem
namespace Cert.RFfnIdeal.Ffn
open Cert.RFfnIdeal Cert.RFfnIdeal.Gen Cert.RFfnIdeal.Value Cert.Nrm Cert.Ffn

/-- Rows normalised and scaled. -/
def nrm (y : FVec Ideal S8x2048x1024 .f32) (g : FVec Ideal S1024 .f32) : FVec Ideal S8x2048x1024 .f32 :=
  mulf (mulf y (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf y y) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))

/-- The rows, sequence by sequence. -/
def rows (x : FVec Ideal S16384x1024 .f32) : FVec Ideal S8x2048x1024 .f32 := shapeCast _ x shapeCasts_S16384x1024_S8x2048x1024

/-- The widened rows. -/
def wid (x : FVec Ideal S16384x1024 .f32) (g : FVec Ideal S1024 .f32) (w : FVec Ideal S1024x5632 .f32) : FVec Ideal S8x2048x5632 .f32 :=
  Host.dotGeneral dot_S8x2048x1024_S1024x5632_S8x2048x5632_2_0_01_1_n_n none (nrm (rows x) g) w

/-- The widened rows after two rows of zeros. -/
def ext (u : FVec Ideal S8x2048x5632 .f32) : FVec Ideal S8x2050x5632 .f32 :=
  concatenate S8x2050x5632 1 [⟨S8x2x5632, (broadcastInDim S8x2x5632 ![] bcast_S_S8x2x5632 (constant (F := Ideal) S_ .f32 0x00000000#32))⟩, ⟨S8x2048x5632, u⟩] concatenates_S8x2x5632_S8x2048x5632_S8x2050x5632_d1

/-- The convolution of three taps. -/
def cnv (u : FVec Ideal S8x2050x5632 .f32) (cw : FVec Ideal S3x5632 .f32) (cb : FVec Ideal S5632 .f32) : FVec Ideal S8x2048x5632 .f32 :=
  addf (addf (addf (broadcastInDim S8x2048x5632 ![0, 1, 2] bcast_S1x1x5632_S8x2048x5632_0_1_2 (broadcastInDim S1x1x5632 ![2] bcast_S5632_S1x1x5632_2 cb)) (mulf (extractStridedSlice S8x2048x5632 ![0, 0, 0] u slices_S8x2050x5632_S8x2048x5632_0_0_0) (broadcastInDim S8x2048x5632 ![0, 1, 2] bcast_S1x1x5632_S8x2048x5632_0_1_2 (broadcastInDim S1x1x5632 ![2] bcast_S5632_S1x1x5632_2 (shapeCast _ (extractStridedSlice S1x5632 ![0, 0] cw slices_S3x5632_S1x5632_0_0) shapeCasts_S1x5632_S5632))))) (mulf (extractStridedSlice S8x2048x5632 ![0, 1, 0] u slices_S8x2050x5632_S8x2048x5632_0_1_0) (broadcastInDim S8x2048x5632 ![0, 1, 2] bcast_S1x1x5632_S8x2048x5632_0_1_2 (broadcastInDim S1x1x5632 ![2] bcast_S5632_S1x1x5632_2 (shapeCast _ (extractStridedSlice S1x5632 ![1, 0] cw slices_S3x5632_S1x5632_1_0) shapeCasts_S1x5632_S5632))))) (mulf (extractStridedSlice S8x2048x5632 ![0, 2, 0] u slices_S8x2050x5632_S8x2048x5632_0_2_0) (broadcastInDim S8x2048x5632 ![0, 1, 2] bcast_S1x1x5632_S8x2048x5632_0_1_2 (broadcastInDim S1x1x5632 ![2] bcast_S5632_S1x1x5632_2 (shapeCast _ (extractStridedSlice S1x5632 ![2, 0] cw slices_S3x5632_S1x5632_2_0) shapeCasts_S1x5632_S5632))))

/-- One half gating the other, narrowed and added to the rows. -/
def tot (y : FVec Ideal S8x2048x1024 .f32) (v : FVec Ideal S8x2048x5632 .f32) (wd : FVec Ideal S2816x1024 .f32) : FVec Ideal S8x2048x1024 .f32 :=
  addf y (Host.dotGeneral dot_S8x2048x2816_S2816x1024_S8x2048x1024_2_0_01_1_n_n none (mulf (mulf (extractStridedSlice S8x2048x2816 ![0, 0, 0] v slices_S8x2048x5632_S8x2048x2816_0_0_0) (Host.divf (broadcastInDim S8x2048x2816 ![] bcast_S_S8x2048x2816 (constant S_ .f32 0x3F800000#32)) (addf (broadcastInDim S8x2048x2816 ![] bcast_S_S8x2048x2816 (constant S_ .f32 0x3F800000#32)) (Host.exp (Host.negf (extractStridedSlice S8x2048x2816 ![0, 0, 0] v slices_S8x2048x5632_S8x2048x2816_0_0_0)))))) (extractStridedSlice S8x2048x2816 ![0, 0, 2816] v slices_S8x2048x5632_S8x2048x2816_0_0_2816)) wd)

theorem nrm_apply (y : FVec Ideal S8x2048x1024 .f32) (g : FVec Ideal S1024 .f32) (b : Fin 8) (t : Fin 2048) (k : Fin 1024) :
    (nrm y g (ix3 b t k) : EReal) = rms (fun k => y (ix3 b t k)) (fun k => g (ix1 k)) k := by
  pointwise [nrm]
  rfl

theorem cnv_apply (u : FVec Ideal S8x2050x5632 .f32) (cw : FVec Ideal S3x5632 .f32) (cb : FVec Ideal S5632 .f32) (b : Fin 8) (t : Fin 2048) (j : Fin 5632) :
    (cnv u cw cb (ix3 b t j) : EReal) = cb (ix1 j) + u (ix3 b ⟨t.val, by omega⟩ j) * cw (ix2 0 j) + u (ix3 b ⟨t.val + 1, by omega⟩ j) * cw (ix2 1 j)
      + u (ix3 b ⟨t.val + 2, by omega⟩ j) * cw (ix2 2 j) := by
  pointwise [cnv]
  simp only [Nat.add_comm]

theorem tot_apply (y : FVec Ideal S8x2048x1024 .f32) (v : FVec Ideal S8x2048x5632 .f32) (wd : FVec Ideal S2816x1024 .f32) (b : Fin 8) (t : Fin 2048) (k : Fin 1024) :
    (tot y v wd (ix3 b t k) : EReal) = y (ix3 b t k) + ∑ j : Fin 2816, v (ix3 b t ⟨j.val, by omega⟩) * Ideal.logistic (v (ix3 b t ⟨j.val, by omega⟩))
      * v (ix3 b t ⟨2816 + j.val, by omega⟩) * wd (ix2 j k) := by
  pointwise [tot]
  rfl

theorem ext_apply (u : FVec Ideal S8x2048x5632 .f32) (b : Fin 8) (t : Fin 2050) (j : Fin 5632) :
    (ext u (ix3 b t j) : EReal) = if h : t.val < 2 then 0 else u (ix3 b ⟨t.val - 2, by omega⟩ j) := by
  pointwise [ext]

theorem rows_apply (x : FVec Ideal S16384x1024 .f32) (b : Fin 8) (t : Fin 2048) (k : Fin 1024) :
    (rows x (ix3 b t k) : EReal) = x (ix2 (row b.val t.val) k) := by
  pointwise [rows]
  exact congrArg (fun r => x (ix2 r k)) (Fin.ext (show b.val * 2048 + t.val = (b.val * 2048 + t.val) % 16384 from (Nat.mod_eq_of_lt (by omega)).symm))

theorem wid_apply (x : FVec Ideal S16384x1024 .f32) (g : FVec Ideal S1024 .f32) (w : FVec Ideal S1024x5632 .f32) (b : Fin 8) (t : Fin 2048) (j : Fin 5632) :
    (wid x g w (ix3 b t j) : EReal) = ∑ k : Fin 1024, nrm (rows x) g (ix3 b t k) * w (ix2 k j) := by
  pointwise [wid]

theorem flat_apply (y : FVec Ideal S8x2048x1024 .f32) (r : Fin 16384) (k : Fin 1024) :
    ((shapeCast S16384x1024 y shapeCasts_S8x2048x1024_S16384x1024 : FVec Ideal S16384x1024 .f32) (ix2 r k) : EReal)
      = y (ix3 ⟨r.val / 2048, by omega⟩ ⟨r.val % 2048, by omega⟩ k) := by
  pointwise []

theorem flatT_apply (y : FVec Ideal S8x2050x5632 .f32) (r : Fin 64) (j : Fin 5632) :
    ((shapeCast S64x5632 (extractStridedSlice S8x8x5632 ![0, 2042, 0] y slices_S8x2050x5632_S8x8x5632_0_2042_0) shapeCasts_S8x8x5632_S64x5632 : FVec Ideal S64x5632 .f32) (ix2 r j) : EReal)
      = y (ix3 ⟨r.val / 8, by omega⟩ ⟨2042 + r.val % 8, by omega⟩ j) := by
  pointwise []

theorem res60 (m : (ℓ : Loc nD τ sig) → Buf (Elt Ideal) ℓ) (c : Dev nD) :
    res_main_v60 m c = shapeCast S16384x1024 (tot (rows (m ((c.tc : Thread nD τ).loc main_arg0)))
      (cnv (ext (wid (m ((c.tc : Thread nD τ).loc main_arg0)) (m ((c.tc : Thread nD τ).loc main_arg1)) (m ((c.tc : Thread nD τ).loc main_arg2)))) (m ((c.tc : Thread nD τ).loc main_arg3)) (m ((c.tc : Thread nD τ).loc main_arg4)))
      (m ((c.tc : Thread nD τ).loc main_arg5))) shapeCasts_S8x2048x1024_S16384x1024 := rfl

theorem res62 (m : (ℓ : Loc nD τ sig) → Buf (Elt Ideal) ℓ) (c : Dev nD) :
    res_main_v62 m c = shapeCast S16384x1024 (nrm (tot (rows (m ((c.tc : Thread nD τ).loc main_arg0)))
      (cnv (ext (wid (m ((c.tc : Thread nD τ).loc main_arg0)) (m ((c.tc : Thread nD τ).loc main_arg1)) (m ((c.tc : Thread nD τ).loc main_arg2)))) (m ((c.tc : Thread nD τ).loc main_arg3)) (m ((c.tc : Thread nD τ).loc main_arg4)))
      (m ((c.tc : Thread nD τ).loc main_arg5))) (m ((c.tc : Thread nD τ).loc main_arg6))) shapeCasts_S8x2048x1024_S16384x1024 := rfl

section
variable (x x' : FVec Ideal S16384x1024 .f32) (g g' : FVec Ideal S1024 .f32) (w w' : FVec Ideal S1024x5632 .f32)
  (cw cw' : FVec Ideal S3x5632 .f32) (cb cb' : FVec Ideal S5632 .f32) (wd wd' : FVec Ideal S2816x1024 .f32) (gf gf' : FVec Ideal S1024 .f32)

theorem wid_eq (b : Fin 8) (t : Fin 2048) (j : Fin 5632) :
    (wid x g w (ix3 b t j) : EReal) = wide (fun r k => x (ix2 r k)) (fun k => g (ix1 k)) (fun k j => w (ix2 k j)) b.val t.val j := by
  refine (wid_apply x g w b t j).trans (Finset.sum_congr rfl fun k _ => congrArg (· * w (ix2 k j)) ?_)
  refine (nrm_apply (rows x) g b t k).trans (congrArg (fun z => rms z (fun k => g (ix1 k)) k) ?_)
  exact funext fun k => rows_apply x b t k

theorem ext_eq (b : Fin 8) (t : Fin 2050) (j : Fin 5632) :
    (ext (wid x g w) (ix3 b t j) : EReal) = pad (fun r k => x (ix2 r k)) (fun k => g (ix1 k)) (fun k j => w (ix2 k j)) b.val (t.val + 6) j := by
  refine (ext_apply (wid x g w) b t j).trans ?_
  unfold Cert.Ffn.pad
  by_cases h : t.val < 2
  · rw [dif_pos h, if_pos (by omega)]
  · rw [dif_neg h, if_neg (by omega)]
    refine (wid_eq x g w b ⟨t.val - 2, by omega⟩ j).trans ?_
    exact congrArg (fun n => wide (fun r k => x (ix2 r k)) (fun k => g (ix1 k)) (fun k j => w (ix2 k j)) b.val n j) (by show t.val - 2 = t.val + 6 - 8; omega)

theorem cnv_eq (b : Fin 8) (t : Fin 2048) (j : Fin 5632) :
    (cnv (ext (wid x g w)) cw cb (ix3 b t j) : EReal) = conv (fun r k => x (ix2 r k)) (fun k => g (ix1 k)) (fun k j => w (ix2 k j))
      (fun q j => cw (ix2 q j)) (fun j => cb (ix1 j)) b.val t.val j := by
  refine (cnv_apply (ext (wid x g w)) cw cb b t j).trans ?_
  unfold Cert.Ffn.conv
  exact congrArg₂ (· + ·) (congrArg₂ (· + ·) (congrArg (cb (ix1 j) + ·) (congrArg (· * cw (ix2 0 j)) (ext_eq x g w b _ j)))
    (congrArg (· * cw (ix2 1 j)) (ext_eq x g w b _ j))) (congrArg (· * cw (ix2 2 j)) ((ext_eq x g w b _ j).trans (pad_add _ _ _ _ _ _)))

theorem tot_eq (b : Fin 8) (t : Fin 2048) (k : Fin 1024) :
    (tot (rows x) (cnv (ext (wid x g w)) cw cb) wd (ix3 b t k) : EReal) = total (fun r k => x (ix2 r k)) (fun k => g (ix1 k)) (fun k j => w (ix2 k j))
      (fun q j => cw (ix2 q j)) (fun j => cb (ix1 j)) (fun j k => wd (ix2 j k)) b.val t.val k := by
  refine (tot_apply (rows x) (cnv (ext (wid x g w)) cw cb) wd b t k).trans ?_
  unfold Cert.Ffn.total
  refine congrArg₂ (· + ·) (rows_apply x b t k) (Finset.sum_congr rfl fun j _ => congrArg (· * wd (ix2 j k)) ?_)
  unfold Cert.Ffn.act
  rw [cnv_eq, cnv_eq]

theorem out60 (hx : x = x') (hg : g = g') (hw : w = w') (hcw : cw = cw') (hcb : cb = cb') (hwd : wd = wd') (r : Fin 16384) (k : Fin 1024) :
    ((shapeCast S16384x1024 (tot (rows x) (cnv (ext (wid x g w)) cw cb) wd) shapeCasts_S8x2048x1024_S16384x1024 : FVec Ideal S16384x1024 .f32) (ix2 r k) : EReal)
      = total (fun r k => x' (ix2 r k)) (fun k => g' (ix1 k)) (fun k j => w' (ix2 k j))
      (fun q j => cw' (ix2 q j)) (fun j => cb' (ix1 j)) (fun j k => wd' (ix2 j k)) (r.val / 2048) (r.val % 2048) k := by
  subst hx hg hw hcw hcb hwd
  exact (flat_apply _ r k).trans (tot_eq x g w cw cb wd _ _ k)

theorem out62 (hx : x = x') (hg : g = g') (hw : w = w') (hcw : cw = cw') (hcb : cb = cb') (hwd : wd = wd') (hgf : gf = gf') (r : Fin 16384) (k : Fin 1024) :
    ((shapeCast S16384x1024 (nrm (tot (rows x) (cnv (ext (wid x g w)) cw cb) wd) gf) shapeCasts_S8x2048x1024_S16384x1024 : FVec Ideal S16384x1024 .f32) (ix2 r k) : EReal)
      = normed (fun r k => x' (ix2 r k)) (fun k => g' (ix1 k)) (fun k j => w' (ix2 k j))
      (fun q j => cw' (ix2 q j)) (fun j => cb' (ix1 j)) (fun j k => wd' (ix2 j k)) (fun k => gf' (ix1 k)) (r.val / 2048) (r.val % 2048) k := by
  subst hx hg hw hcw hcb hwd hgf
  refine (flat_apply _ r k).trans ((nrm_apply _ gf _ _ k).trans ?_)
  unfold Cert.Ffn.normed
  exact congrArg (fun z => rms z (fun k => gf (ix1 k)) k) (funext fun k => tot_eq x g w cw cb wd _ _ k)

theorem out61 (hx : x = x') (hg : g = g') (hw : w = w') (r : Fin 64) (j : Fin 5632) :
    ((shapeCast S64x5632 (extractStridedSlice S8x8x5632 ![0, 2042, 0] (ext (wid x g w)) slices_S8x2050x5632_S8x8x5632_0_2042_0) shapeCasts_S8x8x5632_S64x5632 : FVec Ideal S64x5632 .f32) (ix2 r j) : EReal)
      = wide (fun r k => x' (ix2 r k)) (fun k => g' (ix1 k)) (fun k j => w' (ix2 k j)) (r.val / 8) (2040 + r.val % 8) j := by
  subst hx hg hw
  refine (flatT_apply _ r j).trans ((ext_eq x g w _ _ j).trans ?_)
  refine Eq.trans (congrArg (fun n => pad (fun r k => x (ix2 r k)) (fun k => g (ix1 k)) (fun k j => w (ix2 k j)) (r.val / 8) n j) ?_) (pad_add _ _ _ _ (2040 + r.val % 8) j)
  show 2042 + r.val % 8 + 6 = 2040 + r.val % 8 + 8
  omega
end

end Cert.RFfnIdeal.Ffn
end
-- ==== Proof.Ffn.Body.lean ====
/- One grid point of the feed-forward kernel in closed form: what the body stores is a function of the blocks it reads and
   of the eight rows the point before left. The four column groups of the widened rows are treated alike. -/
module

public import proofs.«01_k».proof.Proof.Gen.KFfnIdeal.Frame
public import Idealize.ShloMosaic.Lib.Pipeline.Value
public import Idealize.ShloMosaic.Lib.Pipeline.ValueKit
public import Idealize.ShloMosaic.Lib.Pipeline.ReadBack

@[expose] public section

noncomputable section

open Idealize.ShloMosaic Idealize.ShloMosaic.TcCoe Idealize.SL.Sem

namespace Cert.KFfnIdeal.Ffn

open Cert.KFfnIdeal Cert.KFfnIdeal.Gen

variable {F : FTy → Type} [FloatOps F]

/-- A group of 1408 columns begins within the 5632. -/
theorem inW {n : ℕ} (hn : n < 4) (a) : (![0, 1408 * n] : Fin 2 → ℕ) a + S1024x1408.size a ≤ S1024x5632.size a := by
  match a with
  | ⟨0, _⟩ => show 0 + 1024 ≤ 1024; omega
  | ⟨1, _⟩ => show 1408 * n + 1408 ≤ 5632; omega

theorem inC {n : ℕ} (hn : n < 4) (a) : (![0, 1408 * n] : Fin 2 → ℕ) a + S8x1408.size a ≤ S8x5632.size a := by
  match a with
  | ⟨0, _⟩ => show 0 + 8 ≤ 8; omega
  | ⟨1, _⟩ => show 1408 * n + 1408 ≤ 5632; omega

theorem inB {n : ℕ} (hn : n < 4) (a) : (![0, 1408 * n] : Fin 2 → ℕ) a + S1x1408.size a ≤ S1x5632.size a := by
  match a with
  | ⟨0, _⟩ => show 0 + 1 ≤ 1; omega
  | ⟨1, _⟩ => show 1408 * n + 1408 ≤ 5632; omega

theorem inT {k n : ℕ} (hk : k < 3) (hn : n < 4) (a) : (![k, 1408 * n] : Fin 2 → ℕ) a + S1x1408.size a ≤ S3x5632.size a := by
  match a with
  | ⟨0, _⟩ => show k + 1 ≤ 3; omega
  | ⟨1, _⟩ => show 1408 * n + 1408 ≤ 5632; omega

/-- The scratch of one group: eight rows of history, then the block's rows. -/
def scr (p : Vec F S8x1408 .f32) (u : Vec F S256x1408 .f32) : Vec F S264x1408 .f32 := fun i =>
  if h : (i 0).val < 8 then p (fun a => match a with
      | ⟨0, _⟩ => (⟨(i 0).val, h⟩ : Fin 8)
      | ⟨1, _⟩ => (⟨(i 1).val, (i 1).isLt⟩ : Fin 1408))
  else u (fun a => match a with
      | ⟨0, _⟩ => (⟨(i 0).val - 8, by have h2 : (i 0).val < 264 := (i 0).isLt; omega⟩ : Fin 256)
      | ⟨1, _⟩ => (⟨(i 1).val, (i 1).isLt⟩ : Fin 1408))

theorem scr_p (p : Vec F S8x1408 .f32) (u : Vec F S256x1408 .f32) (x : S8x1408.Idx) :
    p x = scr p u ((Rect.unit (s := S264x1408) ![0, 0] S8x1408.size inb_S264x1408_S8x1408_0_0).emb x) := by
  have e0 : (((Rect.unit (s := S264x1408) ![0, 0] S8x1408.size inb_S264x1408_S8x1408_0_0).emb x) 0).val = 0 + 1 * (x 0).val := rfl
  have e1 : (((Rect.unit (s := S264x1408) ![0, 0] S8x1408.size inb_S264x1408_S8x1408_0_0).emb x) 1).val = 0 + 1 * (x 1).val := rfl
  have hx : (x 0).val < 8 := (x 0).isLt
  unfold scr
  generalize ((Rect.unit (s := S264x1408) ![0, 0] S8x1408.size inb_S264x1408_S8x1408_0_0).emb x) = i at e0 e1 ⊢
  rw [dif_pos (by omega)]
  congr 1
  funext a
  apply Fin.ext
  match a with
  | ⟨0, _⟩ => show (x 0).val = (i 0).val; omega
  | ⟨1, _⟩ => show (x 1).val = (i 1).val; omega

theorem scr_u (p : Vec F S8x1408 .f32) (u : Vec F S256x1408 .f32) (x : S256x1408.Idx) :
    u x = scr p u ((Rect.unit (s := S264x1408) ![8, 0] S256x1408.size inb_S264x1408_S256x1408_8_0).emb x) := by
  have e0 : (((Rect.unit (s := S264x1408) ![8, 0] S256x1408.size inb_S264x1408_S256x1408_8_0).emb x) 0).val = 8 + 1 * (x 0).val := rfl
  have e1 : (((Rect.unit (s := S264x1408) ![8, 0] S256x1408.size inb_S264x1408_S256x1408_8_0).emb x) 1).val = 0 + 1 * (x 1).val := rfl
  unfold scr
  generalize ((Rect.unit (s := S264x1408) ![8, 0] S256x1408.size inb_S264x1408_S256x1408_8_0).emb x) = i at e0 e1 ⊢
  rw [dif_neg (by omega)]
  congr 1
  funext a
  apply Fin.ext
  match a with
  | ⟨0, _⟩ => show (x 0).val = (i 0).val - 8; omega
  | ⟨1, _⟩ => show (x 1).val = (i 1).val; omega

theorem cover_scr (p : Vec F S8x1408 .f32) (u : Vec F S256x1408 .f32) (y : S264x1408.Idx) :
    ∃ q ∈ ([⟨Rect.unit ![8, 0] S256x1408.size inb_S264x1408_S256x1408_8_0, u⟩, ⟨Rect.unit ![0, 0] S8x1408.size inb_S264x1408_S8x1408_0_0, p⟩] : List (View.Piece (Elt F) S264x1408 .f32)), y ∈ q.1.set := by
  have h0 : (y 0).val < 264 := (y 0).isLt
  have h1 : (y 1).val < 1408 := (y 1).isLt
  by_cases h : (y 0).val < 8
  · refine ⟨_, List.mem_cons_of_mem _ (List.mem_singleton_self _), ?_⟩
    show y ∈ (Rect.unit (s := S264x1408) ![0, 0] S8x1408.size inb_S264x1408_S8x1408_0_0).set
    rw [Rect.mem_set_unit]
    intro a
    match a with
    | ⟨0, _⟩ => show 0 ≤ (y 0).val ∧ (y 0).val < 0 + 8; omega
    | ⟨1, _⟩ => show 0 ≤ (y 1).val ∧ (y 1).val < 0 + 1408; omega
  · refine ⟨_, List.mem_cons_self, ?_⟩
    show y ∈ (Rect.unit (s := S264x1408) ![8, 0] S256x1408.size inb_S264x1408_S256x1408_8_0).set
    rw [Rect.mem_set_unit]
    intro a
    match a with
    | ⟨0, _⟩ => show 8 ≤ (y 0).val ∧ (y 0).val < 8 + 256; omega
    | ⟨1, _⟩ => show 0 ≤ (y 1).val ∧ (y 1).val < 0 + 1408; omega

/-- Rows from 6 of the scratch once a group's history and rows are stored. -/
theorem scr6 (v : View sig .tc .vmem S264x1408 .f32) (p : Vec F S8x1408 .f32) (u : Vec F S256x1408 .f32) (L : List (View.Piece (Elt F) S264x1408 .f32)) :
    v.readCov (⟨Rect.unit ![8, 0] S256x1408.size inb_S264x1408_S256x1408_8_0, u⟩ :: ⟨Rect.unit ![0, 0] S8x1408.size inb_S264x1408_S8x1408_0_0, p⟩ :: L)
        (Rect.unit (s := S264x1408) ![6, 0] S256x1408.size inb_S264x1408_S256x1408_6_0).toLoadRect
      = View.ld (scr p u) (Rect.unit (s := S264x1408) ![6, 0] S256x1408.size inb_S264x1408_S256x1408_6_0) := by
  rw [View.readCov_eq_canon']
  funext x
  exact View.canon_append_of_piecesOf (scr p u) L [⟨Rect.unit ![8, 0] S256x1408.size inb_S264x1408_S256x1408_8_0, u⟩, ⟨Rect.unit ![0, 0] S8x1408.size inb_S264x1408_S8x1408_0_0, p⟩] ⟨scr_u p u, scr_p p u, trivial⟩ _ (cover_scr p u _)

/-- Rows from 7 of the scratch once a group's history and rows are stored. -/
theorem scr7 (v : View sig .tc .vmem S264x1408 .f32) (p : Vec F S8x1408 .f32) (u : Vec F S256x1408 .f32) (L : List (View.Piece (Elt F) S264x1408 .f32)) :
    v.readCov (⟨Rect.unit ![8, 0] S256x1408.size inb_S264x1408_S256x1408_8_0, u⟩ :: ⟨Rect.unit ![0, 0] S8x1408.size inb_S264x1408_S8x1408_0_0, p⟩ :: L)
        (Rect.unit (s := S264x1408) ![7, 0] S256x1408.size inb_S264x1408_S256x1408_7_0).toLoadRect
      = View.ld (scr p u) (Rect.unit (s := S264x1408) ![7, 0] S256x1408.size inb_S264x1408_S256x1408_7_0) := by
  rw [View.readCov_eq_canon']
  funext x
  exact View.canon_append_of_piecesOf (scr p u) L [⟨Rect.unit ![8, 0] S256x1408.size inb_S264x1408_S256x1408_8_0, u⟩, ⟨Rect.unit ![0, 0] S8x1408.size inb_S264x1408_S8x1408_0_0, p⟩] ⟨scr_u p u, scr_p p u, trivial⟩ _ (cover_scr p u _)

section
variable (x0 : Vec F S256x1024 .f32) (x1 : Vec F S1x1024 .f32) (x2 : Vec F S1024x5632 .bf16) (x3 : Vec F S3x5632 .f32) (x4 : Vec F S1x5632 .f32)
  (x5 : Vec F S2816x1024 .bf16) (x6 : Vec F S1x1024 .f32) (xs : Vec F S8x5632 .f32)

/-- The normalised rows against the columns of group `n`. -/
def U (n : ℕ) (hn : n < 4) : FVec F S256x1408 .f32 :=
  k0_pay12 (k0_pay4 (View.ld x0 (Rect.unit ![0, 0] S256x1024.size inb_S256x1024_S256x1024_0_0)) (View.ld x1 (Rect.unit ![0, 0] S1x1024.size inb_S1x1024_S1x1024_0_0)))
    (View.ld x2 (Rect.unit ![0, 1408 * n] S1024x1408.size (inW hn)))

/-- Its scratch. -/
def SC (n : ℕ) (hn : n < 4) : Vec F S264x1408 .f32 :=
  scr (View.ld xs (Rect.unit ![0, 1408 * n] S8x1408.size (inC hn))) (U x0 x1 x2 n hn)

/-- The convolution of group `n`. -/
def cv (n : ℕ) (hn : n < 4) : FVec F S256x1408 .f32 :=
  k0_pay11 (U x0 x1 x2 n hn) (View.ld x4 (Rect.unit ![0, 1408 * n] S1x1408.size (inB hn)))
    (View.ld (SC x0 x1 x2 xs n hn) (Rect.unit (s := S264x1408) ![6, 0] S256x1408.size inb_S264x1408_S256x1408_6_0))
    (View.ld x3 (Rect.unit ![0, 1408 * n] S1x1408.size (inT (by decide) hn)))
    (View.ld (SC x0 x1 x2 xs n hn) (Rect.unit (s := S264x1408) ![7, 0] S256x1408.size inb_S264x1408_S256x1408_7_0))
    (View.ld x3 (Rect.unit ![1, 1408 * n] S1x1408.size (inT (by decide) hn)))
    (View.ld x3 (Rect.unit ![2, 1408 * n] S1x1408.size (inT (by decide) hn)))

/-- The first half's share of the product with the narrowing weights. -/
def half0 : FVec F S256x1024 .f32 :=
  k0_pay18 k0_pay5 (cv x0 x1 x2 x3 x4 xs 0 (by decide)) (U x0 x1 x2 2 (by decide)) (View.ld x4 (Rect.unit ![0, 1408 * 2] S1x1408.size (inB (by decide))))
    (View.ld (SC x0 x1 x2 xs 2 (by decide)) (Rect.unit (s := S264x1408) ![6, 0] S256x1408.size inb_S264x1408_S256x1408_6_0))
    (View.ld x3 (Rect.unit ![0, 1408 * 2] S1x1408.size (inT (by decide) (by decide))))
    (View.ld (SC x0 x1 x2 xs 2 (by decide)) (Rect.unit (s := S264x1408) ![7, 0] S256x1408.size inb_S264x1408_S256x1408_7_0))
    (View.ld x3 (Rect.unit ![1, 1408 * 2] S1x1408.size (inT (by decide) (by decide))))
    (View.ld x3 (Rect.unit ![2, 1408 * 2] S1x1408.size (inT (by decide) (by decide))))
    (View.ld x5 (Rect.unit ![0, 0] S1408x1024.size inb_S2816x1024_S1408x1024_0_0))

/-- The second half's gated rows. -/
def act1 : FVec F S256x1408 .bf16 :=
  k0_pay30 (cv x0 x1 x2 x3 x4 xs 1 (by decide)) (U x0 x1 x2 3 (by decide)) (View.ld x4 (Rect.unit ![0, 1408 * 3] S1x1408.size (inB (by decide))))
    (View.ld (SC x0 x1 x2 xs 3 (by decide)) (Rect.unit (s := S264x1408) ![6, 0] S256x1408.size inb_S264x1408_S256x1408_6_0))
    (View.ld x3 (Rect.unit ![0, 1408 * 3] S1x1408.size (inT (by decide) (by decide))))
    (View.ld (SC x0 x1 x2 xs 3 (by decide)) (Rect.unit (s := S264x1408) ![7, 0] S256x1408.size inb_S264x1408_S256x1408_7_0))
    (View.ld x3 (Rect.unit ![1, 1408 * 3] S1x1408.size (inT (by decide) (by decide))))
    (View.ld x3 (Rect.unit ![2, 1408 * 3] S1x1408.size (inT (by decide) (by decide))))

/-- The block of sums. -/
def O : FVec F S256x1024 .f32 :=
  k0_pay1 (View.ld x0 (Rect.unit ![0, 0] S256x1024.size inb_S256x1024_S256x1024_0_0)) (half0 x0 x1 x2 x3 x4 x5 xs) (act1 x0 x1 x2 x3 x4 xs)
    (k0_pay31 (View.ld x5 (Rect.unit ![1408, 0] S1408x1024.size inb_S2816x1024_S1408x1024_1408_0)))

/-- The block of sums, normalised. -/
def YN : FVec F S256x1024 .f32 :=
  k0_pay2 (View.ld x0 (Rect.unit ![0, 0] S256x1024.size inb_S256x1024_S256x1024_0_0)) (half0 x0 x1 x2 x3 x4 x5 xs) (act1 x0 x1 x2 x3 x4 xs)
    (k0_pay31 (View.ld x5 (Rect.unit ![1408, 0] S1408x1024.size inb_S2816x1024_S1408x1024_1408_0))) (View.ld x6 (Rect.unit ![0, 0] S1x1024.size inb_S1x1024_S1x1024_0_0))

/-- The last eight rows of group `n`. -/
def tl (n : ℕ) (hn : n < 4) : FVec F S8x1408 .f32 := k0_pay21 (U x0 x1 x2 n hn)

/-- The last eight rows of the block. -/
def TL : Vec F S8x5632 .f32 := fun i =>
  tl x0 x1 x2 ((i 1).val / 1408) (by have h : (i 1).val < 5632 := (i 1).isLt; omega)
    (fun a => match a with
      | ⟨0, _⟩ => (⟨(i 0).val, (i 0).isLt⟩ : Fin 8)
      | ⟨1, _⟩ => (⟨(i 1).val % 1408, Nat.mod_lt _ (by decide)⟩ : Fin 1408))

theorem pieceT (n : ℕ) (hn : n < 4) (x : S8x1408.Idx) : tl x0 x1 x2 n hn x
    = TL x0 x1 x2 ((Rect.unit (s := S8x5632) ![0, 1408 * n] S8x1408.size (inC hn)).emb x) := by
  have e1 : (((Rect.unit (s := S8x5632) ![0, 1408 * n] S8x1408.size (inC hn)).emb x) 1).val = 1408 * n + 1 * (x 1).val := rfl
  have e0 : (((Rect.unit (s := S8x5632) ![0, 1408 * n] S8x1408.size (inC hn)).emb x) 0).val = 0 + 1 * (x 0).val := rfl
  have hx : (x 1).val < 1408 := (x 1).isLt
  unfold TL
  generalize ((Rect.unit (s := S8x5632) ![0, 1408 * n] S8x1408.size (inC hn)).emb x) = i at e1 e0 ⊢
  obtain rfl : n = (i 1).val / 1408 := by omega
  congr 1
  funext a
  apply Fin.ext
  match a with
  | ⟨0, _⟩ => show (x 0).val = (i 0).val; omega
  | ⟨1, _⟩ => show (x 1).val = (i 1).val % 1408; omega

end

/-! ## Stores that only pass a value on -/

theorem p7 (v : Vec F S8x1408 .f32) : k0_pay7 v = v := shapeCast_self _ _
theorem p13 (v : Vec F S8x1408 .f32) : k0_pay13 v = v := shapeCast_self _ _
theorem p20 (v : Vec F S8x1408 .f32) : k0_pay20 v = v := shapeCast_self _ _
theorem p26 (v : Vec F S8x1408 .f32) : k0_pay26 v = v := shapeCast_self _ _
theorem p16 (v : FVec F S8x1408 .f32) : k0_pay16 v = v := shapeCast_self _ _
theorem p10 (v : FVec F S256x1408 .f32) : k0_pay10 v = v := shapeCast_self _ _
theorem p17 (v : FVec F S256x1408 .f32) : k0_pay17 v = v := shapeCast_self _ _
theorem p23 (v : FVec F S256x1408 .f32) : k0_pay23 v = v := shapeCast_self _ _
theorem p29 (v : FVec F S256x1408 .f32) : k0_pay29 v = v := shapeCast_self _ _
theorem p9 (a : Vec F S256x1024 .f32) (b : Vec F S1x1024 .f32) (w : Vec F S1024x1408 .bf16) : k0_pay9 a b w = k0_pay8 a b w := shapeCast_self _ _
theorem p22 (v : FVec F S256x1408 .f32) : k0_pay22 v = k0_pay21 v := shapeCast_self _ _
theorem p28 (v : FVec F S256x1408 .f32) : k0_pay28 v = k0_pay27 v := shapeCast_self _ _

/-! ## What the body leaves -/

set_option maxHeartbeats 1600000 in
theorem out0_A_7_eq (c : Dev nD) (i : grid0.Coords) (arg2 : Memref sig .tc .vmem S256x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S8x5632 .f32) (harg10 : arg10.IsWhole) (arg11 : Memref sig .tc .vmem S256x1024 .f32) (harg11 : arg11.IsWhole) (arg12 : Memref sig .tc .vmem S264x1408 .f32) (harg12 : arg12.IsWhole) (arg13 : Memref sig .tc .vmem S8x5632 .f32) (harg13 : arg13.IsWhole) (hc0 : cond0_0 i)
    (x0 : Vec F S256x1024 .f32) (x1 : Vec F S1x1024 .f32) (x2 : Vec F S1024x5632 .bf16) (x3 : Vec F S3x5632 .f32) (x4 : Vec F S1x5632 .f32) (x5 : Vec F S2816x1024 .bf16) (x6 : Vec F S1x1024 .f32) :
    out0_A_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 = O x0 x1 x2 x3 x4 x5 k0_pay3 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6)]
  unfold kernelRun0_A
  dsimp only
  sl_unfold_words
  rw [View.canon_unit_zero (S := S256x1024) (by funext a; fin_cases a <;> rfl)]
  simp (disch := decide) only [↓scr6, ↓scr7, ↓View.readCov_skip, ↓View.readCov_fill, View.readAt_eq_ld, harg2.read_unread, harg3.read_unread, harg4.read_unread, harg5.read_unread, harg6.read_unread, harg7.read_unread, harg8.read_unread, harg9.read_unread, harg10.read_unread, harg11.read_unread, harg12.read_unread, harg13.read_unread, p7, p13, p20, p26, p16, p10, p17, p23, p29, p9, p22, p28]
  rfl

set_option maxHeartbeats 1600000 in
theorem out0_A_9_eq (c : Dev nD) (i : grid0.Coords) (arg2 : Memref sig .tc .vmem S256x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S8x5632 .f32) (harg10 : arg10.IsWhole) (arg11 : Memref sig .tc .vmem S256x1024 .f32) (harg11 : arg11.IsWhole) (arg12 : Memref sig .tc .vmem S264x1408 .f32) (harg12 : arg12.IsWhole) (arg13 : Memref sig .tc .vmem S8x5632 .f32) (harg13 : arg13.IsWhole) (hc0 : cond0_0 i)
    (x0 : Vec F S256x1024 .f32) (x1 : Vec F S1x1024 .f32) (x2 : Vec F S1024x5632 .bf16) (x3 : Vec F S3x5632 .f32) (x4 : Vec F S1x5632 .f32) (x5 : Vec F S2816x1024 .bf16) (x6 : Vec F S1x1024 .f32) :
    out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 = YN x0 x1 x2 x3 x4 x5 x6 k0_pay3 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6)]
  unfold kernelRun0_A
  dsimp only
  sl_unfold_words
  rw [View.canon_unit_zero (S := S256x1024) (by funext a; fin_cases a <;> rfl)]
  simp (disch := decide) only [↓scr6, ↓scr7, ↓View.readCov_skip, ↓View.readCov_fill, View.readAt_eq_ld, harg2.read_unread, harg3.read_unread, harg4.read_unread, harg5.read_unread, harg6.read_unread, harg7.read_unread, harg8.read_unread, harg9.read_unread, harg10.read_unread, harg11.read_unread, harg12.read_unread, harg13.read_unread, p7, p13, p20, p26, p16, p10, p17, p23, p29, p9, p22, p28]
  rfl

theorem out0_A_8_eq (c : Dev nD) (i : grid0.Coords) (arg2 : Memref sig .tc .vmem S256x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S8x5632 .f32) (harg10 : arg10.IsWhole) (arg11 : Memref sig .tc .vmem S256x1024 .f32) (harg11 : arg11.IsWhole) (arg12 : Memref sig .tc .vmem S264x1408 .f32) (harg12 : arg12.IsWhole) (arg13 : Memref sig .tc .vmem S8x5632 .f32) (harg13 : arg13.IsWhole) (hc0 : cond0_0 i)
    (x0 : Vec F S256x1024 .f32) (x1 : Vec F S1x1024 .f32) (x2 : Vec F S1024x5632 .bf16) (x3 : Vec F S3x5632 .f32) (x4 : Vec F S1x5632 .f32) (x5 : Vec F S2816x1024 .bf16) (x6 : Vec F S1x1024 .f32) :
    out0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 = TL x0 x1 x2 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6)]
  funext y
  refine View.canon_apply_of_pieces _ _ (View.PiecesOf.mem ?_) y (cover0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 y)
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, p7, p13, p20, p26, p16, p10, p17, p23, p29, p9, p22, p28]
  exact ⟨pieceT x0 x1 x2 3 (by decide), pieceT x0 x1 x2 1 (by decide), pieceT x0 x1 x2 2 (by decide), pieceT x0 x1 x2 0 (by decide), trivial⟩

theorem sout0_A_1_eq (c : Dev nD) (i : grid0.Coords) (arg2 : Memref sig .tc .vmem S256x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S8x5632 .f32) (harg10 : arg10.IsWhole) (arg11 : Memref sig .tc .vmem S256x1024 .f32) (harg11 : arg11.IsWhole) (arg12 : Memref sig .tc .vmem S264x1408 .f32) (harg12 : arg12.IsWhole) (arg13 : Memref sig .tc .vmem S8x5632 .f32) (harg13 : arg13.IsWhole) (hc0 : cond0_0 i)
    (x0 : Vec F S256x1024 .f32) (x1 : Vec F S1x1024 .f32) (x2 : Vec F S1024x5632 .bf16) (x3 : Vec F S3x5632 .f32) (x4 : Vec F S1x5632 .f32) (x5 : Vec F S2816x1024 .bf16) (x6 : Vec F S1x1024 .f32) :
    sout0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 = TL x0 x1 x2 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6)]
  funext y
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, p7, p13, p20, p26, p16, p10, p17, p23, p29, p9, p22, p28]
  refine View.canon_append_of_piecesOf _ [_] [_, _, _, _] ?_ y ?_
  · exact ⟨pieceT x0 x1 x2 3 (by decide), pieceT x0 x1 x2 1 (by decide), pieceT x0 x1 x2 2 (by decide), pieceT x0 x1 x2 0 (by decide), trivial⟩
  · exact View.cover_of_tiledL (_ : List (View.Piece (Elt F) S8x5632 .f32)) S8x1408.size (by sl_kernel_rfl) y

set_option maxHeartbeats 1600000 in
theorem out0_B_7_eq (c : Dev nD) (i : grid0.Coords) (arg2 : Memref sig .tc .vmem S256x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S8x5632 .f32) (harg10 : arg10.IsWhole) (arg11 : Memref sig .tc .vmem S256x1024 .f32) (harg11 : arg11.IsWhole) (arg12 : Memref sig .tc .vmem S264x1408 .f32) (harg12 : arg12.IsWhole) (arg13 : Memref sig .tc .vmem S8x5632 .f32) (harg13 : arg13.IsWhole) (hc0 : ¬cond0_0 i)
    (x0 : Vec F S256x1024 .f32) (x1 : Vec F S1x1024 .f32) (x2 : Vec F S1024x5632 .bf16) (x3 : Vec F S3x5632 .f32) (x4 : Vec F S1x5632 .f32) (x5 : Vec F S2816x1024 .bf16) (x6 : Vec F S1x1024 .f32) (xs1 : Vec F S8x5632 .f32) :
    out0_B_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs1 = O x0 x1 x2 x3 x4 x5 xs1 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs1)]
  unfold kernelRun0_B
  dsimp only
  sl_unfold_words
  rw [View.canon_unit_zero (S := S256x1024) (by funext a; fin_cases a <;> rfl)]
  simp (disch := decide) only [↓scr6, ↓scr7, ↓View.readCov_skip, ↓View.readCov_fill, View.readAt_eq_ld, harg2.read_unread, harg3.read_unread, harg4.read_unread, harg5.read_unread, harg6.read_unread, harg7.read_unread, harg8.read_unread, harg9.read_unread, harg10.read_unread, harg11.read_unread, harg12.read_unread, harg13.read_unread, p7, p13, p20, p26, p16, p10, p17, p23, p29, p9, p22, p28]
  rfl

set_option maxHeartbeats 1600000 in
theorem out0_B_9_eq (c : Dev nD) (i : grid0.Coords) (arg2 : Memref sig .tc .vmem S256x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S8x5632 .f32) (harg10 : arg10.IsWhole) (arg11 : Memref sig .tc .vmem S256x1024 .f32) (harg11 : arg11.IsWhole) (arg12 : Memref sig .tc .vmem S264x1408 .f32) (harg12 : arg12.IsWhole) (arg13 : Memref sig .tc .vmem S8x5632 .f32) (harg13 : arg13.IsWhole) (hc0 : ¬cond0_0 i)
    (x0 : Vec F S256x1024 .f32) (x1 : Vec F S1x1024 .f32) (x2 : Vec F S1024x5632 .bf16) (x3 : Vec F S3x5632 .f32) (x4 : Vec F S1x5632 .f32) (x5 : Vec F S2816x1024 .bf16) (x6 : Vec F S1x1024 .f32) (xs1 : Vec F S8x5632 .f32) :
    out0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs1 = YN x0 x1 x2 x3 x4 x5 x6 xs1 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs1)]
  unfold kernelRun0_B
  dsimp only
  sl_unfold_words
  rw [View.canon_unit_zero (S := S256x1024) (by funext a; fin_cases a <;> rfl)]
  simp (disch := decide) only [↓scr6, ↓scr7, ↓View.readCov_skip, ↓View.readCov_fill, View.readAt_eq_ld, harg2.read_unread, harg3.read_unread, harg4.read_unread, harg5.read_unread, harg6.read_unread, harg7.read_unread, harg8.read_unread, harg9.read_unread, harg10.read_unread, harg11.read_unread, harg12.read_unread, harg13.read_unread, p7, p13, p20, p26, p16, p10, p17, p23, p29, p9, p22, p28]
  rfl

theorem out0_B_8_eq (c : Dev nD) (i : grid0.Coords) (arg2 : Memref sig .tc .vmem S256x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S8x5632 .f32) (harg10 : arg10.IsWhole) (arg11 : Memref sig .tc .vmem S256x1024 .f32) (harg11 : arg11.IsWhole) (arg12 : Memref sig .tc .vmem S264x1408 .f32) (harg12 : arg12.IsWhole) (arg13 : Memref sig .tc .vmem S8x5632 .f32) (harg13 : arg13.IsWhole) (hc0 : ¬cond0_0 i)
    (x0 : Vec F S256x1024 .f32) (x1 : Vec F S1x1024 .f32) (x2 : Vec F S1024x5632 .bf16) (x3 : Vec F S3x5632 .f32) (x4 : Vec F S1x5632 .f32) (x5 : Vec F S2816x1024 .bf16) (x6 : Vec F S1x1024 .f32) (xs1 : Vec F S8x5632 .f32) :
    out0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs1 = TL x0 x1 x2 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs1)]
  funext y
  refine View.canon_apply_of_pieces _ _ (View.PiecesOf.mem ?_) y (cover0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs1 y)
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, p7, p13, p20, p26, p16, p10, p17, p23, p29, p9, p22, p28]
  exact ⟨pieceT x0 x1 x2 3 (by decide), pieceT x0 x1 x2 1 (by decide), pieceT x0 x1 x2 2 (by decide), pieceT x0 x1 x2 0 (by decide), trivial⟩

theorem sout0_B_1_eq (c : Dev nD) (i : grid0.Coords) (arg2 : Memref sig .tc .vmem S256x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S8x5632 .f32) (harg10 : arg10.IsWhole) (arg11 : Memref sig .tc .vmem S256x1024 .f32) (harg11 : arg11.IsWhole) (arg12 : Memref sig .tc .vmem S264x1408 .f32) (harg12 : arg12.IsWhole) (arg13 : Memref sig .tc .vmem S8x5632 .f32) (harg13 : arg13.IsWhole) (hc0 : ¬cond0_0 i)
    (x0 : Vec F S256x1024 .f32) (x1 : Vec F S1x1024 .f32) (x2 : Vec F S1024x5632 .bf16) (x3 : Vec F S3x5632 .f32) (x4 : Vec F S1x5632 .f32) (x5 : Vec F S2816x1024 .bf16) (x6 : Vec F S1x1024 .f32) (xs1 : Vec F S8x5632 .f32) :
    sout0_B_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs1 = TL x0 x1 x2 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs1)]
  funext y
  refine View.canon_apply_of_pieces _ _ (View.PiecesOf.mem ?_) y (scover0_B_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs1 y)
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, p7, p13, p20, p26, p16, p10, p17, p23, p29, p9, p22, p28]
  exact ⟨pieceT x0 x1 x2 3 (by decide), pieceT x0 x1 x2 1 (by decide), pieceT x0 x1 x2 2 (by decide), pieceT x0 x1 x2 0 (by decide), trivial⟩

end Cert.KFfnIdeal.Ffn
end
-- ==== Proof.Ffn.Point.lean ====
/-
  One grid point of the feed-forward kernel over the extended reals, entry by entry.
-/
module

public import proofs.«01_k».proof.Proof.Ffn.Body
public import proofs.«01_k».proof.Proof.Ffn.Spec

@[expose] public section

noncomputable section
open Idealize.ShloMosaic Idealize.ShloMosaic.TcCoe Idealize.SL.Sem
namespace Cert.KFfnIdeal.Ffn
open Cert.KFfnIdeal Cert.KFfnIdeal.Gen Cert.Ffn Cert.Nrm

section
variable (X : Fin 16384 → Fin 1024 → EReal) (G : Fin 1024 → EReal) (W : Fin 1024 → Fin 5632 → EReal)
  (CW : Fin 3 → Fin 5632 → EReal) (CB : Fin 5632 → EReal) (WD : Fin 2816 → Fin 1024 → EReal) (GF : Fin 1024 → EReal) (b n : ℕ)
variable (x0 : Vec Ideal S256x1024 .f32) (x1 : Vec Ideal S1x1024 .f32) (x2 : Vec Ideal S1024x5632 .bf16) (x3 : Vec Ideal S3x5632 .f32) (x4 : Vec Ideal S1x5632 .f32)
  (x5 : Vec Ideal S2816x1024 .bf16) (x6 : Vec Ideal S1x1024 .f32) (xs : Vec Ideal S8x5632 .f32)

theorem pay4_apply (x : Vec Ideal S256x1024 .f32) (g : Vec Ideal S1x1024 .f32) (r : Fin 256) (j : Fin 1024) :
    (k0_pay4 x g (ix2 r j) : EReal) = rms (fun k => x (ix2 r k)) (fun k => g (ix2 0 k)) j := by
  pointwise [k0_pay4]
  rfl

theorem U_apply (h0 : ∀ (r : Fin 256) (k : Fin 1024), x0 (ix2 r k) = X (row b (n * 256 + r.val)) k) (h1 : ∀ k : Fin 1024, x1 (ix2 0 k) = G k)
    (h2 : ∀ (k : Fin 1024) (j : Fin 5632), x2 (ix2 k j) = W k j) (q : ℕ) (hq : q < 4) (r : Fin 256) (j : Fin 1408) :
    (U x0 x1 x2 q hq (ix2 r j) : EReal) = wide X G W b (n * 256 + r.val) ⟨1408 * q + j.val, by omega⟩ := by
  have e0 : (fun k => (x0 (ix2 r k) : EReal)) = X (row b (n * 256 + r.val)) := funext (h0 r)
  have e1 : (fun k => (x1 (ix2 0 k) : EReal)) = G := funext h1
  unfold U
  rw [View.ld_unit_zero (S := S256x1024) (by funext a; fin_cases a <;> rfl),
    View.ld_unit_zero (S := S1x1024) (by funext a; fin_cases a <;> rfl)]
  pointwise [k0_pay12]
  unfold wide
  refine Finset.sum_congr rfl fun k _ => ?_
  refine congrArg₂ (· * ·) ((pay4_apply x0 x1 r k).trans (by rw [e0, e1])) ?_
  refine Eq.trans (congrArg x2 (a₂ := ix2 k ⟨1408 * q + j.val, by omega⟩) ?_) (h2 k _)
  funext a
  apply Fin.ext
  match a with
  | ⟨0, _⟩ => rfl
  | ⟨1, _⟩ => first | rfl | (show j.val = 0 + j.val; omega)

theorem SC_apply (h0 : ∀ (r : Fin 256) (k : Fin 1024), x0 (ix2 r k) = X (row b (n * 256 + r.val)) k) (h1 : ∀ k : Fin 1024, x1 (ix2 0 k) = G k)
    (h2 : ∀ (k : Fin 1024) (j : Fin 5632), x2 (ix2 k j) = W k j)
    (hs : ∀ (k : Fin 8) (j : Fin 5632), xs (ix2 k j) = pad X G W b (n * 256 + k.val) j) (q : ℕ) (hq : q < 4) (i : Fin 264) (j : Fin 1408) :
    (SC x0 x1 x2 xs q hq (ix2 i j) : EReal) = pad X G W b (n * 256 + i.val) ⟨1408 * q + j.val, by omega⟩ := by
  unfold SC scr
  split
  · rename_i h
    refine Eq.trans (congrArg xs (a₂ := ix2 ⟨i.val, h⟩ ⟨1408 * q + j.val, by omega⟩) ?_) (hs ⟨i.val, h⟩ _)
    funext a
    apply Fin.ext
    match a with
    | ⟨0, _⟩ => show 0 + 1 * i.val = i.val; omega
    | ⟨1, _⟩ => show 1408 * q + 1 * j.val = 1408 * q + j.val; omega
  · rename_i h
    have h' : ¬ i.val < 8 := h
    refine Eq.trans (congrArg (U x0 x1 x2 q hq) (a₂ := ix2 ⟨i.val - 8, by omega⟩ j) ?_) ((U_apply X G W b n x0 x1 x2 h0 h1 h2 q hq ⟨i.val - 8, by omega⟩ j).trans ?_)
    · funext a
      match a with
      | ⟨0, _⟩ => rfl
      | ⟨1, _⟩ => rfl
    · rw [← pad_add]
      exact congrArg (fun t => pad X G W b t _) (by show n * 256 + (i.val - 8) + 8 = n * 256 + i.val; omega)

theorem TL_apply (h0 : ∀ (r : Fin 256) (k : Fin 1024), x0 (ix2 r k) = X (row b (n * 256 + r.val)) k) (h1 : ∀ k : Fin 1024, x1 (ix2 0 k) = G k)
    (h2 : ∀ (k : Fin 1024) (j : Fin 5632), x2 (ix2 k j) = W k j) (k : Fin 8) (j : Fin 5632) :
    (TL x0 x1 x2 (ix2 k j) : EReal) = wide X G W b (n * 256 + 248 + k.val) j := by
  show tl x0 x1 x2 (j.val / 1408) _ _ = _
  refine Eq.trans (congrArg (tl x0 x1 x2 (j.val / 1408) (by omega)) (a₂ := ix2 k ⟨j.val % 1408, Nat.mod_lt _ (by decide)⟩) ?_) ?_
  · funext a
    match a with
    | ⟨0, _⟩ => rfl
    | ⟨1, _⟩ => rfl
  · have hj : j.val / 1408 < 4 := by omega
    refine Eq.trans (b := (U x0 x1 x2 (j.val / 1408) hj (ix2 ⟨248 + k.val, by omega⟩ ⟨j.val % 1408, Nat.mod_lt _ (by decide)⟩) : EReal)) ?_
      ((U_apply X G W b n x0 x1 x2 h0 h1 h2 _ hj _ _).trans ?_)
    · unfold tl
      generalize U x0 x1 x2 (j.val / 1408) hj = u
      pointwise [k0_pay21]
    · refine congrArg₂ (wide X G W b) (by show n * 256 + (248 + k.val) = _; omega) (Fin.ext ?_)
      show 1408 * (j.val / 1408) + j.val % 1408 = j.val
      omega

theorem cvp_apply (u a c : FVec Ideal S256x1408 .f32) (vb v0 v1 v2 : Vec Ideal S1x1408 .f32) (r : Fin 256) (j : Fin 1408) :
    (k0_pay11 u vb a v0 c v1 v2 (ix2 r j) : EReal) = vb (ix2 0 j) + a (ix2 r j) * v0 (ix2 0 j) + c (ix2 r j) * v1 (ix2 0 j) + u (ix2 r j) * v2 (ix2 0 j) := by
  pointwise [k0_pay11]

theorem cv_apply (h0 : ∀ (r : Fin 256) (k : Fin 1024), x0 (ix2 r k) = X (row b (n * 256 + r.val)) k) (h1 : ∀ k : Fin 1024, x1 (ix2 0 k) = G k)
    (h2 : ∀ (k : Fin 1024) (j : Fin 5632), x2 (ix2 k j) = W k j) (h3 : ∀ (k : Fin 3) (j : Fin 5632), x3 (ix2 k j) = CW k j)
    (h4 : ∀ j : Fin 5632, x4 (ix2 0 j) = CB j)
    (hs : ∀ (k : Fin 8) (j : Fin 5632), xs (ix2 k j) = pad X G W b (n * 256 + k.val) j) (q : ℕ) (hq : q < 4) (r : Fin 256) (j : Fin 1408) :
    (cv x0 x1 x2 x3 x4 xs q hq (ix2 r j) : EReal) = conv X G W CW CB b (n * 256 + r.val) ⟨1408 * q + j.val, by omega⟩ := by
  unfold cv
  refine (cvp_apply _ _ _ _ _ _ _ r j).trans ?_
  have hw : ∀ (k : ℕ) (hk : k < 3), (View.ld x3 (Rect.unit ![k, 1408 * q] S1x1408.size (inT hk hq)) (ix2 0 j) : EReal) = CW ⟨k, hk⟩ ⟨1408 * q + j.val, by omega⟩ := fun k hk => by
    refine Eq.trans (congrArg x3 (a₂ := ix2 ⟨k, hk⟩ ⟨1408 * q + j.val, by omega⟩) (funext fun a => Fin.ext ?_)) (h3 _ _)
    match a with
    | ⟨0, _⟩ => show k + 1 * 0 = k; omega
    | ⟨1, _⟩ => show 1408 * q + 1 * j.val = 1408 * q + j.val; omega
  have hb : (View.ld x4 (Rect.unit ![0, 1408 * q] S1x1408.size (inB hq)) (ix2 0 j) : EReal) = CB ⟨1408 * q + j.val, by omega⟩ := by
    refine Eq.trans (congrArg x4 (a₂ := ix2 0 ⟨1408 * q + j.val, by omega⟩) (funext fun a => Fin.ext ?_)) (h4 _)
    match a with
    | ⟨0, _⟩ => rfl
    | ⟨1, _⟩ => show 1408 * q + 1 * j.val = 1408 * q + j.val; omega
  have h6 : (View.ld (SC x0 x1 x2 xs q hq) (Rect.unit (s := S264x1408) ![6, 0] S256x1408.size inb_S264x1408_S256x1408_6_0) (ix2 r j) : EReal) = pad X G W b (n * 256 + r.val + 6) ⟨1408 * q + j.val, by omega⟩ := by
    refine Eq.trans (congrArg (SC x0 x1 x2 xs q hq) (a₂ := ix2 ⟨r.val + 6, by omega⟩ j) (funext fun a => Fin.ext ?_)) (SC_apply X G W b n x0 x1 x2 xs h0 h1 h2 hs q hq _ _)
    match a with
    | ⟨0, _⟩ => show 6 + 1 * r.val = r.val + 6; omega
    | ⟨1, _⟩ => show 0 + 1 * j.val = j.val; omega
  have h7 : (View.ld (SC x0 x1 x2 xs q hq) (Rect.unit (s := S264x1408) ![7, 0] S256x1408.size inb_S264x1408_S256x1408_7_0) (ix2 r j) : EReal) = pad X G W b (n * 256 + r.val + 7) ⟨1408 * q + j.val, by omega⟩ := by
    refine Eq.trans (congrArg (SC x0 x1 x2 xs q hq) (a₂ := ix2 ⟨r.val + 7, by omega⟩ j) (funext fun a => Fin.ext ?_)) (SC_apply X G W b n x0 x1 x2 xs h0 h1 h2 hs q hq _ _)
    match a with
    | ⟨0, _⟩ => show 7 + 1 * r.val = r.val + 7; omega
    | ⟨1, _⟩ => show 0 + 1 * j.val = j.val; omega
  rw [hw 0 (by decide), hw 1 (by decide), hw 2 (by decide), hb, h6, h7, U_apply X G W b n x0 x1 x2 h0 h1 h2 q hq r j]
  rfl

/-- The value half's convolution is formed inside the gated product: the same function of the same operands. -/
theorem half0_eq : half0 x0 x1 x2 x3 x4 x5 xs = addf (k0_pay5 (F := Ideal)) (matmul dot_S256x1408_S1408x1024_S256x1024_1_0_0_1_n_n none
    (truncf .bf16 (mulf (mulf (cv x0 x1 x2 x3 x4 xs 0 (by decide)) (logistic (cv x0 x1 x2 x3 x4 xs 0 (by decide)))) (cv x0 x1 x2 x3 x4 xs 2 (by decide))) bitsLt_bf16_f32)
    (k0_pay31 (View.ld x5 (Rect.unit ![0, 0] S1408x1024.size inb_S2816x1024_S1408x1024_0_0)))
    (constant S256x1024 .f32 0x00000000#32)) := rfl

theorem act1_eq : act1 x0 x1 x2 x3 x4 xs =
    truncf .bf16 (mulf (mulf (cv x0 x1 x2 x3 x4 xs 1 (by decide)) (logistic (cv x0 x1 x2 x3 x4 xs 1 (by decide)))) (cv x0 x1 x2 x3 x4 xs 3 (by decide))) bitsLt_bf16_f32 := rfl

theorem mm_apply (g v : FVec Ideal S256x1408 .f32) (w : Vec Ideal S1408x1024 .bf16) (r : Fin 256) (k : Fin 1024) :
    (addf (k0_pay5 (F := Ideal)) (matmul dot_S256x1408_S1408x1024_S256x1024_1_0_0_1_n_n none (truncf .bf16 (mulf (mulf g (logistic g)) v) bitsLt_bf16_f32)
      (k0_pay31 w) (constant S256x1024 .f32 0x00000000#32)) (ix2 r k) : EReal)
      = ∑ j : Fin 1408, g (ix2 r j) * Ideal.logistic (g (ix2 r j)) * v (ix2 r j) * w (ix2 j k) := by
  pointwise [k0_pay5, k0_pay31]

theorem O_split (x : Vec Ideal S256x1024 .f32) (a : FVec Ideal S256x1024 .f32) (g v : FVec Ideal S256x1408 .f32) (w : Vec Ideal S1408x1024 .bf16) (r : Fin 256) (k : Fin 1024) :
    (k0_pay1 x a (truncf .bf16 (mulf (mulf g (logistic g)) v) bitsLt_bf16_f32) (k0_pay31 w) (ix2 r k) : EReal)
      = x (ix2 r k) + (a (ix2 r k) + ∑ j : Fin 1408, g (ix2 r j) * Ideal.logistic (g (ix2 r j)) * v (ix2 r j) * w (ix2 j k)) := by
  pointwise [k0_pay1, k0_pay31]

theorem YN_split (x : Vec Ideal S256x1024 .f32) (a : FVec Ideal S256x1024 .f32) (g : FVec Ideal S256x1408 .bf16) (w : FVec Ideal S1408x1024 .bf16) (y : Vec Ideal S1x1024 .f32) (r : Fin 256) (k : Fin 1024) :
    (k0_pay2 x a g w y (ix2 r k) : EReal) = rms (fun k => k0_pay1 x a g w (ix2 r k)) (fun k => y (ix2 0 k)) k := by
  pointwise [k0_pay2]
  rfl

theorem sum_halves (f : Fin 2816 → EReal) :
    ∑ j, f j = (∑ j : Fin 1408, f ⟨j.val, by omega⟩) + ∑ j : Fin 1408, f ⟨1408 + j.val, by omega⟩ :=
  Fin.sum_univ_add (a := 1408) (b := 1408) f

theorem ldD {o : ℕ} (ho : o + 1408 ≤ 2816) (hb : ∀ a, (![o, 0] : Fin 2 → ℕ) a + S1408x1024.size a ≤ S2816x1024.size a)
    (h5 : ∀ (j : Fin 2816) (k : Fin 1024), x5 (ix2 j k) = WD j k) (j : Fin 1408) (k : Fin 1024) :
    (View.ld x5 (Rect.unit ![o, 0] S1408x1024.size hb) (ix2 j k) : EReal) = WD ⟨o + j.val, by omega⟩ k := by
  refine Eq.trans (congrArg x5 (a₂ := ix2 ⟨o + j.val, by omega⟩ k) (funext fun a => Fin.ext ?_)) (h5 _ _)
  match a with
  | ⟨0, _⟩ => show o + 1 * j.val = o + j.val; omega
  | ⟨1, _⟩ => show 0 + 1 * k.val = k.val; omega

section
variable (h0 : ∀ (r : Fin 256) (k : Fin 1024), x0 (ix2 r k) = X (row b (n * 256 + r.val)) k) (h1 : ∀ k : Fin 1024, x1 (ix2 0 k) = G k)
  (h2 : ∀ (k : Fin 1024) (j : Fin 5632), x2 (ix2 k j) = W k j) (h3 : ∀ (k : Fin 3) (j : Fin 5632), x3 (ix2 k j) = CW k j)
  (h4 : ∀ j : Fin 5632, x4 (ix2 0 j) = CB j) (h5 : ∀ (j : Fin 2816) (k : Fin 1024), x5 (ix2 j k) = WD j k)
  (hs : ∀ (k : Fin 8) (j : Fin 5632), xs (ix2 k j) = pad X G W b (n * 256 + k.val) j)
include h0 h1 h2 h3 h4 h5 hs

theorem O_apply (r : Fin 256) (k : Fin 1024) :
    (O x0 x1 x2 x3 x4 x5 xs (ix2 r k) : EReal) = total X G W CW CB WD b (n * 256 + r.val) k := by
  have hc := cv_apply X G W CW CB b n x0 x1 x2 x3 x4 xs h0 h1 h2 h3 h4 hs
  unfold O total
  rw [act1_eq, O_split, half0_eq, mm_apply, sum_halves, View.ld_unit_zero (S := S256x1024) (by funext a; fin_cases a <;> rfl), h0]
  refine congrArg _ (congrArg₂ (· + ·) (Finset.sum_congr rfl fun j _ => ?_) (Finset.sum_congr rfl fun j _ => ?_))
  · rw [hc, hc, ldD WD x5 (o := 0) (by decide) _ h5]
    refine congrArg₂ (· * ·) ?_ (congrArg (fun i => WD i k) (Fin.ext (Nat.zero_add _)))
    unfold act
    refine congrArg₂ (· * ·) ?_ rfl
    have e : (⟨1408 * 0 + j.val, by omega⟩ : Fin 5632) = ⟨j.val, by omega⟩ := Fin.ext (Nat.zero_add _)
    rw [e]
  · rw [hc, hc, ldD WD x5 (o := 1408) (by decide) _ h5]
    refine congrArg₂ (· * ·) ?_ rfl
    unfold act
    refine congrArg₂ (· * ·) rfl (congrArg _ (Fin.ext ?_))
    show 1408 * 3 + j.val = 2816 + (1408 + j.val)
    omega

theorem YN_apply (h6 : ∀ k : Fin 1024, x6 (ix2 0 k) = GF k) (r : Fin 256) (k : Fin 1024) :
    (YN x0 x1 x2 x3 x4 x5 x6 xs (ix2 r k) : EReal) = normed X G W CW CB WD GF b (n * 256 + r.val) k := by
  unfold YN normed
  refine (YN_split _ _ _ _ _ r k).trans ?_
  refine congrArg₂ (fun x g => rms x g k) (funext fun k => O_apply X G W CW CB WD b n x0 x1 x2 x3 x4 x5 xs h0 h1 h2 h3 h4 h5 hs r k) (funext fun k => ?_)
  rw [View.ld_unit_zero (S := S1x1024) (by funext a; fin_cases a <;> rfl)]
  exact h6 k

end

end
end Cert.KFfnIdeal.Ffn
end
-- ==== Proof.Ffn.Join.lean ====
/-
  The feed-forward kernel's arrays: each block it reads, entry by entry, and the three results it leaves.
-/
module

public import proofs.«01_k».proof.Proof.Gen.KFfnIdeal.Value
public import proofs.«01_k».proof.Proof.Ffn.Point
public import Idealize.ShloMosaic.Lib.StableHlo.RunRead

@[expose] public section

noncomputable section
open Idealize.ShloMosaic Idealize.ShloMosaic.TcCoe Idealize.SL.Sem Idealize.ShloMosaic.StableHlo
open Idealize.ShloMosaic.Pipeline (Dat)
namespace Cert.KFfnIdeal.Ffn
open Cert.KFfnIdeal Cert.KFfnIdeal.Gen Cert.KFfnIdeal.Value Cert.Nrm Cert.Ffn
variable (m : (ℓ : Loc nD τ sig) → Buf (Elt Ideal) ℓ) (c : Dev nD)

/-- The arrays the program is launched with: rows, scale, widening weights, taps, bias, narrowing weights, final scale. -/
def argX (r : Fin 16384) (j : Fin 1024) : EReal := (m ((c : Thread nD τ).loc main_arg0) : Vec Ideal S16384x1024 .f32) (ix2 r j)
def argG (j : Fin 1024) : EReal := (m ((c : Thread nD τ).loc main_arg1) : Vec Ideal S1024 .f32) (ix1 j)
def argW (k : Fin 1024) (j : Fin 5632) : EReal := (m ((c : Thread nD τ).loc main_arg2) : Vec Ideal S1024x5632 .f32) (ix2 k j)
def argT (k : Fin 3) (j : Fin 5632) : EReal := (m ((c : Thread nD τ).loc main_arg3) : Vec Ideal S3x5632 .f32) (ix2 k j)
def argB (j : Fin 5632) : EReal := (m ((c : Thread nD τ).loc main_arg4) : Vec Ideal S5632 .f32) (ix1 j)
def argD (j : Fin 2816) (k : Fin 1024) : EReal := (m ((c : Thread nD τ).loc main_arg5) : Vec Ideal S2816x1024 .f32) (ix2 j k)
def argF (j : Fin 1024) : EReal := (m ((c : Thread nD τ).loc main_arg6) : Vec Ideal S1024 .f32) (ix1 j)

theorem N64 : cfg0.N = 64 := N_0

theorem host_W (k : Fin 1024) (j : Fin 5632) : ((V m c main_v1 : Vec Ideal S1024x5632 .bf16) (ix2 k j) : EReal) = argW m c k j := by
  simp only [V, List.flatten_cons, List.flatten_nil, List.append_nil, StableHlo.after_append]
  after_reads_simp
  try simp only [TRef.ofBuf, TRef.toBuf, TRef.of, cast_eq]
  rfl

theorem host_D (k : Fin 2816) (j : Fin 1024) : ((V m c main_v3 : Vec Ideal S2816x1024 .bf16) (ix2 k j) : EReal) = argD m c k j := by
  simp only [V, List.flatten_cons, List.flatten_nil, List.append_nil, StableHlo.after_append]
  after_reads_simp
  try simp only [TRef.ofBuf, TRef.toBuf, TRef.of, cast_eq]
  rfl

theorem host_G (j : Fin 1024) : ((V m c main_v0 : Vec Ideal S1x1024 .f32) (ix2 0 j) : EReal) = argG m c j := by
  simp only [V, List.flatten_cons, List.flatten_nil, List.append_nil, StableHlo.after_append]
  after_reads_simp
  try simp only [TRef.ofBuf, TRef.toBuf, TRef.of, cast_eq]
  pointwise []
  rfl

theorem host_B (j : Fin 5632) : ((V m c main_v2 : Vec Ideal S1x5632 .f32) (ix2 0 j) : EReal) = argB m c j := by
  simp only [V, List.flatten_cons, List.flatten_nil, List.append_nil, StableHlo.after_append]
  after_reads_simp
  try simp only [TRef.ofBuf, TRef.toBuf, TRef.of, cast_eq]
  pointwise []
  rfl

theorem host_F (j : Fin 1024) : ((V m c main_v4 : Vec Ideal S1x1024 .f32) (ix2 0 j) : EReal) = argF m c j := by
  simp only [V, List.flatten_cons, List.flatten_nil, List.append_nil, StableHlo.after_append]
  after_reads_simp
  try simp only [TRef.ofBuf, TRef.toBuf, TRef.of, cast_eq]
  pointwise []
  rfl

theorem index0_0 : ∀ t : Fin grid0.N, win0_0.index t 0 = t.val ∧ win0_0.index t 1 = 0 := by decide +kernel
theorem index0_1 : ∀ t : Fin grid0.N, win0_1.index t 0 = 0 ∧ win0_1.index t 1 = 0 := by decide +kernel
theorem index0_2 : ∀ t : Fin grid0.N, win0_2.index t 0 = 0 ∧ win0_2.index t 1 = 0 := by decide +kernel
theorem index0_3 : ∀ t : Fin grid0.N, win0_3.index t 0 = 0 ∧ win0_3.index t 1 = 0 := by decide +kernel
theorem index0_4 : ∀ t : Fin grid0.N, win0_4.index t 0 = 0 ∧ win0_4.index t 1 = 0 := by decide +kernel
theorem index0_5 : ∀ t : Fin grid0.N, win0_5.index t 0 = 0 ∧ win0_5.index t 1 = 0 := by decide +kernel
theorem index0_6 : ∀ t : Fin grid0.N, win0_6.index t 0 = 0 ∧ win0_6.index t 1 = 0 := by decide +kernel
theorem index0_7 : ∀ t : Fin grid0.N, win0_7.index t 0 = t.val ∧ win0_7.index t 1 = 0 := by decide +kernel
theorem index0_8 : ∀ t : Fin grid0.N, win0_8.index t 0 = t.val / 8 ∧ win0_8.index t 1 = 0 := by decide +kernel
theorem index0_9 : ∀ t : Fin grid0.N, win0_9.index t 0 = t.val ∧ win0_9.index t 1 = 0 := by decide +kernel

theorem block0 (t : Fin cfg0.N) (r : Fin 256) (j : Fin 1024) :
    ((iblk m c 0 t : Vec Ideal S256x1024 .f32) (ix2 r j) : EReal) = argX m c (row (t.val / 8) (t.val % 8 * 256 + r.val)) j := by
  have hi := index0_0 t
  have hN := t.isLt
  have hN' : cfg0.N = 64 := N64
  unfold iblk
  rw [View.read_apply]
  show (V m c main_arg0 : Vec Ideal S16384x1024 .f32) _ = _
  rw [V_main_arg0]
  unfold argX
  congr 1
  funext a
  apply Fin.ext
  match a with
  | ⟨0, _⟩ => show win0_0.index t 0 * 256 + 1 * r.val = (t.val / 8 * 2048 + (t.val % 8 * 256 + r.val)) % 16384; rw [hi.1]; omega
  | ⟨1, _⟩ => show win0_0.index t 1 * 1024 + 1 * j.val = j.val; rw [hi.2]; omega

theorem block3 (t : Fin cfg0.N) (k : Fin 3) (j : Fin 5632) :
    ((iblk m c 3 t : Vec Ideal S3x5632 .f32) (ix2 k j) : EReal) = argT m c k j := by
  have hi := index0_3 t
  unfold iblk
  rw [View.read_apply]
  show (V m c main_arg3 : Vec Ideal S3x5632 .f32) _ = _
  rw [V_main_arg3]
  unfold argT
  congr 1
  funext a
  apply Fin.ext
  match a with
  | ⟨0, _⟩ => show win0_3.index t 0 * 3 + 1 * k.val = k.val; rw [hi.1]; omega
  | ⟨1, _⟩ => show win0_3.index t 1 * 5632 + 1 * j.val = j.val; rw [hi.2]; omega

theorem block1 (t : Fin cfg0.N) (j : Fin 1024) : ((iblk m c 1 t : Vec Ideal S1x1024 .f32) (ix2 0 j) : EReal) = argG m c j := by
  have hi := index0_1 t
  unfold iblk
  rw [View.read_apply]
  show (V m c main_v0 : Vec Ideal S1x1024 .f32) _ = _
  refine Eq.trans (congrArg (V m c main_v0 : Vec Ideal S1x1024 .f32) (a₂ := ix2 0 j) (funext fun a => Fin.ext ?_)) (host_G m c j)
  match a with
  | ⟨0, _⟩ => show win0_1.index t 0 * 1 + 1 * 0 = 0; rw [hi.1]
  | ⟨1, _⟩ => show win0_1.index t 1 * 1024 + 1 * j.val = j.val; rw [hi.2]; omega

theorem block4 (t : Fin cfg0.N) (j : Fin 5632) : ((iblk m c 4 t : Vec Ideal S1x5632 .f32) (ix2 0 j) : EReal) = argB m c j := by
  have hi := index0_4 t
  unfold iblk
  rw [View.read_apply]
  show (V m c main_v2 : Vec Ideal S1x5632 .f32) _ = _
  refine Eq.trans (congrArg (V m c main_v2 : Vec Ideal S1x5632 .f32) (a₂ := ix2 0 j) (funext fun a => Fin.ext ?_)) (host_B m c j)
  match a with
  | ⟨0, _⟩ => show win0_4.index t 0 * 1 + 1 * 0 = 0; rw [hi.1]
  | ⟨1, _⟩ => show win0_4.index t 1 * 5632 + 1 * j.val = j.val; rw [hi.2]; omega

theorem block6 (t : Fin cfg0.N) (j : Fin 1024) : ((iblk m c 6 t : Vec Ideal S1x1024 .f32) (ix2 0 j) : EReal) = argF m c j := by
  have hi := index0_6 t
  unfold iblk
  rw [View.read_apply]
  show (V m c main_v4 : Vec Ideal S1x1024 .f32) _ = _
  refine Eq.trans (congrArg (V m c main_v4 : Vec Ideal S1x1024 .f32) (a₂ := ix2 0 j) (funext fun a => Fin.ext ?_)) (host_F m c j)
  match a with
  | ⟨0, _⟩ => show win0_6.index t 0 * 1 + 1 * 0 = 0; rw [hi.1]
  | ⟨1, _⟩ => show win0_6.index t 1 * 1024 + 1 * j.val = j.val; rw [hi.2]; omega

theorem block2 (t : Fin cfg0.N) (k : Fin 1024) (j : Fin 5632) :
    ((iblk m c 2 t : Vec Ideal S1024x5632 .bf16) (ix2 k j) : EReal) = argW m c k j := by
  have hi := index0_2 t
  unfold iblk
  rw [View.read_apply]
  show (V m c main_v1 : Vec Ideal S1024x5632 .bf16) _ = _
  refine Eq.trans (congrArg (V m c main_v1 : Vec Ideal S1024x5632 .bf16) (a₂ := ix2 k j) (funext fun a => Fin.ext ?_)) (host_W m c k j)
  match a with
  | ⟨0, _⟩ => show win0_2.index t 0 * 1024 + 1 * k.val = k.val; rw [hi.1]; omega
  | ⟨1, _⟩ => show win0_2.index t 1 * 5632 + 1 * j.val = j.val; rw [hi.2]; omega

theorem block5 (t : Fin cfg0.N) (k : Fin 2816) (j : Fin 1024) :
    ((iblk m c 5 t : Vec Ideal S2816x1024 .bf16) (ix2 k j) : EReal) = argD m c k j := by
  have hi := index0_5 t
  unfold iblk
  rw [View.read_apply]
  show (V m c main_v3 : Vec Ideal S2816x1024 .bf16) _ = _
  refine Eq.trans (congrArg (V m c main_v3 : Vec Ideal S2816x1024 .bf16) (a₂ := ix2 k j) (funext fun a => Fin.ext ?_)) (host_D m c k j)
  match a with
  | ⟨0, _⟩ => show win0_5.index t 0 * 2816 + 1 * k.val = k.val; rw [hi.1]; omega
  | ⟨1, _⟩ => show win0_5.index t 1 * 1024 + 1 * j.val = j.val; rw [hi.2]; omega

/-! ## The points in turn -/

/-- The staging buffers after a grid point that begins a sequence, and after one that does not. -/
theorem outs_A (t : Fin cfg0.N) (h0 : t.val % 8 = 0) :
    outsAt0 m c t.val t.isLt
      = (O (iblk m c 0 t) (iblk m c 1 t) (iblk m c 2 t) (iblk m c 3 t) (iblk m c 4 t) (iblk m c 5 t) (k0_pay3 (F := Ideal)),
         TL (iblk m c 0 t) (iblk m c 1 t) (iblk m c 2 t),
         YN (iblk m c 0 t) (iblk m c 1 t) (iblk m c 2 t) (iblk m c 3 t) (iblk m c 4 t) (iblk m c 5 t) (iblk m c 6 t) (k0_pay3 (F := Ideal)),
         TL (iblk m c 0 t) (iblk m c 1 t) (iblk m c 2 t)) := by
  rw [outsAt0_A m c t h0, out0_A_7_eq, out0_A_8_eq, out0_A_9_eq, sout0_A_1_eq]

theorem outs_B (t : Fin cfg0.N) (h0 : ¬t.val % 8 = 0) (p : t.val - 1 < cfg0.N) :
    outsAt0 m c t.val t.isLt
      = (O (iblk m c 0 t) (iblk m c 1 t) (iblk m c 2 t) (iblk m c 3 t) (iblk m c 4 t) (iblk m c 5 t) (outsAt0 m c (t.val - 1) p).2.2.2,
         TL (iblk m c 0 t) (iblk m c 1 t) (iblk m c 2 t),
         YN (iblk m c 0 t) (iblk m c 1 t) (iblk m c 2 t) (iblk m c 3 t) (iblk m c 4 t) (iblk m c 5 t) (iblk m c 6 t) (outsAt0 m c (t.val - 1) p).2.2.2,
         TL (iblk m c 0 t) (iblk m c 1 t) (iblk m c 2 t)) := by
  rw [outsAt0_B m c t h0, out0_B_7_eq, out0_B_8_eq, out0_B_9_eq, sout0_B_1_eq]

/-- The rows a sequence begins with. -/
theorem zeros (k : Fin 8) (j : Fin 5632) : (k0_pay3 (F := Ideal) : Vec Ideal S8x5632 .f32) (ix2 k j) = (0 : EReal) := by
  pointwise [k0_pay3]

theorem TL_point (t : Fin cfg0.N) (k : Fin 8) (j : Fin 5632) :
    (TL (iblk m c 0 t) (iblk m c 1 t) (iblk m c 2 t) (ix2 k j) : EReal) = wide (argX m c) (argG m c) (argW m c) (t.val / 8) (t.val % 8 * 256 + 248 + k.val) j :=
  TL_apply (argX m c) (argG m c) (argW m c) (t.val / 8) (t.val % 8) _ _ _ (block0 m c t) (block1 m c t) (block2 m c t) k j

/-- The last eight rows of the point before: those the convolution of this point looks back on. -/
theorem history (t : Fin cfg0.N) (h0 : ¬t.val % 8 = 0) (p : t.val - 1 < cfg0.N) (k : Fin 8) (j : Fin 5632) :
    ((outsAt0 m c (t.val - 1) p).2.2.2 (ix2 k j) : EReal) = pad (argX m c) (argG m c) (argW m c) (t.val / 8) (t.val % 8 * 256 + k.val) j := by
  have e : ((outsAt0 m c (t.val - 1) p).2.2.2 (ix2 k j) : EReal)
      = wide (argX m c) (argG m c) (argW m c) ((t.val - 1) / 8) ((t.val - 1) % 8 * 256 + 248 + k.val) j := by
    by_cases h1 : (t.val - 1) % 8 = 0
    · rw [outs_A m c ⟨t.val - 1, p⟩ h1]
      exact TL_point m c ⟨t.val - 1, p⟩ k j
    · rw [outs_B m c ⟨t.val - 1, p⟩ h1 (by show t.val - 1 - 1 < cfg0.N; omega)]
      exact TL_point m c ⟨t.val - 1, p⟩ k j
  rw [e, ← pad_add, show (t.val - 1) / 8 = t.val / 8 by omega,
    show (t.val - 1) % 8 * 256 + 248 + k.val + 8 = t.val % 8 * 256 + k.val by omega]

theorem start (t : Fin cfg0.N) (h0 : t.val % 8 = 0) (k : Fin 8) (j : Fin 5632) :
    ((k0_pay3 (F := Ideal) : Vec Ideal S8x5632 .f32) (ix2 k j) : EReal) = pad (argX m c) (argG m c) (argW m c) (t.val / 8) (t.val % 8 * 256 + k.val) j := by
  rw [zeros, h0]
  unfold Cert.Ffn.pad
  rw [if_pos (by omega)]

theorem tail_at (t : Fin cfg0.N) (k : Fin 8) (j : Fin 5632) :
    ((outsAt0 m c t.val t.isLt).2.1 (ix2 k j) : EReal) = wide (argX m c) (argG m c) (argW m c) (t.val / 8) (t.val % 8 * 256 + 248 + k.val) j := by
  by_cases h0 : t.val % 8 = 0
  · rw [outs_A m c t h0]
    exact TL_point m c t k j
  · rw [outs_B m c t h0 (by omega)]
    exact TL_point m c t k j

theorem total_at (t : Fin cfg0.N) (r : Fin 256) (k : Fin 1024) :
    ((outsAt0 m c t.val t.isLt).1 (ix2 r k) : EReal) = total (argX m c) (argG m c) (argW m c) (argT m c) (argB m c) (argD m c) (t.val / 8) (t.val % 8 * 256 + r.val) k := by
  by_cases h0 : t.val % 8 = 0
  · rw [outs_A m c t h0]
    exact O_apply (argX m c) (argG m c) (argW m c) (argT m c) (argB m c) (argD m c) (t.val / 8) (t.val % 8) _ _ _ _ _ _ _ (block0 m c t) (block1 m c t) (block2 m c t) (block3 m c t) (block4 m c t) (block5 m c t) (start m c t h0) r k
  · have p : t.val - 1 < cfg0.N := by have := t.isLt; omega
    rw [outs_B m c t h0 p]
    exact O_apply (argX m c) (argG m c) (argW m c) (argT m c) (argB m c) (argD m c) (t.val / 8) (t.val % 8) _ _ _ _ _ _ _ (block0 m c t) (block1 m c t) (block2 m c t) (block3 m c t) (block4 m c t) (block5 m c t) (history m c t h0 p) r k

theorem normed_at (t : Fin cfg0.N) (r : Fin 256) (k : Fin 1024) :
    ((outsAt0 m c t.val t.isLt).2.2.1 (ix2 r k) : EReal) = normed (argX m c) (argG m c) (argW m c) (argT m c) (argB m c) (argD m c) (argF m c) (t.val / 8) (t.val % 8 * 256 + r.val) k := by
  by_cases h0 : t.val % 8 = 0
  · rw [outs_A m c t h0]
    exact YN_apply (argX m c) (argG m c) (argW m c) (argT m c) (argB m c) (argD m c) (argF m c) (t.val / 8) (t.val % 8) _ _ _ _ _ _ _ _ (block0 m c t) (block1 m c t) (block2 m c t) (block3 m c t) (block4 m c t) (block5 m c t) (start m c t h0) (block6 m c t) r k
  · have p : t.val - 1 < cfg0.N := by have := t.isLt; omega
    rw [outs_B m c t h0 p]
    exact YN_apply (argX m c) (argG m c) (argW m c) (argT m c) (argB m c) (argD m c) (argF m c) (t.val / 8) (t.val % 8) _ _ _ _ _ _ _ _ (block0 m c t) (block1 m c t) (block2 m c t) (block3 m c t) (block4 m c t) (block5 m c t) (history m c t h0 p) (block6 m c t) r k

/-! ## The results -/

/-- The rows with the network's output added, the last eight widened rows of each sequence, and the rows normalised. -/
def resO : Vec Ideal S16384x1024 .f32 := fun i => total (argX m c) (argG m c) (argW m c) (argT m c) (argB m c) (argD m c) ((i 0).val / 2048) ((i 0).val % 2048) (i 1)
def resT : Vec Ideal S64x5632 .f32 := fun i => wide (argX m c) (argG m c) (argW m c) ((i 0).val / 8) (2040 + (i 0).val % 8) (i 1)
def resN : Vec Ideal S16384x1024 .f32 := fun i => normed (argX m c) (argG m c) (argW m c) (argT m c) (argB m c) (argD m c) (argF m c) ((i 0).val / 2048) ((i 0).val % 2048) (i 1)

theorem written7 (t : Fin cfg0.N) :
    (dats m 0 c).flushed 7 t = ((cfg0.win 7).blk t).view.read (Elt Ideal) (resO m c) := by
  have hi := index0_7 t
  have hN := t.isLt
  have hN' : cfg0.N = 64 := N64

  rw [flushed7]
  funext j
  rw [View.read_apply]
  have h0 : (j 0).val < 256 := (j 0).isLt
  have h1 : (j 1).val < 1024 := (j 1).isLt
  have ej : j = ix2 (⟨(j 0).val, h0⟩ : Fin 256) (⟨(j 1).val, h1⟩ : Fin 1024) := funext fun a => by
    match a with
    | ⟨0, _⟩ => rfl
    | ⟨1, _⟩ => rfl
  refine Eq.trans (b := resO m c (ix2 ⟨t.val * 256 + (j 0).val, by omega⟩ ⟨(j 1).val, h1⟩)) ?_ (congrArg (resO m c) (funext fun a => Fin.ext ?_))
  · show (outsAt0 m c t.val t.isLt).1 j = _
    refine (congrArg _ ej).trans ((total_at m c t _ _).trans ?_)
    refine congrArg₂ (fun b s => total (argX m c) (argG m c) (argW m c) (argT m c) (argB m c) (argD m c) b s ⟨(j 1).val, h1⟩) ?_ ?_
    · show t.val / 8 = (t.val * 256 + (j 0).val) / 2048
      omega
    · show t.val % 8 * 256 + (j 0).val = (t.val * 256 + (j 0).val) % 2048
      omega
  · match a with
    | ⟨0, _⟩ => show t.val * 256 + (j 0).val = win0_7.index t 0 * 256 + 1 * (j 0).val; rw [hi.1]; omega
    | ⟨1, _⟩ => show (j 1).val = win0_7.index t 1 * 1024 + 1 * (j 1).val; rw [hi.2]; omega

theorem final7 : (dats m 0 c).arrAt 7 cfg0.N = resO m c :=
  (dats m 0 c).arrAt_eq_of_cover 7 (resO m c) (fun t _ => written7 m c t) fun i => by
    have h0 : (i 0 : Nat) < 16384 := (i 0).isLt
    have h1 : (i 1 : Nat) < 1024 := (i 1).isLt
    have hN' : cfg0.N = 64 := N64
    let t : Fin cfg0.N := ⟨(i 0 : Nat) / 256, by omega⟩
    have hi := index0_7 t
    refine ⟨t, flush0_7 t, ?_⟩
    show i ∈ ((View.whole main_v5_0).slice (win0_7.rect t)).set
    rw [View.set_slice_whole, Rect.mem_set_unit]
    intro a
    match a with
    | ⟨0, _⟩ =>
      show win0_7.index t 0 * 256 ≤ (i 0 : Nat) ∧ (i 0 : Nat) < win0_7.index t 0 * 256 + 256
      rw [hi.1]
      show (i 0 : Nat) / 256 * 256 ≤ (i 0 : Nat) ∧ (i 0 : Nat) < (i 0 : Nat) / 256 * 256 + 256
      omega
    | ⟨1, _⟩ =>
      show win0_7.index t 1 * 1024 ≤ (i 1 : Nat) ∧ (i 1 : Nat) < win0_7.index t 1 * 1024 + 1024
      rw [hi.2]; omega

theorem written9 (t : Fin cfg0.N) :
    (dats m 0 c).flushed 9 t = ((cfg0.win 9).blk t).view.read (Elt Ideal) (resN m c) := by
  have hi := index0_9 t
  have hN := t.isLt
  have hN' : cfg0.N = 64 := N64

  rw [flushed9]
  funext j
  rw [View.read_apply]
  have h0 : (j 0).val < 256 := (j 0).isLt
  have h1 : (j 1).val < 1024 := (j 1).isLt
  have ej : j = ix2 (⟨(j 0).val, h0⟩ : Fin 256) (⟨(j 1).val, h1⟩ : Fin 1024) := funext fun a => by
    match a with
    | ⟨0, _⟩ => rfl
    | ⟨1, _⟩ => rfl
  refine Eq.trans (b := resN m c (ix2 ⟨t.val * 256 + (j 0).val, by omega⟩ ⟨(j 1).val, h1⟩)) ?_ (congrArg (resN m c) (funext fun a => Fin.ext ?_))
  · show (outsAt0 m c t.val t.isLt).2.2.1 j = _
    refine (congrArg _ ej).trans ((normed_at m c t _ _).trans ?_)
    refine congrArg₂ (fun b s => normed (argX m c) (argG m c) (argW m c) (argT m c) (argB m c) (argD m c) (argF m c) b s ⟨(j 1).val, h1⟩) ?_ ?_
    · show t.val / 8 = (t.val * 256 + (j 0).val) / 2048
      omega
    · show t.val % 8 * 256 + (j 0).val = (t.val * 256 + (j 0).val) % 2048
      omega
  · match a with
    | ⟨0, _⟩ => show t.val * 256 + (j 0).val = win0_9.index t 0 * 256 + 1 * (j 0).val; rw [hi.1]; omega
    | ⟨1, _⟩ => show (j 1).val = win0_9.index t 1 * 1024 + 1 * (j 1).val; rw [hi.2]; omega

theorem final9 : (dats m 0 c).arrAt 9 cfg0.N = resN m c :=
  (dats m 0 c).arrAt_eq_of_cover 9 (resN m c) (fun t _ => written9 m c t) fun i => by
    have h0 : (i 0 : Nat) < 16384 := (i 0).isLt
    have h1 : (i 1 : Nat) < 1024 := (i 1).isLt
    have hN' : cfg0.N = 64 := N64
    let t : Fin cfg0.N := ⟨(i 0 : Nat) / 256, by omega⟩
    have hi := index0_9 t
    refine ⟨t, flush0_9 t, ?_⟩
    show i ∈ ((View.whole main_v5_2).slice (win0_9.rect t)).set
    rw [View.set_slice_whole, Rect.mem_set_unit]
    intro a
    match a with
    | ⟨0, _⟩ =>
      show win0_9.index t 0 * 256 ≤ (i 0 : Nat) ∧ (i 0 : Nat) < win0_9.index t 0 * 256 + 256
      rw [hi.1]
      show (i 0 : Nat) / 256 * 256 ≤ (i 0 : Nat) ∧ (i 0 : Nat) < (i 0 : Nat) / 256 * 256 + 256
      omega
    | ⟨1, _⟩ =>
      show win0_9.index t 1 * 1024 ≤ (i 1 : Nat) ∧ (i 1 : Nat) < win0_9.index t 1 * 1024 + 1024
      rw [hi.2]; omega

theorem written8 (t : Fin cfg0.N) (hf : (cfg0.win 8).flush t = true) :
    (dats m 0 c).flushed 8 t = ((cfg0.win 8).blk t).view.read (Elt Ideal) (resT m c) := by
  have hi := index0_8 t
  have hN := t.isLt
  have hN' : cfg0.N = 64 := N64
  have h7 : t.val % 8 = 7 := (flush0_8 t).mp hf
  rw [flushed8]
  funext j
  rw [View.read_apply]
  have h0 : (j 0).val < 8 := (j 0).isLt
  have h1 : (j 1).val < 5632 := (j 1).isLt
  have ej : j = ix2 (⟨(j 0).val, h0⟩ : Fin 8) (⟨(j 1).val, h1⟩ : Fin 5632) := funext fun a => by
    match a with
    | ⟨0, _⟩ => rfl
    | ⟨1, _⟩ => rfl
  refine Eq.trans (b := resT m c (ix2 ⟨t.val / 8 * 8 + (j 0).val, by omega⟩ ⟨(j 1).val, h1⟩)) ?_ (congrArg (resT m c) (funext fun a => Fin.ext ?_))
  · show (outsAt0 m c t.val t.isLt).2.1 j = _
    refine (congrArg _ ej).trans ((tail_at m c t _ _).trans ?_)
    refine congrArg₂ (fun b s => wide (argX m c) (argG m c) (argW m c) b s ⟨(j 1).val, h1⟩) ?_ ?_
    · show t.val / 8 = (t.val / 8 * 8 + (j 0).val) / 8
      omega
    · show t.val % 8 * 256 + 248 + (j 0).val = 2040 + (t.val / 8 * 8 + (j 0).val) % 8
      omega
  · match a with
    | ⟨0, _⟩ => show t.val / 8 * 8 + (j 0).val = win0_8.index t 0 * 8 + 1 * (j 0).val; rw [hi.1]; omega
    | ⟨1, _⟩ => show (j 1).val = win0_8.index t 1 * 5632 + 1 * (j 1).val; rw [hi.2]; omega

theorem final8 : (dats m 0 c).arrAt 8 cfg0.N = resT m c :=
  (dats m 0 c).arrAt_eq_of_cover 8 (resT m c) (fun t hf => written8 m c t hf) fun i => by
    have h0 : (i 0 : Nat) < 64 := (i 0).isLt
    have h1 : (i 1 : Nat) < 5632 := (i 1).isLt
    have hN' : cfg0.N = 64 := N64
    let t : Fin cfg0.N := ⟨(i 0 : Nat) / 8 * 8 + 7, by omega⟩
    have hi := index0_8 t
    refine ⟨t, (flush0_8 t).mpr (by show ((i 0 : Nat) / 8 * 8 + 7) % 8 = 7; omega), ?_⟩
    show i ∈ ((View.whole main_v5_1).slice (win0_8.rect t)).set
    rw [View.set_slice_whole, Rect.mem_set_unit]
    intro a
    match a with
    | ⟨0, _⟩ =>
      show win0_8.index t 0 * 8 ≤ (i 0 : Nat) ∧ (i 0 : Nat) < win0_8.index t 0 * 8 + 8
      rw [hi.1]
      show ((i 0 : Nat) / 8 * 8 + 7) / 8 * 8 ≤ (i 0 : Nat) ∧ (i 0 : Nat) < ((i 0 : Nat) / 8 * 8 + 7) / 8 * 8 + 8
      omega
    | ⟨1, _⟩ =>
      show win0_8.index t 1 * 5632 ≤ (i 1 : Nat) ∧ (i 1 : Nat) < win0_8.index t 1 * 5632 + 5632
      rw [hi.2]; omega

end Cert.KFfnIdeal.Ffn
end
-- ==== Proof.Ffn.Claim.lean ====
/-
  The feed-forward network: the kernel and the reference end with the same three results over the extended reals.
-/
module

public import proofs.«01_k».proof.Defs
public import proofs.«01_k».proof.Proof.Ffn.Ref
public import proofs.«01_k».proof.Proof.Ffn.Join

@[expose] public section

noncomputable section
open Idealize.ShloMosaic Idealize.ShloMosaic.TcCoe Idealize.SL.Sem
namespace Cert.Ffn

theorem algebraic : Cert.algebraic_KFfnIdeal_RFfnIdeal (hKFfnIdeal := Cert.KFfnIdeal.Gen.facts) (hRFfnIdeal := Cert.RFfnIdeal.Gen.facts) := by
  intro m g m' g' _ hm
  refine ⟨fun c => Cert.KFfnIdeal.Ffn.resO m c, fun c => Cert.KFfnIdeal.Ffn.resT m c, fun c => Cert.KFfnIdeal.Ffn.resN m c, ?_, ?_⟩
  · refine (θ_run _ _ _).mono (fun r h c => ?_) (Cert.KFfnIdeal.Value.run_blocks m g)
    obtain ⟨h0, h1, h2, h3⟩ := h c
    exact ⟨h0.trans (Cert.KFfnIdeal.Ffn.final7 m c), h1.trans (Cert.KFfnIdeal.Ffn.final8 m c), h2.trans (Cert.KFfnIdeal.Ffn.final9 m c), h3⟩
  · refine (θ_run _ _ _).mono (fun r h c => ?_) (Cert.RFfnIdeal.Value.run m' g')
    obtain ⟨h0, h1, h2, h3⟩ := h c
    obtain ⟨a0, a1, a2, a3, a4, a5, a6⟩ := hm c
    refine ⟨(h0.trans (Cert.RFfnIdeal.Ffn.res60 m' c)).trans (funext fun i => ?_), h1.trans (funext fun i => ?_), (h2.trans (Cert.RFfnIdeal.Ffn.res62 m' c)).trans (funext fun i => ?_), h3⟩
    · have ei : i = ix2 (i 0) (i 1) := funext fun a => by
        match a with
        | ⟨0, _⟩ => rfl
        | ⟨1, _⟩ => rfl
      exact (congrArg _ ei).trans (Cert.RFfnIdeal.Ffn.out60 _ _ _ _ _ _ _ _ _ _ _ _ a0 a1 a2 a3 a4 a5 (i 0) (i 1))
    · have ei : i = ix2 (i 0) (i 1) := funext fun a => by
        match a with
        | ⟨0, _⟩ => rfl
        | ⟨1, _⟩ => rfl
      exact (congrArg _ ei).trans (Cert.RFfnIdeal.Ffn.out61 _ _ _ _ _ _ a0 a1 a2 (i 0) (i 1))
    · have ei : i = ix2 (i 0) (i 1) := funext fun a => by
        match a with
        | ⟨0, _⟩ => rfl
        | ⟨1, _⟩ => rfl
      exact (congrArg _ ei).trans (Cert.RFfnIdeal.Ffn.out62 _ _ _ _ _ _ _ _ _ _ _ _ _ _ a0 a1 a2 a3 a4 a5 a6 (i 0) (i 1))

end Cert.Ffn
end
-- ==== Proof.In.Kernel.lean ====
/-
  The input projection's kernel, entry by entry: a result's entry is the normalised row against a column of the weights.
-/
module

public import proofs.«01_k».proof.Proof.Gen.KInIdeal.Value
public import proofs.«01_k».proof.Proof.In.Norm
public import Idealize.ShloMosaic.Lib.StableHlo.RunRead
public import Idealize.ShloMosaic.Lib.Pipeline.ValueKit

@[expose] public section

noncomputable section
open Idealize.ShloMosaic Idealize.ShloMosaic.TcCoe Idealize.SL.Sem Idealize.ShloMosaic.StableHlo
open Idealize.ShloMosaic.Pipeline (Dat)
namespace Cert.KInIdeal.In
open Cert.KInIdeal Cert.KInIdeal.Gen Cert.KInIdeal.Value Cert.Nrm
variable (m : (ℓ : Loc nD τ sig) → Buf (Elt Ideal) ℓ) (c : Dev nD)

/-- The rows, the scale and the weights the program is launched with. -/
def argX (r : Fin 16384) (j : Fin 1024) : EReal := (m ((c : Thread nD τ).loc main_arg0) : Vec Ideal S16384x1024 .f32) (ix2 r j)
def argG (j : Fin 1024) : EReal := (m ((c : Thread nD τ).loc main_arg1) : Vec Ideal S1024 .f32) (ix1 j)
def argW (k : Fin 1024) (j : Fin 6144) : EReal := (m ((c : Thread nD τ).loc main_arg2) : Vec Ideal S1024x6144 .f32) (ix2 k j)

/-- The projection of the normalised row `r`, at column `j` of the weights. -/
def proj (r : Fin 16384) (j : Fin 6144) : EReal := ∑ k : Fin 1024, rms (argX m c r) (argG m c) k * argW m c k j

theorem N64 : cfg0.N = 64 := N_0

theorem pay1_apply (x : Vec Ideal S256x1024 .f32) (g : Vec Ideal S1x1024 .f32) (r : Fin 256) (j : Fin 1024) :
    (k0_pay1 x g (ix2 r j) : EReal) = rms (fun k => x (ix2 r k)) (fun k => g (ix2 0 k)) j := by
  pointwise [k0_pay1]
  rfl

theorem weights (k : Fin 1024) (j : Fin 6144) : ((V m c main_v1 : Vec Ideal S1024x6144 .bf16) (ix2 k j) : EReal) = argW m c k j := by
  simp only [V, List.flatten_cons, List.flatten_nil, List.append_nil, StableHlo.after_append]
  after_reads_simp
  try simp only [TRef.ofBuf, TRef.toBuf, TRef.of, cast_eq]
  rfl

theorem scale (j : Fin 1024) : ((V m c main_v0 : Vec Ideal S1x1024 .f32) (ix2 0 j) : EReal) = argG m c j := by
  simp only [V, List.flatten_cons, List.flatten_nil, List.append_nil, StableHlo.after_append]
  after_reads_simp
  try simp only [TRef.ofBuf, TRef.toBuf, TRef.of, cast_eq]
  pointwise []
  rfl

theorem index0_0 : ∀ t : Fin grid0.N, win0_0.index t 0 = t.val ∧ win0_0.index t 1 = 0 := by decide +kernel
theorem index0_1 : ∀ t : Fin grid0.N, win0_1.index t 0 = 0 ∧ win0_1.index t 1 = 0 := by decide +kernel
theorem index0_2 : ∀ t : Fin grid0.N, win0_2.index t 0 = 0 ∧ win0_2.index t 1 = 0 := by decide +kernel

theorem block0 (t : Fin cfg0.N) (r : Fin 256) (j : Fin 1024) (p : t.val * 256 + r.val < 16384) :
    ((iblk m c 0 t : Vec Ideal S256x1024 .f32) (ix2 r j) : EReal) = argX m c ⟨t.val * 256 + r.val, p⟩ j := by
  have hi := index0_0 t
  unfold iblk
  rw [View.read_apply]
  show (V m c main_arg0 : Vec Ideal S16384x1024 .f32) _ = _
  rw [V_main_arg0]
  unfold argX
  congr 1
  funext a
  apply Fin.ext
  match a with
  | ⟨0, _⟩ => show win0_0.index t 0 * 256 + 1 * r.val = t.val * 256 + r.val; rw [hi.1]; omega
  | ⟨1, _⟩ => show win0_0.index t 1 * 1024 + 1 * j.val = j.val; rw [hi.2]; omega

theorem block1 (t : Fin cfg0.N) (j : Fin 1024) : ((iblk m c 1 t : Vec Ideal S1x1024 .f32) (ix2 0 j) : EReal) = argG m c j := by
  have hi := index0_1 t
  unfold iblk
  rw [View.read_apply]
  show (V m c main_v0 : Vec Ideal S1x1024 .f32) _ = _
  refine Eq.trans (congrArg (V m c main_v0 : Vec Ideal S1x1024 .f32) (a₂ := ix2 0 j) (funext fun a => Fin.ext ?_)) (scale m c j)
  match a with
  | ⟨0, _⟩ => show win0_1.index t 0 * 1 + 1 * 0 = 0; rw [hi.1]
  | ⟨1, _⟩ => show win0_1.index t 1 * 1024 + 1 * j.val = j.val; rw [hi.2]; omega

theorem block2 (t : Fin cfg0.N) (k : Fin 1024) (j : Fin 6144) :
    ((iblk m c 2 t : Vec Ideal S1024x6144 .bf16) (ix2 k j) : EReal) = argW m c k j := by
  have hi := index0_2 t
  unfold iblk
  rw [View.read_apply]
  show (V m c main_v1 : Vec Ideal S1024x6144 .bf16) _ = _
  refine Eq.trans (congrArg (V m c main_v1 : Vec Ideal S1024x6144 .bf16) (a₂ := ix2 k j) (funext fun a => Fin.ext ?_)) (weights m c k j)
  match a with
  | ⟨0, _⟩ => show win0_2.index t 0 * 1024 + 1 * k.val = k.val; rw [hi.1]; omega
  | ⟨1, _⟩ => show win0_2.index t 1 * 6144 + 1 * j.val = j.val; rw [hi.2]; omega

/-! ## The columns from 0 -/

/-- The result 0, as contents of its array. -/
def res0 : Vec Ideal S16384x1024 .f32 := fun i => proj m c (i 0) ⟨0 + (i 1).val, by have h : (i 1).val < 1024 := (i 1).isLt; omega⟩

theorem out3_apply (x0 : Vec Ideal S256x1024 .f32) (x1 : Vec Ideal S1x1024 .f32) (x2 : Vec Ideal S1024x6144 .bf16) (r : Fin 256) (j : Fin 1024)
    (X G : Fin 1024 → EReal) (W : Fin 1024 → Fin 6144 → EReal) (hX : ∀ k, x0 (ix2 r k) = X k) (hG : ∀ k, x1 (ix2 0 k) = G k)
    (hW : ∀ k j, x2 (ix2 k j) = W k j) :
    (out0_3 x0 x1 x2 (ix2 r j) : EReal) = ∑ k : Fin 1024, rms X G k * W k ⟨0 + j.val, by omega⟩ := by
  obtain rfl : (fun k => x0 (ix2 r k)) = X := funext hX
  obtain rfl : (fun k => x1 (ix2 0 k)) = G := funext hG
  unfold out0_3
  rw [View.canon_unit_zero (S := S256x1024) (by funext a; fin_cases a <;> rfl),
    View.ld_unit_zero (S := S256x1024) (by funext a; fin_cases a <;> rfl),
    View.ld_unit_zero (S := S1x1024) (by funext a; fin_cases a <;> rfl)]
  pointwise [k0_pay2]
  refine Finset.sum_congr rfl fun k _ => congrArg₂ (· * ·) (pay1_apply x0 x1 r k) ?_
  refine Eq.trans (congrArg x2 (a₂ := ix2 k ⟨0 + j.val, by omega⟩) ?_) ((hW k ⟨0 + j.val, by omega⟩).trans (congrArg (W k) (Fin.ext (by first | rfl | exact Nat.zero_add _))))
  funext a
  apply Fin.ext
  match a with
  | ⟨0, _⟩ => rfl
  | ⟨1, _⟩ => first | rfl | (show j.val = 0 + j.val; omega)

theorem index0_3 : ∀ t : Fin grid0.N, win0_3.index t 0 = t.val ∧ win0_3.index t 1 = 0 := by decide +kernel

theorem written3 (t : Fin cfg0.N) : (dats m 0 c).flushed 3 t = ((cfg0.win 3).blk t).view.read (Elt Ideal) (res0 m c) := by
  have hi := index0_3 t
  have hN := t.isLt
  have hN' : cfg0.N = 64 := N64
  rw [flushed3]
  funext j
  rw [View.read_apply]
  have h0 : (j 0).val < 256 := (j 0).isLt
  have h1 : (j 1).val < 1024 := (j 1).isLt
  have ej : j = ix2 (⟨(j 0).val, h0⟩ : Fin 256) (⟨(j 1).val, h1⟩ : Fin 1024) := funext fun a => by
    match a with
    | ⟨0, _⟩ => rfl
    | ⟨1, _⟩ => rfl
  refine Eq.trans (b := proj m c ⟨t.val * 256 + (j 0).val, by omega⟩ ⟨0 + (j 1).val, by omega⟩) ?_
    (congrArg (res0 m c) (a₁ := ix2 ⟨t.val * 256 + (j 0).val, by omega⟩ ⟨(j 1).val, h1⟩) (funext fun a => Fin.ext ?_))
  · show out0_3 _ _ _ j = _
    refine (congrArg _ ej).trans (out3_apply _ _ _ _ _ _ _ _ (fun k => block0 m c t _ _ (by show t.val * 256 + (j 0).val < 16384; omega)) (fun k => block1 m c t _) (fun k j => block2 m c t _ _))
  · match a with
    | ⟨0, _⟩ => show t.val * 256 + (j 0).val = win0_3.index t 0 * 256 + 1 * (j 0).val; rw [hi.1]; omega
    | ⟨1, _⟩ => show (j 1).val = win0_3.index t 1 * 1024 + 1 * (j 1).val; rw [hi.2]; omega

theorem final3 : (dats m 0 c).arrAt 3 cfg0.N = res0 m c :=
  (dats m 0 c).arrAt_eq_of_cover 3 (res0 m c) (fun t _ => written3 m c t) fun i => by
    have h0 : (i 0 : Nat) < 16384 := (i 0).isLt
    have h1 : (i 1 : Nat) < 1024 := (i 1).isLt
    have hN' : cfg0.N = 64 := N64
    let t : Fin cfg0.N := ⟨(i 0 : Nat) / 256, by omega⟩
    have hi := index0_3 t
    refine ⟨t, flush0_3 t, ?_⟩
    show i ∈ ((View.whole main_v2_0).slice (win0_3.rect t)).set
    rw [View.set_slice_whole, Rect.mem_set_unit]
    intro a
    match a with
    | ⟨0, _⟩ =>
      show win0_3.index t 0 * 256 ≤ (i 0 : Nat) ∧ (i 0 : Nat) < win0_3.index t 0 * 256 + 256
      rw [hi.1]
      show (i 0 : Nat) / 256 * 256 ≤ (i 0 : Nat) ∧ (i 0 : Nat) < (i 0 : Nat) / 256 * 256 + 256
      omega
    | ⟨1, _⟩ =>
      show win0_3.index t 1 * 1024 ≤ (i 1 : Nat) ∧ (i 1 : Nat) < win0_3.index t 1 * 1024 + 1024
      rw [hi.2]; omega

/-! ## The columns from 1024 -/

/-- The result 1, as contents of its array. -/
def res1 : Vec Ideal S16384x1024 .f32 := fun i => proj m c (i 0) ⟨1024 + (i 1).val, by have h : (i 1).val < 1024 := (i 1).isLt; omega⟩

theorem out4_apply (x0 : Vec Ideal S256x1024 .f32) (x1 : Vec Ideal S1x1024 .f32) (x2 : Vec Ideal S1024x6144 .bf16) (r : Fin 256) (j : Fin 1024)
    (X G : Fin 1024 → EReal) (W : Fin 1024 → Fin 6144 → EReal) (hX : ∀ k, x0 (ix2 r k) = X k) (hG : ∀ k, x1 (ix2 0 k) = G k)
    (hW : ∀ k j, x2 (ix2 k j) = W k j) :
    (out0_4 x0 x1 x2 (ix2 r j) : EReal) = ∑ k : Fin 1024, rms X G k * W k ⟨1024 + j.val, by omega⟩ := by
  obtain rfl : (fun k => x0 (ix2 r k)) = X := funext hX
  obtain rfl : (fun k => x1 (ix2 0 k)) = G := funext hG
  unfold out0_4
  rw [View.canon_unit_zero (S := S256x1024) (by funext a; fin_cases a <;> rfl),
    View.ld_unit_zero (S := S256x1024) (by funext a; fin_cases a <;> rfl),
    View.ld_unit_zero (S := S1x1024) (by funext a; fin_cases a <;> rfl)]
  pointwise [k0_pay3]
  refine Finset.sum_congr rfl fun k _ => congrArg₂ (· * ·) (pay1_apply x0 x1 r k) ?_
  refine Eq.trans (congrArg x2 (a₂ := ix2 k ⟨1024 + j.val, by omega⟩) ?_) ((hW k ⟨1024 + j.val, by omega⟩).trans (congrArg (W k) (Fin.ext (by first | rfl | exact Nat.zero_add _))))
  funext a
  apply Fin.ext
  match a with
  | ⟨0, _⟩ => rfl
  | ⟨1, _⟩ => first | rfl | (show j.val = 0 + j.val; omega)

theorem index0_4 : ∀ t : Fin grid0.N, win0_4.index t 0 = t.val ∧ win0_4.index t 1 = 0 := by decide +kernel

theorem written4 (t : Fin cfg0.N) : (dats m 0 c).flushed 4 t = ((cfg0.win 4).blk t).view.read (Elt Ideal) (res1 m c) := by
  have hi := index0_4 t
  have hN := t.isLt
  have hN' : cfg0.N = 64 := N64
  rw [flushed4]
  funext j
  rw [View.read_apply]
  have h0 : (j 0).val < 256 := (j 0).isLt
  have h1 : (j 1).val < 1024 := (j 1).isLt
  have ej : j = ix2 (⟨(j 0).val, h0⟩ : Fin 256) (⟨(j 1).val, h1⟩ : Fin 1024) := funext fun a => by
    match a with
    | ⟨0, _⟩ => rfl
    | ⟨1, _⟩ => rfl
  refine Eq.trans (b := proj m c ⟨t.val * 256 + (j 0).val, by omega⟩ ⟨1024 + (j 1).val, by omega⟩) ?_
    (congrArg (res1 m c) (a₁ := ix2 ⟨t.val * 256 + (j 0).val, by omega⟩ ⟨(j 1).val, h1⟩) (funext fun a => Fin.ext ?_))
  · show out0_4 _ _ _ j = _
    refine (congrArg _ ej).trans (out4_apply _ _ _ _ _ _ _ _ (fun k => block0 m c t _ _ (by show t.val * 256 + (j 0).val < 16384; omega)) (fun k => block1 m c t _) (fun k j => block2 m c t _ _))
  · match a with
    | ⟨0, _⟩ => show t.val * 256 + (j 0).val = win0_4.index t 0 * 256 + 1 * (j 0).val; rw [hi.1]; omega
    | ⟨1, _⟩ => show (j 1).val = win0_4.index t 1 * 1024 + 1 * (j 1).val; rw [hi.2]; omega

theorem final4 : (dats m 0 c).arrAt 4 cfg0.N = res1 m c :=
  (dats m 0 c).arrAt_eq_of_cover 4 (res1 m c) (fun t _ => written4 m c t) fun i => by
    have h0 : (i 0 : Nat) < 16384 := (i 0).isLt
    have h1 : (i 1 : Nat) < 1024 := (i 1).isLt
    have hN' : cfg0.N = 64 := N64
    let t : Fin cfg0.N := ⟨(i 0 : Nat) / 256, by omega⟩
    have hi := index0_4 t
    refine ⟨t, flush0_4 t, ?_⟩
    show i ∈ ((View.whole main_v2_1).slice (win0_4.rect t)).set
    rw [View.set_slice_whole, Rect.mem_set_unit]
    intro a
    match a with
    | ⟨0, _⟩ =>
      show win0_4.index t 0 * 256 ≤ (i 0 : Nat) ∧ (i 0 : Nat) < win0_4.index t 0 * 256 + 256
      rw [hi.1]
      show (i 0 : Nat) / 256 * 256 ≤ (i 0 : Nat) ∧ (i 0 : Nat) < (i 0 : Nat) / 256 * 256 + 256
      omega
    | ⟨1, _⟩ =>
      show win0_4.index t 1 * 1024 ≤ (i 1 : Nat) ∧ (i 1 : Nat) < win0_4.index t 1 * 1024 + 1024
      rw [hi.2]; omega

/-! ## The columns from 2048 -/

/-- The result 2, as contents of its array. -/
def res2 : Vec Ideal S16384x2048 .f32 := fun i => proj m c (i 0) ⟨2048 + (i 1).val, by have h : (i 1).val < 2048 := (i 1).isLt; omega⟩

theorem out5_apply (x0 : Vec Ideal S256x1024 .f32) (x1 : Vec Ideal S1x1024 .f32) (x2 : Vec Ideal S1024x6144 .bf16) (r : Fin 256) (j : Fin 2048)
    (X G : Fin 1024 → EReal) (W : Fin 1024 → Fin 6144 → EReal) (hX : ∀ k, x0 (ix2 r k) = X k) (hG : ∀ k, x1 (ix2 0 k) = G k)
    (hW : ∀ k j, x2 (ix2 k j) = W k j) :
    (out0_5 x0 x1 x2 (ix2 r j) : EReal) = ∑ k : Fin 1024, rms X G k * W k ⟨2048 + j.val, by omega⟩ := by
  obtain rfl : (fun k => x0 (ix2 r k)) = X := funext hX
  obtain rfl : (fun k => x1 (ix2 0 k)) = G := funext hG
  unfold out0_5
  rw [View.canon_unit_zero (S := S256x2048) (by funext a; fin_cases a <;> rfl),
    View.ld_unit_zero (S := S256x1024) (by funext a; fin_cases a <;> rfl),
    View.ld_unit_zero (S := S1x1024) (by funext a; fin_cases a <;> rfl)]
  pointwise [k0_pay4]
  refine Finset.sum_congr rfl fun k _ => congrArg₂ (· * ·) (pay1_apply x0 x1 r k) ?_
  refine Eq.trans (congrArg x2 (a₂ := ix2 k ⟨2048 + j.val, by omega⟩) ?_) ((hW k ⟨2048 + j.val, by omega⟩).trans (congrArg (W k) (Fin.ext (by first | rfl | exact Nat.zero_add _))))
  funext a
  apply Fin.ext
  match a with
  | ⟨0, _⟩ => rfl
  | ⟨1, _⟩ => first | rfl | (show j.val = 0 + j.val; omega)

theorem index0_5 : ∀ t : Fin grid0.N, win0_5.index t 0 = t.val ∧ win0_5.index t 1 = 0 := by decide +kernel

theorem written5 (t : Fin cfg0.N) : (dats m 0 c).flushed 5 t = ((cfg0.win 5).blk t).view.read (Elt Ideal) (res2 m c) := by
  have hi := index0_5 t
  have hN := t.isLt
  have hN' : cfg0.N = 64 := N64
  rw [flushed5]
  funext j
  rw [View.read_apply]
  have h0 : (j 0).val < 256 := (j 0).isLt
  have h1 : (j 1).val < 2048 := (j 1).isLt
  have ej : j = ix2 (⟨(j 0).val, h0⟩ : Fin 256) (⟨(j 1).val, h1⟩ : Fin 2048) := funext fun a => by
    match a with
    | ⟨0, _⟩ => rfl
    | ⟨1, _⟩ => rfl
  refine Eq.trans (b := proj m c ⟨t.val * 256 + (j 0).val, by omega⟩ ⟨2048 + (j 1).val, by omega⟩) ?_
    (congrArg (res2 m c) (a₁ := ix2 ⟨t.val * 256 + (j 0).val, by omega⟩ ⟨(j 1).val, h1⟩) (funext fun a => Fin.ext ?_))
  · show out0_5 _ _ _ j = _
    refine (congrArg _ ej).trans (out5_apply _ _ _ _ _ _ _ _ (fun k => block0 m c t _ _ (by show t.val * 256 + (j 0).val < 16384; omega)) (fun k => block1 m c t _) (fun k j => block2 m c t _ _))
  · match a with
    | ⟨0, _⟩ => show t.val * 256 + (j 0).val = win0_5.index t 0 * 256 + 1 * (j 0).val; rw [hi.1]; omega
    | ⟨1, _⟩ => show (j 1).val = win0_5.index t 1 * 2048 + 1 * (j 1).val; rw [hi.2]; omega

theorem final5 : (dats m 0 c).arrAt 5 cfg0.N = res2 m c :=
  (dats m 0 c).arrAt_eq_of_cover 5 (res2 m c) (fun t _ => written5 m c t) fun i => by
    have h0 : (i 0 : Nat) < 16384 := (i 0).isLt
    have h1 : (i 1 : Nat) < 2048 := (i 1).isLt
    have hN' : cfg0.N = 64 := N64
    let t : Fin cfg0.N := ⟨(i 0 : Nat) / 256, by omega⟩
    have hi := index0_5 t
    refine ⟨t, flush0_5 t, ?_⟩
    show i ∈ ((View.whole main_v2_2).slice (win0_5.rect t)).set
    rw [View.set_slice_whole, Rect.mem_set_unit]
    intro a
    match a with
    | ⟨0, _⟩ =>
      show win0_5.index t 0 * 256 ≤ (i 0 : Nat) ∧ (i 0 : Nat) < win0_5.index t 0 * 256 + 256
      rw [hi.1]
      show (i 0 : Nat) / 256 * 256 ≤ (i 0 : Nat) ∧ (i 0 : Nat) < (i 0 : Nat) / 256 * 256 + 256
      omega
    | ⟨1, _⟩ =>
      show win0_5.index t 1 * 2048 ≤ (i 1 : Nat) ∧ (i 1 : Nat) < win0_5.index t 1 * 2048 + 2048
      rw [hi.2]; omega

/-! ## The columns from 4096 -/

/-- The result 3, as contents of its array. -/
def res3 : Vec Ideal S16384x2048 .f32 := fun i => proj m c (i 0) ⟨4096 + (i 1).val, by have h : (i 1).val < 2048 := (i 1).isLt; omega⟩

theorem out6_apply (x0 : Vec Ideal S256x1024 .f32) (x1 : Vec Ideal S1x1024 .f32) (x2 : Vec Ideal S1024x6144 .bf16) (r : Fin 256) (j : Fin 2048)
    (X G : Fin 1024 → EReal) (W : Fin 1024 → Fin 6144 → EReal) (hX : ∀ k, x0 (ix2 r k) = X k) (hG : ∀ k, x1 (ix2 0 k) = G k)
    (hW : ∀ k j, x2 (ix2 k j) = W k j) :
    (out0_6 x0 x1 x2 (ix2 r j) : EReal) = ∑ k : Fin 1024, rms X G k * W k ⟨4096 + j.val, by omega⟩ := by
  obtain rfl : (fun k => x0 (ix2 r k)) = X := funext hX
  obtain rfl : (fun k => x1 (ix2 0 k)) = G := funext hG
  unfold out0_6
  rw [View.canon_unit_zero (S := S256x2048) (by funext a; fin_cases a <;> rfl),
    View.ld_unit_zero (S := S256x1024) (by funext a; fin_cases a <;> rfl),
    View.ld_unit_zero (S := S1x1024) (by funext a; fin_cases a <;> rfl)]
  pointwise [k0_pay5]
  refine Finset.sum_congr rfl fun k _ => congrArg₂ (· * ·) (pay1_apply x0 x1 r k) ?_
  refine Eq.trans (congrArg x2 (a₂ := ix2 k ⟨4096 + j.val, by omega⟩) ?_) ((hW k ⟨4096 + j.val, by omega⟩).trans (congrArg (W k) (Fin.ext (by first | rfl | exact Nat.zero_add _))))
  funext a
  apply Fin.ext
  match a with
  | ⟨0, _⟩ => rfl
  | ⟨1, _⟩ => first | rfl | (show j.val = 0 + j.val; omega)

theorem index0_6 : ∀ t : Fin grid0.N, win0_6.index t 0 = t.val ∧ win0_6.index t 1 = 0 := by decide +kernel

theorem written6 (t : Fin cfg0.N) : (dats m 0 c).flushed 6 t = ((cfg0.win 6).blk t).view.read (Elt Ideal) (res3 m c) := by
  have hi := index0_6 t
  have hN := t.isLt
  have hN' : cfg0.N = 64 := N64
  rw [flushed6]
  funext j
  rw [View.read_apply]
  have h0 : (j 0).val < 256 := (j 0).isLt
  have h1 : (j 1).val < 2048 := (j 1).isLt
  have ej : j = ix2 (⟨(j 0).val, h0⟩ : Fin 256) (⟨(j 1).val, h1⟩ : Fin 2048) := funext fun a => by
    match a with
    | ⟨0, _⟩ => rfl
    | ⟨1, _⟩ => rfl
  refine Eq.trans (b := proj m c ⟨t.val * 256 + (j 0).val, by omega⟩ ⟨4096 + (j 1).val, by omega⟩) ?_
    (congrArg (res3 m c) (a₁ := ix2 ⟨t.val * 256 + (j 0).val, by omega⟩ ⟨(j 1).val, h1⟩) (funext fun a => Fin.ext ?_))
  · show out0_6 _ _ _ j = _
    refine (congrArg _ ej).trans (out6_apply _ _ _ _ _ _ _ _ (fun k => block0 m c t _ _ (by show t.val * 256 + (j 0).val < 16384; omega)) (fun k => block1 m c t _) (fun k j => block2 m c t _ _))
  · match a with
    | ⟨0, _⟩ => show t.val * 256 + (j 0).val = win0_6.index t 0 * 256 + 1 * (j 0).val; rw [hi.1]; omega
    | ⟨1, _⟩ => show (j 1).val = win0_6.index t 1 * 2048 + 1 * (j 1).val; rw [hi.2]; omega

theorem final6 : (dats m 0 c).arrAt 6 cfg0.N = res3 m c :=
  (dats m 0 c).arrAt_eq_of_cover 6 (res3 m c) (fun t _ => written6 m c t) fun i => by
    have h0 : (i 0 : Nat) < 16384 := (i 0).isLt
    have h1 : (i 1 : Nat) < 2048 := (i 1).isLt
    have hN' : cfg0.N = 64 := N64
    let t : Fin cfg0.N := ⟨(i 0 : Nat) / 256, by omega⟩
    have hi := index0_6 t
    refine ⟨t, flush0_6 t, ?_⟩
    show i ∈ ((View.whole main_v2_3).slice (win0_6.rect t)).set
    rw [View.set_slice_whole, Rect.mem_set_unit]
    intro a
    match a with
    | ⟨0, _⟩ =>
      show win0_6.index t 0 * 256 ≤ (i 0 : Nat) ∧ (i 0 : Nat) < win0_6.index t 0 * 256 + 256
      rw [hi.1]
      show (i 0 : Nat) / 256 * 256 ≤ (i 0 : Nat) ∧ (i 0 : Nat) < (i 0 : Nat) / 256 * 256 + 256
      omega
    | ⟨1, _⟩ =>
      show win0_6.index t 1 * 2048 ≤ (i 1 : Nat) ∧ (i 1 : Nat) < win0_6.index t 1 * 2048 + 2048
      rw [hi.2]; omega

end Cert.KInIdeal.In
end
-- ==== Proof.In.Claim.lean ====
/-
  The input projection: the kernel and the reference end with the same four results over the extended reals.
-/
module

public import proofs.«01_k».proof.Defs
public import proofs.«01_k».proof.Proof.Gen.RInIdeal.Run
public import proofs.«01_k».proof.Proof.In.Kernel

@[expose] public section

noncomputable section
open Idealize.ShloMosaic Idealize.ShloMosaic.TcCoe Idealize.SL.Sem
namespace Cert.In
open Cert.Nrm

section
open Cert.RInIdeal Cert.RInIdeal.Gen
/-- The reference's rows, normalised and scaled. -/
def hR (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

theorem hR_apply (x : FVec Ideal S16384x1024 .f32) (g : FVec Ideal S1024 .f32) (r : Fin 16384) (k : Fin 1024) :
    (hR x g (ix2 r k) : EReal) = rms (fun k => x (ix2 r k)) (fun k => g (ix1 k)) k := by
  pointwise [hR]
  rfl

theorem ref0_apply (x : FVec Ideal S16384x1024 .f32) (g : FVec Ideal S1024 .f32) (w : FVec Ideal S1024x6144 .f32) (r : Fin 16384) (j : Fin 1024)
    (X G : Fin 1024 → EReal) (W : Fin 1024 → Fin 6144 → EReal) (hX : ∀ k, x (ix2 r k) = X k) (hG : ∀ k, g (ix1 k) = G k)
    (hW : ∀ k j, w (ix2 k j) = W k j) :
    ((extractStridedSlice S16384x1024 ![0, 0] (Host.dotGeneral dot_S16384x1024_S1024x6144_S16384x6144_1_0_0_1_n_n none (hR x g) w)
        slices_S16384x6144_S16384x1024_0_0 : FVec Ideal S16384x1024 .f32) (ix2 r j) : EReal)
      = ∑ k : Fin 1024, rms X G k * W k ⟨0 + j.val, by omega⟩ := by
  obtain rfl : (fun k => x (ix2 r k)) = X := funext hX
  obtain rfl : (fun k => g (ix1 k)) = G := funext hG
  pointwise []
  refine Finset.sum_congr rfl fun k _ => congrArg₂ (· * ·) (hR_apply x g r k) ?_
  refine Eq.trans (congrArg w (a₂ := ix2 k ⟨0 + j.val, by omega⟩) ?_) ((hW k ⟨0 + j.val, by omega⟩).trans (congrArg (W k) (Fin.ext (by first | rfl | exact Nat.zero_add _))))
  funext a
  apply Fin.ext
  match a with
  | ⟨0, _⟩ => rfl
  | ⟨1, _⟩ => first | rfl | (show j.val = 0 + j.val; omega)

theorem ref1_apply (x : FVec Ideal S16384x1024 .f32) (g : FVec Ideal S1024 .f32) (w : FVec Ideal S1024x6144 .f32) (r : Fin 16384) (j : Fin 1024)
    (X G : Fin 1024 → EReal) (W : Fin 1024 → Fin 6144 → EReal) (hX : ∀ k, x (ix2 r k) = X k) (hG : ∀ k, g (ix1 k) = G k)
    (hW : ∀ k j, w (ix2 k j) = W k j) :
    ((extractStridedSlice S16384x1024 ![0, 1024] (Host.dotGeneral dot_S16384x1024_S1024x6144_S16384x6144_1_0_0_1_n_n none (hR x g) w)
        slices_S16384x6144_S16384x1024_0_1024 : FVec Ideal S16384x1024 .f32) (ix2 r j) : EReal)
      = ∑ k : Fin 1024, rms X G k * W k ⟨1024 + j.val, by omega⟩ := by
  obtain rfl : (fun k => x (ix2 r k)) = X := funext hX
  obtain rfl : (fun k => g (ix1 k)) = G := funext hG
  pointwise []
  refine Finset.sum_congr rfl fun k _ => congrArg₂ (· * ·) (hR_apply x g r k) ?_
  refine Eq.trans (congrArg w (a₂ := ix2 k ⟨1024 + j.val, by omega⟩) ?_) ((hW k ⟨1024 + j.val, by omega⟩).trans (congrArg (W k) (Fin.ext (by first | rfl | exact Nat.zero_add _))))
  funext a
  apply Fin.ext
  match a with
  | ⟨0, _⟩ => rfl
  | ⟨1, _⟩ => first | rfl | (show j.val = 0 + j.val; omega)

theorem ref2_apply (x : FVec Ideal S16384x1024 .f32) (g : FVec Ideal S1024 .f32) (w : FVec Ideal S1024x6144 .f32) (r : Fin 16384) (j : Fin 2048)
    (X G : Fin 1024 → EReal) (W : Fin 1024 → Fin 6144 → EReal) (hX : ∀ k, x (ix2 r k) = X k) (hG : ∀ k, g (ix1 k) = G k)
    (hW : ∀ k j, w (ix2 k j) = W k j) :
    ((extractStridedSlice S16384x2048 ![0, 2048] (Host.dotGeneral dot_S16384x1024_S1024x6144_S16384x6144_1_0_0_1_n_n none (hR x g) w)
        slices_S16384x6144_S16384x2048_0_2048 : FVec Ideal S16384x2048 .f32) (ix2 r j) : EReal)
      = ∑ k : Fin 1024, rms X G k * W k ⟨2048 + j.val, by omega⟩ := by
  obtain rfl : (fun k => x (ix2 r k)) = X := funext hX
  obtain rfl : (fun k => g (ix1 k)) = G := funext hG
  pointwise []
  refine Finset.sum_congr rfl fun k _ => congrArg₂ (· * ·) (hR_apply x g r k) ?_
  refine Eq.trans (congrArg w (a₂ := ix2 k ⟨2048 + j.val, by omega⟩) ?_) ((hW k ⟨2048 + j.val, by omega⟩).trans (congrArg (W k) (Fin.ext (by first | rfl | exact Nat.zero_add _))))
  funext a
  apply Fin.ext
  match a with
  | ⟨0, _⟩ => rfl
  | ⟨1, _⟩ => first | rfl | (show j.val = 0 + j.val; omega)

theorem ref3_apply (x : FVec Ideal S16384x1024 .f32) (g : FVec Ideal S1024 .f32) (w : FVec Ideal S1024x6144 .f32) (r : Fin 16384) (j : Fin 2048)
    (X G : Fin 1024 → EReal) (W : Fin 1024 → Fin 6144 → EReal) (hX : ∀ k, x (ix2 r k) = X k) (hG : ∀ k, g (ix1 k) = G k)
    (hW : ∀ k j, w (ix2 k j) = W k j) :
    ((extractStridedSlice S16384x2048 ![0, 4096] (Host.dotGeneral dot_S16384x1024_S1024x6144_S16384x6144_1_0_0_1_n_n none (hR x g) w)
        slices_S16384x6144_S16384x2048_0_4096 : FVec Ideal S16384x2048 .f32) (ix2 r j) : EReal)
      = ∑ k : Fin 1024, rms X G k * W k ⟨4096 + j.val, by omega⟩ := by
  obtain rfl : (fun k => x (ix2 r k)) = X := funext hX
  obtain rfl : (fun k => g (ix1 k)) = G := funext hG
  pointwise []
  refine Finset.sum_congr rfl fun k _ => congrArg₂ (· * ·) (hR_apply x g r k) ?_
  refine Eq.trans (congrArg w (a₂ := ix2 k ⟨4096 + j.val, by omega⟩) ?_) ((hW k ⟨4096 + j.val, by omega⟩).trans (congrArg (W k) (Fin.ext (by first | rfl | exact Nat.zero_add _))))
  funext a
  apply Fin.ext
  match a with
  | ⟨0, _⟩ => rfl
  | ⟨1, _⟩ => first | rfl | (show j.val = 0 + j.val; omega)

end

theorem algebraic : Cert.algebraic_KInIdeal_RInIdeal (hKInIdeal := Cert.KInIdeal.Gen.facts) (hRInIdeal := Cert.RInIdeal.Gen.facts) := by
  intro m g m' g' _ hm
  refine ⟨fun c => Cert.KInIdeal.In.res0 m c, fun c => Cert.KInIdeal.In.res1 m c, fun c => Cert.KInIdeal.In.res2 m c, fun c => Cert.KInIdeal.In.res3 m c, ?_, ?_⟩
  · refine (θ_run _ _ _).mono (fun r h c => ?_) (Cert.KInIdeal.Value.run_blocks m g)
    obtain ⟨h0, h1, h2, h3, h4⟩ := h c
    exact ⟨h0.trans (Cert.KInIdeal.In.final3 m c), h1.trans (Cert.KInIdeal.In.final4 m c), h2.trans (Cert.KInIdeal.In.final5 m c), h3.trans (Cert.KInIdeal.In.final6 m c), h4⟩
  · refine (θ_run _ _ _).mono (fun r h c => ?_) (Cert.RInIdeal.Value.run m' g')
    obtain ⟨h0, h1, h2, h3, h4⟩ := h c
    obtain ⟨a0, a1, a2⟩ := hm c
    refine ⟨h0.trans (funext fun i => ?_), h1.trans (funext fun i => ?_), h2.trans (funext fun i => ?_), h3.trans (funext fun i => ?_), h4⟩
    · have ei : i = ix2 (i 0) (i 1) := funext fun a => by
        match a with
        | ⟨0, _⟩ => rfl
        | ⟨1, _⟩ => rfl
      exact (congrArg _ ei).trans (ref0_apply _ _ _ (i 0) (i 1) _ _ _ (fun k => congrFun a0 (ix2 (i 0) k)) (fun k => congrFun a1 (ix1 k)) (fun k j => congrFun a2 (ix2 k j)))
    · have ei : i = ix2 (i 0) (i 1) := funext fun a => by
        match a with
        | ⟨0, _⟩ => rfl
        | ⟨1, _⟩ => rfl
      exact (congrArg _ ei).trans (ref1_apply _ _ _ (i 0) (i 1) _ _ _ (fun k => congrFun a0 (ix2 (i 0) k)) (fun k => congrFun a1 (ix1 k)) (fun k j => congrFun a2 (ix2 k j)))
    · have ei : i = ix2 (i 0) (i 1) := funext fun a => by
        match a with
        | ⟨0, _⟩ => rfl
        | ⟨1, _⟩ => rfl
      exact (congrArg _ ei).trans (ref2_apply _ _ _ (i 0) (i 1) _ _ _ (fun k => congrFun a0 (ix2 (i 0) k)) (fun k => congrFun a1 (ix1 k)) (fun k j => congrFun a2 (ix2 k j)))
    · have ei : i = ix2 (i 0) (i 1) := funext fun a => by
        match a with
        | ⟨0, _⟩ => rfl
        | ⟨1, _⟩ => rfl
      exact (congrArg _ ei).trans (ref3_apply _ _ _ (i 0) (i 1) _ _ _ (fun k => congrFun a0 (ix2 (i 0) k)) (fun k => congrFun a1 (ix1 k)) (fun k j => congrFun a2 (ix2 k j)))

end Cert.In
end
-- ==== Proof.Out.Kernel.lean ====
/-
  The output projection's kernel, entry by entry: a result's entry is the residual's entry plus the row of the values
  against the column of the weights.
-/
module

public import proofs.«01_k».proof.Proof.Gen.KOutIdeal.Value
public import Idealize.ShloMosaic.Lib.Pointwise
public import Idealize.ShloMosaic.Lib.StableHlo.RunRead
public import Idealize.ShloMosaic.Lib.Pipeline.ValueKit

@[expose] public section

noncomputable section
open Idealize.ShloMosaic Idealize.ShloMosaic.TcCoe Idealize.SL.Sem Idealize.ShloMosaic.StableHlo
open Idealize.ShloMosaic.Pipeline (Dat)
namespace Cert.KOutIdeal.Out
open Cert.KOutIdeal Cert.KOutIdeal.Gen Cert.KOutIdeal.Value
variable (m : (ℓ : Loc nD τ sig) → Buf (Elt Ideal) ℓ) (c : Dev nD)

/-- The residual, the values and the weights the program is launched with. -/
def argX (r : Fin 16384) (j : Fin 1024) : EReal := (m ((c : Thread nD τ).loc main_arg0) : Vec Ideal S16384x1024 .f32) (ix2 r j)
def argY (r : Fin 16384) (j : Fin 2048) : EReal := (m ((c : Thread nD τ).loc main_arg1) : Vec Ideal S16384x2048 .f32) (ix2 r j)
def argW (k : Fin 2048) (j : Fin 1024) : EReal := (m ((c : Thread nD τ).loc main_arg2) : Vec Ideal S2048x1024 .f32) (ix2 k j)

/-- The result at row `r` and column `j`. -/
def resAt (r : Fin 16384) (j : Fin 1024) : EReal := argX m c r j + ∑ k : Fin 2048, argY m c r k * argW m c k j

/-- The result, as contents of its array. -/
def res : Vec Ideal S16384x1024 .f32 := fun i => resAt m c (i 0) (i 1)

theorem N64 : cfg0.N = 64 := N_0

theorem out_apply (x0 : Vec Ideal S256x1024 .f32) (x1 : Vec Ideal S256x2048 .f32) (x2 : Vec Ideal S2048x1024 .bf16) (r : Fin 256) (j : Fin 1024) :
    let y : EReal := out0_3 x0 x1 x2 (ix2 r j)
    let a : EReal := x0 (ix2 r j)
    let u : Fin 2048 → EReal := fun k => x1 (ix2 r k)
    let w : Fin 2048 → EReal := fun k => x2 (ix2 k j)
    y = a + ∑ k : Fin 2048, u k * w k := by
  intro y a u w
  show out0_3 x0 x1 x2 (ix2 r j) = _
  unfold out0_3
  rw [View.canon_unit_zero (S := S256x1024) (by funext a; fin_cases a <;> rfl),
    View.ld_unit_zero (S := S256x1024) (by funext a; fin_cases a <;> rfl),
    View.ld_unit_zero (S := S256x2048) (by funext a; fin_cases a <;> rfl),
    View.ld_unit_zero (S := S2048x1024) (by funext a; fin_cases a <;> rfl)]
  pointwise [k0_pay1]
  rfl

theorem weights (k : Fin 2048) (j : Fin 1024) : ((V m c main_v0 : Vec Ideal S2048x1024 .bf16) (ix2 k j) : EReal) = argW m c k j := by
  simp only [V, List.flatten_cons, List.flatten_nil, List.append_nil, StableHlo.after_append]
  after_reads_simp
  try simp only [TRef.ofBuf, TRef.toBuf, TRef.of, cast_eq]
  rfl

theorem index0_0 : ∀ t : Fin grid0.N, win0_0.index t 0 = t.val ∧ win0_0.index t 1 = 0 := by decide +kernel
theorem index0_1 : ∀ t : Fin grid0.N, win0_1.index t 0 = t.val ∧ win0_1.index t 1 = 0 := by decide +kernel
theorem index0_2 : ∀ t : Fin grid0.N, win0_2.index t 0 = 0 ∧ win0_2.index t 1 = 0 := by decide +kernel
theorem index0_3 : ∀ t : Fin grid0.N, win0_3.index t 0 = t.val ∧ win0_3.index t 1 = 0 := by decide +kernel

theorem block0 (t : Fin cfg0.N) (r : Fin 256) (j : Fin 1024) (p : t.val * 256 + r.val < 16384) :
    ((iblk m c 0 t : Vec Ideal S256x1024 .f32) (ix2 r j) : EReal) = argX m c ⟨t.val * 256 + r.val, p⟩ j := by
  have hi := index0_0 t
  unfold iblk
  rw [View.read_apply]
  show (V m c main_arg0 : Vec Ideal S16384x1024 .f32) _ = _
  rw [V_main_arg0]
  unfold argX
  congr 1
  funext a
  apply Fin.ext
  match a with
  | ⟨0, _⟩ => show win0_0.index t 0 * 256 + 1 * r.val = t.val * 256 + r.val; rw [hi.1]; omega
  | ⟨1, _⟩ => show win0_0.index t 1 * 1024 + 1 * j.val = j.val; rw [hi.2]; omega

theorem block1 (t : Fin cfg0.N) (r : Fin 256) (j : Fin 2048) (p : t.val * 256 + r.val < 16384) :
    ((iblk m c 1 t : Vec Ideal S256x2048 .f32) (ix2 r j) : EReal) = argY m c ⟨t.val * 256 + r.val, p⟩ j := by
  have hi := index0_1 t
  unfold iblk
  rw [View.read_apply]
  show (V m c main_arg1 : Vec Ideal S16384x2048 .f32) _ = _
  rw [V_main_arg1]
  unfold argY
  congr 1
  funext a
  apply Fin.ext
  match a with
  | ⟨0, _⟩ => show win0_1.index t 0 * 256 + 1 * r.val = t.val * 256 + r.val; rw [hi.1]; omega
  | ⟨1, _⟩ => show win0_1.index t 1 * 2048 + 1 * j.val = j.val; rw [hi.2]; omega

theorem block2 (t : Fin cfg0.N) (k : Fin 2048) (j : Fin 1024) :
    ((iblk m c 2 t : Vec Ideal S2048x1024 .bf16) (ix2 k j) : EReal) = argW m c k j := by
  have hi := index0_2 t
  unfold iblk
  rw [View.read_apply]
  show (V m c main_v0 : Vec Ideal S2048x1024 .bf16) _ = _
  refine Eq.trans (congrArg (V m c main_v0 : Vec Ideal S2048x1024 .bf16) (a₂ := ix2 k j) (funext fun a => Fin.ext ?_)) (weights m c k j)
  match a with
  | ⟨0, _⟩ => show win0_2.index t 0 * 2048 + 1 * k.val = k.val; rw [hi.1]; omega
  | ⟨1, _⟩ => show win0_2.index t 1 * 1024 + 1 * j.val = j.val; rw [hi.2]; omega

theorem written (t : Fin cfg0.N) : (dats m 0 c).flushed 3 t = ((cfg0.win 3).blk t).view.read (Elt Ideal) (res m c) := by
  have hi := index0_3 t
  have hN := t.isLt
  have hN' : cfg0.N = 64 := N64
  rw [flushed3]
  funext j
  rw [View.read_apply]
  have h0 : (j 0).val < 256 := (j 0).isLt
  have h1 : (j 1).val < 1024 := (j 1).isLt
  have ej : j = ix2 (⟨(j 0).val, h0⟩ : Fin 256) (⟨(j 1).val, h1⟩ : Fin 1024) := funext fun a => by
    match a with
    | ⟨0, _⟩ => rfl
    | ⟨1, _⟩ => rfl
  refine Eq.trans (b := resAt m c ⟨t.val * 256 + (j 0).val, by omega⟩ ⟨(j 1).val, h1⟩) ?_
    (congrArg (res m c) (a₁ := ix2 ⟨t.val * 256 + (j 0).val, by omega⟩ ⟨(j 1).val, h1⟩) (funext fun a => Fin.ext ?_))
  · show out0_3 _ _ _ j = _
    refine (congrArg _ ej).trans ((out_apply _ _ _ _ _).trans ?_)
    unfold resAt
    exact congrArg₂ (· + ·) (block0 m c t _ _ _) (Finset.sum_congr rfl fun k _ => congrArg₂ (· * ·) (block1 m c t _ _ _) (block2 m c t _ _))
  · match a with
    | ⟨0, _⟩ => show t.val * 256 + (j 0).val = win0_3.index t 0 * 256 + 1 * (j 0).val; rw [hi.1]; omega
    | ⟨1, _⟩ => show (j 1).val = win0_3.index t 1 * 1024 + 1 * (j 1).val; rw [hi.2]; omega

theorem final3 : (dats m 0 c).arrAt 3 cfg0.N = res m c :=
  (dats m 0 c).arrAt_eq_of_cover 3 (res m c) (fun t _ => written m c t) fun i => by
    have h0 : (i 0 : Nat) < 16384 := (i 0).isLt
    have h1 : (i 1 : Nat) < 1024 := (i 1).isLt
    have hN' : cfg0.N = 64 := N64
    let t : Fin cfg0.N := ⟨(i 0 : Nat) / 256, by omega⟩
    have hi := index0_3 t
    refine ⟨t, flush0_3 t, ?_⟩
    show i ∈ ((View.whole main_v1).slice (win0_3.rect t)).set
    rw [View.set_slice_whole, Rect.mem_set_unit]
    intro a
    match a with
    | ⟨0, _⟩ =>
      show win0_3.index t 0 * 256 ≤ (i 0 : Nat) ∧ (i 0 : Nat) < win0_3.index t 0 * 256 + 256
      rw [hi.1]
      show (i 0 : Nat) / 256 * 256 ≤ (i 0 : Nat) ∧ (i 0 : Nat) < (i 0 : Nat) / 256 * 256 + 256
      omega
    | ⟨1, _⟩ =>
      show win0_3.index t 1 * 1024 ≤ (i 1 : Nat) ∧ (i 1 : Nat) < win0_3.index t 1 * 1024 + 1024
      rw [hi.2]; omega

end Cert.KOutIdeal.Out
end
-- ==== Proof.Out.Claim.lean ====
/-
  The output projection: the kernel and the reference end with the same result over the extended reals.
-/
module

public import proofs.«01_k».proof.Defs
public import proofs.«01_k».proof.Proof.Gen.ROutIdeal.Run
public import proofs.«01_k».proof.Proof.Out.Kernel

@[expose] public section

noncomputable section
open Idealize.ShloMosaic Idealize.ShloMosaic.TcCoe Idealize.SL.Sem
namespace Cert.Out

open Cert.ROutIdeal Cert.ROutIdeal.Gen in
theorem ref_apply (x : FVec Ideal S16384x1024 .f32) (y : FVec Ideal S16384x2048 .f32) (w : FVec Ideal S2048x1024 .f32) (r : Fin 16384) (j : Fin 1024) :
    let o : EReal := (addf x (Host.dotGeneral dot_S16384x2048_S2048x1024_S16384x1024_1_0_0_1_n_n none y w) : FVec Ideal S16384x1024 .f32) (ix2 r j)
    let a : EReal := x (ix2 r j)
    let u : Fin 2048 → EReal := fun k => y (ix2 r k)
    let v : Fin 2048 → EReal := fun k => w (ix2 k j)
    o = a + ∑ k : Fin 2048, u k * v k := by
  intro o a u v
  show (addf x (Host.dotGeneral dot_S16384x2048_S2048x1024_S16384x1024_1_0_0_1_n_n none y w) : FVec Ideal S16384x1024 .f32) (ix2 r j) = _
  pointwise []
  rfl

theorem algebraic : Cert.algebraic_KOutIdeal_ROutIdeal (hKOutIdeal := Cert.KOutIdeal.Gen.facts) (hROutIdeal := Cert.ROutIdeal.Gen.facts) := by
  intro m g m' g' _ hm
  refine ⟨fun c => Cert.KOutIdeal.Out.res m c, ?_, ?_⟩
  · refine (θ_run _ _ _).mono (fun r h c => ?_) (Cert.KOutIdeal.Value.run_blocks m g)
    obtain ⟨h0, h1⟩ := h c
    exact ⟨h0.trans (Cert.KOutIdeal.Out.final3 m c), h1⟩
  · refine (θ_run _ _ _).mono (fun r h c => ?_) (Cert.ROutIdeal.Value.run m' g')
    obtain ⟨h0, h1⟩ := h c
    obtain ⟨a0, a1, a2⟩ := hm c
    refine ⟨h0.trans (funext fun i => ?_), h1⟩
    have ei : i = ix2 (i 0) (i 1) := funext fun a => by
      match a with
      | ⟨0, _⟩ => rfl
      | ⟨1, _⟩ => rfl
    refine (congrArg _ ei).trans ((ref_apply _ _ _ (i 0) (i 1)).trans ?_)
    exact congrArg₂ (· + ·) (congrFun a0 (ix2 (i 0) (i 1)))
      (Finset.sum_congr rfl fun k _ => congrArg₂ (· * ·) (congrFun a1 (ix2 (i 0) k)) (congrFun a2 (ix2 k (i 1))))

end Cert.Out
end
-- ==== Proof.Fs.Spec.lean ====
/-
  The sampled rows' feed-forward network, entry by entry, over the extended reals: each sequence is eight rows, of which the
  third and fourth stand for the two widened rows it carries from before; the last four are its new rows.
-/
module

public import proofs.«01_k».proof.Proof.In.Norm

@[expose] public section

noncomputable section
open Idealize.ShloMosaic
namespace Cert.Fs
open Cert.Nrm

/-- Row `t` among all rows. -/
def row (t : ℕ) : Fin 1024 := ⟨t % 1024, Nat.mod_lt _ (by decide)⟩

section
variable (X : Fin 1024 → Fin 1024 → EReal) (Hs : ℕ → ℕ → Fin 5632 → EReal) (G : Fin 1024 → EReal) (W : Fin 1024 → Fin 5632 → EReal)
  (CW : Fin 3 → Fin 5632 → EReal) (CB : Fin 5632 → EReal) (WD : Fin 2816 → Fin 1024 → EReal) (GF : Fin 1024 → EReal)

/-- The widened row `t`. -/
def wide (t : ℕ) (j : Fin 5632) : EReal := ∑ k : Fin 1024, rms (X (row t)) G k * W k j

/-- The same, with the carried rows in their places. -/
def mix (t : ℕ) (j : Fin 5632) : EReal := if 2 ≤ t % 8 ∧ t % 8 < 4 then Hs (t / 8) (t % 8 - 2) j else wide X G W t j

/-- The convolution of those rows. -/
def conv (t : ℕ) (j : Fin 5632) : EReal :=
  CB j + mix X Hs G W (t - 2) j * CW 0 j + mix X Hs G W (t - 1) j * CW 1 j + mix X Hs G W t j * CW 2 j

/-- The gated row `t`. -/
def act (t : ℕ) (j : Fin 2816) : EReal :=
  conv X Hs G W CW CB t ⟨j.val, by omega⟩ * Ideal.logistic (conv X Hs G W CW CB t ⟨j.val, by omega⟩) * conv X Hs G W CW CB t ⟨2816 + j.val, by omega⟩

/-- The row `t` with the network's output added. -/
def total (t : ℕ) (k : Fin 1024) : EReal := X (row t) k + ∑ j : Fin 2816, act X Hs G W CW CB t j * WD j k

/-- The same, normalised. -/
def normed (t : ℕ) (k : Fin 1024) : EReal := rms (total X Hs G W CW CB WD t) GF k

end

end Cert.Fs
end
-- ==== Proof.Fs.Ref.lean ====
/-
  The sampled rows' feed-forward network's reference, entry by entry.
-/
module

public import proofs.«01_k».proof.Proof.Gen.RFsIdeal.Run
public import proofs.«01_k».proof.Proof.Fs.Spec

@[expose] public section

noncomputable section
open Idealize.ShloMosaic Idealize.ShloMosaic.TcCoe Idealize.SL.Sem
namespace Cert.RFsIdeal.Fs
open Cert.RFsIdeal Cert.RFsIdeal.Gen Cert.RFsIdeal.Value Cert.Nrm Cert.Fs

/-- Rows normalised and scaled. -/
def nrm (y : FVec Ideal S128x4x1024 .f32) (g : FVec Ideal S1024 .f32) : FVec Ideal S128x4x1024 .f32 :=
  mulf (mulf y (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf y y) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x358637BD#32)))))) (broadcastInDim S128x4x1024 ![0, 1, 2] bcast_S1x1x1024_S128x4x1024_0_1_2 (broadcastInDim S1x1x1024 ![2] bcast_S1024_S1x1x1024_2 g))

/-- The new rows, sequence by sequence. -/
def rows (x : FVec Ideal S1024x1024 .f32) : FVec Ideal S128x4x1024 .f32 := extractStridedSlice S128x4x1024 ![0, 4, 0] (shapeCast _ x shapeCasts_S1024x1024_S128x8x1024) slices_S128x8x1024_S128x4x1024_0_4_0

/-- The widened rows. -/
def wid (x : FVec Ideal S1024x1024 .f32) (g : FVec Ideal S1024 .f32) (w : FVec Ideal S1024x5632 .f32) : FVec Ideal S128x4x5632 .f32 :=
  Host.dotGeneral dot_S128x4x1024_S1024x5632_S128x4x5632_2_0_01_1_n_n none (nrm (rows x) g) w

/-- The carried rows and the widened ones. -/
def ext (h : FVec Ideal S128x2x5632 .f32) (u : FVec Ideal S128x4x5632 .f32) : FVec Ideal S128x6x5632 .f32 :=
  concatenate S128x6x5632 1 [⟨S128x2x5632, h⟩, ⟨S128x4x5632, u⟩] concatenates_S128x2x5632_S128x4x5632_S128x6x5632_d1

/-- The convolution of three taps. -/
def cnv (u : FVec Ideal S128x6x5632 .f32) (cw : FVec Ideal S3x5632 .f32) (cb : FVec Ideal S5632 .f32) : FVec Ideal S128x4x5632 .f32 :=
  addf (addf (addf (broadcastInDim S128x4x5632 ![0, 1, 2] bcast_S1x1x5632_S128x4x5632_0_1_2 (broadcastInDim S1x1x5632 ![2] bcast_S5632_S1x1x5632_2 cb)) (mulf (extractStridedSlice S128x4x5632 ![0, 0, 0] u slices_S128x6x5632_S128x4x5632_0_0_0) (broadcastInDim S128x4x5632 ![0, 1, 2] bcast_S1x1x5632_S128x4x5632_0_1_2 (broadcastInDim S1x1x5632 ![2] bcast_S5632_S1x1x5632_2 (shapeCast _ (extractStridedSlice S1x5632 ![0, 0] cw slices_S3x5632_S1x5632_0_0) shapeCasts_S1x5632_S5632))))) (mulf (extractStridedSlice S128x4x5632 ![0, 1, 0] u slices_S128x6x5632_S128x4x5632_0_1_0) (broadcastInDim S128x4x5632 ![0, 1, 2] bcast_S1x1x5632_S128x4x5632_0_1_2 (broadcastInDim S1x1x5632 ![2] bcast_S5632_S1x1x5632_2 (shapeCast _ (extractStridedSlice S1x5632 ![1, 0] cw slices_S3x5632_S1x5632_1_0) shapeCasts_S1x5632_S5632))))) (mulf (extractStridedSlice S128x4x5632 ![0, 2, 0] u slices_S128x6x5632_S128x4x5632_0_2_0) (broadcastInDim S128x4x5632 ![0, 1, 2] bcast_S1x1x5632_S128x4x5632_0_1_2 (broadcastInDim S1x1x5632 ![2] bcast_S5632_S1x1x5632_2 (shapeCast _ (extractStridedSlice S1x5632 ![2, 0] cw slices_S3x5632_S1x5632_2_0) shapeCasts_S1x5632_S5632))))

/-- One half gating the other, narrowed and added to the rows. -/
def tot (y : FVec Ideal S128x4x1024 .f32) (v : FVec Ideal S128x4x5632 .f32) (wd : FVec Ideal S2816x1024 .f32) : FVec Ideal S128x4x1024 .f32 :=
  addf y (Host.dotGeneral dot_S128x4x2816_S2816x1024_S128x4x1024_2_0_01_1_n_n none (mulf (mulf (extractStridedSlice S128x4x2816 ![0, 0, 0] v slices_S128x4x5632_S128x4x2816_0_0_0) (Host.divf (broadcastInDim S128x4x2816 ![] bcast_S_S128x4x2816 (constant S_ .f32 0x3F800000#32)) (addf (broadcastInDim S128x4x2816 ![] bcast_S_S128x4x2816 (constant S_ .f32 0x3F800000#32)) (Host.exp (Host.negf (extractStridedSlice S128x4x2816 ![0, 0, 0] v slices_S128x4x5632_S128x4x2816_0_0_0)))))) (extractStridedSlice S128x4x2816 ![0, 0, 2816] v slices_S128x4x5632_S128x4x2816_0_0_2816)) wd)

theorem nrm_apply (y : FVec Ideal S128x4x1024 .f32) (g : FVec Ideal S1024 .f32) (b : Fin 128) (t : Fin 4) (k : Fin 1024) :
    (nrm y g (ix3 b t k) : EReal) = rms (fun k => y (ix3 b t k)) (fun k => g (ix1 k)) k := by
  pointwise [nrm]
  rfl

theorem cnv_apply (u : FVec Ideal S128x6x5632 .f32) (cw : FVec Ideal S3x5632 .f32) (cb : FVec Ideal S5632 .f32) (b : Fin 128) (t : Fin 4) (j : Fin 5632) :
    (cnv u cw cb (ix3 b t j) : EReal) = cb (ix1 j) + u (ix3 b ⟨t.val, by omega⟩ j) * cw (ix2 0 j) + u (ix3 b ⟨t.val + 1, by omega⟩ j) * cw (ix2 1 j)
      + u (ix3 b ⟨t.val + 2, by omega⟩ j) * cw (ix2 2 j) := by
  pointwise [cnv]
  simp only [Nat.add_comm]

theorem tot_apply (y : FVec Ideal S128x4x1024 .f32) (v : FVec Ideal S128x4x5632 .f32) (wd : FVec Ideal S2816x1024 .f32) (b : Fin 128) (t : Fin 4) (k : Fin 1024) :
    (tot y v wd (ix3 b t k) : EReal) = y (ix3 b t k) + ∑ j : Fin 2816, v (ix3 b t ⟨j.val, by omega⟩) * Ideal.logistic (v (ix3 b t ⟨j.val, by omega⟩))
      * v (ix3 b t ⟨2816 + j.val, by omega⟩) * wd (ix2 j k) := by
  pointwise [tot]
  rfl

theorem ext_apply (h : FVec Ideal S128x2x5632 .f32) (u : FVec Ideal S128x4x5632 .f32) (b : Fin 128) (t : Fin 6) (j : Fin 5632) :
    (ext h u (ix3 b t j) : EReal) = if p : t.val < 2 then h (ix3 b ⟨t.val, p⟩ j) else u (ix3 b ⟨t.val - 2, by omega⟩ j) := by
  pointwise [ext]

theorem rows_apply (x : FVec Ideal S1024x1024 .f32) (b : Fin 128) (t : Fin 4) (k : Fin 1024) :
    (rows x (ix3 b t k) : EReal) = x (ix2 (row (8 * b.val + 4 + t.val)) k) := by
  pointwise [rows]
  exact congrArg (fun r => x (ix2 r k)) (Fin.ext (show b.val * 8 + (4 + t.val) = (8 * b.val + 4 + t.val) % 1024 by omega))

theorem wid_apply (x : FVec Ideal S1024x1024 .f32) (g : FVec Ideal S1024 .f32) (w : FVec Ideal S1024x5632 .f32) (b : Fin 128) (t : Fin 4) (j : Fin 5632) :
    (wid x g w (ix3 b t j) : EReal) = ∑ k : Fin 1024, nrm (rows x) g (ix3 b t k) * w (ix2 k j) := by
  pointwise [wid]

theorem res46 (m : (ℓ : Loc nD τ sig) → Buf (Elt Ideal) ℓ) (c : Dev nD) :
    res_out0 m c = tot (rows (m ((c.tc : Thread nD τ).loc main_arg0))) (cnv (ext (m ((c.tc : Thread nD τ).loc main_arg1)) (wid (m ((c.tc : Thread nD τ).loc main_arg0)) (m ((c.tc : Thread nD τ).loc main_arg2)) (m ((c.tc : Thread nD τ).loc main_arg3)))) (m ((c.tc : Thread nD τ).loc main_arg4)) (m ((c.tc : Thread nD τ).loc main_arg5))) (m ((c.tc : Thread nD τ).loc main_arg6)) := rfl

theorem res59 (m : (ℓ : Loc nD τ sig) → Buf (Elt Ideal) ℓ) (c : Dev nD) :
    res_out2 m c = nrm (tot (rows (m ((c.tc : Thread nD τ).loc main_arg0))) (cnv (ext (m ((c.tc : Thread nD τ).loc main_arg1)) (wid (m ((c.tc : Thread nD τ).loc main_arg0)) (m ((c.tc : Thread nD τ).loc main_arg2)) (m ((c.tc : Thread nD τ).loc main_arg3)))) (m ((c.tc : Thread nD τ).loc main_arg4)) (m ((c.tc : Thread nD τ).loc main_arg5))) (m ((c.tc : Thread nD τ).loc main_arg6))) (m ((c.tc : Thread nD τ).loc main_arg7)) := rfl

section
variable (x : FVec Ideal S1024x1024 .f32) (h : FVec Ideal S128x2x5632 .f32) (g : FVec Ideal S1024 .f32) (w : FVec Ideal S1024x5632 .f32)
  (cw : FVec Ideal S3x5632 .f32) (cb : FVec Ideal S5632 .f32) (wd : FVec Ideal S2816x1024 .f32) (gf : FVec Ideal S1024 .f32)

theorem wid_eq (b : Fin 128) (t : Fin 4) (j : Fin 5632) :
    (wid x g w (ix3 b t j) : EReal) = wide (fun r k => x (ix2 r k)) (fun k => g (ix1 k)) (fun k j => w (ix2 k j)) (8 * b.val + 4 + t.val) j := by
  refine (wid_apply x g w b t j).trans (Finset.sum_congr rfl fun k _ => congrArg (· * w (ix2 k j)) ?_)
  refine (nrm_apply (rows x) g b t k).trans (congrArg (fun z => rms z (fun k => g (ix1 k)) k) ?_)
  exact funext fun k => rows_apply x b t k

/-- A sequence's rows from its carried ones on. -/
theorem ext_eq (b : Fin 128) (t : Fin 6) (j : Fin 5632) :
    (ext h (wid x g w) (ix3 b t j) : EReal) = mix (fun r k => x (ix2 r k)) (fun b k j => h (ix3 ⟨b % 128, Nat.mod_lt _ (by decide)⟩ ⟨k % 2, Nat.mod_lt _ (by decide)⟩ j)) (fun k => g (ix1 k)) (fun k j => w (ix2 k j)) (8 * b.val + 2 + t.val) j := by
  refine (ext_apply h (wid x g w) b t j).trans ?_
  unfold Cert.Fs.mix
  by_cases p : t.val < 2
  · rw [dif_pos p, if_pos (by omega)]
    refine congrArg₂ (fun b t => h (ix3 b t j)) (Fin.ext ?_) (Fin.ext ?_)
    · show b.val = (8 * b.val + 2 + t.val) / 8 % 128
      omega
    · show t.val = ((8 * b.val + 2 + t.val) % 8 - 2) % 2
      omega
  · rw [dif_neg p, if_neg (by omega)]
    refine (wid_eq x g w b ⟨t.val - 2, by omega⟩ j).trans ?_
    exact congrArg (fun n => wide (fun r k => x (ix2 r k)) (fun k => g (ix1 k)) (fun k j => w (ix2 k j)) n j) (by show 8 * b.val + 4 + (t.val - 2) = 8 * b.val + 2 + t.val; omega)

theorem cnv_eq (b : Fin 128) (t : Fin 4) (j : Fin 5632) :
    (cnv (ext h (wid x g w)) cw cb (ix3 b t j) : EReal) = conv (fun r k => x (ix2 r k)) (fun b k j => h (ix3 ⟨b % 128, Nat.mod_lt _ (by decide)⟩ ⟨k % 2, Nat.mod_lt _ (by decide)⟩ j)) (fun k => g (ix1 k)) (fun k j => w (ix2 k j)) (fun q j => cw (ix2 q j)) (fun j => cb (ix1 j)) (8 * b.val + 4 + t.val) j := by
  refine (cnv_apply (ext h (wid x g w)) cw cb b t j).trans ?_
  unfold Cert.Fs.conv
  have e : ∀ (n : Fin 6) (q : ℕ), 8 * b.val + 2 + n.val = q → (ext h (wid x g w) (ix3 b n j) : EReal) = mix (fun r k => x (ix2 r k)) (fun b k j => h (ix3 ⟨b % 128, Nat.mod_lt _ (by decide)⟩ ⟨k % 2, Nat.mod_lt _ (by decide)⟩ j)) (fun k => g (ix1 k)) (fun k j => w (ix2 k j)) q j := fun n q hq =>
    (ext_eq x h g w b n j).trans (congrArg (fun q => mix (fun r k => x (ix2 r k)) (fun b k j => h (ix3 ⟨b % 128, Nat.mod_lt _ (by decide)⟩ ⟨k % 2, Nat.mod_lt _ (by decide)⟩ j)) (fun k => g (ix1 k)) (fun k j => w (ix2 k j)) q j) hq)
  exact congrArg₂ (· + ·) (congrArg₂ (· + ·) (congrArg (cb (ix1 j) + ·) (congrArg (· * cw (ix2 0 j)) (e _ _ (by show 8 * b.val + 2 + t.val = 8 * b.val + 4 + t.val - 2; omega))))
    (congrArg (· * cw (ix2 1 j)) (e _ _ (by show 8 * b.val + 2 + (t.val + 1) = 8 * b.val + 4 + t.val - 1; omega))))
    (congrArg (· * cw (ix2 2 j)) (e _ _ (by show 8 * b.val + 2 + (t.val + 2) = 8 * b.val + 4 + t.val; omega)))

theorem tot_eq (b : Fin 128) (t : Fin 4) (k : Fin 1024) :
    (tot (rows x) (cnv (ext h (wid x g w)) cw cb) wd (ix3 b t k) : EReal) = total (fun r k => x (ix2 r k)) (fun b k j => h (ix3 ⟨b % 128, Nat.mod_lt _ (by decide)⟩ ⟨k % 2, Nat.mod_lt _ (by decide)⟩ j)) (fun k => g (ix1 k)) (fun k j => w (ix2 k j)) (fun q j => cw (ix2 q j)) (fun j => cb (ix1 j)) (fun j k => wd (ix2 j k)) (8 * b.val + 4 + t.val) k := by
  refine (tot_apply (rows x) (cnv (ext h (wid x g w)) cw cb) wd b t k).trans ?_
  unfold Cert.Fs.total
  refine congrArg₂ (· + ·) (rows_apply x b t k) (Finset.sum_congr rfl fun j _ => congrArg (· * wd (ix2 j k)) ?_)
  unfold Cert.Fs.act
  rw [cnv_eq, cnv_eq]

theorem nrm_eq (b : Fin 128) (t : Fin 4) (k : Fin 1024) :
    (nrm (tot (rows x) (cnv (ext h (wid x g w)) cw cb) wd) gf (ix3 b t k) : EReal) = normed (fun r k => x (ix2 r k)) (fun b k j => h (ix3 ⟨b % 128, Nat.mod_lt _ (by decide)⟩ ⟨k % 2, Nat.mod_lt _ (by decide)⟩ j)) (fun k => g (ix1 k)) (fun k j => w (ix2 k j)) (fun q j => cw (ix2 q j)) (fun j => cb (ix1 j)) (fun j k => wd (ix2 j k)) (fun k => gf (ix1 k)) (8 * b.val + 4 + t.val) k := by
  refine (nrm_apply _ gf _ _ k).trans ?_
  unfold Cert.Fs.normed
  exact congrArg (fun z => rms z (fun k => gf (ix1 k)) k) (funext fun k => tot_eq x h g w cw cb wd _ _ k)

theorem outO (x' : FVec Ideal S1024x1024 .f32) (h' : FVec Ideal S128x2x5632 .f32) (g' : FVec Ideal S1024 .f32) (w' : FVec Ideal S1024x5632 .f32) (cw' : FVec Ideal S3x5632 .f32) (cb' : FVec Ideal S5632 .f32) (wd' : FVec Ideal S2816x1024 .f32) (hx : x = x') (hh : h = h') (hg : g = g') (hw : w = w') (hcw : cw = cw') (hcb : cb = cb') (hwd : wd = wd')
    (b : Fin 128) (t : Fin 4) (k : Fin 1024) : (tot (rows x) (cnv (ext h (wid x g w)) cw cb) wd (ix3 b t k) : EReal) = total (fun r k => x' (ix2 r k)) (fun b k j => h' (ix3 ⟨b % 128, Nat.mod_lt _ (by decide)⟩ ⟨k % 2, Nat.mod_lt _ (by decide)⟩ j)) (fun k => g' (ix1 k)) (fun k j => w' (ix2 k j)) (fun q j => cw' (ix2 q j)) (fun j => cb' (ix1 j)) (fun j k => wd' (ix2 j k)) (8 * b.val + 4 + t.val) k := by
  subst hx hh hg hw hcw hcb hwd
  exact tot_eq x h g w cw cb wd b t k

theorem outN (x' : FVec Ideal S1024x1024 .f32) (h' : FVec Ideal S128x2x5632 .f32) (g' : FVec Ideal S1024 .f32) (w' : FVec Ideal S1024x5632 .f32) (cw' : FVec Ideal S3x5632 .f32) (cb' : FVec Ideal S5632 .f32) (wd' : FVec Ideal S2816x1024 .f32) (gf' : FVec Ideal S1024 .f32) (hx : x = x') (hh : h = h') (hg : g = g') (hw : w = w') (hcw : cw = cw') (hcb : cb = cb') (hwd : wd = wd') (hgf : gf = gf')
    (b : Fin 128) (t : Fin 4) (k : Fin 1024) : (nrm (tot (rows x) (cnv (ext h (wid x g w)) cw cb) wd) gf (ix3 b t k) : EReal) = normed (fun r k => x' (ix2 r k)) (fun b k j => h' (ix3 ⟨b % 128, Nat.mod_lt _ (by decide)⟩ ⟨k % 2, Nat.mod_lt _ (by decide)⟩ j)) (fun k => g' (ix1 k)) (fun k j => w' (ix2 k j)) (fun q j => cw' (ix2 q j)) (fun j => cb' (ix1 j)) (fun j k => wd' (ix2 j k)) (fun k => gf' (ix1 k)) (8 * b.val + 4 + t.val) k := by
  subst hx hh hg hw hcw hcb hwd hgf
  exact nrm_eq x h g w cw cb wd gf b t k

theorem outT (x' : FVec Ideal S1024x1024 .f32) (h' : FVec Ideal S128x2x5632 .f32) (g' : FVec Ideal S1024 .f32) (w' : FVec Ideal S1024x5632 .f32) (hx : x = x') (hh : h = h') (hg : g = g') (hw : w = w')
    (b : Fin 128) (t : Fin 2) (j : Fin 5632) : (extractStridedSlice S128x2x5632 ![0, 4, 0] (ext h (wid x g w)) slices_S128x6x5632_S128x2x5632_0_4_0 (ix3 b t j) : EReal) = mix (fun r k => x' (ix2 r k)) (fun b k j => h' (ix3 ⟨b % 128, Nat.mod_lt _ (by decide)⟩ ⟨k % 2, Nat.mod_lt _ (by decide)⟩ j)) (fun k => g' (ix1 k)) (fun k j => w' (ix2 k j)) (8 * b.val + 6 + t.val) j := by
  subst hx hh hg hw
  refine Eq.trans (b := ext h (wid x g w) (ix3 b ⟨4 + t.val, by omega⟩ j)) (by pointwise []) ((ext_eq x h g w b _ j).trans ?_)
  exact congrArg (fun n => mix (fun r k => x (ix2 r k)) (fun b k j => h (ix3 ⟨b % 128, Nat.mod_lt _ (by decide)⟩ ⟨k % 2, Nat.mod_lt _ (by decide)⟩ j)) (fun k => g (ix1 k)) (fun k j => w (ix2 k j)) n j) (by show 8 * b.val + 2 + (4 + t.val) = 8 * b.val + 6 + t.val; omega)

end

end Cert.RFsIdeal.Fs
end
-- ==== Proof.Fs.Body.lean ====
/- One grid point of the sampled rows' feed-forward kernel in closed form: what the body stores is a function of the blocks
   it reads. The four column groups of the widened rows are treated alike. -/
module

public import proofs.«01_k».proof.Proof.Gen.KFsIdeal.Frame
public import Idealize.ShloMosaic.Lib.Pipeline.Value
public import Idealize.ShloMosaic.Lib.Pipeline.ValueKit
public import Idealize.ShloMosaic.Lib.Pipeline.ReadBack

@[expose] public section

noncomputable section

open Idealize.ShloMosaic Idealize.ShloMosaic.TcCoe Idealize.SL.Sem

namespace Cert.KFsIdeal.Fs

open Cert.KFsIdeal Cert.KFsIdeal.Gen

variable {F : FTy → Type} [FloatOps F]

/-- A group of 1408 columns begins within the 5632. -/
theorem inW {n : ℕ} (hn : n < 4) (a) : (![0, 1408 * n] : Fin 2 → ℕ) a + S1024x1408.size a ≤ S1024x5632.size a := by
  match a with
  | ⟨0, _⟩ => show 0 + 1024 ≤ 1024; omega
  | ⟨1, _⟩ => show 1408 * n + 1408 ≤ 5632; omega

theorem inC {n : ℕ} (hn : n < 4) (a) : (![0, 1408 * n] : Fin 2 → ℕ) a + S128x1408.size a ≤ S128x5632.size a := by
  match a with
  | ⟨0, _⟩ => show 0 + 128 ≤ 128; omega
  | ⟨1, _⟩ => show 1408 * n + 1408 ≤ 5632; omega

theorem inB {n : ℕ} (hn : n < 4) (a) : (![0, 1408 * n] : Fin 2 → ℕ) a + S1x1408.size a ≤ S1x5632.size a := by
  match a with
  | ⟨0, _⟩ => show 0 + 1 ≤ 1; omega
  | ⟨1, _⟩ => show 1408 * n + 1408 ≤ 5632; omega

theorem inT {k n : ℕ} (hk : k < 3) (hn : n < 4) (a) : (![k, 1408 * n] : Fin 2 → ℕ) a + S1x1408.size a ≤ S3x5632.size a := by
  match a with
  | ⟨0, _⟩ => show k + 1 ≤ 3; omega
  | ⟨1, _⟩ => show 1408 * n + 1408 ≤ 5632; omega

/-- The scratch of one group: eight rows of history, then the block's rows. -/
def scr (p : Vec F S8x1408 .f32) (u : Vec F S128x1408 .f32) : Vec F S136x1408 .f32 := fun i =>
  if h : (i 0).val < 8 then p (fun a => match a with
      | ⟨0, _⟩ => (⟨(i 0).val, h⟩ : Fin 8)
      | ⟨1, _⟩ => (⟨(i 1).val, (i 1).isLt⟩ : Fin 1408))
  else u (fun a => match a with
      | ⟨0, _⟩ => (⟨(i 0).val - 8, by have h2 : (i 0).val < 136 := (i 0).isLt; omega⟩ : Fin 128)
      | ⟨1, _⟩ => (⟨(i 1).val, (i 1).isLt⟩ : Fin 1408))

theorem scr_p (p : Vec F S8x1408 .f32) (u : Vec F S128x1408 .f32) (x : S8x1408.Idx) :
    p x = scr p u ((Rect.unit (s := S136x1408) ![0, 0] S8x1408.size inb_S136x1408_S8x1408_0_0).emb x) := by
  have e0 : (((Rect.unit (s := S136x1408) ![0, 0] S8x1408.size inb_S136x1408_S8x1408_0_0).emb x) 0).val = 0 + 1 * (x 0).val := rfl
  have e1 : (((Rect.unit (s := S136x1408) ![0, 0] S8x1408.size inb_S136x1408_S8x1408_0_0).emb x) 1).val = 0 + 1 * (x 1).val := rfl
  have hx : (x 0).val < 8 := (x 0).isLt
  unfold scr
  generalize ((Rect.unit (s := S136x1408) ![0, 0] S8x1408.size inb_S136x1408_S8x1408_0_0).emb x) = i at e0 e1 ⊢
  rw [dif_pos (by omega)]
  congr 1
  funext a
  apply Fin.ext
  match a with
  | ⟨0, _⟩ => show (x 0).val = (i 0).val; omega
  | ⟨1, _⟩ => show (x 1).val = (i 1).val; omega

theorem scr_u (p : Vec F S8x1408 .f32) (u : Vec F S128x1408 .f32) (x : S128x1408.Idx) :
    u x = scr p u ((Rect.unit (s := S136x1408) ![8, 0] S128x1408.size inb_S136x1408_S128x1408_8_0).emb x) := by
  have e0 : (((Rect.unit (s := S136x1408) ![8, 0] S128x1408.size inb_S136x1408_S128x1408_8_0).emb x) 0).val = 8 + 1 * (x 0).val := rfl
  have e1 : (((Rect.unit (s := S136x1408) ![8, 0] S128x1408.size inb_S136x1408_S128x1408_8_0).emb x) 1).val = 0 + 1 * (x 1).val := rfl
  unfold scr
  generalize ((Rect.unit (s := S136x1408) ![8, 0] S128x1408.size inb_S136x1408_S128x1408_8_0).emb x) = i at e0 e1 ⊢
  rw [dif_neg (by omega)]
  congr 1
  funext a
  apply Fin.ext
  match a with
  | ⟨0, _⟩ => show (x 0).val = (i 0).val - 8; omega
  | ⟨1, _⟩ => show (x 1).val = (i 1).val; omega

theorem cover_scr (p : Vec F S8x1408 .f32) (u : Vec F S128x1408 .f32) (y : S136x1408.Idx) :
    ∃ q ∈ ([⟨Rect.unit ![8, 0] S128x1408.size inb_S136x1408_S128x1408_8_0, u⟩, ⟨Rect.unit ![0, 0] S8x1408.size inb_S136x1408_S8x1408_0_0, p⟩] : List (View.Piece (Elt F) S136x1408 .f32)), y ∈ q.1.set := by
  have h0 : (y 0).val < 136 := (y 0).isLt
  have h1 : (y 1).val < 1408 := (y 1).isLt
  by_cases h : (y 0).val < 8
  · refine ⟨_, List.mem_cons_of_mem _ (List.mem_singleton_self _), ?_⟩
    show y ∈ (Rect.unit (s := S136x1408) ![0, 0] S8x1408.size inb_S136x1408_S8x1408_0_0).set
    rw [Rect.mem_set_unit]
    intro a
    match a with
    | ⟨0, _⟩ => show 0 ≤ (y 0).val ∧ (y 0).val < 0 + 8; omega
    | ⟨1, _⟩ => show 0 ≤ (y 1).val ∧ (y 1).val < 0 + 1408; omega
  · refine ⟨_, List.mem_cons_self, ?_⟩
    show y ∈ (Rect.unit (s := S136x1408) ![8, 0] S128x1408.size inb_S136x1408_S128x1408_8_0).set
    rw [Rect.mem_set_unit]
    intro a
    match a with
    | ⟨0, _⟩ => show 8 ≤ (y 0).val ∧ (y 0).val < 8 + 128; omega
    | ⟨1, _⟩ => show 0 ≤ (y 1).val ∧ (y 1).val < 0 + 1408; omega

/-- Rows from 6 of the scratch once a group's history and rows are stored. -/
theorem scr6 (v : View sig .tc .vmem S136x1408 .f32) (p : Vec F S8x1408 .f32) (u : Vec F S128x1408 .f32) (L : List (View.Piece (Elt F) S136x1408 .f32)) :
    v.readCov (⟨Rect.unit ![8, 0] S128x1408.size inb_S136x1408_S128x1408_8_0, u⟩ :: ⟨Rect.unit ![0, 0] S8x1408.size inb_S136x1408_S8x1408_0_0, p⟩ :: L)
        (Rect.unit (s := S136x1408) ![6, 0] S128x1408.size inb_S136x1408_S128x1408_6_0).toLoadRect
      = View.ld (scr p u) (Rect.unit (s := S136x1408) ![6, 0] S128x1408.size inb_S136x1408_S128x1408_6_0) := by
  rw [View.readCov_eq_canon']
  funext x
  exact View.canon_append_of_piecesOf (scr p u) L [⟨Rect.unit ![8, 0] S128x1408.size inb_S136x1408_S128x1408_8_0, u⟩, ⟨Rect.unit ![0, 0] S8x1408.size inb_S136x1408_S8x1408_0_0, p⟩] ⟨scr_u p u, scr_p p u, trivial⟩ _ (cover_scr p u _)

/-- Rows from 7 of the scratch once a group's history and rows are stored. -/
theorem scr7 (v : View sig .tc .vmem S136x1408 .f32) (p : Vec F S8x1408 .f32) (u : Vec F S128x1408 .f32) (L : List (View.Piece (Elt F) S136x1408 .f32)) :
    v.readCov (⟨Rect.unit ![8, 0] S128x1408.size inb_S136x1408_S128x1408_8_0, u⟩ :: ⟨Rect.unit ![0, 0] S8x1408.size inb_S136x1408_S8x1408_0_0, p⟩ :: L)
        (Rect.unit (s := S136x1408) ![7, 0] S128x1408.size inb_S136x1408_S128x1408_7_0).toLoadRect
      = View.ld (scr p u) (Rect.unit (s := S136x1408) ![7, 0] S128x1408.size inb_S136x1408_S128x1408_7_0) := by
  rw [View.readCov_eq_canon']
  funext x
  exact View.canon_append_of_piecesOf (scr p u) L [⟨Rect.unit ![8, 0] S128x1408.size inb_S136x1408_S128x1408_8_0, u⟩, ⟨Rect.unit ![0, 0] S8x1408.size inb_S136x1408_S8x1408_0_0, p⟩] ⟨scr_u p u, scr_p p u, trivial⟩ _ (cover_scr p u _)

section
variable (x0 : Vec F S128x1024 .f32) (x1 : Vec F S128x5632 .f32) (x2 : Vec F S1x1024 .f32) (x3 : Vec F S1024x5632 .bf16) (x4 : Vec F S3x5632 .f32) (x5 : Vec F S1x5632 .f32) (x6 : Vec F S2816x1024 .bf16) (x7 : Vec F S1x1024 .f32)

/-- The normalised rows. -/
def H : FVec F S128x1024 .bf16 :=
  k0_pay4 (View.ld x0 (Rect.unit ![0, 0] S128x1024.size inb_S128x1024_S128x1024_0_0)) (View.ld x2 (Rect.unit ![0, 0] S1x1024.size inb_S1x1024_S1x1024_0_0))

/-- The rows of group `n`: the history's where a row is one of its two, the normalised rows against the weights elsewhere. -/
def U (n : ℕ) (hn : n < 4) : FVec F S128x1408 .f32 :=
  k0_pay7 k0_pay3 (H x0 x2) (k0_pay6 (View.ld x3 (Rect.unit ![0, 1408 * n] S1024x1408.size (inW hn))))
    (View.ld x1 (Rect.unit ![0, 1408 * n] S128x1408.size (inC hn)))

/-- Its scratch. -/
def SC (n : ℕ) (hn : n < 4) : Vec F S136x1408 .f32 := scr k0_pay8 (U x0 x1 x2 x3 n hn)

/-- The convolution of group `n`. -/
def cv (n : ℕ) (hn : n < 4) : FVec F S128x1408 .f32 :=
  k0_pay10 k0_pay3 (H x0 x2) (k0_pay6 (View.ld x3 (Rect.unit ![0, 1408 * n] S1024x1408.size (inW hn))))
    (View.ld x1 (Rect.unit ![0, 1408 * n] S128x1408.size (inC hn)))
    (View.ld x5 (Rect.unit ![0, 1408 * n] S1x1408.size (inB hn)))
    (View.ld (SC x0 x1 x2 x3 n hn) (Rect.unit (s := S136x1408) ![6, 0] S128x1408.size inb_S136x1408_S128x1408_6_0))
    (View.ld x4 (Rect.unit ![0, 1408 * n] S1x1408.size (inT (by decide) hn)))
    (View.ld (SC x0 x1 x2 x3 n hn) (Rect.unit (s := S136x1408) ![7, 0] S128x1408.size inb_S136x1408_S128x1408_7_0))
    (View.ld x4 (Rect.unit ![1, 1408 * n] S1x1408.size (inT (by decide) hn)))
    (View.ld x4 (Rect.unit ![2, 1408 * n] S1x1408.size (inT (by decide) hn)))

/-- The first half's share of the product with the narrowing weights. -/
def half0 : FVec F S128x1024 .f32 :=
  k0_pay16 k0_pay5 (truncf .bf16 (mulf (mulf (cv x0 x1 x2 x3 x4 x5 0 (by decide)) (logistic (cv x0 x1 x2 x3 x4 x5 0 (by decide)))) (cv x0 x1 x2 x3 x4 x5 2 (by decide))) bitsLt_bf16_f32)
    (View.ld x6 (Rect.unit ![0, 0] S1408x1024.size inb_S2816x1024_S1408x1024_0_0))

/-- The block of sums. -/
def O : FVec F S128x1024 .f32 :=
  k0_pay1 (View.ld x0 (Rect.unit ![0, 0] S128x1024.size inb_S128x1024_S128x1024_0_0)) (half0 x0 x1 x2 x3 x4 x5 x6) (cv x0 x1 x2 x3 x4 x5 1 (by decide)) (U x0 x1 x2 x3 3 (by decide))
    (k0_pay26 (View.ld x5 (Rect.unit ![0, 1408 * 3] S1x1408.size (inB (by decide)))) (View.ld (SC x0 x1 x2 x3 3 (by decide)) (Rect.unit (s := S136x1408) ![6, 0] S128x1408.size inb_S136x1408_S128x1408_6_0))
      (View.ld x4 (Rect.unit ![0, 1408 * 3] S1x1408.size (inT (by decide) (by decide)))))
    (k0_pay27 (View.ld (SC x0 x1 x2 x3 3 (by decide)) (Rect.unit (s := S136x1408) ![7, 0] S128x1408.size inb_S136x1408_S128x1408_7_0))
      (View.ld x4 (Rect.unit ![1, 1408 * 3] S1x1408.size (inT (by decide) (by decide)))))
    (View.ld x4 (Rect.unit ![2, 1408 * 3] S1x1408.size (inT (by decide) (by decide))))
    (View.ld x6 (Rect.unit ![1408, 0] S1408x1024.size inb_S2816x1024_S1408x1024_1408_0))

/-- The block of sums, normalised. -/
def YN : FVec F S128x1024 .f32 :=
  k0_pay2 (View.ld x0 (Rect.unit ![0, 0] S128x1024.size inb_S128x1024_S128x1024_0_0)) (half0 x0 x1 x2 x3 x4 x5 x6) (cv x0 x1 x2 x3 x4 x5 1 (by decide)) (U x0 x1 x2 x3 3 (by decide))
    (k0_pay26 (View.ld x5 (Rect.unit ![0, 1408 * 3] S1x1408.size (inB (by decide)))) (View.ld (SC x0 x1 x2 x3 3 (by decide)) (Rect.unit (s := S136x1408) ![6, 0] S128x1408.size inb_S136x1408_S128x1408_6_0))
      (View.ld x4 (Rect.unit ![0, 1408 * 3] S1x1408.size (inT (by decide) (by decide)))))
    (k0_pay27 (View.ld (SC x0 x1 x2 x3 3 (by decide)) (Rect.unit (s := S136x1408) ![7, 0] S128x1408.size inb_S136x1408_S128x1408_7_0))
      (View.ld x4 (Rect.unit ![1, 1408 * 3] S1x1408.size (inT (by decide) (by decide)))))
    (View.ld x4 (Rect.unit ![2, 1408 * 3] S1x1408.size (inT (by decide) (by decide))))
    (View.ld x6 (Rect.unit ![1408, 0] S1408x1024.size inb_S2816x1024_S1408x1024_1408_0)) (View.ld x7 (Rect.unit ![0, 0] S1x1024.size inb_S1x1024_S1x1024_0_0))

/-- The block's widened rows. -/
def TL : Vec F S128x5632 .f32 := fun i =>
  U x0 x1 x2 x3 ((i 1).val / 1408) (by have h : (i 1).val < 5632 := (i 1).isLt; omega)
    (fun a => match a with
      | ⟨0, _⟩ => (⟨(i 0).val, (i 0).isLt⟩ : Fin 128)
      | ⟨1, _⟩ => (⟨(i 1).val % 1408, Nat.mod_lt _ (by decide)⟩ : Fin 1408))

theorem pieceT (n : ℕ) (hn : n < 4) (x : S128x1408.Idx) : U x0 x1 x2 x3 n hn x
    = TL x0 x1 x2 x3 ((Rect.unit (s := S128x5632) ![0, 1408 * n] S128x1408.size (inC hn)).emb x) := by
  have e1 : (((Rect.unit (s := S128x5632) ![0, 1408 * n] S128x1408.size (inC hn)).emb x) 1).val = 1408 * n + 1 * (x 1).val := rfl
  have e0 : (((Rect.unit (s := S128x5632) ![0, 1408 * n] S128x1408.size (inC hn)).emb x) 0).val = 0 + 1 * (x 0).val := rfl
  have hx : (x 1).val < 1408 := (x 1).isLt
  unfold TL
  generalize ((Rect.unit (s := S128x5632) ![0, 1408 * n] S128x1408.size (inC hn)).emb x) = i at e1 e0 ⊢
  obtain rfl : n = (i 1).val / 1408 := by omega
  congr 1
  funext a
  apply Fin.ext
  match a with
  | ⟨0, _⟩ => show (x 0).val = (i 0).val; omega
  | ⟨1, _⟩ => show (x 1).val = (i 1).val % 1408; omega

end

/-! ## Stores that only pass a value on -/

theorem p9 (a : IVec S128x1 1) (b : FVec F S128x1024 .bf16) (w : FVec F S1024x1408 .bf16) (h : Vec F S128x1408 .f32) : k0_pay9 a b w h = k0_pay7 a b w h := shapeCast_self _ _
theorem p14 (a : IVec S128x1 1) (b : FVec F S128x1024 .bf16) (w : FVec F S1024x1408 .bf16) (h : Vec F S128x1408 .f32) : k0_pay14 a b w h = k0_pay12 a b w h := shapeCast_self _ _
theorem p19 (a : IVec S128x1 1) (b : FVec F S128x1024 .bf16) (w : Vec F S1024x1408 .bf16) (h : Vec F S128x1408 .f32) : k0_pay19 a b w h = k0_pay17 a b w h := shapeCast_self _ _
theorem p25 (a : IVec S128x1 1) (b : FVec F S128x1024 .bf16) (w : Vec F S1024x1408 .bf16) (h : Vec F S128x1408 .f32) : k0_pay25 a b w h = k0_pay23 a b w h := shapeCast_self _ _

/-! ## What the body leaves -/

set_option maxHeartbeats 1600000 in
theorem out0_A_8_eq (c : Dev nD) (i : grid0.Coords) (arg1 : Memref sig .tc .vmem S128x1024 .f32) (harg1 : arg1.IsWhole) (arg2 : Memref sig .tc .vmem S128x5632 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S128x1024 .f32) (harg9 : arg9.IsWhole) (arg10 : Memref sig .tc .vmem S128x5632 .f32) (harg10 : arg10.IsWhole) (arg11 : Memref sig .tc .vmem S128x1024 .f32) (harg11 : arg11.IsWhole) (arg12 : Memref sig .tc .vmem S136x1408 .f32) (harg12 : arg12.IsWhole)
    (x0 : Vec F S128x1024 .f32) (x1 : Vec F S128x5632 .f32) (x2 : Vec F S1x1024 .f32) (x3 : Vec F S1024x5632 .bf16) (x4 : Vec F S3x5632 .f32) (x5 : Vec F S1x5632 .f32) (x6 : Vec F S2816x1024 .bf16) (x7 : Vec F S1x1024 .f32) :
    out0_A_8 c i arg1 harg1 arg2 harg2 arg3 harg3 arg4 harg4 arg5 harg5 arg6 harg6 arg7 harg7 arg8 harg8 arg9 harg9 arg10 harg10 arg11 harg11 arg12 harg12 x0 x1 x2 x3 x4 x5 x6 x7 = O x0 x1 x2 x3 x4 x5 x6 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 x0 x1 x2 x3 x4 x5 x6 x7)]
  unfold kernelRun0_A
  dsimp only
  sl_unfold_words
  rw [View.canon_unit_zero (S := S128x1024) (by funext a; fin_cases a <;> rfl)]
  simp (disch := decide) only [↓scr6, ↓scr7, ↓View.readCov_skip, ↓View.readCov_fill, View.readAt_eq_ld, harg1.read_unread, harg2.read_unread, harg3.read_unread, harg4.read_unread, harg5.read_unread, harg6.read_unread, harg7.read_unread, harg8.read_unread, harg9.read_unread, harg10.read_unread, harg11.read_unread, harg12.read_unread, p9, p14, p19, p25]
  rfl

set_option maxHeartbeats 1600000 in
theorem out0_A_10_eq (c : Dev nD) (i : grid0.Coords) (arg1 : Memref sig .tc .vmem S128x1024 .f32) (harg1 : arg1.IsWhole) (arg2 : Memref sig .tc .vmem S128x5632 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S128x1024 .f32) (harg9 : arg9.IsWhole) (arg10 : Memref sig .tc .vmem S128x5632 .f32) (harg10 : arg10.IsWhole) (arg11 : Memref sig .tc .vmem S128x1024 .f32) (harg11 : arg11.IsWhole) (arg12 : Memref sig .tc .vmem S136x1408 .f32) (harg12 : arg12.IsWhole)
    (x0 : Vec F S128x1024 .f32) (x1 : Vec F S128x5632 .f32) (x2 : Vec F S1x1024 .f32) (x3 : Vec F S1024x5632 .bf16) (x4 : Vec F S3x5632 .f32) (x5 : Vec F S1x5632 .f32) (x6 : Vec F S2816x1024 .bf16) (x7 : Vec F S1x1024 .f32) :
    out0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 = YN x0 x1 x2 x3 x4 x5 x6 x7 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7)]
  unfold kernelRun0_A
  dsimp only
  sl_unfold_words
  rw [View.canon_unit_zero (S := S128x1024) (by funext a; fin_cases a <;> rfl)]
  simp (disch := decide) only [↓scr6, ↓scr7, ↓View.readCov_skip, ↓View.readCov_fill, View.readAt_eq_ld, harg1.read_unread, harg2.read_unread, harg3.read_unread, harg4.read_unread, harg5.read_unread, harg6.read_unread, harg7.read_unread, harg8.read_unread, harg9.read_unread, harg10.read_unread, harg11.read_unread, harg12.read_unread, p9, p14, p19, p25]
  rfl

theorem out0_A_9_eq (c : Dev nD) (i : grid0.Coords) (arg1 : Memref sig .tc .vmem S128x1024 .f32) (harg1 : arg1.IsWhole) (arg2 : Memref sig .tc .vmem S128x5632 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S128x1024 .f32) (harg9 : arg9.IsWhole) (arg10 : Memref sig .tc .vmem S128x5632 .f32) (harg10 : arg10.IsWhole) (arg11 : Memref sig .tc .vmem S128x1024 .f32) (harg11 : arg11.IsWhole) (arg12 : Memref sig .tc .vmem S136x1408 .f32) (harg12 : arg12.IsWhole)
    (x0 : Vec F S128x1024 .f32) (x1 : Vec F S128x5632 .f32) (x2 : Vec F S1x1024 .f32) (x3 : Vec F S1024x5632 .bf16) (x4 : Vec F S3x5632 .f32) (x5 : Vec F S1x5632 .f32) (x6 : Vec F S2816x1024 .bf16) (x7 : Vec F S1x1024 .f32) :
    out0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 = TL x0 x1 x2 x3 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7)]
  funext y
  refine View.canon_apply_of_pieces _ _ (View.PiecesOf.mem ?_) y (cover0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, p9, p14, p19, p25]
  exact ⟨pieceT x0 x1 x2 x3 3 (by decide), pieceT x0 x1 x2 x3 1 (by decide), pieceT x0 x1 x2 x3 2 (by decide), pieceT x0 x1 x2 x3 0 (by decide), trivial⟩

end Cert.KFsIdeal.Fs
end
-- ==== Proof.Fs.Point.lean ====
/-
  One grid point of the sampled rows' feed-forward kernel over the extended reals, entry by entry.
-/
module

public import proofs.«01_k».proof.Proof.Fs.Body
public import proofs.«01_k».proof.Proof.Fs.Spec

@[expose] public section

noncomputable section
open Idealize.ShloMosaic Idealize.ShloMosaic.TcCoe Idealize.SL.Sem
namespace Cert.KFsIdeal.Fs
open Cert.KFsIdeal Cert.KFsIdeal.Gen Cert.Fs Cert.Nrm

section
variable (X : Fin 1024 → Fin 1024 → EReal) (Hs : ℕ → ℕ → Fin 5632 → EReal) (G : Fin 1024 → EReal) (W : Fin 1024 → Fin 5632 → EReal)
  (CW : Fin 3 → Fin 5632 → EReal) (CB : Fin 5632 → EReal) (WD : Fin 2816 → Fin 1024 → EReal) (GF : Fin 1024 → EReal) (n : ℕ)
variable (x0 : Vec Ideal S128x1024 .f32) (x1 : Vec Ideal S128x5632 .f32) (x2 : Vec Ideal S1x1024 .f32) (x3 : Vec Ideal S1024x5632 .bf16) (x4 : Vec Ideal S3x5632 .f32)
  (x5 : Vec Ideal S1x5632 .f32) (x6 : Vec Ideal S2816x1024 .bf16) (x7 : Vec Ideal S1x1024 .f32)

/-- Which rows of a block are carried ones. -/
theorem mask (r : Fin 128) : k0_pay3 (ix2 r 0) = if 2 ≤ r.val % 8 ∧ r.val % 8 < 4 then 1#1 else 0#1 := by
  revert r
  decide +kernel

theorem pay4_apply (x : Vec Ideal S128x1024 .f32) (g : Vec Ideal S1x1024 .f32) (r : Fin 128) (j : Fin 1024) :
    (k0_pay4 x g (ix2 r j) : EReal) = rms (fun k => x (ix2 r k)) (fun k => g (ix2 0 k)) j := by
  pointwise [k0_pay4]
  rfl

theorem u_apply (a : FVec Ideal S128x1024 .bf16) (w : FVec Ideal S1024x1408 .bf16) (h : Vec Ideal S128x1408 .f32) (r : Fin 128) (j : Fin 1408) :
    (k0_pay7 k0_pay3 a w h (ix2 r j) : EReal) = if 2 ≤ r.val % 8 ∧ r.val % 8 < 4 then h (ix2 r j) else ∑ k : Fin 1024, a (ix2 r k) * w (ix2 k j) := by
  have e := mask r
  generalize k0_pay3 = p at e ⊢
  pointwise [k0_pay7]
  rw [e]
  split_ifs <;> rfl

theorem U_apply (h0 : ∀ (r : Fin 128) (k : Fin 1024), x0 (ix2 r k) = X (row (n * 128 + r.val)) k)
    (h1 : ∀ (r : Fin 128) (j : Fin 5632), 2 ≤ r.val % 8 ∧ r.val % 8 < 4 → x1 (ix2 r j) = Hs ((n * 128 + r.val) / 8) ((n * 128 + r.val) % 8 - 2) j)
    (h2 : ∀ k : Fin 1024, x2 (ix2 0 k) = G k) (h3 : ∀ (k : Fin 1024) (j : Fin 5632), x3 (ix2 k j) = W k j) (q : ℕ) (hq : q < 4) (r : Fin 128) (j : Fin 1408) :
    (U x0 x1 x2 x3 q hq (ix2 r j) : EReal) = mix X Hs G W (n * 128 + r.val) ⟨1408 * q + j.val, by omega⟩ := by
  have e0 : (fun k => (x0 (ix2 r k) : EReal)) = X (row (n * 128 + r.val)) := funext (h0 r)
  have e1 : (fun k => (x2 (ix2 0 k) : EReal)) = G := funext h2
  have em : (n * 128 + r.val) % 8 = r.val % 8 := by omega
  unfold U H
  rw [View.ld_unit_zero (S := S128x1024) (by funext a; fin_cases a <;> rfl),
    View.ld_unit_zero (S := S1x1024) (by funext a; fin_cases a <;> rfl), u_apply]
  unfold mix wide
  rw [em]
  split_ifs with hm
  · refine Eq.trans (congrArg x1 (a₂ := ix2 r ⟨1408 * q + j.val, by omega⟩) ?_) ((h1 r _ hm).trans (by rw [em]))
    funext a
    apply Fin.ext
    match a with
    | ⟨0, _⟩ => show 0 + 1 * r.val = r.val; omega
    | ⟨1, _⟩ => show 1408 * q + 1 * j.val = 1408 * q + j.val; omega
  · refine Finset.sum_congr rfl fun k _ => ?_
    refine congrArg₂ (· * ·) ((pay4_apply x0 x2 r k).trans (by rw [e0, e1])) ?_
    pointwise [k0_pay6]
    refine Eq.trans (congrArg x3 (a₂ := ix2 k ⟨1408 * q + j.val, by omega⟩) ?_) (h3 k _)
    funext a
    apply Fin.ext
    match a with
    | ⟨0, _⟩ => first | rfl | (show 0 + 1 * k.val = k.val; omega)
    | ⟨1, _⟩ => first | rfl | (show 1408 * q + 1 * j.val = 1408 * q + j.val; omega)

theorem SC_apply (h0 : ∀ (r : Fin 128) (k : Fin 1024), x0 (ix2 r k) = X (row (n * 128 + r.val)) k)
    (h1 : ∀ (r : Fin 128) (j : Fin 5632), 2 ≤ r.val % 8 ∧ r.val % 8 < 4 → x1 (ix2 r j) = Hs ((n * 128 + r.val) / 8) ((n * 128 + r.val) % 8 - 2) j)
    (h2 : ∀ k : Fin 1024, x2 (ix2 0 k) = G k) (h3 : ∀ (k : Fin 1024) (j : Fin 5632), x3 (ix2 k j) = W k j) (q : ℕ) (hq : q < 4) (i : Fin 136) (j : Fin 1408) (hi : 8 ≤ i.val) :
    (SC x0 x1 x2 x3 q hq (ix2 i j) : EReal) = mix X Hs G W (n * 128 + i.val - 8) ⟨1408 * q + j.val, by omega⟩ := by
  unfold SC scr
  split
  · rename_i h
    have h' : i.val < 8 := h
    omega
  · refine Eq.trans (congrArg (U x0 x1 x2 x3 q hq) (a₂ := ix2 ⟨i.val - 8, by omega⟩ j) ?_) ((U_apply X Hs G W n x0 x1 x2 x3 h0 h1 h2 h3 q hq ⟨i.val - 8, by omega⟩ j).trans ?_)
    · funext a
      match a with
      | ⟨0, _⟩ => rfl
      | ⟨1, _⟩ => rfl
    · exact congrArg (fun t => mix X Hs G W t _) (by show n * 128 + (i.val - 8) = n * 128 + i.val - 8; omega)

theorem TL_apply (h0 : ∀ (r : Fin 128) (k : Fin 1024), x0 (ix2 r k) = X (row (n * 128 + r.val)) k)
    (h1 : ∀ (r : Fin 128) (j : Fin 5632), 2 ≤ r.val % 8 ∧ r.val % 8 < 4 → x1 (ix2 r j) = Hs ((n * 128 + r.val) / 8) ((n * 128 + r.val) % 8 - 2) j)
    (h2 : ∀ k : Fin 1024, x2 (ix2 0 k) = G k) (h3 : ∀ (k : Fin 1024) (j : Fin 5632), x3 (ix2 k j) = W k j) (r : Fin 128) (j : Fin 5632) :
    (TL x0 x1 x2 x3 (ix2 r j) : EReal) = mix X Hs G W (n * 128 + r.val) j := by
  show U x0 x1 x2 x3 (j.val / 1408) _ _ = _
  have hj : j.val / 1408 < 4 := by omega
  refine Eq.trans (congrArg (U x0 x1 x2 x3 (j.val / 1408) hj) (a₂ := ix2 r ⟨j.val % 1408, Nat.mod_lt _ (by decide)⟩) ?_)
    ((U_apply X Hs G W n x0 x1 x2 x3 h0 h1 h2 h3 _ hj _ _).trans (congrArg (mix X Hs G W _) (Fin.ext ?_)))
  · funext a
    match a with
    | ⟨0, _⟩ => rfl
    | ⟨1, _⟩ => rfl
  · show 1408 * (j.val / 1408) + j.val % 1408 = j.val
    omega

/-- A convolution adds the bias and three taps to the rows before and at hand. -/
theorem cvp_apply (a : FVec Ideal S128x1024 .bf16) (w : FVec Ideal S1024x1408 .bf16) (h : Vec Ideal S128x1408 .f32) (s t : Vec Ideal S128x1408 .f32) (vb v0 v1 v2 : Vec Ideal S1x1408 .f32)
    (r : Fin 128) (j : Fin 1408) :
    (k0_pay10 k0_pay3 a w h vb s v0 t v1 v2 (ix2 r j) : EReal)
      = vb (ix2 0 j) + s (ix2 r j) * v0 (ix2 0 j) + t (ix2 r j) * v1 (ix2 0 j) + k0_pay7 k0_pay3 a w h (ix2 r j) * v2 (ix2 0 j) := by
  pointwise [k0_pay10]

theorem cv_apply (h0 : ∀ (r : Fin 128) (k : Fin 1024), x0 (ix2 r k) = X (row (n * 128 + r.val)) k)
    (h1 : ∀ (r : Fin 128) (j : Fin 5632), 2 ≤ r.val % 8 ∧ r.val % 8 < 4 → x1 (ix2 r j) = Hs ((n * 128 + r.val) / 8) ((n * 128 + r.val) % 8 - 2) j)
    (h2 : ∀ k : Fin 1024, x2 (ix2 0 k) = G k) (h3 : ∀ (k : Fin 1024) (j : Fin 5632), x3 (ix2 k j) = W k j) (h4 : ∀ (k : Fin 3) (j : Fin 5632), x4 (ix2 k j) = CW k j)
    (h5 : ∀ j : Fin 5632, x5 (ix2 0 j) = CB j) (q : ℕ) (hq : q < 4) (r : Fin 128) (hr : 2 ≤ r.val) (j : Fin 1408) :
    (cv x0 x1 x2 x3 x4 x5 q hq (ix2 r j) : EReal) = conv X Hs G W CW CB (n * 128 + r.val) ⟨1408 * q + j.val, by omega⟩ := by
  unfold cv
  refine (cvp_apply _ _ _ _ _ _ _ _ _ r j).trans ?_
  have hw : ∀ (k : ℕ) (hk : k < 3), (View.ld x4 (Rect.unit ![k, 1408 * q] S1x1408.size (inT hk hq)) (ix2 0 j) : EReal) = CW ⟨k, hk⟩ ⟨1408 * q + j.val, by omega⟩ := fun k hk => by
    refine Eq.trans (congrArg x4 (a₂ := ix2 ⟨k, hk⟩ ⟨1408 * q + j.val, by omega⟩) (funext fun a => Fin.ext ?_)) (h4 _ _)
    match a with
    | ⟨0, _⟩ => show k + 1 * 0 = k; omega
    | ⟨1, _⟩ => show 1408 * q + 1 * j.val = 1408 * q + j.val; omega
  have hb : (View.ld x5 (Rect.unit ![0, 1408 * q] S1x1408.size (inB hq)) (ix2 0 j) : EReal) = CB ⟨1408 * q + j.val, by omega⟩ := by
    refine Eq.trans (congrArg x5 (a₂ := ix2 0 ⟨1408 * q + j.val, by omega⟩) (funext fun a => Fin.ext ?_)) (h5 _)
    match a with
    | ⟨0, _⟩ => rfl
    | ⟨1, _⟩ => show 1408 * q + 1 * j.val = 1408 * q + j.val; omega
  have h6' : (View.ld (SC x0 x1 x2 x3 q hq) (Rect.unit (s := S136x1408) ![6, 0] S128x1408.size inb_S136x1408_S128x1408_6_0) (ix2 r j) : EReal) = mix X Hs G W (n * 128 + r.val - 2) ⟨1408 * q + j.val, by omega⟩ := by
    refine Eq.trans (congrArg (SC x0 x1 x2 x3 q hq) (a₂ := ix2 ⟨r.val + 6, by omega⟩ j) (funext fun a => Fin.ext ?_)) ((SC_apply X Hs G W n x0 x1 x2 x3 h0 h1 h2 h3 q hq _ _ (by show 8 ≤ r.val + 6; omega)).trans ?_)
    · match a with
      | ⟨0, _⟩ => show 6 + 1 * r.val = r.val + 6; omega
      | ⟨1, _⟩ => show 0 + 1 * j.val = j.val; omega
    · exact congrArg (fun t => mix X Hs G W t _) (by show n * 128 + (r.val + 6) - 8 = n * 128 + r.val - 2; omega)
  have h7' : (View.ld (SC x0 x1 x2 x3 q hq) (Rect.unit (s := S136x1408) ![7, 0] S128x1408.size inb_S136x1408_S128x1408_7_0) (ix2 r j) : EReal) = mix X Hs G W (n * 128 + r.val - 1) ⟨1408 * q + j.val, by omega⟩ := by
    refine Eq.trans (congrArg (SC x0 x1 x2 x3 q hq) (a₂ := ix2 ⟨r.val + 7, by omega⟩ j) (funext fun a => Fin.ext ?_)) ((SC_apply X Hs G W n x0 x1 x2 x3 h0 h1 h2 h3 q hq _ _ (by show 8 ≤ r.val + 7; omega)).trans ?_)
    · match a with
      | ⟨0, _⟩ => show 7 + 1 * r.val = r.val + 7; omega
      | ⟨1, _⟩ => show 0 + 1 * j.val = j.val; omega
    · exact congrArg (fun t => mix X Hs G W t _) (by show n * 128 + (r.val + 7) - 8 = n * 128 + r.val - 1; omega)
  rw [hw 0 (by decide), hw 1 (by decide), hw 2 (by decide), hb, h6', h7']
  exact congrArg (fun u => _ + u * _) (U_apply X Hs G W n x0 x1 x2 x3 h0 h1 h2 h3 q hq r j)

/-- The gated rows against one half of the narrowing weights. -/
theorem half_apply (z : FVec Ideal S128x1024 .f32) (g v : FVec Ideal S128x1408 .f32) (w : Vec Ideal S1408x1024 .bf16) (r : Fin 128) (k : Fin 1024) :
    (k0_pay16 z (truncf .bf16 (mulf (mulf g (logistic g)) v) bitsLt_bf16_f32) w (ix2 r k) : EReal)
      = z (ix2 r k) + ∑ j : Fin 1408, g (ix2 r j) * Ideal.logistic (g (ix2 r j)) * v (ix2 r j) * w (ix2 j k) := by
  pointwise [k0_pay16]

theorem zero_apply (r : Fin 128) (k : Fin 1024) : (k0_pay5 (F := Ideal) (ix2 r k) : EReal) = 0 := by
  pointwise [k0_pay5]

/-- The last convolution is formed inside the product: the same function of the same operands. -/
theorem O_eq : O x0 x1 x2 x3 x4 x5 x6 = addf (View.ld x0 (Rect.unit ![0, 0] S128x1024.size inb_S128x1024_S128x1024_0_0))
    (k0_pay16 (half0 x0 x1 x2 x3 x4 x5 x6) (truncf .bf16 (mulf (mulf (cv x0 x1 x2 x3 x4 x5 1 (by decide)) (logistic (cv x0 x1 x2 x3 x4 x5 1 (by decide)))) (cv x0 x1 x2 x3 x4 x5 3 (by decide))) bitsLt_bf16_f32)
      (View.ld x6 (Rect.unit ![1408, 0] S1408x1024.size inb_S2816x1024_S1408x1024_1408_0))) := rfl

theorem YN_split (v0 : Vec Ideal S128x1024 .f32) (a : FVec Ideal S128x1024 .f32) (b u s t : FVec Ideal S128x1408 .f32) (v : Vec Ideal S1x1408 .f32) (w : Vec Ideal S1408x1024 .bf16) (y : Vec Ideal S1x1024 .f32) (r : Fin 128) (k : Fin 1024) :
    (k0_pay2 v0 a b u s t v w y (ix2 r k) : EReal) = rms (fun k => k0_pay1 v0 a b u s t v w (ix2 r k)) (fun k => y (ix2 0 k)) k := by
  pointwise [k0_pay2]
  rfl

theorem sum_halves (f : Fin 2816 → EReal) :
    ∑ j, f j = (∑ j : Fin 1408, f ⟨j.val, by omega⟩) + ∑ j : Fin 1408, f ⟨1408 + j.val, by omega⟩ :=
  Fin.sum_univ_add (a := 1408) (b := 1408) f

theorem ldD {o : ℕ} (ho : o + 1408 ≤ 2816) (hb : ∀ a, (![o, 0] : Fin 2 → ℕ) a + S1408x1024.size a ≤ S2816x1024.size a)
    (h6 : ∀ (j : Fin 2816) (k : Fin 1024), x6 (ix2 j k) = WD j k) (j : Fin 1408) (k : Fin 1024) :
    (View.ld x6 (Rect.unit ![o, 0] S1408x1024.size hb) (ix2 j k) : EReal) = WD ⟨o + j.val, by omega⟩ k := by
  refine Eq.trans (congrArg x6 (a₂ := ix2 ⟨o + j.val, by omega⟩ k) (funext fun a => Fin.ext ?_)) (h6 _ _)
  match a with
  | ⟨0, _⟩ => show o + 1 * j.val = o + j.val; omega
  | ⟨1, _⟩ => show 0 + 1 * k.val = k.val; omega

section
variable (h0 : ∀ (r : Fin 128) (k : Fin 1024), x0 (ix2 r k) = X (row (n * 128 + r.val)) k)
  (h1 : ∀ (r : Fin 128) (j : Fin 5632), 2 ≤ r.val % 8 ∧ r.val % 8 < 4 → x1 (ix2 r j) = Hs ((n * 128 + r.val) / 8) ((n * 128 + r.val) % 8 - 2) j)
  (h2 : ∀ k : Fin 1024, x2 (ix2 0 k) = G k) (h3 : ∀ (k : Fin 1024) (j : Fin 5632), x3 (ix2 k j) = W k j) (h4 : ∀ (k : Fin 3) (j : Fin 5632), x4 (ix2 k j) = CW k j)
  (h5 : ∀ j : Fin 5632, x5 (ix2 0 j) = CB j) (h6 : ∀ (j : Fin 2816) (k : Fin 1024), x6 (ix2 j k) = WD j k)
include h0 h1 h2 h3 h4 h5 h6

theorem O_apply (r : Fin 128) (hr : 2 ≤ r.val) (k : Fin 1024) :
    (O x0 x1 x2 x3 x4 x5 x6 (ix2 r k) : EReal) = total X Hs G W CW CB WD (n * 128 + r.val) k := by
  have hc := fun q hq => cv_apply X Hs G W CW CB n x0 x1 x2 x3 x4 x5 h0 h1 h2 h3 h4 h5 q hq r hr
  rw [O_eq, View.ld_unit_zero (S := S128x1024) (by funext a; fin_cases a <;> rfl)]
  unfold total half0
  refine Eq.trans (congrArg (fun u => (x0 (ix2 r k) + u : EReal)) ((half_apply _ _ _ _ r k).trans (congrArg (· + _) (half_apply _ _ _ _ r k)))) ?_
  rw [zero_apply, zero_add, sum_halves, h0]
  refine congrArg _ (congrArg₂ (· + ·) (Finset.sum_congr rfl fun j _ => ?_) (Finset.sum_congr rfl fun j _ => ?_))
  · rw [hc, hc, ldD WD x6 (o := 0) (by decide) _ h6]
    refine congrArg₂ (· * ·) ?_ (congrArg (fun i => WD i k) (Fin.ext (Nat.zero_add _)))
    unfold act
    refine congrArg₂ (· * ·) ?_ rfl
    have e : (⟨1408 * 0 + j.val, by omega⟩ : Fin 5632) = ⟨j.val, by omega⟩ := Fin.ext (Nat.zero_add _)
    rw [e]
  · rw [hc, hc, ldD WD x6 (o := 1408) (by decide) _ h6]
    refine congrArg₂ (· * ·) ?_ rfl
    unfold act
    refine congrArg₂ (· * ·) rfl (congrArg _ (Fin.ext ?_))
    show 1408 * 3 + j.val = 2816 + (1408 + j.val)
    omega

theorem YN_apply (h7 : ∀ k : Fin 1024, x7 (ix2 0 k) = GF k) (r : Fin 128) (hr : 2 ≤ r.val) (k : Fin 1024) :
    (YN x0 x1 x2 x3 x4 x5 x6 x7 (ix2 r k) : EReal) = normed X Hs G W CW CB WD GF (n * 128 + r.val) k := by
  unfold YN normed
  refine (YN_split _ _ _ _ _ _ _ _ _ r k).trans ?_
  refine congrArg₂ (fun x g => rms x g k) (funext fun k => O_apply X Hs G W CW CB WD n x0 x1 x2 x3 x4 x5 x6 h0 h1 h2 h3 h4 h5 h6 r hr k) (funext fun k => ?_)
  rw [View.ld_unit_zero (S := S1x1024) (by funext a; fin_cases a <;> rfl)]
  exact h7 k

end

end
end Cert.KFsIdeal.Fs
end
-- ==== Proof.Fs.Join.lean ====
/-
  The sampled rows' feed-forward kernel's arrays: each block it reads, entry by entry, and the three arrays it leaves.
-/
module

public import proofs.«01_k».proof.Proof.Fs.Point
public import Idealize.ShloMosaic.Lib.StableHlo.RunRead

@[expose] public section

noncomputable section
open Idealize.ShloMosaic Idealize.ShloMosaic.TcCoe Idealize.SL.Sem Idealize.ShloMosaic.StableHlo
open Idealize.ShloMosaic.Pipeline (Dat)
namespace Cert.KFsIdeal.Fs
open Cert.KFsIdeal Cert.KFsIdeal.Gen Cert.Nrm Cert.Fs
variable (m : (ℓ : Loc nD τ sig) → Buf (Elt Ideal) ℓ) (c : Dev nD)

/-- The arrays the program is launched with: rows, carried rows, scale, widening weights, taps, bias, narrowing weights, final scale. -/
def argX (r : Fin 1024) (j : Fin 1024) : EReal := (m ((c : Thread nD τ).loc main_arg0) : Vec Ideal S1024x1024 .f32) (ix2 r j)
def argH (b k : ℕ) (j : Fin 5632) : EReal :=
  (m ((c : Thread nD τ).loc main_arg1) : Vec Ideal S128x2x5632 .f32) (ix3 ⟨b % 128, Nat.mod_lt _ (by decide)⟩ ⟨k % 2, Nat.mod_lt _ (by decide)⟩ j)
def argG (j : Fin 1024) : EReal := (m ((c : Thread nD τ).loc main_arg2) : Vec Ideal S1024 .f32) (ix1 j)
def argW (k : Fin 1024) (j : Fin 5632) : EReal := (m ((c : Thread nD τ).loc main_arg3) : Vec Ideal S1024x5632 .f32) (ix2 k j)
def argT (k : Fin 3) (j : Fin 5632) : EReal := (m ((c : Thread nD τ).loc main_arg4) : Vec Ideal S3x5632 .f32) (ix2 k j)
def argB (j : Fin 5632) : EReal := (m ((c : Thread nD τ).loc main_arg5) : Vec Ideal S5632 .f32) (ix1 j)
def argD (j : Fin 2816) (k : Fin 1024) : EReal := (m ((c : Thread nD τ).loc main_arg6) : Vec Ideal S2816x1024 .f32) (ix2 j k)
def argF (j : Fin 1024) : EReal := (m ((c : Thread nD τ).loc main_arg7) : Vec Ideal S1024 .f32) (ix1 j)

theorem N8 : cfg0.N = 8 := N_0

/-- The carried rows in their places among eight rows of each sequence. -/
theorem place (x : FVec Ideal S128x2x5632 .f32) (v : FVec Ideal S_ .f32) (R : Fin 1024) (j : Fin 5632) (h : 2 ≤ R.val % 8 ∧ R.val % 8 < 4) :
    ((shapeCast S1024x5632 (Idealize.ShloMosaic.pad S128x8x5632 ![0, 2, 0] ![0, 4, 0] ![0, 0, 0] x v pads_S128x2x5632_S128x8x5632_000_240_000 h_S_) shapeCasts_S128x8x5632_S1024x5632 : FVec Ideal S1024x5632 .f32) (ix2 R j) : EReal)
      = x (ix3 ⟨R.val / 8 % 128, Nat.mod_lt _ (by decide)⟩ ⟨(R.val % 8 - 2) % 2, Nat.mod_lt _ (by decide)⟩ j) := by
  pointwise []
  rw [dif_pos (by omega)]
  refine congrArg₂ (fun b t => x (ix3 b t j)) (Fin.ext ?_) (Fin.ext ?_)
  · show R.val / 8 = R.val / 8 % 128
    omega
  · show R.val % 8 - 2 = (R.val % 8 - 2) % 2
    omega

theorem host_H (R : Fin 1024) (j : Fin 5632) (h : 2 ≤ R.val % 8 ∧ R.val % 8 < 4) :
    ((V m c main_v1 : Vec Ideal S1024x5632 .f32) (ix2 R j) : EReal) = argH m c (R.val / 8) (R.val % 8 - 2) j := by
  simp only [V, List.flatten_cons, List.flatten_nil, List.append_nil, StableHlo.after_append]
  after_reads_simp
  try simp only [TRef.ofBuf, TRef.toBuf, TRef.of, cast_eq]
  exact place _ _ R j h

theorem host_W (k : Fin 1024) (j : Fin 5632) : ((V m c main_v3 : Vec Ideal S1024x5632 .bf16) (ix2 k j) : EReal) = argW m c k j := by
  simp only [V, List.flatten_cons, List.flatten_nil, List.append_nil, StableHlo.after_append]
  after_reads_simp
  try simp only [TRef.ofBuf, TRef.toBuf, TRef.of, cast_eq]
  rfl

theorem host_D (k : Fin 2816) (j : Fin 1024) : ((V m c main_v5 : Vec Ideal S2816x1024 .bf16) (ix2 k j) : EReal) = argD m c k j := by
  simp only [V, List.flatten_cons, List.flatten_nil, List.append_nil, StableHlo.after_append]
  after_reads_simp
  try simp only [TRef.ofBuf, TRef.toBuf, TRef.of, cast_eq]
  rfl

theorem host_G (j : Fin 1024) : ((V m c main_v2 : Vec Ideal S1x1024 .f32) (ix2 0 j) : EReal) = argG m c j := by
  simp only [V, List.flatten_cons, List.flatten_nil, List.append_nil, StableHlo.after_append]
  after_reads_simp
  try simp only [TRef.ofBuf, TRef.toBuf, TRef.of, cast_eq]
  pointwise []
  rfl

theorem host_B (j : Fin 5632) : ((V m c main_v4 : Vec Ideal S1x5632 .f32) (ix2 0 j) : EReal) = argB m c j := by
  simp only [V, List.flatten_cons, List.flatten_nil, List.append_nil, StableHlo.after_append]
  after_reads_simp
  try simp only [TRef.ofBuf, TRef.toBuf, TRef.of, cast_eq]
  pointwise []
  rfl

theorem host_F (j : Fin 1024) : ((V m c main_v6 : Vec Ideal S1x1024 .f32) (ix2 0 j) : EReal) = argF m c j := by
  simp only [V, List.flatten_cons, List.flatten_nil, List.append_nil, StableHlo.after_append]
  after_reads_simp
  try simp only [TRef.ofBuf, TRef.toBuf, TRef.of, cast_eq]
  pointwise []
  rfl

theorem index0_0 : ∀ t : Fin grid0.N, win0_0.index t 0 = t.val ∧ win0_0.index t 1 = 0 := by decide +kernel
theorem index0_1 : ∀ t : Fin grid0.N, win0_1.index t 0 = t.val ∧ win0_1.index t 1 = 0 := by decide +kernel
theorem index0_2 : ∀ t : Fin grid0.N, win0_2.index t 0 = 0 ∧ win0_2.index t 1 = 0 := by decide +kernel
theorem index0_3 : ∀ t : Fin grid0.N, win0_3.index t 0 = 0 ∧ win0_3.index t 1 = 0 := by decide +kernel
theorem index0_4 : ∀ t : Fin grid0.N, win0_4.index t 0 = 0 ∧ win0_4.index t 1 = 0 := by decide +kernel
theorem index0_5 : ∀ t : Fin grid0.N, win0_5.index t 0 = 0 ∧ win0_5.index t 1 = 0 := by decide +kernel
theorem index0_6 : ∀ t : Fin grid0.N, win0_6.index t 0 = 0 ∧ win0_6.index t 1 = 0 := by decide +kernel
theorem index0_7 : ∀ t : Fin grid0.N, win0_7.index t 0 = 0 ∧ win0_7.index t 1 = 0 := by decide +kernel
theorem index0_8 : ∀ t : Fin grid0.N, win0_8.index t 0 = t.val ∧ win0_8.index t 1 = 0 := by decide +kernel
theorem index0_9 : ∀ t : Fin grid0.N, win0_9.index t 0 = t.val ∧ win0_9.index t 1 = 0 := by decide +kernel
theorem index0_10 : ∀ t : Fin grid0.N, win0_10.index t 0 = t.val ∧ win0_10.index t 1 = 0 := by decide +kernel

theorem block0 (t : Fin cfg0.N) (r : Fin 128) (j : Fin 1024) :
    ((iblk m c 0 t : Vec Ideal S128x1024 .f32) (ix2 r j) : EReal) = argX m c (row (t.val * 128 + r.val)) j := by
  have hi := index0_0 t
  have hN := t.isLt
  have hN' : cfg0.N = 8 := N8
  unfold iblk
  rw [View.read_apply]
  show (V m c main_arg0 : Vec Ideal S1024x1024 .f32) _ = _
  rw [V_main_arg0]
  unfold argX
  congr 1
  funext a
  apply Fin.ext
  match a with
  | ⟨0, _⟩ => show win0_0.index t 0 * 128 + 1 * r.val = (t.val * 128 + r.val) % 1024; rw [hi.1]; omega
  | ⟨1, _⟩ => show win0_0.index t 1 * 1024 + 1 * j.val = j.val; rw [hi.2]; omega

theorem block1 (t : Fin cfg0.N) (r : Fin 128) (j : Fin 5632) (h : 2 ≤ r.val % 8 ∧ r.val % 8 < 4) :
    ((iblk m c 1 t : Vec Ideal S128x5632 .f32) (ix2 r j) : EReal) = argH m c ((t.val * 128 + r.val) / 8) ((t.val * 128 + r.val) % 8 - 2) j := by
  have hi := index0_1 t
  have hN := t.isLt
  have hN' : cfg0.N = 8 := N8
  unfold iblk
  rw [View.read_apply]
  show (V m c main_v1 : Vec Ideal S1024x5632 .f32) _ = _
  refine Eq.trans (congrArg (V m c main_v1 : Vec Ideal S1024x5632 .f32) (a₂ := ix2 ⟨t.val * 128 + r.val, by omega⟩ j) (funext fun a => Fin.ext ?_)) (host_H m c _ j (by show 2 ≤ (t.val * 128 + r.val) % 8 ∧ (t.val * 128 + r.val) % 8 < 4; omega))
  match a with
  | ⟨0, _⟩ => show win0_1.index t 0 * 128 + 1 * r.val = t.val * 128 + r.val; rw [hi.1]; omega
  | ⟨1, _⟩ => show win0_1.index t 1 * 5632 + 1 * j.val = j.val; rw [hi.2]; omega

theorem block4 (t : Fin cfg0.N) (k : Fin 3) (j : Fin 5632) :
    ((iblk m c 4 t : Vec Ideal S3x5632 .f32) (ix2 k j) : EReal) = argT m c k j := by
  have hi := index0_4 t
  unfold iblk
  rw [View.read_apply]
  show (V m c main_arg4 : Vec Ideal S3x5632 .f32) _ = _
  rw [V_main_arg4]
  unfold argT
  congr 1
  funext a
  apply Fin.ext
  match a with
  | ⟨0, _⟩ => show win0_4.index t 0 * 3 + 1 * k.val = k.val; rw [hi.1]; omega
  | ⟨1, _⟩ => show win0_4.index t 1 * 5632 + 1 * j.val = j.val; rw [hi.2]; omega

theorem block2 (t : Fin cfg0.N) (j : Fin 1024) : ((iblk m c 2 t : Vec Ideal S1x1024 .f32) (ix2 0 j) : EReal) = argG m c j := by
  have hi := index0_2 t
  unfold iblk
  rw [View.read_apply]
  show (V m c main_v2 : Vec Ideal S1x1024 .f32) _ = _
  refine Eq.trans (congrArg (V m c main_v2 : Vec Ideal S1x1024 .f32) (a₂ := ix2 0 j) (funext fun a => Fin.ext ?_)) (host_G m c j)
  match a with
  | ⟨0, _⟩ => show win0_2.index t 0 * 1 + 1 * 0 = 0; rw [hi.1]
  | ⟨1, _⟩ => show win0_2.index t 1 * 1024 + 1 * j.val = j.val; rw [hi.2]; omega

theorem block5 (t : Fin cfg0.N) (j : Fin 5632) : ((iblk m c 5 t : Vec Ideal S1x5632 .f32) (ix2 0 j) : EReal) = argB m c j := by
  have hi := index0_5 t
  unfold iblk
  rw [View.read_apply]
  show (V m c main_v4 : Vec Ideal S1x5632 .f32) _ = _
  refine Eq.trans (congrArg (V m c main_v4 : Vec Ideal S1x5632 .f32) (a₂ := ix2 0 j) (funext fun a => Fin.ext ?_)) (host_B m c j)
  match a with
  | ⟨0, _⟩ => show win0_5.index t 0 * 1 + 1 * 0 = 0; rw [hi.1]
  | ⟨1, _⟩ => show win0_5.index t 1 * 5632 + 1 * j.val = j.val; rw [hi.2]; omega

theorem block7 (t : Fin cfg0.N) (j : Fin 1024) : ((iblk m c 7 t : Vec Ideal S1x1024 .f32) (ix2 0 j) : EReal) = argF m c j := by
  have hi := index0_7 t
  unfold iblk
  rw [View.read_apply]
  show (V m c main_v6 : Vec Ideal S1x1024 .f32) _ = _
  refine Eq.trans (congrArg (V m c main_v6 : Vec Ideal S1x1024 .f32) (a₂ := ix2 0 j) (funext fun a => Fin.ext ?_)) (host_F m c j)
  match a with
  | ⟨0, _⟩ => show win0_7.index t 0 * 1 + 1 * 0 = 0; rw [hi.1]
  | ⟨1, _⟩ => show win0_7.index t 1 * 1024 + 1 * j.val = j.val; rw [hi.2]; omega

theorem block3 (t : Fin cfg0.N) (k : Fin 1024) (j : Fin 5632) :
    ((iblk m c 3 t : Vec Ideal S1024x5632 .bf16) (ix2 k j) : EReal) = argW m c k j := by
  have hi := index0_3 t
  unfold iblk
  rw [View.read_apply]
  show (V m c main_v3 : Vec Ideal S1024x5632 .bf16) _ = _
  refine Eq.trans (congrArg (V m c main_v3 : Vec Ideal S1024x5632 .bf16) (a₂ := ix2 k j) (funext fun a => Fin.ext ?_)) (host_W m c k j)
  match a with
  | ⟨0, _⟩ => show win0_3.index t 0 * 1024 + 1 * k.val = k.val; rw [hi.1]; omega
  | ⟨1, _⟩ => show win0_3.index t 1 * 5632 + 1 * j.val = j.val; rw [hi.2]; omega

theorem block6 (t : Fin cfg0.N) (k : Fin 2816) (j : Fin 1024) :
    ((iblk m c 6 t : Vec Ideal S2816x1024 .bf16) (ix2 k j) : EReal) = argD m c k j := by
  have hi := index0_6 t
  unfold iblk
  rw [View.read_apply]
  show (V m c main_v5 : Vec Ideal S2816x1024 .bf16) _ = _
  refine Eq.trans (congrArg (V m c main_v5 : Vec Ideal S2816x1024 .bf16) (a₂ := ix2 k j) (funext fun a => Fin.ext ?_)) (host_D m c k j)
  match a with
  | ⟨0, _⟩ => show win0_6.index t 0 * 2816 + 1 * k.val = k.val; rw [hi.1]; omega
  | ⟨1, _⟩ => show win0_6.index t 1 * 1024 + 1 * j.val = j.val; rw [hi.2]; omega

/-! ## The points -/

theorem outs (t : Fin cfg0.N) :
    outsAt0 m c t
      = (O (iblk m c 0 t) (iblk m c 1 t) (iblk m c 2 t) (iblk m c 3 t) (iblk m c 4 t) (iblk m c 5 t) (iblk m c 6 t),
         TL (iblk m c 0 t) (iblk m c 1 t) (iblk m c 2 t) (iblk m c 3 t),
         YN (iblk m c 0 t) (iblk m c 1 t) (iblk m c 2 t) (iblk m c 3 t) (iblk m c 4 t) (iblk m c 5 t) (iblk m c 6 t) (iblk m c 7 t)) := by
  unfold outsAt0
  rw [out0_A_8_eq, out0_A_9_eq, out0_A_10_eq]

/-- Row `R` lies in block `R / 128`. -/
theorem inN (R : Fin 1024) : R.val / 128 < cfg0.N := by
  have hN' : cfg0.N = 8 := N8
  omega

/-! ## The arrays, assembled of the points' blocks -/

def arrO : Vec Ideal S1024x1024 .f32 := fun i => (outsAt0 m c ⟨(i 0).val / 128, inN (i 0)⟩).1 (ix2 ⟨(i 0).val % 128, Nat.mod_lt _ (by decide)⟩ (i 1))
def arrT : Vec Ideal S1024x5632 .f32 := fun i => (outsAt0 m c ⟨(i 0).val / 128, inN (i 0)⟩).2.1 (ix2 ⟨(i 0).val % 128, Nat.mod_lt _ (by decide)⟩ (i 1))
def arrN : Vec Ideal S1024x1024 .f32 := fun i => (outsAt0 m c ⟨(i 0).val / 128, inN (i 0)⟩).2.2 (ix2 ⟨(i 0).val % 128, Nat.mod_lt _ (by decide)⟩ (i 1))

theorem arrO_apply (R : Fin 1024) (hR : 2 ≤ R.val % 128) (k : Fin 1024) :
    (arrO m c (ix2 R k) : EReal) = total (argX m c) (argH m c) (argG m c) (argW m c) (argT m c) (argB m c) (argD m c) R.val k := by
  show ((outsAt0 m c ⟨R.val / 128, inN R⟩).1 (ix2 ⟨R.val % 128, Nat.mod_lt _ (by decide)⟩ k) : EReal) = _
  rw [outs]
  generalize ht : (⟨R.val / 128, inN R⟩ : Fin cfg0.N) = t
  have e : t.val = R.val / 128 := by rw [← ht]
  refine (O_apply (argX m c) (argH m c) (argG m c) (argW m c) (argT m c) (argB m c) (argD m c) t.val _ _ _ _ _ _ _ (block0 m c t) (block1 m c t) (block2 m c t) (block3 m c t) (block4 m c t) (block5 m c t) (block6 m c t) ⟨R.val % 128, Nat.mod_lt _ (by decide)⟩ hR k).trans ?_
  exact congrArg (fun n => total (argX m c) (argH m c) (argG m c) (argW m c) (argT m c) (argB m c) (argD m c) n k) (by show t.val * 128 + R.val % 128 = R.val; omega)

theorem arrN_apply (R : Fin 1024) (hR : 2 ≤ R.val % 128) (k : Fin 1024) :
    (arrN m c (ix2 R k) : EReal) = normed (argX m c) (argH m c) (argG m c) (argW m c) (argT m c) (argB m c) (argD m c) (argF m c) R.val k := by
  show ((outsAt0 m c ⟨R.val / 128, inN R⟩).2.2 (ix2 ⟨R.val % 128, Nat.mod_lt _ (by decide)⟩ k) : EReal) = _
  rw [outs]
  generalize ht : (⟨R.val / 128, inN R⟩ : Fin cfg0.N) = t
  have e : t.val = R.val / 128 := by rw [← ht]
  refine (YN_apply (argX m c) (argH m c) (argG m c) (argW m c) (argT m c) (argB m c) (argD m c) (argF m c) t.val _ _ _ _ _ _ _ _ (block0 m c t) (block1 m c t) (block2 m c t) (block3 m c t) (block4 m c t) (block5 m c t) (block6 m c t) (block7 m c t) ⟨R.val % 128, Nat.mod_lt _ (by decide)⟩ hR k).trans ?_
  exact congrArg (fun n => normed (argX m c) (argH m c) (argG m c) (argW m c) (argT m c) (argB m c) (argD m c) (argF m c) n k) (by show t.val * 128 + R.val % 128 = R.val; omega)

theorem arrT_apply (R : Fin 1024) (j : Fin 5632) :
    (arrT m c (ix2 R j) : EReal) = mix (argX m c) (argH m c) (argG m c) (argW m c) R.val j := by
  show ((outsAt0 m c ⟨R.val / 128, inN R⟩).2.1 (ix2 ⟨R.val % 128, Nat.mod_lt _ (by decide)⟩ j) : EReal) = _
  rw [outs]
  generalize ht : (⟨R.val / 128, inN R⟩ : Fin cfg0.N) = t
  have e : t.val = R.val / 128 := by rw [← ht]
  refine (TL_apply (argX m c) (argH m c) (argG m c) (argW m c) t.val _ _ _ _ (block0 m c t) (block1 m c t) (block2 m c t) (block3 m c t) ⟨R.val % 128, Nat.mod_lt _ (by decide)⟩ j).trans ?_
  exact congrArg (fun n => mix (argX m c) (argH m c) (argG m c) (argW m c) n j) (by show t.val * 128 + R.val % 128 = R.val; omega)

theorem written8 (t : Fin cfg0.N) :
    (dats m 0 c).flushed 8 t = ((cfg0.win 8).blk t).view.read (Elt Ideal) (arrO m c) := by
  have hi := index0_8 t
  have hN := t.isLt
  have hN' : cfg0.N = 8 := N8
  show (cfg0.win 8).cut (cfg0.grid.coords t) ((dats m 0 c).after 8 t) = _
  rw [after0_8]
  funext j
  rw [View.read_apply]
  have h0 : (j 0).val < 128 := (j 0).isLt
  have h1 : (j 1).val < 1024 := (j 1).isLt
  have ej : j = ix2 (⟨(j 0).val, h0⟩ : Fin 128) (⟨(j 1).val, h1⟩ : Fin 1024) := funext fun a => by
    match a with
    | ⟨0, _⟩ => rfl
    | ⟨1, _⟩ => rfl
  refine Eq.trans (b := arrO m c (ix2 ⟨t.val * 128 + (j 0).val, by omega⟩ ⟨(j 1).val, h1⟩)) ?_ (congrArg (arrO m c) (funext fun a => Fin.ext ?_))
  · show (outsAt0 m c t).1 j = (outsAt0 m c ⟨(t.val * 128 + (j 0).val) / 128, _⟩).1 (ix2 ⟨(t.val * 128 + (j 0).val) % 128, _⟩ ⟨(j 1).val, h1⟩)
    refine congrArg₂ (fun s i => (outsAt0 m c s).1 i) (Fin.ext ?_) (ej.trans (congrArg (ix2 · _) (Fin.ext ?_)))
    · show t.val = (t.val * 128 + (j 0).val) / 128
      omega
    · show (j 0).val = (t.val * 128 + (j 0).val) % 128
      omega
  · match a with
    | ⟨0, _⟩ => show t.val * 128 + (j 0).val = win0_8.index t 0 * 128 + 1 * (j 0).val; rw [hi.1]; omega
    | ⟨1, _⟩ => show (j 1).val = win0_8.index t 1 * 1024 + 1 * (j 1).val; rw [hi.2]; omega

theorem final8 : (dats m 0 c).arrAt 8 cfg0.N = arrO m c :=
  (dats m 0 c).arrAt_eq_of_cover 8 (arrO m c) (fun t _ => written8 m c t) fun i => by
    have h0 : (i 0 : Nat) < 1024 := (i 0).isLt
    have h1 : (i 1 : Nat) < 1024 := (i 1).isLt
    have hN' : cfg0.N = 8 := N8
    let t : Fin cfg0.N := ⟨(i 0 : Nat) / 128, by omega⟩
    have hi := index0_8 t
    refine ⟨t, flush0_8 t, ?_⟩
    show i ∈ ((View.whole main_v7_0).slice (win0_8.rect t)).set
    rw [View.set_slice_whole, Rect.mem_set_unit]
    intro a
    match a with
    | ⟨0, _⟩ =>
      show win0_8.index t 0 * 128 ≤ (i 0 : Nat) ∧ (i 0 : Nat) < win0_8.index t 0 * 128 + 128
      rw [hi.1]
      show (i 0 : Nat) / 128 * 128 ≤ (i 0 : Nat) ∧ (i 0 : Nat) < (i 0 : Nat) / 128 * 128 + 128
      omega
    | ⟨1, _⟩ =>
      show win0_8.index t 1 * 1024 ≤ (i 1 : Nat) ∧ (i 1 : Nat) < win0_8.index t 1 * 1024 + 1024
      rw [hi.2]; omega

theorem written9 (t : Fin cfg0.N) :
    (dats m 0 c).flushed 9 t = ((cfg0.win 9).blk t).view.read (Elt Ideal) (arrT m c) := by
  have hi := index0_9 t
  have hN := t.isLt
  have hN' : cfg0.N = 8 := N8
  show (cfg0.win 9).cut (cfg0.grid.coords t) ((dats m 0 c).after 9 t) = _
  rw [after0_9]
  funext j
  rw [View.read_apply]
  have h0 : (j 0).val < 128 := (j 0).isLt
  have h1 : (j 1).val < 5632 := (j 1).isLt
  have ej : j = ix2 (⟨(j 0).val, h0⟩ : Fin 128) (⟨(j 1).val, h1⟩ : Fin 5632) := funext fun a => by
    match a with
    | ⟨0, _⟩ => rfl
    | ⟨1, _⟩ => rfl
  refine Eq.trans (b := arrT m c (ix2 ⟨t.val * 128 + (j 0).val, by omega⟩ ⟨(j 1).val, h1⟩)) ?_ (congrArg (arrT m c) (funext fun a => Fin.ext ?_))
  · show (outsAt0 m c t).2.1 j = (outsAt0 m c ⟨(t.val * 128 + (j 0).val) / 128, _⟩).2.1 (ix2 ⟨(t.val * 128 + (j 0).val) % 128, _⟩ ⟨(j 1).val, h1⟩)
    refine congrArg₂ (fun s i => (outsAt0 m c s).2.1 i) (Fin.ext ?_) (ej.trans (congrArg (ix2 · _) (Fin.ext ?_)))
    · show t.val = (t.val * 128 + (j 0).val) / 128
      omega
    · show (j 0).val = (t.val * 128 + (j 0).val) % 128
      omega
  · match a with
    | ⟨0, _⟩ => show t.val * 128 + (j 0).val = win0_9.index t 0 * 128 + 1 * (j 0).val; rw [hi.1]; omega
    | ⟨1, _⟩ => show (j 1).val = win0_9.index t 1 * 5632 + 1 * (j 1).val; rw [hi.2]; omega

theorem final9 : (dats m 0 c).arrAt 9 cfg0.N = arrT m c :=
  (dats m 0 c).arrAt_eq_of_cover 9 (arrT m c) (fun t _ => written9 m c t) fun i => by
    have h0 : (i 0 : Nat) < 1024 := (i 0).isLt
    have h1 : (i 1 : Nat) < 5632 := (i 1).isLt
    have hN' : cfg0.N = 8 := N8
    let t : Fin cfg0.N := ⟨(i 0 : Nat) / 128, by omega⟩
    have hi := index0_9 t
    refine ⟨t, flush0_9 t, ?_⟩
    show i ∈ ((View.whole main_v7_1).slice (win0_9.rect t)).set
    rw [View.set_slice_whole, Rect.mem_set_unit]
    intro a
    match a with
    | ⟨0, _⟩ =>
      show win0_9.index t 0 * 128 ≤ (i 0 : Nat) ∧ (i 0 : Nat) < win0_9.index t 0 * 128 + 128
      rw [hi.1]
      show (i 0 : Nat) / 128 * 128 ≤ (i 0 : Nat) ∧ (i 0 : Nat) < (i 0 : Nat) / 128 * 128 + 128
      omega
    | ⟨1, _⟩ =>
      show win0_9.index t 1 * 5632 ≤ (i 1 : Nat) ∧ (i 1 : Nat) < win0_9.index t 1 * 5632 + 5632
      rw [hi.2]; omega

theorem written10 (t : Fin cfg0.N) :
    (dats m 0 c).flushed 10 t = ((cfg0.win 10).blk t).view.read (Elt Ideal) (arrN m c) := by
  have hi := index0_10 t
  have hN := t.isLt
  have hN' : cfg0.N = 8 := N8
  show (cfg0.win 10).cut (cfg0.grid.coords t) ((dats m 0 c).after 10 t) = _
  rw [after0_10]
  funext j
  rw [View.read_apply]
  have h0 : (j 0).val < 128 := (j 0).isLt
  have h1 : (j 1).val < 1024 := (j 1).isLt
  have ej : j = ix2 (⟨(j 0).val, h0⟩ : Fin 128) (⟨(j 1).val, h1⟩ : Fin 1024) := funext fun a => by
    match a with
    | ⟨0, _⟩ => rfl
    | ⟨1, _⟩ => rfl
  refine Eq.trans (b := arrN m c (ix2 ⟨t.val * 128 + (j 0).val, by omega⟩ ⟨(j 1).val, h1⟩)) ?_ (congrArg (arrN m c) (funext fun a => Fin.ext ?_))
  · show (outsAt0 m c t).2.2 j = (outsAt0 m c ⟨(t.val * 128 + (j 0).val) / 128, _⟩).2.2 (ix2 ⟨(t.val * 128 + (j 0).val) % 128, _⟩ ⟨(j 1).val, h1⟩)
    refine congrArg₂ (fun s i => (outsAt0 m c s).2.2 i) (Fin.ext ?_) (ej.trans (congrArg (ix2 · _) (Fin.ext ?_)))
    · show t.val = (t.val * 128 + (j 0).val) / 128
      omega
    · show (j 0).val = (t.val * 128 + (j 0).val) % 128
      omega
  · match a with
    | ⟨0, _⟩ => show t.val * 128 + (j 0).val = win0_10.index t 0 * 128 + 1 * (j 0).val; rw [hi.1]; omega
    | ⟨1, _⟩ => show (j 1).val = win0_10.index t 1 * 1024 + 1 * (j 1).val; rw [hi.2]; omega

theorem final10 : (dats m 0 c).arrAt 10 cfg0.N = arrN m c :=
  (dats m 0 c).arrAt_eq_of_cover 10 (arrN m c) (fun t _ => written10 m c t) fun i => by
    have h0 : (i 0 : Nat) < 1024 := (i 0).isLt
    have h1 : (i 1 : Nat) < 1024 := (i 1).isLt
    have hN' : cfg0.N = 8 := N8
    let t : Fin cfg0.N := ⟨(i 0 : Nat) / 128, by omega⟩
    have hi := index0_10 t
    refine ⟨t, flush0_10 t, ?_⟩
    show i ∈ ((View.whole main_v7_2).slice (win0_10.rect t)).set
    rw [View.set_slice_whole, Rect.mem_set_unit]
    intro a
    match a with
    | ⟨0, _⟩ =>
      show win0_10.index t 0 * 128 ≤ (i 0 : Nat) ∧ (i 0 : Nat) < win0_10.index t 0 * 128 + 128
      rw [hi.1]
      show (i 0 : Nat) / 128 * 128 ≤ (i 0 : Nat) ∧ (i 0 : Nat) < (i 0 : Nat) / 128 * 128 + 128
      omega
    | ⟨1, _⟩ =>
      show win0_10.index t 1 * 1024 ≤ (i 1 : Nat) ∧ (i 1 : Nat) < win0_10.index t 1 * 1024 + 1024
      rw [hi.2]; omega

end Cert.KFsIdeal.Fs
end
-- ==== Proof.Fs.Claim.lean ====
/-
  The sampled rows' feed-forward network: the kernel and the reference end with the same three results over the extended reals.
-/
module

public import proofs.«01_k».proof.Defs
public import proofs.«01_k».proof.Proof.Fs.Ref
public import proofs.«01_k».proof.Proof.Fs.Join

@[expose] public section

noncomputable section
open Idealize.ShloMosaic Idealize.ShloMosaic.TcCoe Idealize.SL.Sem
namespace Cert.Fs
open Cert.KFsIdeal Cert.KFsIdeal.Fs

section
variable (m : (ℓ : Loc nD τ sig) → Buf (Elt Ideal) ℓ) (c : Dev nD)

/-- The new rows with the network's output added, the last two widened rows of each sequence, and the new rows normalised. -/
def resO : Vec Ideal S128x4x1024 .f32 := fun i => total (argX m c) (argH m c) (argG m c) (argW m c) (argT m c) (argB m c) (argD m c) (8 * (i 0).val + 4 + (i 1).val) (i 2)
def resT : Vec Ideal S128x2x5632 .f32 := fun i => mix (argX m c) (argH m c) (argG m c) (argW m c) (8 * (i 0).val + 6 + (i 1).val) (i 2)
def resN : Vec Ideal S128x4x1024 .f32 := fun i => normed (argX m c) (argH m c) (argG m c) (argW m c) (argT m c) (argB m c) (argD m c) (argF m c) (8 * (i 0).val + 4 + (i 1).val) (i 2)

theorem cutX (y : FVec Ideal S1024x1024 .f32) (b : Fin 128) (t : Fin 4) (k : Fin 1024) :
    ((extractStridedSlice S128x4x1024 ![0, 4, 0] (shapeCast S128x8x1024 y Gen.shapeCasts_S1024x1024_S128x8x1024) Gen.slices_S128x8x1024_S128x4x1024_0_4_0 : FVec Ideal S128x4x1024 .f32) (ix3 b t k) : EReal)
      = y (ix2 ⟨8 * b.val + 4 + t.val, by omega⟩ k) := by
  pointwise []
  exact congrArg (fun r => y (ix2 r k)) (Fin.ext (by show b.val * 8 + (4 + t.val) = 8 * b.val + 4 + t.val; omega))

theorem cutT (y : FVec Ideal S1024x5632 .f32) (b : Fin 128) (t : Fin 2) (k : Fin 5632) :
    ((extractStridedSlice S128x2x5632 ![0, 6, 0] (shapeCast S128x8x5632 y Gen.shapeCasts_S1024x5632_S128x8x5632) Gen.slices_S128x8x5632_S128x2x5632_0_6_0 : FVec Ideal S128x2x5632 .f32) (ix3 b t k) : EReal)
      = y (ix2 ⟨8 * b.val + 6 + t.val, by omega⟩ k) := by
  pointwise []
  exact congrArg (fun r => y (ix2 r k)) (Fin.ext (by show b.val * 8 + (6 + t.val) = 8 * b.val + 6 + t.val; omega))

theorem inj : Function.Injective (Pipeline.arrRef spec0) := by
  decide

theorem tailO : Pipeline.afterTail₀ cfgs (Gen.dats m) 0 (Gen.V0 m) [Gen.hostOps1] c main_v9 = resO m c := by
  unfold Pipeline.afterTail₀
  simp only [List.flatten_cons, List.flatten_nil, List.append_nil]
  unfold Gen.hostOps1
  after_reads_simp
  have e : Pipeline.withArrays (cfgs 0).spec c (Gen.V0 m c) (fun w => (Gen.dats m 0 c).arrAt w (cfgs 0).N) (Proc.tc.devRef main_v7_0) = arrO m c :=
    (Pipeline.withArrays_arr spec0 inj c (Gen.V0 m c) (fun w => (Gen.dats m 0 c).arrAt w (cfgs 0).N) 8).trans (final8 m c)
  rw [e]
  funext i
  have ei : i = ix3 (i 0) (i 1) (i 2) := funext fun a => by
    match a with
    | ⟨0, _⟩ => rfl
    | ⟨1, _⟩ => rfl
    | ⟨2, _⟩ => rfl
  have ht : (i 1).val < 4 := (i 1).isLt
  exact (congrArg _ ei).trans ((cutX (arrO m c) (i 0) (i 1) (i 2)).trans (arrO_apply m c _ (by show 2 ≤ (8 * (i 0).val + 4 + (i 1).val) % 128; omega) (i 2)))

theorem tailT : Pipeline.afterTail₀ cfgs (Gen.dats m) 0 (Gen.V0 m) [Gen.hostOps1] c main_v11 = resT m c := by
  unfold Pipeline.afterTail₀
  simp only [List.flatten_cons, List.flatten_nil, List.append_nil]
  unfold Gen.hostOps1
  after_reads_simp
  have e : Pipeline.withArrays (cfgs 0).spec c (Gen.V0 m c) (fun w => (Gen.dats m 0 c).arrAt w (cfgs 0).N) (Proc.tc.devRef main_v7_1) = arrT m c :=
    (Pipeline.withArrays_arr spec0 inj c (Gen.V0 m c) (fun w => (Gen.dats m 0 c).arrAt w (cfgs 0).N) 9).trans (final9 m c)
  rw [e]
  funext i
  have ei : i = ix3 (i 0) (i 1) (i 2) := funext fun a => by
    match a with
    | ⟨0, _⟩ => rfl
    | ⟨1, _⟩ => rfl
    | ⟨2, _⟩ => rfl
  have ht : (i 1).val < 2 := (i 1).isLt
  exact (congrArg _ ei).trans ((cutT (arrT m c) (i 0) (i 1) (i 2)).trans (arrT_apply m c _ (i 2)))

theorem tailN : Pipeline.afterTail₀ cfgs (Gen.dats m) 0 (Gen.V0 m) [Gen.hostOps1] c main_v13 = resN m c := by
  unfold Pipeline.afterTail₀
  simp only [List.flatten_cons, List.flatten_nil, List.append_nil]
  unfold Gen.hostOps1
  after_reads_simp
  have e : Pipeline.withArrays (cfgs 0).spec c (Gen.V0 m c) (fun w => (Gen.dats m 0 c).arrAt w (cfgs 0).N) (Proc.tc.devRef main_v7_2) = arrN m c :=
    (Pipeline.withArrays_arr spec0 inj c (Gen.V0 m c) (fun w => (Gen.dats m 0 c).arrAt w (cfgs 0).N) 10).trans (final10 m c)
  rw [e]
  funext i
  have ei : i = ix3 (i 0) (i 1) (i 2) := funext fun a => by
    match a with
    | ⟨0, _⟩ => rfl
    | ⟨1, _⟩ => rfl
    | ⟨2, _⟩ => rfl
  have ht : (i 1).val < 4 := (i 1).isLt
  exact (congrArg _ ei).trans ((cutX (arrN m c) (i 0) (i 1) (i 2)).trans (arrN_apply m c _ (by show 2 ≤ (8 * (i 0).val + 4 + (i 1).val) % 128; omega) (i 2)))

end

theorem algebraic : Cert.algebraic_KFsIdeal_RFsIdeal (hKFsIdeal := Cert.KFsIdeal.Gen.facts) (hRFsIdeal := Cert.RFsIdeal.Gen.facts) := by
  intro m g m' g' _ hm
  refine ⟨fun c => resO m c, fun c => resT m c, fun c => resN m c, ?_, ?_⟩
  · have hr := θ_run_and (Cert.KFsIdeal.Gen.run_main m g) (Cert.KFsIdeal.Gen.unchanged m g)
    refine (θ_run _ _ _).mono (fun r h c => ?_) hr
    have hO := (h.1 c).2 main_v9 (Pipeline.mem_restRefs_of main_v9 (by decide) (by decide))
    have hT := (h.1 c).2 main_v11 (Pipeline.mem_restRefs_of main_v11 (by decide) (by decide))
    have hN := (h.1 c).2 main_v13 (Pipeline.mem_restRefs_of main_v13 (by decide) (by decide))
    exact ⟨hO.trans (tailO m c), hT.trans (tailT m c), hN.trans (tailN m c), h.2 c⟩
  · refine (θ_run _ _ _).mono (fun r h c => ?_) (Cert.RFsIdeal.Value.run m' g')
    obtain ⟨h0, h1, h2, h3⟩ := h c
    obtain ⟨a0, a1, a2, a3, a4, a5, a6, a7⟩ := hm c
    refine ⟨(h0.trans (Cert.RFsIdeal.Fs.res46 m' c)).trans (funext fun i => ?_), h1.trans (funext fun i => ?_), (h2.trans (Cert.RFsIdeal.Fs.res59 m' c)).trans (funext fun i => ?_), h3⟩
    · have ei : i = ix3 (i 0) (i 1) (i 2) := funext fun a => by
        match a with
        | ⟨0, _⟩ => rfl
        | ⟨1, _⟩ => rfl
        | ⟨2, _⟩ => rfl
      exact (congrArg _ ei).trans (Cert.RFsIdeal.Fs.outO _ _ _ _ _ _ _ _ _ _ _ _ _ _ a0 a1 a2 a3 a4 a5 a6 (i 0) (i 1) (i 2))
    · have ei : i = ix3 (i 0) (i 1) (i 2) := funext fun a => by
        match a with
        | ⟨0, _⟩ => rfl
        | ⟨1, _⟩ => rfl
        | ⟨2, _⟩ => rfl
      exact (congrArg _ ei).trans (Cert.RFsIdeal.Fs.outT _ _ _ _ _ _ _ _ a0 a1 a2 a3 (i 0) (i 1) (i 2))
    · have ei : i = ix3 (i 0) (i 1) (i 2) := funext fun a => by
        match a with
        | ⟨0, _⟩ => rfl
        | ⟨1, _⟩ => rfl
        | ⟨2, _⟩ => rfl
      exact (congrArg _ ei).trans (Cert.RFsIdeal.Fs.outN _ _ _ _ _ _ _ _ _ _ _ _ _ _ _ _ a0 a1 a2 a3 a4 a5 a6 a7 (i 0) (i 1) (i 2))

end Cert.Fs
end
-- ==== Proof.Ein.Kernel.lean ====
/-
  The even layers' input projection, entry by entry: a result's entry is the normalised row against a column of the packed
  weights, where the three gates' columns are each widened to 128 lanes by zeros.
-/
module

public import proofs.«01_k».proof.Proof.Gen.KEinIdeal.Value
public import proofs.«01_k».proof.Proof.In.Norm
public import Idealize.ShloMosaic.Lib.StableHlo.RunRead
public import Idealize.ShloMosaic.Lib.Pipeline.ValueKit

@[expose] public section

noncomputable section
open Idealize.ShloMosaic Idealize.ShloMosaic.TcCoe Idealize.SL.Sem Idealize.ShloMosaic.StableHlo
open Idealize.ShloMosaic.Pipeline (Dat)
namespace Cert.KEinIdeal.Ein
open Cert.KEinIdeal Cert.KEinIdeal.Gen Cert.KEinIdeal.Value Cert.Nrm
variable (m : (ℓ : Loc nD τ sig) → Buf (Elt Ideal) ℓ) (c : Dev nD)

/-- The rows, the scale and the weights the program is launched with. -/
def argX (r : Fin 16384) (j : Fin 1024) : EReal := (m ((c : Thread nD τ).loc main_arg0) : Vec Ideal S16384x1024 .f32) (ix2 r j)
def argG (j : Fin 1024) : EReal := (m ((c : Thread nD τ).loc main_arg1) : Vec Ideal S1024 .f32) (ix1 j)
def argW (k : Fin 1024) (j : Fin 5656) : EReal := (m ((c : Thread nD τ).loc main_arg2) : Vec Ideal S1024x5656 .f32) (ix2 k j)

/-- The entry of `f` that packed column `j` holds: the gates' columns move behind the others, each group padded with zeros. -/
def packed (f : Fin 5656 → EReal) (j : Fin 6016) : EReal :=
  if h : j.val < 2048 then f ⟨j.val, by omega⟩
  else if h : j.val < 5632 then f ⟨j.val + 8, by omega⟩
  else if h : j.val < 5636 then f ⟨j.val - 3584, by omega⟩
  else if h : j.val < 5760 then 0
  else if h : j.val < 5764 then f ⟨j.val - 3708, by omega⟩
  else if h : j.val < 5888 then 0
  else if h : j.val < 5904 then f ⟨j.val - 248, by omega⟩
  else 0

/-- Packing commutes with a product's sum. -/
theorem packed_sum (a : Fin 1024 → EReal) (W : Fin 1024 → Fin 5656 → EReal) (j : Fin 6016) :
    ∑ k, a k * packed (W k) j = packed (fun j => ∑ k, a k * W k j) j := by
  unfold packed
  split_ifs <;> simp

/-- The projection of the normalised row `r`, at packed column `j`. -/
def proj (r : Fin 16384) (j : Fin 6016) : EReal := ∑ k : Fin 1024, rms (argX m c r) (argG m c) k * packed (argW m c k) j

theorem N64 : cfg0.N = 64 := N_0

theorem pay4_apply (x : Vec Ideal S256x1024 .f32) (g : Vec Ideal S1x1024 .f32) (r : Fin 256) (j : Fin 1024) :
    (k0_pay4 x g (ix2 r j) : EReal) = rms (fun k => x (ix2 r k)) (fun k => g (ix2 0 k)) j := by
  pointwise [k0_pay4]
  rfl

/-- Nine groups of columns side by side. -/
def pk (a b : FVec Ideal S1024x512 .f32) (v o z : FVec Ideal S1024x1024 .f32) (x : FVec Ideal S1024x1536 .f32) (i f d : FVec Ideal S1024x128 .f32) : FVec Ideal S1024x6016 .f32 :=
  concatenate S1024x6016 1 [⟨S1024x512, a⟩, ⟨S1024x512, b⟩, ⟨S1024x1024, v⟩, ⟨S1024x1024, o⟩, ⟨S1024x1024, z⟩, ⟨S1024x1536, x⟩, ⟨S1024x128, i⟩, ⟨S1024x128, f⟩, ⟨S1024x128, d⟩]
    concatenates_S1024x512_S1024x512_S1024x1024_S1024x1024_S1024x1024_S1024x1536_S1024x128_S1024x128_S1024x128_S1024x6016_d1

/-- A gate's four columns widened to 128 lanes. -/
def pd4 (a : FVec Ideal S1024x4 .f32) : FVec Ideal S1024x128 .f32 :=
  pad S1024x128 ![0, 0] ![0, 124] ![0, 0] a (sitofp .f32 (constantI S_ 32 0#32) : FVec Ideal S_ .f32) pads_S1024x4_S1024x128_000_01240 h_S_

/-- The sixteen columns of the step widened to 128 lanes. -/
def pd16 (a : FVec Ideal S1024x16 .f32) : FVec Ideal S1024x128 .f32 :=
  pad S1024x128 ![0, 0] ![0, 112] ![0, 0] a (sitofp .f32 (constantI S_ 32 0#32) : FVec Ideal S_ .f32) pads_S1024x16_S1024x128_000_01120 h_S_

theorem sitofp_zero : (FloatOps.sitofp (F := Ideal) FTy.f32 0#32 : EReal) = 0 := by
  show (((0#32 : BitVec 32).toInt : ℝ) : EReal) = 0
  simp

theorem pd4_apply (a : FVec Ideal S1024x4 .f32) (k : Fin 1024) (j : Fin 128) :
    (pd4 a (ix2 k j) : EReal) = if h : j.val < 4 then a (ix2 k ⟨j.val, h⟩) else 0 := by
  pointwise [pd4]
  rw [sitofp_zero]

theorem pd16_apply (a : FVec Ideal S1024x16 .f32) (k : Fin 1024) (j : Fin 128) :
    (pd16 a (ix2 k j) : EReal) = if h : j.val < 16 then a (ix2 k ⟨j.val, h⟩) else 0 := by
  pointwise [pd16]
  rw [sitofp_zero]

theorem pk_apply (a b : FVec Ideal S1024x512 .f32) (v o z : FVec Ideal S1024x1024 .f32) (x : FVec Ideal S1024x1536 .f32) (i f d : FVec Ideal S1024x128 .f32)
    (k : Fin 1024) (w : Fin 5656 → EReal) (ha : ∀ j : Fin 512, (a (ix2 k j) : EReal) = w ⟨j.val, by omega⟩)
    (hb : ∀ j : Fin 512, (b (ix2 k j) : EReal) = w ⟨512 + j.val, by omega⟩) (hv : ∀ j : Fin 1024, (v (ix2 k j) : EReal) = w ⟨1024 + j.val, by omega⟩)
    (ho : ∀ j : Fin 1024, (o (ix2 k j) : EReal) = w ⟨2056 + j.val, by omega⟩) (hz : ∀ j : Fin 1024, (z (ix2 k j) : EReal) = w ⟨3080 + j.val, by omega⟩)
    (hx : ∀ j : Fin 1536, (x (ix2 k j) : EReal) = w ⟨4104 + j.val, by omega⟩)
    (hi : ∀ j : Fin 128, (i (ix2 k j) : EReal) = if h : j.val < 4 then w ⟨2048 + j.val, by omega⟩ else 0)
    (hf : ∀ j : Fin 128, (f (ix2 k j) : EReal) = if h : j.val < 4 then w ⟨2052 + j.val, by omega⟩ else 0)
    (hd : ∀ j : Fin 128, (d (ix2 k j) : EReal) = if h : j.val < 16 then w ⟨5640 + j.val, by omega⟩ else 0) (j : Fin 6016) :
    (pk a b v o z x i f d (ix2 k j) : EReal) = packed w j := by
  pointwise [pk]
  simp only [ha, hb, hv, ho, hz, hx, hi, hf, hd]
  unfold packed
  have hj := j.isLt
  have hr : j.val < 512 ∨ (512 ≤ j.val ∧ j.val < 1024) ∨ (1024 ≤ j.val ∧ j.val < 2048) ∨ (2048 ≤ j.val ∧ j.val < 3072) ∨ (3072 ≤ j.val ∧ j.val < 4096)
      ∨ (4096 ≤ j.val ∧ j.val < 5632) ∨ (5632 ≤ j.val ∧ j.val < 5636) ∨ (5636 ≤ j.val ∧ j.val < 5760) ∨ (5760 ≤ j.val ∧ j.val < 5764)
      ∨ (5764 ≤ j.val ∧ j.val < 5888) ∨ (5888 ≤ j.val ∧ j.val < 5904) ∨ 5904 ≤ j.val := by omega
  rcases hr with h | h | h | h | h | h | h | h | h | h | h | h
  all_goals
    repeat first
      | rw [dif_pos (by omega)]
      | rw [dif_neg (by omega)]
    try (refine congrArg w (Fin.ext ?_); simp only []; omega)

theorem pk_congr {a a' b b' : FVec Ideal S1024x512 .f32} {v v' o o' z z' : FVec Ideal S1024x1024 .f32} {x x' : FVec Ideal S1024x1536 .f32} {i i' f f' d d' : FVec Ideal S1024x128 .f32}
    (h1 : a = a') (h2 : b = b') (h3 : v = v') (h4 : o = o') (h5 : z = z') (h6 : x = x') (h7 : i = i') (h8 : f = f') (h9 : d = d') :
    pk a b v o z x i f d = pk a' b' v' o' z' x' i' f' d' := by
  rw [h1, h2, h3, h4, h5, h6, h7, h8, h9]

theorem weights (k : Fin 1024) (j : Fin 6016) : ((V m c main_v14 : Vec Ideal S1024x6016 .bf16) (ix2 k j) : EReal) = packed (argW m c k) j := by
  have key : ∀ w : FVec Ideal S1024x5656 .f32,
      (pk (extractStridedSlice S1024x512 ![0, 0] w slices_S1024x5656_S1024x512_0_0) (extractStridedSlice S1024x512 ![0, 512] w slices_S1024x5656_S1024x512_0_512)
        (extractStridedSlice S1024x1024 ![0, 1024] w slices_S1024x5656_S1024x1024_0_1024) (extractStridedSlice S1024x1024 ![0, 2056] w slices_S1024x5656_S1024x1024_0_2056)
        (extractStridedSlice S1024x1024 ![0, 3080] w slices_S1024x5656_S1024x1024_0_3080) (extractStridedSlice S1024x1536 ![0, 4104] w slices_S1024x5656_S1024x1536_0_4104)
        (pd4 (extractStridedSlice S1024x4 ![0, 2048] w slices_S1024x5656_S1024x4_0_2048)) (pd4 (extractStridedSlice S1024x4 ![0, 2052] w slices_S1024x5656_S1024x4_0_2052))
        (pd16 (extractStridedSlice S1024x16 ![0, 5640] w slices_S1024x5656_S1024x16_0_5640)) (ix2 k j) : EReal) = packed (fun j => w (ix2 k j)) j := fun w => by
    refine pk_apply _ _ _ _ _ _ _ _ _ k _ ?_ ?_ ?_ ?_ ?_ ?_ ?_ ?_ ?_ j <;> intro j <;> pointwise [pd4, pd16]
    all_goals first | rfl | rw [sitofp_zero]
  refine Eq.trans ?_ (key (m ((c : Thread nD τ).loc main_arg2)))
  simp only [V, List.flatten_cons, List.flatten_nil, List.append_nil, StableHlo.after_append]
  after_reads_simp
  dsimp only [Matrix.cons_val]
  show (pk _ _ _ _ _ _ _ _ _ (ix2 k j) : EReal) = _
  refine congrFun (pk_congr ?_ ?_ ?_ ?_ ?_ ?_ ?_ ?_ ?_) (ix2 k j)
  all_goals
    after_reads_simp
    try simp only [TRef.ofBuf, TRef.toBuf, TRef.of, cast_eq]
    try rfl

theorem scale (j : Fin 1024) : ((V m c main_v0 : Vec Ideal S1x1024 .f32) (ix2 0 j) : EReal) = argG m c j := by
  simp only [V, List.flatten_cons, List.flatten_nil, List.append_nil, StableHlo.after_append]
  after_reads_simp
  try simp only [TRef.ofBuf, TRef.toBuf, TRef.of, cast_eq]
  pointwise []
  rfl

theorem index0_0 : ∀ t : Fin grid0.N, win0_0.index t 0 = t.val ∧ win0_0.index t 1 = 0 := by decide +kernel
theorem index0_1 : ∀ t : Fin grid0.N, win0_1.index t 0 = 0 ∧ win0_1.index t 1 = 0 := by decide +kernel
theorem index0_2 : ∀ t : Fin grid0.N, win0_2.index t 0 = 0 ∧ win0_2.index t 1 = 0 := by decide +kernel

theorem block0 (t : Fin cfg0.N) (r : Fin 256) (j : Fin 1024) (p : t.val * 256 + r.val < 16384) :
    ((iblk m c 0 t : Vec Ideal S256x1024 .f32) (ix2 r j) : EReal) = argX m c ⟨t.val * 256 + r.val, p⟩ j := by
  have hi := index0_0 t
  unfold iblk
  rw [View.read_apply]
  show (V m c main_arg0 : Vec Ideal S16384x1024 .f32) _ = _
  rw [V_main_arg0]
  unfold argX
  congr 1
  funext a
  apply Fin.ext
  match a with
  | ⟨0, _⟩ => show win0_0.index t 0 * 256 + 1 * r.val = t.val * 256 + r.val; rw [hi.1]; omega
  | ⟨1, _⟩ => show win0_0.index t 1 * 1024 + 1 * j.val = j.val; rw [hi.2]; omega

theorem block1 (t : Fin cfg0.N) (j : Fin 1024) : ((iblk m c 1 t : Vec Ideal S1x1024 .f32) (ix2 0 j) : EReal) = argG m c j := by
  have hi := index0_1 t
  unfold iblk
  rw [View.read_apply]
  show (V m c main_v0 : Vec Ideal S1x1024 .f32) _ = _
  refine Eq.trans (congrArg (V m c main_v0 : Vec Ideal S1x1024 .f32) (a₂ := ix2 0 j) (funext fun a => Fin.ext ?_)) (scale m c j)
  match a with
  | ⟨0, _⟩ => show win0_1.index t 0 * 1 + 1 * 0 = 0; rw [hi.1]
  | ⟨1, _⟩ => show win0_1.index t 1 * 1024 + 1 * j.val = j.val; rw [hi.2]; omega

theorem block2 (t : Fin cfg0.N) (k : Fin 1024) (j : Fin 6016) :
    ((iblk m c 2 t : Vec Ideal S1024x6016 .bf16) (ix2 k j) : EReal) = packed (argW m c k) j := by
  have hi := index0_2 t
  unfold iblk
  rw [View.read_apply]
  show (V m c main_v14 : Vec Ideal S1024x6016 .bf16) _ = _
  refine Eq.trans (congrArg (V m c main_v14 : Vec Ideal S1024x6016 .bf16) (a₂ := ix2 k j) (funext fun a => Fin.ext ?_)) (weights m c k j)
  match a with
  | ⟨0, _⟩ => show win0_2.index t 0 * 1024 + 1 * k.val = k.val; rw [hi.1]; omega
  | ⟨1, _⟩ => show win0_2.index t 1 * 6016 + 1 * j.val = j.val; rw [hi.2]; omega

/-! ## The columns from 0 -/

/-- The result 0, as contents of its array. -/
def res0 : Vec Ideal S16384x512 .f32 := fun i => proj m c (i 0) ⟨0 + (i 1).val, by have h : (i 1).val < 512 := (i 1).isLt; omega⟩

theorem out3_apply (x0 : Vec Ideal S256x1024 .f32) (x1 : Vec Ideal S1x1024 .f32) (x2 : Vec Ideal S1024x6016 .bf16) (r : Fin 256) (j : Fin 512)
    (X G : Fin 1024 → EReal) (W : Fin 1024 → Fin 6016 → EReal) (hX : ∀ k, x0 (ix2 r k) = X k) (hG : ∀ k, x1 (ix2 0 k) = G k)
    (hW : ∀ k j, x2 (ix2 k j) = W k j) :
    (out0_3 x0 x1 x2 (ix2 r j) : EReal) = ∑ k : Fin 1024, rms X G k * W k ⟨0 + j.val, by omega⟩ := by
  obtain rfl : (fun k => x0 (ix2 r k)) = X := funext hX
  obtain rfl : (fun k => x1 (ix2 0 k)) = G := funext hG
  unfold out0_3
  rw [View.canon_unit_zero (S := S256x512) (by funext a; fin_cases a <;> rfl),
    View.ld_unit_zero (S := S256x1024) (by funext a; fin_cases a <;> rfl),
    View.ld_unit_zero (S := S1x1024) (by funext a; fin_cases a <;> rfl)]
  pointwise [k0_pay5]
  refine Finset.sum_congr rfl fun k _ => congrArg₂ (· * ·) (pay4_apply x0 x1 r k) ?_
  refine Eq.trans (congrArg x2 (a₂ := ix2 k ⟨0 + j.val, by omega⟩) ?_) ((hW k ⟨0 + j.val, by omega⟩).trans (congrArg (W k) (Fin.ext (by first | rfl | exact Nat.zero_add _))))
  funext a
  apply Fin.ext
  match a with
  | ⟨0, _⟩ => rfl
  | ⟨1, _⟩ => first | rfl | (show j.val = 0 + j.val; omega)

theorem index0_3 : ∀ t : Fin grid0.N, win0_3.index t 0 = t.val ∧ win0_3.index t 1 = 0 := by decide +kernel

theorem written3 (t : Fin cfg0.N) : (dats m 0 c).flushed 3 t = ((cfg0.win 3).blk t).view.read (Elt Ideal) (res0 m c) := by
  have hi := index0_3 t
  have hN := t.isLt
  have hN' : cfg0.N = 64 := N64
  rw [flushed3]
  funext j
  rw [View.read_apply]
  have h0 : (j 0).val < 256 := (j 0).isLt
  have h1 : (j 1).val < 512 := (j 1).isLt
  have ej : j = ix2 (⟨(j 0).val, h0⟩ : Fin 256) (⟨(j 1).val, h1⟩ : Fin 512) := funext fun a => by
    match a with
    | ⟨0, _⟩ => rfl
    | ⟨1, _⟩ => rfl
  refine Eq.trans (b := proj m c ⟨t.val * 256 + (j 0).val, by omega⟩ ⟨0 + (j 1).val, by omega⟩) ?_
    (congrArg (res0 m c) (a₁ := ix2 ⟨t.val * 256 + (j 0).val, by omega⟩ ⟨(j 1).val, h1⟩) (funext fun a => Fin.ext ?_))
  · show out0_3 _ _ _ j = _
    refine (congrArg _ ej).trans (out3_apply _ _ _ _ _ _ _ _ (fun k => block0 m c t _ _ (by show t.val * 256 + (j 0).val < 16384; omega)) (fun k => block1 m c t _) (fun k j => block2 m c t _ _))
  · match a with
    | ⟨0, _⟩ => show t.val * 256 + (j 0).val = win0_3.index t 0 * 256 + 1 * (j 0).val; rw [hi.1]; omega
    | ⟨1, _⟩ => show (j 1).val = win0_3.index t 1 * 512 + 1 * (j 1).val; rw [hi.2]; omega

theorem final3 : (dats m 0 c).arrAt 3 cfg0.N = res0 m c :=
  (dats m 0 c).arrAt_eq_of_cover 3 (res0 m c) (fun t _ => written3 m c t) fun i => by
    have h0 : (i 0 : Nat) < 16384 := (i 0).isLt
    have h1 : (i 1 : Nat) < 512 := (i 1).isLt
    have hN' : cfg0.N = 64 := N64
    let t : Fin cfg0.N := ⟨(i 0 : Nat) / 256, by omega⟩
    have hi := index0_3 t
    refine ⟨t, flush0_3 t, ?_⟩
    show i ∈ ((View.whole main_v15_0).slice (win0_3.rect t)).set
    rw [View.set_slice_whole, Rect.mem_set_unit]
    intro a
    match a with
    | ⟨0, _⟩ =>
      show win0_3.index t 0 * 256 ≤ (i 0 : Nat) ∧ (i 0 : Nat) < win0_3.index t 0 * 256 + 256
      rw [hi.1]
      show (i 0 : Nat) / 256 * 256 ≤ (i 0 : Nat) ∧ (i 0 : Nat) < (i 0 : Nat) / 256 * 256 + 256
      omega
    | ⟨1, _⟩ =>
      show win0_3.index t 1 * 512 ≤ (i 1 : Nat) ∧ (i 1 : Nat) < win0_3.index t 1 * 512 + 512
      rw [hi.2]; omega

/-! ## The columns from 512 -/

/-- The result 1, as contents of its array. -/
def res1 : Vec Ideal S16384x512 .f32 := fun i => proj m c (i 0) ⟨512 + (i 1).val, by have h : (i 1).val < 512 := (i 1).isLt; omega⟩

theorem out4_apply (x0 : Vec Ideal S256x1024 .f32) (x1 : Vec Ideal S1x1024 .f32) (x2 : Vec Ideal S1024x6016 .bf16) (r : Fin 256) (j : Fin 512)
    (X G : Fin 1024 → EReal) (W : Fin 1024 → Fin 6016 → EReal) (hX : ∀ k, x0 (ix2 r k) = X k) (hG : ∀ k, x1 (ix2 0 k) = G k)
    (hW : ∀ k j, x2 (ix2 k j) = W k j) :
    (out0_4 x0 x1 x2 (ix2 r j) : EReal) = ∑ k : Fin 1024, rms X G k * W k ⟨512 + j.val, by omega⟩ := by
  obtain rfl : (fun k => x0 (ix2 r k)) = X := funext hX
  obtain rfl : (fun k => x1 (ix2 0 k)) = G := funext hG
  unfold out0_4
  rw [View.canon_unit_zero (S := S256x512) (by funext a; fin_cases a <;> rfl),
    View.ld_unit_zero (S := S256x1024) (by funext a; fin_cases a <;> rfl),
    View.ld_unit_zero (S := S1x1024) (by funext a; fin_cases a <;> rfl)]
  pointwise [k0_pay6]
  refine Finset.sum_congr rfl fun k _ => congrArg₂ (· * ·) (pay4_apply x0 x1 r k) ?_
  refine Eq.trans (congrArg x2 (a₂ := ix2 k ⟨512 + j.val, by omega⟩) ?_) ((hW k ⟨512 + j.val, by omega⟩).trans (congrArg (W k) (Fin.ext (by first | rfl | exact Nat.zero_add _))))
  funext a
  apply Fin.ext
  match a with
  | ⟨0, _⟩ => rfl
  | ⟨1, _⟩ => first | rfl | (show j.val = 0 + j.val; omega)

theorem index0_4 : ∀ t : Fin grid0.N, win0_4.index t 0 = t.val ∧ win0_4.index t 1 = 0 := by decide +kernel

theorem written4 (t : Fin cfg0.N) : (dats m 0 c).flushed 4 t = ((cfg0.win 4).blk t).view.read (Elt Ideal) (res1 m c) := by
  have hi := index0_4 t
  have hN := t.isLt
  have hN' : cfg0.N = 64 := N64
  rw [flushed4]
  funext j
  rw [View.read_apply]
  have h0 : (j 0).val < 256 := (j 0).isLt
  have h1 : (j 1).val < 512 := (j 1).isLt
  have ej : j = ix2 (⟨(j 0).val, h0⟩ : Fin 256) (⟨(j 1).val, h1⟩ : Fin 512) := funext fun a => by
    match a with
    | ⟨0, _⟩ => rfl
    | ⟨1, _⟩ => rfl
  refine Eq.trans (b := proj m c ⟨t.val * 256 + (j 0).val, by omega⟩ ⟨512 + (j 1).val, by omega⟩) ?_
    (congrArg (res1 m c) (a₁ := ix2 ⟨t.val * 256 + (j 0).val, by omega⟩ ⟨(j 1).val, h1⟩) (funext fun a => Fin.ext ?_))
  · show out0_4 _ _ _ j = _
    refine (congrArg _ ej).trans (out4_apply _ _ _ _ _ _ _ _ (fun k => block0 m c t _ _ (by show t.val * 256 + (j 0).val < 16384; omega)) (fun k => block1 m c t _) (fun k j => block2 m c t _ _))
  · match a with
    | ⟨0, _⟩ => show t.val * 256 + (j 0).val = win0_4.index t 0 * 256 + 1 * (j 0).val; rw [hi.1]; omega
    | ⟨1, _⟩ => show (j 1).val = win0_4.index t 1 * 512 + 1 * (j 1).val; rw [hi.2]; omega

theorem final4 : (dats m 0 c).arrAt 4 cfg0.N = res1 m c :=
  (dats m 0 c).arrAt_eq_of_cover 4 (res1 m c) (fun t _ => written4 m c t) fun i => by
    have h0 : (i 0 : Nat) < 16384 := (i 0).isLt
    have h1 : (i 1 : Nat) < 512 := (i 1).isLt
    have hN' : cfg0.N = 64 := N64
    let t : Fin cfg0.N := ⟨(i 0 : Nat) / 256, by omega⟩
    have hi := index0_4 t
    refine ⟨t, flush0_4 t, ?_⟩
    show i ∈ ((View.whole main_v15_1).slice (win0_4.rect t)).set
    rw [View.set_slice_whole, Rect.mem_set_unit]
    intro a
    match a with
    | ⟨0, _⟩ =>
      show win0_4.index t 0 * 256 ≤ (i 0 : Nat) ∧ (i 0 : Nat) < win0_4.index t 0 * 256 + 256
      rw [hi.1]
      show (i 0 : Nat) / 256 * 256 ≤ (i 0 : Nat) ∧ (i 0 : Nat) < (i 0 : Nat) / 256 * 256 + 256
      omega
    | ⟨1, _⟩ =>
      show win0_4.index t 1 * 512 ≤ (i 1 : Nat) ∧ (i 1 : Nat) < win0_4.index t 1 * 512 + 512
      rw [hi.2]; omega

/-! ## The columns from 1024 -/

/-- The result 2, as contents of its array. -/
def res2 : Vec Ideal S16384x1024 .f32 := fun i => proj m c (i 0) ⟨1024 + (i 1).val, by have h : (i 1).val < 1024 := (i 1).isLt; omega⟩

theorem out5_apply (x0 : Vec Ideal S256x1024 .f32) (x1 : Vec Ideal S1x1024 .f32) (x2 : Vec Ideal S1024x6016 .bf16) (r : Fin 256) (j : Fin 1024)
    (X G : Fin 1024 → EReal) (W : Fin 1024 → Fin 6016 → EReal) (hX : ∀ k, x0 (ix2 r k) = X k) (hG : ∀ k, x1 (ix2 0 k) = G k)
    (hW : ∀ k j, x2 (ix2 k j) = W k j) :
    (out0_5 x0 x1 x2 (ix2 r j) : EReal) = ∑ k : Fin 1024, rms X G k * W k ⟨1024 + j.val, by omega⟩ := by
  obtain rfl : (fun k => x0 (ix2 r k)) = X := funext hX
  obtain rfl : (fun k => x1 (ix2 0 k)) = G := funext hG
  unfold out0_5
  rw [View.canon_unit_zero (S := S256x1024) (by funext a; fin_cases a <;> rfl),
    View.ld_unit_zero (S := S256x1024) (by funext a; fin_cases a <;> rfl),
    View.ld_unit_zero (S := S1x1024) (by funext a; fin_cases a <;> rfl)]
  pointwise [k0_pay7]
  refine Finset.sum_congr rfl fun k _ => congrArg₂ (· * ·) (pay4_apply x0 x1 r k) ?_
  refine Eq.trans (congrArg x2 (a₂ := ix2 k ⟨1024 + j.val, by omega⟩) ?_) ((hW k ⟨1024 + j.val, by omega⟩).trans (congrArg (W k) (Fin.ext (by first | rfl | exact Nat.zero_add _))))
  funext a
  apply Fin.ext
  match a with
  | ⟨0, _⟩ => rfl
  | ⟨1, _⟩ => first | rfl | (show j.val = 0 + j.val; omega)

theorem index0_5 : ∀ t : Fin grid0.N, win0_5.index t 0 = t.val ∧ win0_5.index t 1 = 0 := by decide +kernel

theorem written5 (t : Fin cfg0.N) : (dats m 0 c).flushed 5 t = ((cfg0.win 5).blk t).view.read (Elt Ideal) (res2 m c) := by
  have hi := index0_5 t
  have hN := t.isLt
  have hN' : cfg0.N = 64 := N64
  rw [flushed5]
  funext j
  rw [View.read_apply]
  have h0 : (j 0).val < 256 := (j 0).isLt
  have h1 : (j 1).val < 1024 := (j 1).isLt
  have ej : j = ix2 (⟨(j 0).val, h0⟩ : Fin 256) (⟨(j 1).val, h1⟩ : Fin 1024) := funext fun a => by
    match a with
    | ⟨0, _⟩ => rfl
    | ⟨1, _⟩ => rfl
  refine Eq.trans (b := proj m c ⟨t.val * 256 + (j 0).val, by omega⟩ ⟨1024 + (j 1).val, by omega⟩) ?_
    (congrArg (res2 m c) (a₁ := ix2 ⟨t.val * 256 + (j 0).val, by omega⟩ ⟨(j 1).val, h1⟩) (funext fun a => Fin.ext ?_))
  · show out0_5 _ _ _ j = _
    refine (congrArg _ ej).trans (out5_apply _ _ _ _ _ _ _ _ (fun k => block0 m c t _ _ (by show t.val * 256 + (j 0).val < 16384; omega)) (fun k => block1 m c t _) (fun k j => block2 m c t _ _))
  · match a with
    | ⟨0, _⟩ => show t.val * 256 + (j 0).val = win0_5.index t 0 * 256 + 1 * (j 0).val; rw [hi.1]; omega
    | ⟨1, _⟩ => show (j 1).val = win0_5.index t 1 * 1024 + 1 * (j 1).val; rw [hi.2]; omega

theorem final5 : (dats m 0 c).arrAt 5 cfg0.N = res2 m c :=
  (dats m 0 c).arrAt_eq_of_cover 5 (res2 m c) (fun t _ => written5 m c t) fun i => by
    have h0 : (i 0 : Nat) < 16384 := (i 0).isLt
    have h1 : (i 1 : Nat) < 1024 := (i 1).isLt
    have hN' : cfg0.N = 64 := N64
    let t : Fin cfg0.N := ⟨(i 0 : Nat) / 256, by omega⟩
    have hi := index0_5 t
    refine ⟨t, flush0_5 t, ?_⟩
    show i ∈ ((View.whole main_v15_2).slice (win0_5.rect t)).set
    rw [View.set_slice_whole, Rect.mem_set_unit]
    intro a
    match a with
    | ⟨0, _⟩ =>
      show win0_5.index t 0 * 256 ≤ (i 0 : Nat) ∧ (i 0 : Nat) < win0_5.index t 0 * 256 + 256
      rw [hi.1]
      show (i 0 : Nat) / 256 * 256 ≤ (i 0 : Nat) ∧ (i 0 : Nat) < (i 0 : Nat) / 256 * 256 + 256
      omega
    | ⟨1, _⟩ =>
      show win0_5.index t 1 * 1024 ≤ (i 1 : Nat) ∧ (i 1 : Nat) < win0_5.index t 1 * 1024 + 1024
      rw [hi.2]; omega

/-! ## The columns from 2048 -/

/-- The result 3, as contents of its array. -/
def res3 : Vec Ideal S16384x1024 .f32 := fun i => proj m c (i 0) ⟨2048 + (i 1).val, by have h : (i 1).val < 1024 := (i 1).isLt; omega⟩

theorem out6_apply (x0 : Vec Ideal S256x1024 .f32) (x1 : Vec Ideal S1x1024 .f32) (x2 : Vec Ideal S1024x6016 .bf16) (r : Fin 256) (j : Fin 1024)
    (X G : Fin 1024 → EReal) (W : Fin 1024 → Fin 6016 → EReal) (hX : ∀ k, x0 (ix2 r k) = X k) (hG : ∀ k, x1 (ix2 0 k) = G k)
    (hW : ∀ k j, x2 (ix2 k j) = W k j) :
    (out0_6 x0 x1 x2 (ix2 r j) : EReal) = ∑ k : Fin 1024, rms X G k * W k ⟨2048 + j.val, by omega⟩ := by
  obtain rfl : (fun k => x0 (ix2 r k)) = X := funext hX
  obtain rfl : (fun k => x1 (ix2 0 k)) = G := funext hG
  unfold out0_6
  rw [View.canon_unit_zero (S := S256x1024) (by funext a; fin_cases a <;> rfl),
    View.ld_unit_zero (S := S256x1024) (by funext a; fin_cases a <;> rfl),
    View.ld_unit_zero (S := S1x1024) (by funext a; fin_cases a <;> rfl)]
  pointwise [k0_pay8]
  refine Finset.sum_congr rfl fun k _ => congrArg₂ (· * ·) (pay4_apply x0 x1 r k) ?_
  refine Eq.trans (congrArg x2 (a₂ := ix2 k ⟨2048 + j.val, by omega⟩) ?_) ((hW k ⟨2048 + j.val, by omega⟩).trans (congrArg (W k) (Fin.ext (by first | rfl | exact Nat.zero_add _))))
  funext a
  apply Fin.ext
  match a with
  | ⟨0, _⟩ => rfl
  | ⟨1, _⟩ => first | rfl | (show j.val = 0 + j.val; omega)

theorem index0_6 : ∀ t : Fin grid0.N, win0_6.index t 0 = t.val ∧ win0_6.index t 1 = 0 := by decide +kernel

theorem written6 (t : Fin cfg0.N) : (dats m 0 c).flushed 6 t = ((cfg0.win 6).blk t).view.read (Elt Ideal) (res3 m c) := by
  have hi := index0_6 t
  have hN := t.isLt
  have hN' : cfg0.N = 64 := N64
  rw [flushed6]
  funext j
  rw [View.read_apply]
  have h0 : (j 0).val < 256 := (j 0).isLt
  have h1 : (j 1).val < 1024 := (j 1).isLt
  have ej : j = ix2 (⟨(j 0).val, h0⟩ : Fin 256) (⟨(j 1).val, h1⟩ : Fin 1024) := funext fun a => by
    match a with
    | ⟨0, _⟩ => rfl
    | ⟨1, _⟩ => rfl
  refine Eq.trans (b := proj m c ⟨t.val * 256 + (j 0).val, by omega⟩ ⟨2048 + (j 1).val, by omega⟩) ?_
    (congrArg (res3 m c) (a₁ := ix2 ⟨t.val * 256 + (j 0).val, by omega⟩ ⟨(j 1).val, h1⟩) (funext fun a => Fin.ext ?_))
  · show out0_6 _ _ _ j = _
    refine (congrArg _ ej).trans (out6_apply _ _ _ _ _ _ _ _ (fun k => block0 m c t _ _ (by show t.val * 256 + (j 0).val < 16384; omega)) (fun k => block1 m c t _) (fun k j => block2 m c t _ _))
  · match a with
    | ⟨0, _⟩ => show t.val * 256 + (j 0).val = win0_6.index t 0 * 256 + 1 * (j 0).val; rw [hi.1]; omega
    | ⟨1, _⟩ => show (j 1).val = win0_6.index t 1 * 1024 + 1 * (j 1).val; rw [hi.2]; omega

theorem final6 : (dats m 0 c).arrAt 6 cfg0.N = res3 m c :=
  (dats m 0 c).arrAt_eq_of_cover 6 (res3 m c) (fun t _ => written6 m c t) fun i => by
    have h0 : (i 0 : Nat) < 16384 := (i 0).isLt
    have h1 : (i 1 : Nat) < 1024 := (i 1).isLt
    have hN' : cfg0.N = 64 := N64
    let t : Fin cfg0.N := ⟨(i 0 : Nat) / 256, by omega⟩
    have hi := index0_6 t
    refine ⟨t, flush0_6 t, ?_⟩
    show i ∈ ((View.whole main_v15_3).slice (win0_6.rect t)).set
    rw [View.set_slice_whole, Rect.mem_set_unit]
    intro a
    match a with
    | ⟨0, _⟩ =>
      show win0_6.index t 0 * 256 ≤ (i 0 : Nat) ∧ (i 0 : Nat) < win0_6.index t 0 * 256 + 256
      rw [hi.1]
      show (i 0 : Nat) / 256 * 256 ≤ (i 0 : Nat) ∧ (i 0 : Nat) < (i 0 : Nat) / 256 * 256 + 256
      omega
    | ⟨1, _⟩ =>
      show win0_6.index t 1 * 1024 ≤ (i 1 : Nat) ∧ (i 1 : Nat) < win0_6.index t 1 * 1024 + 1024
      rw [hi.2]; omega

/-! ## The columns from 3072 -/

/-- The result 4, as contents of its array. -/
def res4 : Vec Ideal S16384x1024 .f32 := fun i => proj m c (i 0) ⟨3072 + (i 1).val, by have h : (i 1).val < 1024 := (i 1).isLt; omega⟩

theorem out7_apply (x0 : Vec Ideal S256x1024 .f32) (x1 : Vec Ideal S1x1024 .f32) (x2 : Vec Ideal S1024x6016 .bf16) (r : Fin 256) (j : Fin 1024)
    (X G : Fin 1024 → EReal) (W : Fin 1024 → Fin 6016 → EReal) (hX : ∀ k, x0 (ix2 r k) = X k) (hG : ∀ k, x1 (ix2 0 k) = G k)
    (hW : ∀ k j, x2 (ix2 k j) = W k j) :
    (out0_7 x0 x1 x2 (ix2 r j) : EReal) = ∑ k : Fin 1024, rms X G k * W k ⟨3072 + j.val, by omega⟩ := by
  obtain rfl : (fun k => x0 (ix2 r k)) = X := funext hX
  obtain rfl : (fun k => x1 (ix2 0 k)) = G := funext hG
  unfold out0_7 k0_pay9
  rw [View.canon_unit_zero (S := S256x1024) (by funext a; fin_cases a <;> rfl),
    View.ld_unit_zero (S := S256x1024) (by funext a; fin_cases a <;> rfl),
    View.ld_unit_zero (S := S1x1024) (by funext a; fin_cases a <;> rfl)]
  pointwise [k0_pay1]
  refine Finset.sum_congr rfl fun k _ => congrArg₂ (· * ·) (pay4_apply x0 x1 r k) ?_
  refine Eq.trans (congrArg x2 (a₂ := ix2 k ⟨3072 + j.val, by omega⟩) ?_) ((hW k ⟨3072 + j.val, by omega⟩).trans (congrArg (W k) (Fin.ext (by first | rfl | exact Nat.zero_add _))))
  funext a
  apply Fin.ext
  match a with
  | ⟨0, _⟩ => rfl
  | ⟨1, _⟩ => first | rfl | (show j.val = 0 + j.val; omega)

theorem index0_7 : ∀ t : Fin grid0.N, win0_7.index t 0 = t.val ∧ win0_7.index t 1 = 0 := by decide +kernel

theorem written7 (t : Fin cfg0.N) : (dats m 0 c).flushed 7 t = ((cfg0.win 7).blk t).view.read (Elt Ideal) (res4 m c) := by
  have hi := index0_7 t
  have hN := t.isLt
  have hN' : cfg0.N = 64 := N64
  rw [flushed7]
  funext j
  rw [View.read_apply]
  have h0 : (j 0).val < 256 := (j 0).isLt
  have h1 : (j 1).val < 1024 := (j 1).isLt
  have ej : j = ix2 (⟨(j 0).val, h0⟩ : Fin 256) (⟨(j 1).val, h1⟩ : Fin 1024) := funext fun a => by
    match a with
    | ⟨0, _⟩ => rfl
    | ⟨1, _⟩ => rfl
  refine Eq.trans (b := proj m c ⟨t.val * 256 + (j 0).val, by omega⟩ ⟨3072 + (j 1).val, by omega⟩) ?_
    (congrArg (res4 m c) (a₁ := ix2 ⟨t.val * 256 + (j 0).val, by omega⟩ ⟨(j 1).val, h1⟩) (funext fun a => Fin.ext ?_))
  · show out0_7 _ _ _ j = _
    refine (congrArg _ ej).trans (out7_apply _ _ _ _ _ _ _ _ (fun k => block0 m c t _ _ (by show t.val * 256 + (j 0).val < 16384; omega)) (fun k => block1 m c t _) (fun k j => block2 m c t _ _))
  · match a with
    | ⟨0, _⟩ => show t.val * 256 + (j 0).val = win0_7.index t 0 * 256 + 1 * (j 0).val; rw [hi.1]; omega
    | ⟨1, _⟩ => show (j 1).val = win0_7.index t 1 * 1024 + 1 * (j 1).val; rw [hi.2]; omega

theorem final7 : (dats m 0 c).arrAt 7 cfg0.N = res4 m c :=
  (dats m 0 c).arrAt_eq_of_cover 7 (res4 m c) (fun t _ => written7 m c t) fun i => by
    have h0 : (i 0 : Nat) < 16384 := (i 0).isLt
    have h1 : (i 1 : Nat) < 1024 := (i 1).isLt
    have hN' : cfg0.N = 64 := N64
    let t : Fin cfg0.N := ⟨(i 0 : Nat) / 256, by omega⟩
    have hi := index0_7 t
    refine ⟨t, flush0_7 t, ?_⟩
    show i ∈ ((View.whole main_v15_4).slice (win0_7.rect t)).set
    rw [View.set_slice_whole, Rect.mem_set_unit]
    intro a
    match a with
    | ⟨0, _⟩ =>
      show win0_7.index t 0 * 256 ≤ (i 0 : Nat) ∧ (i 0 : Nat) < win0_7.index t 0 * 256 + 256
      rw [hi.1]
      show (i 0 : Nat) / 256 * 256 ≤ (i 0 : Nat) ∧ (i 0 : Nat) < (i 0 : Nat) / 256 * 256 + 256
      omega
    | ⟨1, _⟩ =>
      show win0_7.index t 1 * 1024 ≤ (i 1 : Nat) ∧ (i 1 : Nat) < win0_7.index t 1 * 1024 + 1024
      rw [hi.2]; omega

/-! ## The columns from 4096 -/

/-- The result 5, as contents of its array. -/
def res5 : Vec Ideal S16384x1536 .f32 := fun i => proj m c (i 0) ⟨4096 + (i 1).val, by have h : (i 1).val < 1536 := (i 1).isLt; omega⟩

theorem out8_apply (x0 : Vec Ideal S256x1024 .f32) (x1 : Vec Ideal S1x1024 .f32) (x2 : Vec Ideal S1024x6016 .bf16) (r : Fin 256) (j : Fin 1536)
    (X G : Fin 1024 → EReal) (W : Fin 1024 → Fin 6016 → EReal) (hX : ∀ k, x0 (ix2 r k) = X k) (hG : ∀ k, x1 (ix2 0 k) = G k)
    (hW : ∀ k j, x2 (ix2 k j) = W k j) :
    (out0_8 x0 x1 x2 (ix2 r j) : EReal) = ∑ k : Fin 1024, rms X G k * W k ⟨4096 + j.val, by omega⟩ := by
  obtain rfl : (fun k => x0 (ix2 r k)) = X := funext hX
  obtain rfl : (fun k => x1 (ix2 0 k)) = G := funext hG
  unfold out0_8 k0_pay9
  rw [View.canon_unit_zero (S := S256x1536) (by funext a; fin_cases a <;> rfl),
    View.ld_unit_zero (S := S256x1024) (by funext a; fin_cases a <;> rfl),
    View.ld_unit_zero (S := S1x1024) (by funext a; fin_cases a <;> rfl)]
  pointwise [k0_pay2]
  refine Finset.sum_congr rfl fun k _ => congrArg₂ (· * ·) (pay4_apply x0 x1 r k) ?_
  refine Eq.trans (congrArg x2 (a₂ := ix2 k ⟨4096 + j.val, by omega⟩) ?_) ((hW k ⟨4096 + j.val, by omega⟩).trans (congrArg (W k) (Fin.ext (by first | rfl | exact Nat.zero_add _))))
  funext a
  apply Fin.ext
  match a with
  | ⟨0, _⟩ => rfl
  | ⟨1, _⟩ => first | rfl | (show j.val = 0 + j.val; omega)

theorem index0_8 : ∀ t : Fin grid0.N, win0_8.index t 0 = t.val ∧ win0_8.index t 1 = 0 := by decide +kernel

theorem written8 (t : Fin cfg0.N) : (dats m 0 c).flushed 8 t = ((cfg0.win 8).blk t).view.read (Elt Ideal) (res5 m c) := by
  have hi := index0_8 t
  have hN := t.isLt
  have hN' : cfg0.N = 64 := N64
  rw [flushed8]
  funext j
  rw [View.read_apply]
  have h0 : (j 0).val < 256 := (j 0).isLt
  have h1 : (j 1).val < 1536 := (j 1).isLt
  have ej : j = ix2 (⟨(j 0).val, h0⟩ : Fin 256) (⟨(j 1).val, h1⟩ : Fin 1536) := funext fun a => by
    match a with
    | ⟨0, _⟩ => rfl
    | ⟨1, _⟩ => rfl
  refine Eq.trans (b := proj m c ⟨t.val * 256 + (j 0).val, by omega⟩ ⟨4096 + (j 1).val, by omega⟩) ?_
    (congrArg (res5 m c) (a₁ := ix2 ⟨t.val * 256 + (j 0).val, by omega⟩ ⟨(j 1).val, h1⟩) (funext fun a => Fin.ext ?_))
  · show out0_8 _ _ _ j = _
    refine (congrArg _ ej).trans (out8_apply _ _ _ _ _ _ _ _ (fun k => block0 m c t _ _ (by show t.val * 256 + (j 0).val < 16384; omega)) (fun k => block1 m c t _) (fun k j => block2 m c t _ _))
  · match a with
    | ⟨0, _⟩ => show t.val * 256 + (j 0).val = win0_8.index t 0 * 256 + 1 * (j 0).val; rw [hi.1]; omega
    | ⟨1, _⟩ => show (j 1).val = win0_8.index t 1 * 1536 + 1 * (j 1).val; rw [hi.2]; omega

theorem final8 : (dats m 0 c).arrAt 8 cfg0.N = res5 m c :=
  (dats m 0 c).arrAt_eq_of_cover 8 (res5 m c) (fun t _ => written8 m c t) fun i => by
    have h0 : (i 0 : Nat) < 16384 := (i 0).isLt
    have h1 : (i 1 : Nat) < 1536 := (i 1).isLt
    have hN' : cfg0.N = 64 := N64
    let t : Fin cfg0.N := ⟨(i 0 : Nat) / 256, by omega⟩
    have hi := index0_8 t
    refine ⟨t, flush0_8 t, ?_⟩
    show i ∈ ((View.whole main_v15_5).slice (win0_8.rect t)).set
    rw [View.set_slice_whole, Rect.mem_set_unit]
    intro a
    match a with
    | ⟨0, _⟩ =>
      show win0_8.index t 0 * 256 ≤ (i 0 : Nat) ∧ (i 0 : Nat) < win0_8.index t 0 * 256 + 256
      rw [hi.1]
      show (i 0 : Nat) / 256 * 256 ≤ (i 0 : Nat) ∧ (i 0 : Nat) < (i 0 : Nat) / 256 * 256 + 256
      omega
    | ⟨1, _⟩ =>
      show win0_8.index t 1 * 1536 ≤ (i 1 : Nat) ∧ (i 1 : Nat) < win0_8.index t 1 * 1536 + 1536
      rw [hi.2]; omega

/-! ## The columns from 5632 -/

/-- The result 6, as contents of its array. -/
def res6 : Vec Ideal S16384x384 .f32 := fun i => proj m c (i 0) ⟨5632 + (i 1).val, by have h : (i 1).val < 384 := (i 1).isLt; omega⟩

theorem out9_apply (x0 : Vec Ideal S256x1024 .f32) (x1 : Vec Ideal S1x1024 .f32) (x2 : Vec Ideal S1024x6016 .bf16) (r : Fin 256) (j : Fin 384)
    (X G : Fin 1024 → EReal) (W : Fin 1024 → Fin 6016 → EReal) (hX : ∀ k, x0 (ix2 r k) = X k) (hG : ∀ k, x1 (ix2 0 k) = G k)
    (hW : ∀ k j, x2 (ix2 k j) = W k j) :
    (out0_9 x0 x1 x2 (ix2 r j) : EReal) = ∑ k : Fin 1024, rms X G k * W k ⟨5632 + j.val, by omega⟩ := by
  obtain rfl : (fun k => x0 (ix2 r k)) = X := funext hX
  obtain rfl : (fun k => x1 (ix2 0 k)) = G := funext hG
  unfold out0_9 k0_pay9
  rw [View.canon_unit_zero (S := S256x384) (by funext a; fin_cases a <;> rfl),
    View.ld_unit_zero (S := S256x1024) (by funext a; fin_cases a <;> rfl),
    View.ld_unit_zero (S := S1x1024) (by funext a; fin_cases a <;> rfl)]
  pointwise [k0_pay3]
  refine Finset.sum_congr rfl fun k _ => congrArg₂ (· * ·) (pay4_apply x0 x1 r k) ?_
  refine Eq.trans (congrArg x2 (a₂ := ix2 k ⟨5632 + j.val, by omega⟩) ?_) ((hW k ⟨5632 + j.val, by omega⟩).trans (congrArg (W k) (Fin.ext (by first | rfl | exact Nat.zero_add _))))
  funext a
  apply Fin.ext
  match a with
  | ⟨0, _⟩ => rfl
  | ⟨1, _⟩ => first | rfl | (show j.val = 0 + j.val; omega)

theorem index0_9 : ∀ t : Fin grid0.N, win0_9.index t 0 = t.val ∧ win0_9.index t 1 = 0 := by decide +kernel

theorem written9 (t : Fin cfg0.N) : (dats m 0 c).flushed 9 t = ((cfg0.win 9).blk t).view.read (Elt Ideal) (res6 m c) := by
  have hi := index0_9 t
  have hN := t.isLt
  have hN' : cfg0.N = 64 := N64
  rw [flushed9]
  funext j
  rw [View.read_apply]
  have h0 : (j 0).val < 256 := (j 0).isLt
  have h1 : (j 1).val < 384 := (j 1).isLt
  have ej : j = ix2 (⟨(j 0).val, h0⟩ : Fin 256) (⟨(j 1).val, h1⟩ : Fin 384) := funext fun a => by
    match a with
    | ⟨0, _⟩ => rfl
    | ⟨1, _⟩ => rfl
  refine Eq.trans (b := proj m c ⟨t.val * 256 + (j 0).val, by omega⟩ ⟨5632 + (j 1).val, by omega⟩) ?_
    (congrArg (res6 m c) (a₁ := ix2 ⟨t.val * 256 + (j 0).val, by omega⟩ ⟨(j 1).val, h1⟩) (funext fun a => Fin.ext ?_))
  · show out0_9 _ _ _ j = _
    refine (congrArg _ ej).trans (out9_apply _ _ _ _ _ _ _ _ (fun k => block0 m c t _ _ (by show t.val * 256 + (j 0).val < 16384; omega)) (fun k => block1 m c t _) (fun k j => block2 m c t _ _))
  · match a with
    | ⟨0, _⟩ => show t.val * 256 + (j 0).val = win0_9.index t 0 * 256 + 1 * (j 0).val; rw [hi.1]; omega
    | ⟨1, _⟩ => show (j 1).val = win0_9.index t 1 * 384 + 1 * (j 1).val; rw [hi.2]; omega

theorem final9 : (dats m 0 c).arrAt 9 cfg0.N = res6 m c :=
  (dats m 0 c).arrAt_eq_of_cover 9 (res6 m c) (fun t _ => written9 m c t) fun i => by
    have h0 : (i 0 : Nat) < 16384 := (i 0).isLt
    have h1 : (i 1 : Nat) < 384 := (i 1).isLt
    have hN' : cfg0.N = 64 := N64
    let t : Fin cfg0.N := ⟨(i 0 : Nat) / 256, by omega⟩
    have hi := index0_9 t
    refine ⟨t, flush0_9 t, ?_⟩
    show i ∈ ((View.whole main_v15_6).slice (win0_9.rect t)).set
    rw [View.set_slice_whole, Rect.mem_set_unit]
    intro a
    match a with
    | ⟨0, _⟩ =>
      show win0_9.index t 0 * 256 ≤ (i 0 : Nat) ∧ (i 0 : Nat) < win0_9.index t 0 * 256 + 256
      rw [hi.1]
      show (i 0 : Nat) / 256 * 256 ≤ (i 0 : Nat) ∧ (i 0 : Nat) < (i 0 : Nat) / 256 * 256 + 256
      omega
    | ⟨1, _⟩ =>
      show win0_9.index t 1 * 384 ≤ (i 1 : Nat) ∧ (i 1 : Nat) < win0_9.index t 1 * 384 + 384
      rw [hi.2]; omega

end Cert.KEinIdeal.Ein
end
-- ==== Proof.Ein.Claim.lean ====
/-
  The even layers' input projection: the kernel and the reference end with the same seven results over the extended reals.
-/
module

public import proofs.«01_k».proof.Defs
public import proofs.«01_k».proof.Proof.Gen.REinIdeal.Run
public import proofs.«01_k».proof.Proof.Ein.Kernel

@[expose] public section

noncomputable section
open Idealize.ShloMosaic Idealize.ShloMosaic.TcCoe Idealize.SL.Sem
namespace Cert.Ein
open Cert.Nrm

section
open Cert.REinIdeal Cert.REinIdeal.Gen Cert.KEinIdeal.Ein
/-- The reference's rows, normalised and scaled. -/
def hR (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

theorem hR_apply (x : FVec Ideal S16384x1024 .f32) (g : FVec Ideal S1024 .f32) (r : Fin 16384) (k : Fin 1024) :
    (hR x g (ix2 r k) : EReal) = rms (fun k => x (ix2 r k)) (fun k => g (ix1 k)) k := by
  pointwise [hR]
  rfl

/-- The reference's projection. -/
def pR (x : FVec Ideal S16384x1024 .f32) (g : FVec Ideal S1024 .f32) (w : FVec Ideal S1024x5656 .f32) : FVec Ideal S16384x5656 .f32 :=
  Host.dotGeneral dot_S16384x1024_S1024x5656_S16384x5656_1_0_0_1_n_n none (hR x g) w

theorem pR_apply (x : FVec Ideal S16384x1024 .f32) (g : FVec Ideal S1024 .f32) (w : FVec Ideal S1024x5656 .f32) (r : Fin 16384) (j : Fin 5656) :
    (pR x g w (ix2 r j) : EReal) = ∑ k : Fin 1024, rms (fun k => x (ix2 r k)) (fun k => g (ix1 k)) k * w (ix2 k j) := by
  pointwise [pR]
  exact Finset.sum_congr rfl fun k _ => congrArg (· * _) (hR_apply x g r k)

/-- The reference's projection read in the packed order is the kernel's. -/
theorem packed_pR (x : FVec Ideal S16384x1024 .f32) (g : FVec Ideal S1024 .f32) (w : FVec Ideal S1024x5656 .f32) (r : Fin 16384) (j : Fin 6016)
    (X G : Fin 1024 → EReal) (W : Fin 1024 → Fin 5656 → EReal) (hX : ∀ k, x (ix2 r k) = X k) (hG : ∀ k, g (ix1 k) = G k)
    (hW : ∀ k j, w (ix2 k j) = W k j) :
    packed (fun j => pR x g w (ix2 r j)) j = ∑ k : Fin 1024, rms X G k * packed (W k) j := by
  rw [packed_sum]
  refine congrArg (fun f => packed f j) (funext fun j => (pR_apply x g w r j).trans ?_)
  obtain rfl : (fun k => x (ix2 r k)) = X := funext hX
  obtain rfl : (fun k => g (ix1 k)) = G := funext hG
  exact Finset.sum_congr rfl fun k _ => congrArg _ (hW k j)

/-- Columns of the reference's projection are those of the packed order. -/
theorem cut_apply (p : FVec Ideal S16384x5656 .f32) (r : Fin 16384) (j : Fin 5656) (i : Fin 6016)
    (h : (j.val = i.val ∧ i.val < 2048) ∨ (j.val = i.val + 8 ∧ 2048 ≤ i.val ∧ i.val < 5632)) :
    (p (ix2 r j) : EReal) = packed (fun j => p (ix2 r j)) i := by
  unfold packed
  rcases h with h | h
  · rw [dif_pos h.2]
    exact congrArg (fun j => p (ix2 r j)) (Fin.ext h.1)
  · rw [dif_neg (by omega), dif_pos (by omega)]
    exact congrArg (fun j => p (ix2 r j)) (Fin.ext h.1)

/-- Three groups of 128 lanes side by side. -/
def cat3 (i f d : FVec Ideal S16384x128 .f32) : FVec Ideal S16384x384 .f32 :=
  concatenate S16384x384 1 [⟨S16384x128, i⟩, ⟨S16384x128, f⟩, ⟨S16384x128, d⟩] concatenates_S16384x128_S16384x128_S16384x128_S16384x384_d1

theorem cat3_apply (i f d : FVec Ideal S16384x128 .f32) (r : Fin 16384) (w : Fin 5656 → EReal)
    (hi : ∀ j : Fin 128, (i (ix2 r j) : EReal) = if h : j.val < 4 then w ⟨2048 + j.val, by omega⟩ else 0)
    (hf : ∀ j : Fin 128, (f (ix2 r j) : EReal) = if h : j.val < 4 then w ⟨2052 + j.val, by omega⟩ else 0)
    (hd : ∀ j : Fin 128, (d (ix2 r j) : EReal) = if h : j.val < 16 then w ⟨5640 + j.val, by omega⟩ else 0) (j : Fin 384) :
    (cat3 i f d (ix2 r j) : EReal) = packed w ⟨5632 + j.val, by omega⟩ := by
  pointwise [cat3]
  simp only [hi, hf, hd]
  unfold packed
  have hj := j.isLt
  have hr : j.val < 4 ∨ (4 ≤ j.val ∧ j.val < 128) ∨ (128 ≤ j.val ∧ j.val < 132) ∨ (132 ≤ j.val ∧ j.val < 256) ∨ (256 ≤ j.val ∧ j.val < 272) ∨ 272 ≤ j.val := by omega
  dsimp only
  rcases hr with h | h | h | h | h | h
  all_goals
    repeat first
      | rewrite [dif_pos (by omega)]
      | rewrite [dif_neg (by omega)]
    first
      | exact Eq.refl (0 : EReal)
      | (refine congrArg w (Fin.ext ?_); dsimp only; omega)

/-- The reference's gates: three groups of columns, each widened to 128 lanes by zeros. -/
def gates (p : FVec Ideal S16384x5656 .f32) : FVec Ideal S16384x384 .f32 :=
  cat3 (pad S16384x128 ![0, 0] ![0, 124] ![0, 0] (extractStridedSlice S16384x4 ![0, 2048] p slices_S16384x5656_S16384x4_0_2048 : FVec Ideal S16384x4 .f32) (sitofp .f32 (constantI S_ 32 0#32) : FVec Ideal S_ .f32) pads_S16384x4_S16384x128_000_01240 h_S_ : FVec Ideal S16384x128 .f32)
    (pad S16384x128 ![0, 0] ![0, 124] ![0, 0] (extractStridedSlice S16384x4 ![0, 2052] p slices_S16384x5656_S16384x4_0_2052 : FVec Ideal S16384x4 .f32) (sitofp .f32 (constantI S_ 32 0#32) : FVec Ideal S_ .f32) pads_S16384x4_S16384x128_000_01240 h_S_ : FVec Ideal S16384x128 .f32)
    (pad S16384x128 ![0, 0] ![0, 112] ![0, 0] (extractStridedSlice S16384x16 ![0, 5640] p slices_S16384x5656_S16384x16_0_5640 : FVec Ideal S16384x16 .f32) (sitofp .f32 (constantI S_ 32 0#32) : FVec Ideal S_ .f32) pads_S16384x16_S16384x128_000_01120 h_S_ : FVec Ideal S16384x128 .f32)

theorem gates_apply (p : FVec Ideal S16384x5656 .f32) (r : Fin 16384) (j : Fin 384) :
    (gates p (ix2 r j) : EReal) = packed (fun j => p (ix2 r j)) ⟨5632 + j.val, by omega⟩ := by
  refine cat3_apply _ _ _ r _ ?_ ?_ ?_ j <;> intro j <;> pointwise [] <;> rw [sitofp_zero]

theorem ref0_apply (p : FVec Ideal S16384x5656 .f32) (r : Fin 16384) (j : Fin 512) :
    ((extractStridedSlice S16384x512 ![0, 0] p slices_S16384x5656_S16384x512_0_0 : FVec Ideal S16384x512 .f32) (ix2 r j) : EReal) = packed (fun j => p (ix2 r j)) ⟨0 + j.val, by omega⟩ := by
  pointwise []
  refine cut_apply p r _ _ ?_
  dsimp only
  omega

theorem ref1_apply (p : FVec Ideal S16384x5656 .f32) (r : Fin 16384) (j : Fin 512) :
    ((extractStridedSlice S16384x512 ![0, 512] p slices_S16384x5656_S16384x512_0_512 : FVec Ideal S16384x512 .f32) (ix2 r j) : EReal) = packed (fun j => p (ix2 r j)) ⟨512 + j.val, by omega⟩ := by
  pointwise []
  refine cut_apply p r _ _ ?_
  dsimp only
  omega

theorem ref2_apply (p : FVec Ideal S16384x5656 .f32) (r : Fin 16384) (j : Fin 1024) :
    ((extractStridedSlice S16384x1024 ![0, 1024] p slices_S16384x5656_S16384x1024_0_1024 : FVec Ideal S16384x1024 .f32) (ix2 r j) : EReal) = packed (fun j => p (ix2 r j)) ⟨1024 + j.val, by omega⟩ := by
  pointwise []
  refine cut_apply p r _ _ ?_
  dsimp only
  omega

theorem ref3_apply (p : FVec Ideal S16384x5656 .f32) (r : Fin 16384) (j : Fin 1024) :
    ((extractStridedSlice S16384x1024 ![0, 2056] p slices_S16384x5656_S16384x1024_0_2056 : FVec Ideal S16384x1024 .f32) (ix2 r j) : EReal) = packed (fun j => p (ix2 r j)) ⟨2048 + j.val, by omega⟩ := by
  pointwise []
  refine cut_apply p r _ _ ?_
  dsimp only
  omega

theorem ref4_apply (p : FVec Ideal S16384x5656 .f32) (r : Fin 16384) (j : Fin 1024) :
    ((extractStridedSlice S16384x1024 ![0, 3080] p slices_S16384x5656_S16384x1024_0_3080 : FVec Ideal S16384x1024 .f32) (ix2 r j) : EReal) = packed (fun j => p (ix2 r j)) ⟨3072 + j.val, by omega⟩ := by
  pointwise []
  refine cut_apply p r _ _ ?_
  dsimp only
  omega

theorem ref5_apply (p : FVec Ideal S16384x5656 .f32) (r : Fin 16384) (j : Fin 1536) :
    ((extractStridedSlice S16384x1536 ![0, 4104] p slices_S16384x5656_S16384x1536_0_4104 : FVec Ideal S16384x1536 .f32) (ix2 r j) : EReal) = packed (fun j => p (ix2 r j)) ⟨4096 + j.val, by omega⟩ := by
  pointwise []
  refine cut_apply p r _ _ ?_
  dsimp only
  omega

end

theorem algebraic : Cert.algebraic_KEinIdeal_REinIdeal (hKEinIdeal := Cert.KEinIdeal.Gen.facts) (hREinIdeal := Cert.REinIdeal.Gen.facts) := by
  intro m g m' g' _ hm
  refine ⟨fun c => Cert.KEinIdeal.Ein.res0 m c, fun c => Cert.KEinIdeal.Ein.res1 m c, fun c => Cert.KEinIdeal.Ein.res2 m c, fun c => Cert.KEinIdeal.Ein.res3 m c, fun c => Cert.KEinIdeal.Ein.res4 m c, fun c => Cert.KEinIdeal.Ein.res5 m c, fun c => Cert.KEinIdeal.Ein.res6 m c, ?_, ?_⟩
  · refine (θ_run _ _ _).mono (fun r h c => ?_) (Cert.KEinIdeal.Value.run_blocks m g)
    obtain ⟨h0, h1, h2, h3, h4, h5, h6, h7⟩ := h c
    exact ⟨h0.trans (Cert.KEinIdeal.Ein.final3 m c), h1.trans (Cert.KEinIdeal.Ein.final4 m c), h2.trans (Cert.KEinIdeal.Ein.final5 m c), h3.trans (Cert.KEinIdeal.Ein.final6 m c), h4.trans (Cert.KEinIdeal.Ein.final7 m c), h5.trans (Cert.KEinIdeal.Ein.final8 m c), h6.trans (Cert.KEinIdeal.Ein.final9 m c), h7⟩
  · refine (θ_run _ _ _).mono (fun r h c => ?_) (Cert.REinIdeal.Value.run m' g')
    obtain ⟨h0, h1, h2, h3, h4, h5, h6, h7⟩ := h c
    obtain ⟨a0, a1, a2⟩ := hm c
    have hp := fun (r : Fin 16384) (j : Fin 6016) => packed_pR _ _ _ r j _ _ _ (fun k => congrFun a0 (ix2 r k)) (fun k => congrFun a1 (ix1 k)) (fun k j => congrFun a2 (ix2 k j))
    refine ⟨h0.trans (funext fun i => ?_), h1.trans (funext fun i => ?_), h2.trans (funext fun i => ?_), h3.trans (funext fun i => ?_), h4.trans (funext fun i => ?_), h5.trans (funext fun i => ?_), h6.trans (funext fun i => ?_), h7⟩
    · have ei : i = ix2 (i 0) (i 1) := funext fun a => by
        match a with
        | ⟨0, _⟩ => rfl
        | ⟨1, _⟩ => rfl
      exact (congrArg _ ei).trans ((ref0_apply (pR _ _ _) (i 0) (i 1)).trans (hp (i 0) _))
    · have ei : i = ix2 (i 0) (i 1) := funext fun a => by
        match a with
        | ⟨0, _⟩ => rfl
        | ⟨1, _⟩ => rfl
      exact (congrArg _ ei).trans ((ref1_apply (pR _ _ _) (i 0) (i 1)).trans (hp (i 0) _))
    · have ei : i = ix2 (i 0) (i 1) := funext fun a => by
        match a with
        | ⟨0, _⟩ => rfl
        | ⟨1, _⟩ => rfl
      exact (congrArg _ ei).trans ((ref2_apply (pR _ _ _) (i 0) (i 1)).trans (hp (i 0) _))
    · have ei : i = ix2 (i 0) (i 1) := funext fun a => by
        match a with
        | ⟨0, _⟩ => rfl
        | ⟨1, _⟩ => rfl
      exact (congrArg _ ei).trans ((ref3_apply (pR _ _ _) (i 0) (i 1)).trans (hp (i 0) _))
    · have ei : i = ix2 (i 0) (i 1) := funext fun a => by
        match a with
        | ⟨0, _⟩ => rfl
        | ⟨1, _⟩ => rfl
      exact (congrArg _ ei).trans ((ref4_apply (pR _ _ _) (i 0) (i 1)).trans (hp (i 0) _))
    · have ei : i = ix2 (i 0) (i 1) := funext fun a => by
        match a with
        | ⟨0, _⟩ => rfl
        | ⟨1, _⟩ => rfl
      exact (congrArg _ ei).trans ((ref5_apply (pR _ _ _) (i 0) (i 1)).trans (hp (i 0) _))
    · have ei : i = ix2 (i 0) (i 1) := funext fun a => by
        match a with
        | ⟨0, _⟩ => rfl
        | ⟨1, _⟩ => rfl
      exact (congrArg _ ei).trans ((gates_apply (pR _ _ _) (i 0) (i 1)).trans (hp (i 0) _))

end Cert.Ein
end
-- ==== Proof.Em.Body.lean ====
/- What the mixer's kernel leaves, at one grid point, in the block that keeps the last input rows of a sequence: the last
   eight rows of the block it reads. -/
module

public import proofs.«01_k».proof.Proof.Gen.KEmIdeal.Frame
public import Idealize.ShloMosaic.Lib.Pipeline.Value
public import Idealize.ShloMosaic.Lib.Pipeline.ReadBack
public import Idealize.ShloMosaic.Lib.Pointwise

@[expose] public section

noncomputable section

open Idealize.ShloMosaic Idealize.ShloMosaic.TcCoe Idealize.SL.Sem

namespace Cert.KEmIdeal.Em

open Cert.KEmIdeal Cert.KEmIdeal.Gen

variable {F : FTy → Type} [FloatOps F]

/-- The last eight rows of a block. -/
def tailB (x5 : Vec F S128x1536 .f32) : Vec F S8x1536 .f32 := fun i => x5 (ix2 ⟨120 + (i 0).val, by have : (i 0).val < 8 := (i 0).isLt; omega⟩ (i 1))

theorem out0_B_19_eq (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1536 .f32) (harg7 : arg7.IsWhole) (arg8 : Memref sig .tc .vmem S128x384 .f32) (harg8 : arg8.IsWhole) (arg9 : Memref sig .tc .vmem S3x128 .f32) (harg9 : arg9.IsWhole) (arg10 : Memref sig .tc .vmem S1x1024 .f32) (harg10 : arg10.IsWhole) (arg11 : Memref sig .tc .vmem S4x1536 .f32) (harg11 : arg11.IsWhole) (arg12 : Memref sig .tc .vmem S1x1536 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x1024 .f32) (harg15 : arg15.IsWhole) (arg16 : Memref sig .tc .vmem S128x2048 .f32) (harg16 : arg16.IsWhole) (arg17 : Memref sig .tc .vmem S1x4x128x256 .f32) (harg17 : arg17.IsWhole) (arg18 : Memref sig .tc .vmem S1x8x128 .f32) (harg18 : arg18.IsWhole) (arg19 : Memref sig .tc .vmem S1x1x128 .f32) (harg19 : arg19.IsWhole) (arg20 : Memref sig .tc .vmem S1x16x64x128 .f32) (harg20 : arg20.IsWhole) (arg21 : Memref sig .tc .vmem S8x1536 .f32) (harg21 : arg21.IsWhole) (arg22 : Memref sig .tc .vmem S136x1536 .f32) (harg22 : arg22.IsWhole) (arg23 : Memref sig .tc .vmem S128x1024 .f32) (harg23 : arg23.IsWhole) (hc0 : ¬cond0_0 i)
    (x0 : Vec F S128x512 .f32) (x1 : Vec F S128x512 .f32) (x2 : Vec F S128x1024 .f32) (x3 : Vec F S128x1024 .f32) (x4 : Vec F S128x1024 .f32) (x5 : Vec F S128x1536 .f32) (x6 : Vec F S128x384 .f32) (x7 : Vec F S3x128 .f32) (x8 : Vec F S1x1024 .f32) (x9 : Vec F S4x1536 .f32) (x10 : Vec F S1x1536 .f32) (x11 : Vec F S1x128 .f32) (x12 : Vec F S1x128 .f32) (x13 : Vec F S1x1024 .f32) (xo15 : Vec F S1x4x128x256 .f32) (xo16 : Vec F S1x8x128 .f32) (xo17 : Vec F S1x1x128 .f32) (xo18 : Vec F S1x16x64x128 .f32) (xs0 : Vec F S136x1536 .f32) :
    out0_B_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xo15 xo16 xo17 xo18 xs0 = tailB x5 := by
  unfold out0_B_19
  rw [View.read_writes_eq_canon _ _ _ (cover0_B_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xo15 xo16 xo17 xo18 xs0)]
  unfold kernelRun0_B
  dsimp only
  sl_unfold_words
  simp (disch := decide) only [↓View.readCov_skip, ↓View.readCov_fill, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, harg18.read_unread, harg19.read_unread, harg20.read_unread, harg22.read_unread]
  refine (View.canon_cons_unit_lit _ _ _ (by decide)).trans ?_
  rw [View.readCov_eq_canon']
  funext j
  have h0 : (j 0).val < 8 := (j 0).isLt
  refine (congrArg (View.canon _) (a₂ := (Rect.unit (s := S136x1536) ![8, 0] S128x1536.size inb_S136x1536_S128x1536_8_0).emb (ix2 ⟨120 + (j 0).val, by omega⟩ (j 1))) (funext fun a => Fin.ext ?_)).trans ((View.canon_cons_emb _ _ _ _).trans ?_)
  · match a with
    | ⟨0, _⟩ => show 128 + 1 * (j 0).val = 8 + 1 * (120 + (j 0).val); omega
    | ⟨1, _⟩ => rfl
  · unfold k0_pay101 tailB
    pointwise []

end Cert.KEmIdeal.Em
end
-- ==== Proof.Em.Claim.lean ====
/-
  The mixer's last input rows of each sequence: the kernel and the reference end with the same rows over the extended reals.
-/
module

public import proofs.«01_k».proof.Defs
public import proofs.«01_k».proof.Proof.Gen.REmIdeal.Run
public import proofs.«01_k».proof.Proof.Em.Body

@[expose] public section

noncomputable section
open Idealize.ShloMosaic Idealize.ShloMosaic.TcCoe Idealize.SL.Sem
open Idealize.ShloMosaic.Pipeline (Dat)
namespace Cert.Em
open Cert.KEmIdeal Cert.KEmIdeal.Gen Cert.KEmIdeal.Em

section
variable (m : (ℓ : Loc nD τ sig) → Buf (Elt Ideal) ℓ) (c : Dev nD)

/-- The mixer's input rows, the sequences one after another. -/
def argX (r : Fin 16384) (j : Fin 1536) : EReal := (m ((c.tc : Thread nD τ).loc main_arg5) : Vec Ideal S16384x1536 .f32) (ix2 r j)

theorem N128 : cfg0.N = 128 := N_0

theorem index0_5 : ∀ t : Fin grid0.N, win0_5.index t 0 = t.val ∧ win0_5.index t 1 = 0 := by decide +kernel
theorem index0_19 : ∀ t : Fin grid0.N, win0_19.index t 0 = t.val / 16 ∧ win0_19.index t 1 = 0 := by decide +kernel

theorem block5 (t : Fin cfg0.N) (r : Fin 128) (j : Fin 1536) :
    ((iblk m c 5 t : Vec Ideal S128x1536 .f32) (ix2 r j) : EReal) = argX m c ⟨t.val * 128 + r.val, by have h1 := t.isLt; have h2 : cfg0.N = 128 := N128; omega⟩ j := by
  have hi := index0_5 t
  unfold iblk
  rw [View.read_apply]
  show (V m c main_arg5 : Vec Ideal S16384x1536 .f32) _ = _
  rw [V_main_arg5]
  unfold argX
  congr 1
  funext a
  apply Fin.ext
  match a with
  | ⟨0, _⟩ => show win0_5.index t 0 * 128 + 1 * r.val = t.val * 128 + r.val; rw [hi.1]; omega
  | ⟨1, _⟩ => show win0_5.index t 1 * 1536 + 1 * j.val = j.val; rw [hi.2]; omega

/-- The array of the last eight rows of each sequence. -/
def arrT : Vec Ideal S64x1536 .f32 := fun i =>
  argX m c ⟨(i 0).val / 8 * 2048 + 2040 + (i 0).val % 8, by have : (i 0).val < 64 := (i 0).isLt; omega⟩ (i 1)

theorem written19 (t : Fin cfg0.N) (hf : (cfg0.win 19).flush t = true) :
    (dats m 0 c).flushed 19 t = ((cfg0.win 19).blk t).view.read (Elt Ideal) (arrT m c) := by
  have hi := index0_19 t
  have hN := t.isLt
  have hN' : cfg0.N = 128 := N128
  have h15 : t.val % 16 = 15 := (flush0_19 t).mp hf
  show (cfg0.win 19).cut (cfg0.grid.coords t) ((dats m 0 c).after 19 t) = _
  rw [after0_19, outsAt0_B m c t (by omega)]
  dsimp only
  rw [out0_B_19_eq]
  funext j
  rw [View.read_apply]
  have h0 : (j 0).val < 8 := (j 0).isLt
  have h1 : (j 1).val < 1536 := (j 1).isLt
  refine Eq.trans (b := arrT m c (ix2 ⟨t.val / 16 * 8 + (j 0).val, by omega⟩ ⟨(j 1).val, h1⟩)) ?_ (congrArg (arrT m c) (funext fun a => Fin.ext ?_))
  · show (iblk m c 5 t : Vec Ideal S128x1536 .f32) (ix2 ⟨120 + (j 0).val, _⟩ ⟨(j 1).val, h1⟩) = _
    refine (block5 m c t ⟨120 + (j 0).val, by omega⟩ ⟨(j 1).val, h1⟩).trans ?_
    unfold arrT
    refine congrArg (argX m c · _) (Fin.ext ?_)
    show t.val * 128 + (120 + (j 0).val) = (t.val / 16 * 8 + (j 0).val) / 8 * 2048 + 2040 + (t.val / 16 * 8 + (j 0).val) % 8
    omega
  · match a with
    | ⟨0, _⟩ => show t.val / 16 * 8 + (j 0).val = win0_19.index t 0 * 8 + 1 * (j 0).val; rw [hi.1]; omega
    | ⟨1, _⟩ => show (j 1).val = win0_19.index t 1 * 1536 + 1 * (j 1).val; rw [hi.2]; omega

theorem final19 : (dats m 0 c).arrAt 19 cfg0.N = arrT m c :=
  (dats m 0 c).arrAt_eq_of_cover 19 (arrT m c) (fun t hf => written19 m c t hf) fun i => by
    have h0 : (i 0 : Nat) < 64 := (i 0).isLt
    have h1 : (i 1 : Nat) < 1536 := (i 1).isLt
    have hN' : cfg0.N = 128 := N128
    let t : Fin cfg0.N := ⟨(i 0 : Nat) / 8 * 16 + 15, by omega⟩
    have ht : t.val = (i 0 : Nat) / 8 * 16 + 15 := rfl
    have hi := index0_19 t
    refine ⟨t, (flush0_19 t).mpr (by omega), ?_⟩
    show i ∈ ((View.whole main_v14_5).slice (win0_19.rect t)).set
    rw [View.set_slice_whole, Rect.mem_set_unit]
    intro a
    match a with
    | ⟨0, _⟩ =>
      show win0_19.index t 0 * 8 ≤ (i 0 : Nat) ∧ (i 0 : Nat) < win0_19.index t 0 * 8 + 8
      rw [hi.1, ht]
      omega
    | ⟨1, _⟩ =>
      show win0_19.index t 1 * 1536 ≤ (i 1 : Nat) ∧ (i 1 : Nat) < win0_19.index t 1 * 1536 + 1536
      rw [hi.2]; omega

theorem cutT (y : FVec Ideal S64x1536 .f32) (b : Fin 8) (t : Fin 3) (k : Fin 1536) :
    ((extractStridedSlice S8x3x1536 ![0, 5, 0] (shapeCast S8x8x1536 y Gen.shapeCasts_S64x1536_S8x8x1536) Gen.slices_S8x8x1536_S8x3x1536_0_5_0 : FVec Ideal S8x3x1536 .f32) (ix3 b t k) : EReal)
      = y (ix2 ⟨8 * b.val + 5 + t.val, by omega⟩ k) := by
  pointwise []
  exact congrArg (fun r => y (ix2 r k)) (Fin.ext (by show b.val * 8 + (5 + t.val) = 8 * b.val + 5 + t.val; omega))

/-- The last three rows of each sequence. -/
def resT : Vec Ideal S8x3x1536 .f32 := fun i =>
  argX m c ⟨(i 0).val * 2048 + 2045 + (i 1).val, by have h0 : (i 0).val < 8 := (i 0).isLt; have h1 : (i 1).val < 3 := (i 1).isLt; omega⟩ (i 2)

theorem inj : Function.Injective (Pipeline.arrRef spec0) := by
  decide

theorem tailT : Pipeline.afterTail₀ cfgs (Gen.dats m) 0 (Gen.V0 m) [Gen.hostOps1] c main_v16 = resT m c := by
  unfold Pipeline.afterTail₀
  simp only [List.flatten_cons, List.flatten_nil, List.append_nil]
  unfold Gen.hostOps1
  after_reads_simp
  have e : Pipeline.withArrays (cfgs 0).spec c (Gen.V0 m c) (fun w => (Gen.dats m 0 c).arrAt w (cfgs 0).N) (Proc.tc.devRef main_v14_5) = arrT m c :=
    (Pipeline.withArrays_arr spec0 inj c (Gen.V0 m c) (fun w => (Gen.dats m 0 c).arrAt w (cfgs 0).N) 19).trans (final19 m c)
  rw [e]
  funext i
  have ei : i = ix3 (i 0) (i 1) (i 2) := funext fun a => by
    match a with
    | ⟨0, _⟩ => rfl
    | ⟨1, _⟩ => rfl
    | ⟨2, _⟩ => rfl
  have ht : (i 1).val < 3 := (i 1).isLt
  refine (congrArg _ ei).trans ((cutT (arrT m c) (i 0) (i 1) (i 2)).trans ?_)
  unfold arrT resT
  refine congrArg (argX m c · _) (Fin.ext ?_)
  show (8 * (i 0).val + 5 + (i 1).val) / 8 * 2048 + 2040 + (8 * (i 0).val + 5 + (i 1).val) % 8 = (i 0).val * 2048 + 2045 + (i 1).val
  omega

end

/-- What the reference takes of each sequence. -/
theorem cutR (y : FVec Ideal Cert.REmIdeal.S16384x1536 .f32) (b : Fin 8) (t : Fin 3) (k : Fin 1536) :
    ((extractStridedSlice Cert.REmIdeal.S8x3x1536 ![0, 2045, 0] (shapeCast Cert.REmIdeal.S8x2048x1536 y Cert.REmIdeal.Gen.shapeCasts_S16384x1536_S8x2048x1536) Cert.REmIdeal.Gen.slices_S8x2048x1536_S8x3x1536_0_2045_0 : FVec Ideal Cert.REmIdeal.S8x3x1536 .f32) (ix3 b t k) : EReal)
      = y (ix2 ⟨b.val * 2048 + 2045 + t.val, by omega⟩ k) := by
  pointwise []
  exact congrArg (fun r => y (ix2 r k)) (Fin.ext (by show b.val * 2048 + (2045 + t.val) = b.val * 2048 + 2045 + t.val; omega))

theorem algebraic : Cert.algebraic_KEmIdeal_REmIdeal (hKEmIdeal := Cert.KEmIdeal.Gen.facts) (hREmIdeal := Cert.REmIdeal.Gen.facts) := by
  intro m g m' g' _ hm
  refine ⟨fun c => resT m c, ?_, ?_⟩
  · have hr := θ_run_and (Cert.KEmIdeal.Gen.run_main m g) (Cert.KEmIdeal.Gen.unchanged m g)
    refine (θ_run _ _ _).mono (fun r h c => ?_) hr
    have hT := (h.1 c).2 main_v16 (Pipeline.mem_restRefs_of main_v16 (by decide) (by decide))
    exact ⟨hT.trans (tailT m c), h.2 c⟩
  · refine (θ_run _ _ _).mono (fun r h c => ?_) (Cert.REmIdeal.Value.run m' g')
    obtain ⟨h0, h3⟩ := h c
    obtain ⟨a0, a1, a2, a3, a4, a5, ar⟩ := hm c
    refine ⟨h0.trans (funext fun i => ?_), h3⟩
    have ei : i = ix3 (i 0) (i 1) (i 2) := funext fun a => by
      match a with
      | ⟨0, _⟩ => rfl
      | ⟨1, _⟩ => rfl
      | ⟨2, _⟩ => rfl
    refine (congrArg _ ei).trans ((cutR _ (i 0) (i 1) (i 2)).trans ?_)
    exact congrFun a5 _

end Cert.Em
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.KFfn
public import proofs.«01_k».proof.Proof.Gen.KFfn.Skeleton
public import proofs.«01_k».proof.Proof.Gen.KFfn.Launch
public import proofs.«01_k».proof.Proof.Gen.KFfn.Points
public import proofs.«01_k».proof.Proof.Gen.KFfn.Frame
public import proofs.«01_k».proof.Proof.Gen.KFfnIdeal
public import proofs.«01_k».proof.Proof.Gen.KFfnIdeal.Skeleton
public import proofs.«01_k».proof.Proof.Gen.KFfnIdeal.Launch
public import proofs.«01_k».proof.Proof.Gen.KFfnIdeal.Points
public import proofs.«01_k».proof.Proof.Gen.KFfnIdeal.Frame
public import proofs.«01_k».proof.Proof.Gen.KFfnIdeal.Value
public import proofs.«01_k».proof.Proof.Gen.RFfnIdeal
public import proofs.«01_k».proof.Proof.Gen.RFfnIdeal.Run
public import proofs.«01_k».proof.Proof.Gen.KIn
public import proofs.«01_k».proof.Proof.Gen.KIn.Skeleton
public import proofs.«01_k».proof.Proof.Gen.KIn.Launch
public import proofs.«01_k».proof.Proof.Gen.KIn.Points
public import proofs.«01_k».proof.Proof.Gen.KIn.Frame
public import proofs.«01_k».proof.Proof.Gen.KInIdeal
public import proofs.«01_k».proof.Proof.Gen.KInIdeal.Skeleton
public import proofs.«01_k».proof.Proof.Gen.KInIdeal.Launch
public import proofs.«01_k».proof.Proof.Gen.KInIdeal.Points
public import proofs.«01_k».proof.Proof.Gen.KInIdeal.Frame
public import proofs.«01_k».proof.Proof.Gen.KInIdeal.Value
public import proofs.«01_k».proof.Proof.Gen.RInIdeal
public import proofs.«01_k».proof.Proof.Gen.RInIdeal.Run
public import proofs.«01_k».proof.Proof.Gen.KOut
public import proofs.«01_k».proof.Proof.Gen.KOut.Skeleton
public import proofs.«01_k».proof.Proof.Gen.KOut.Launch
public import proofs.«01_k».proof.Proof.Gen.KOut.Points
public import proofs.«01_k».proof.Proof.Gen.KOut.Frame
public import proofs.«01_k».proof.Proof.Gen.KOutIdeal
public import proofs.«01_k».proof.Proof.Gen.KOutIdeal.Skeleton
public import proofs.«01_k».proof.Proof.Gen.KOutIdeal.Launch
public import proofs.«01_k».proof.Proof.Gen.KOutIdeal.Points
public import proofs.«01_k».proof.Proof.Gen.KOutIdeal.Frame
public import proofs.«01_k».proof.Proof.Gen.KOutIdeal.Value
public import proofs.«01_k».proof.Proof.Gen.ROutIdeal
public import proofs.«01_k».proof.Proof.Gen.ROutIdeal.Run
public import proofs.«01_k».proof.Proof.Gen.KFsIdeal
public import proofs.«01_k».proof.Proof.Gen.KFsIdeal.Skeleton
public import proofs.«01_k».proof.Proof.Gen.KFsIdeal.Launch
public import proofs.«01_k».proof.Proof.Gen.KFsIdeal.Points
public import proofs.«01_k».proof.Proof.Gen.KFsIdeal.Frame
public import proofs.«01_k».proof.Proof.Gen.KEinIdeal
public import proofs.«01_k».proof.Proof.Gen.KEinIdeal.Skeleton
public import proofs.«01_k».proof.Proof.Gen.KEinIdeal.Launch
public import proofs.«01_k».proof.Proof.Gen.KEinIdeal.Points
public import proofs.«01_k».proof.Proof.Gen.KEinIdeal.Frame
public import proofs.«01_k».proof.Proof.Gen.KFs
public import proofs.«01_k».proof.Proof.Gen.KFs.Skeleton
public import proofs.«01_k».proof.Proof.Gen.KFs.Launch
public import proofs.«01_k».proof.Proof.Gen.KFs.Points
public import proofs.«01_k».proof.Proof.Gen.KFs.Frame
public import proofs.«01_k».proof.Proof.Gen.KEin
public import proofs.«01_k».proof.Proof.Gen.KEin.Skeleton
public import proofs.«01_k».proof.Proof.Gen.KEin.Launch
public import proofs.«01_k».proof.Proof.Gen.KEin.Points
public import proofs.«01_k».proof.Proof.Gen.KEin.Frame
public import proofs.«01_k».proof.Proof.Gen.RFsIdeal
public import proofs.«01_k».proof.Proof.Gen.RFsIdeal.Run
public import proofs.«01_k».proof.Proof.Gen.REinIdeal
public import proofs.«01_k».proof.Proof.Gen.REinIdeal.Run
public import proofs.«01_k».proof.Proof.Gen.KEinIdeal.Value
public import proofs.«01_k».proof.Proof.Gen.KEm
public import proofs.«01_k».proof.Proof.Gen.KEm.Skeleton
public import proofs.«01_k».proof.Proof.Gen.KEm.Launch
public import proofs.«01_k».proof.Proof.Gen.KEm.Points
public import proofs.«01_k».proof.Proof.Gen.KEm.Frame
public import proofs.«01_k».proof.Proof.Gen.KEmIdeal
public import proofs.«01_k».proof.Proof.Gen.KEmIdeal.Skeleton
public import proofs.«01_k».proof.Proof.Gen.KEmIdeal.Launch
public import proofs.«01_k».proof.Proof.Gen.KEmIdeal.Points
public import proofs.«01_k».proof.Proof.Gen.KEmIdeal.Frame
public import proofs.«01_k».proof.Proof.Gen.REmIdeal
public import proofs.«01_k».proof.Proof.Gen.REmIdeal.Run
public import proofs.«01_k».proof.Proof.Ret.Claim
public import proofs.«01_k».proof.Proof.Ffn.Claim
public import proofs.«01_k».proof.Proof.In.Claim
public import proofs.«01_k».proof.Proof.Out.Claim
public import proofs.«01_k».proof.Proof.Fs.Claim
public import proofs.«01_k».proof.Proof.Ein.Claim
public import proofs.«01_k».proof.Proof.Em.Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.KFfn.Gen.facts, Cert.KFfnIdeal.Gen.facts, Cert.RFfnIdeal.Gen.facts, Cert.KIn.Gen.facts, Cert.KInIdeal.Gen.facts, Cert.RInIdeal.Gen.facts, Cert.KOut.Gen.facts, Cert.KOutIdeal.Gen.facts, Cert.ROutIdeal.Gen.facts, Cert.KFs.Gen.facts, Cert.KFsIdeal.Gen.facts, Cert.RFsIdeal.Gen.facts, Cert.KEin.Gen.facts, Cert.KEinIdeal.Gen.facts, Cert.REinIdeal.Gen.facts, Cert.KEm.Gen.facts, Cert.KEmIdeal.Gen.facts, Cert.REmIdeal.Gen.facts,
  fun m ρ _ => Cert.Kernel.Gen.frame m ρ,
  fun m ρ _ => Cert.KernelIdeal.Gen.frame m ρ,
  fun m ρ _ => (θ_run _ _ _).mono (fun r h => ⟨fun c => (h c).2.2, sem_eq_zero_of_no_sems (by decide) r.2⟩) (Cert.ReferenceIdeal.Value.run m ρ),
  fun m ρ _ => Cert.KFfn.Gen.frame m ρ,
  fun m ρ _ => Cert.KFfnIdeal.Gen.frame m ρ,
  fun m ρ _ => (θ_run _ _ _).mono (fun r h => ⟨fun c => (h c).2.2.2, sem_eq_zero_of_no_sems (by decide) r.2⟩) (Cert.RFfnIdeal.Value.run m ρ),
  fun m ρ _ => Cert.KIn.Gen.frame m ρ,
  fun m ρ _ => Cert.KInIdeal.Gen.frame m ρ,
  fun m ρ _ => (θ_run _ _ _).mono (fun r h => ⟨fun c => (h c).2.2.2.2, sem_eq_zero_of_no_sems (by decide) r.2⟩) (Cert.RInIdeal.Value.run m ρ),
  fun m ρ _ => Cert.KOut.Gen.frame m ρ,
  fun m ρ _ => Cert.KOutIdeal.Gen.frame m ρ,
  fun m ρ _ => (θ_run _ _ _).mono (fun r h => ⟨fun c => (h c).2, sem_eq_zero_of_no_sems (by decide) r.2⟩) (Cert.ROutIdeal.Value.run m ρ),
  fun m ρ _ => Cert.KFs.Gen.frame m ρ,
  fun m ρ _ => Cert.KFsIdeal.Gen.frame m ρ,
  fun m ρ _ => (θ_run _ _ _).mono (fun r h => ⟨fun c => (h c).2.2.2, sem_eq_zero_of_no_sems (by decide) r.2⟩) (Cert.RFsIdeal.Value.run m ρ),
  fun m ρ _ => Cert.KEin.Gen.frame m ρ,
  fun m ρ _ => Cert.KEinIdeal.Gen.frame m ρ,
  fun m ρ _ => (θ_run _ _ _).mono (fun r h => ⟨fun c => (h c).2.2.2.2.2.2.2, sem_eq_zero_of_no_sems (by decide) r.2⟩) (Cert.REinIdeal.Value.run m ρ),
  fun m ρ _ => Cert.KEm.Gen.frame m ρ,
  fun m ρ _ => Cert.KEmIdeal.Gen.frame m ρ,
  fun m ρ _ => (θ_run _ _ _).mono (fun r h => ⟨fun c => (h c).2, sem_eq_zero_of_no_sems (by decide) r.2⟩) (Cert.REmIdeal.Value.run m ρ),
  trivial,
  Cert.Ret.algebraic,
  trivial,
  Cert.Ffn.algebraic,
  trivial,
  Cert.In.algebraic,
  trivial,
  Cert.Out.algebraic,
  trivial,
  Cert.Fs.algebraic,
  trivial,
  Cert.Ein.algebraic,
  trivial,
  Cert.Em.algebraic⟩

end Cert.Proof

end
